-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)) (v2 : (c : Dev Cert.KernelIdeal.nD) → Buf (Elt Ideal) ((c.tc : Thread Cert.KernelIdeal.nD Cert.KernelIdeal.τ).loc Cert.KernelIdeal.main_v13_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_v13_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_v35) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v23_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v23_1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v23) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v13) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v21_0)) (v1 : (c : Dev Cert.Kernel4Ideal.nD) → Buf (Elt Ideal) ((c.tc : Thread Cert.Kernel4Ideal.nD Cert.Kernel4Ideal.τ).loc Cert.Kernel4Ideal.main_v21_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v21_0) = v0 c
          ∧ r.2.mem ((c.tc : Thread Cert.Kernel4Ideal.nD Cert.Kernel4Ideal.τ).loc Cert.Kernel4Ideal.main_v21_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v20) = v0 c
          ∧ r.2.mem ((c.tc : Thread Cert.Reference4Ideal.nD Cert.Reference4Ideal.τ).loc Cert.Reference4Ideal.main_v21) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v10_2)) (v1 : (c : Dev Cert.Kernel5Ideal.nD) → Buf (Elt Ideal) ((c.tc : Thread Cert.Kernel5Ideal.nD Cert.Kernel5Ideal.τ).loc Cert.Kernel5Ideal.main_v10_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v10_2) = v0 c
          ∧ r.2.mem ((c.tc : Thread Cert.Kernel5Ideal.nD Cert.Kernel5Ideal.τ).loc Cert.Kernel5Ideal.main_v10_3) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v31) = v0 c
          ∧ r.2.mem ((c.tc : Thread Cert.Reference5Ideal.nD Cert.Reference5Ideal.τ).loc Cert.Reference5Ideal.main_v9) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v19)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v19) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v8)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v8) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v2_0)) (v1 : (c : Dev Cert.Kernel10Ideal.nD) → Buf (Elt Ideal) ((c.tc : Thread Cert.Kernel10Ideal.nD Cert.Kernel10Ideal.τ).loc Cert.Kernel10Ideal.main_v2_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2_0) = v0 c
          ∧ r.2.mem ((c.tc : Thread Cert.Kernel10Ideal.nD Cert.Kernel10Ideal.τ).loc Cert.Kernel10Ideal.main_v2_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v25) = v0 c
          ∧ r.2.mem ((c.tc : Thread Cert.Reference10Ideal.nD Cert.Reference10Ideal.τ).loc Cert.Reference10Ideal.main_v3) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_2)) (v2 : (c : Dev Cert.Kernel11Ideal.nD) → Buf (Elt Ideal) ((c.tc : Thread Cert.Kernel11Ideal.nD Cert.Kernel11Ideal.τ).loc Cert.Kernel11Ideal.main_v0_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_2) = v1 c
          ∧ r.2.mem ((c.tc : Thread Cert.Kernel11Ideal.nD Cert.Kernel11Ideal.τ).loc Cert.Kernel11Ideal.main_v0_3) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v58) = v0 c
          ∧ r.2.mem ((c.tc : Thread Cert.Reference11Ideal.nD Cert.Reference11Ideal.τ).loc Cert.Reference11Ideal.main_v32) = v1 c
          ∧ r.2.mem ((c.tc : Thread Cert.Reference11Ideal.nD Cert.Reference11Ideal.τ).loc Cert.Reference11Ideal.main_v29) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_1)) (v1 : (c : Dev Cert.Kernel12Ideal.nD) → Buf (Elt Ideal) ((c.tc : Thread Cert.Kernel12Ideal.nD Cert.Kernel12Ideal.τ).loc Cert.Kernel12Ideal.main_v0_2)) (v2 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_1) = v0 c
          ∧ r.2.mem ((c.tc : Thread Cert.Kernel12Ideal.nD Cert.Kernel12Ideal.τ).loc Cert.Kernel12Ideal.main_v0_2) = v1 c
          ∧ r.2.mem ((c.tc : Thread Cert.Kernel12Ideal.nD Cert.Kernel12Ideal.τ).loc Cert.Kernel12Ideal.main_v0_3) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v23) = v0 c
          ∧ r.2.mem ((c.tc : Thread Cert.Reference12Ideal.nD Cert.Reference12Ideal.τ).loc Cert.Reference12Ideal.main_v4) = v1 c
          ∧ r.2.mem ((c.tc : Thread Cert.Reference12Ideal.nD Cert.Reference12Ideal.τ).loc Cert.Reference12Ideal.main_v10) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_1)) (v1 : (c : Dev Cert.Kernel13Ideal.nD) → Buf (Elt Ideal) ((c.tc : Thread Cert.Kernel13Ideal.nD Cert.Kernel13Ideal.τ).loc Cert.Kernel13Ideal.main_v0_2)) (v2 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_1) = v0 c
          ∧ r.2.mem ((c.tc : Thread Cert.Kernel13Ideal.nD Cert.Kernel13Ideal.τ).loc Cert.Kernel13Ideal.main_v0_2) = v1 c
          ∧ r.2.mem ((c.tc : Thread Cert.Kernel13Ideal.nD Cert.Kernel13Ideal.τ).loc Cert.Kernel13Ideal.main_v0_3) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v23) = v0 c
          ∧ r.2.mem ((c.tc : Thread Cert.Reference13Ideal.nD Cert.Reference13Ideal.τ).loc Cert.Reference13Ideal.main_v4) = v1 c
          ∧ r.2.mem ((c.tc : Thread Cert.Reference13Ideal.nD Cert.Reference13Ideal.τ).loc Cert.Reference13Ideal.main_v10) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_2)) (v2 : (c : Dev Cert.Kernel14Ideal.nD) → Buf (Elt Ideal) ((c.tc : Thread Cert.Kernel14Ideal.nD Cert.Kernel14Ideal.τ).loc Cert.Kernel14Ideal.main_v0_3)) (v3 : (c : Dev Cert.Kernel14Ideal.nD) → Buf (Elt Ideal) ((c.tc : Thread Cert.Kernel14Ideal.nD Cert.Kernel14Ideal.τ).loc Cert.Kernel14Ideal.main_v0_4)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_2) = v1 c
          ∧ r.2.mem ((c.tc : Thread Cert.Kernel14Ideal.nD Cert.Kernel14Ideal.τ).loc Cert.Kernel14Ideal.main_v0_3) = v2 c
          ∧ r.2.mem ((c.tc : Thread Cert.Kernel14Ideal.nD Cert.Kernel14Ideal.τ).loc Cert.Kernel14Ideal.main_v0_4) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v72) = v0 c
          ∧ r.2.mem ((c.tc : Thread Cert.Reference14Ideal.nD Cert.Reference14Ideal.τ).loc Cert.Reference14Ideal.main_v46) = v1 c
          ∧ r.2.mem ((c.tc : Thread Cert.Reference14Ideal.nD Cert.Reference14Ideal.τ).loc Cert.Reference14Ideal.main_v43) = v2 c
          ∧ r.2.mem ((c.tc : Thread Cert.Reference14Ideal.nD Cert.Reference14Ideal.τ).loc Cert.Reference14Ideal.main_v73) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
-- ==== Pre_finite.lean ====
abbrev S4x2048x4x3x64 : Shape := ⟨5, ![4, 2048, 4, 3, 64]⟩
abbrev S4x2048x4x3 : Shape := ⟨4, ![4, 2048, 4, 3]⟩
abbrev S4x2048x4x128 : Shape := ⟨4, ![4, 2048, 4, 128]⟩
abbrev S4x2048x4x192 : Shape := ⟨4, ![4, 2048, 4, 192]⟩
abbrev S4x2048x4x643 : Shape := ⟨4, ![4, 2048, 4, 643]⟩
abbrev S_ : Shape := ⟨0, ![]⟩

class Facts : Prop where
  shapeCasts_S4x2048x4x3x64_S4x2048x4x192 : S4x2048x4x3x64.ShapeCasts S4x2048x4x192
  concatenates_S4x2048x4x192_S4x2048x4x3_S4x2048x4x128_S4x2048x4x128_S4x2048x4x192_S4x2048x4x643_d3 : Shape.Concatenates [S4x2048x4x192, S4x2048x4x3, S4x2048x4x128, S4x2048x4x128, S4x2048x4x192] S4x2048x4x643 3
  bcast_S_S4x2048x4x643 : S_.BroadcastsInDim S4x2048x4x643 (![] : Fin 0 → Fin S4x2048x4x643.rank)

variable [Facts]

def fn {F : FTy → Type} [FloatOps F] (main_arg0 : FVec F S4x2048x4x3x64 .f32) (main_arg1 : FVec F S4x2048x4x3 .f32) (main_arg2 : FVec F S4x2048x4x128 .f32) (main_arg3 : FVec F S4x2048x4x128 .f32) (main_arg4 : FVec F S4x2048x4x3x64 .f32) : IVec S4x2048x4x643 1 :=
  let main_v0 : FVec F S4x2048x4x192 .f32 := shapeCast S4x2048x4x192 main_arg0 shapeCasts_S4x2048x4x3x64_S4x2048x4x192
  let main_v1 : FVec F S4x2048x4x192 .f32 := shapeCast S4x2048x4x192 main_arg4 shapeCasts_S4x2048x4x3x64_S4x2048x4x192
  let main_v2 : FVec F S4x2048x4x643 .f32 := concatenate S4x2048x4x643 3 [⟨S4x2048x4x192, main_v0⟩, ⟨S4x2048x4x3, main_arg1⟩, ⟨S4x2048x4x128, main_arg2⟩, ⟨S4x2048x4x128, main_arg3⟩, ⟨S4x2048x4x192, main_v1⟩] concatenates_S4x2048x4x192_S4x2048x4x3_S4x2048x4x128_S4x2048x4x128_S4x2048x4x192_S4x2048x4x643_d3
  let main_v3 : FVec F S4x2048x4x643 .f32 := Host.absf main_v2
  let main_cst : FVec F S_ .f32 := constant S_ .f32 0x7F800000#32
  let main_v4 : FVec F S4x2048x4x643 .f32 := broadcastInDim S4x2048x4x643 ![] bcast_S_S4x2048x4x643 main_cst
  let main_v5 : IVec S4x2048x4x643 1 := cmpf .olt main_v3 main_v4
  main_v5
-- ==== Pre_finite2.lean ====
abbrev S8192x1024 : Shape := ⟨2, ![8192, 1024]⟩
abbrev S1024x2816 : Shape := ⟨2, ![1024, 2816]⟩
abbrev S2816x1024 : Shape := ⟨2, ![2816, 1024]⟩
abbrev S24832x1024 : Shape := ⟨2, ![24832, 1024]⟩
abbrev S_ : Shape := ⟨0, ![]⟩

class Facts : Prop where
  transposes_S1024x2816_S2816x1024_1_0 : S1024x2816.Transposes [1, 0] S2816x1024
  concatenates_S8192x1024_S2816x1024_S2816x1024_S2816x1024_S8192x1024_S24832x1024_d0 : Shape.Concatenates [S8192x1024, S2816x1024, S2816x1024, S2816x1024, S8192x1024] S24832x1024 0
  bcast_S_S24832x1024 : S_.BroadcastsInDim S24832x1024 (![] : Fin 0 → Fin S24832x1024.rank)

variable [Facts]

def fn {F : FTy → Type} [FloatOps F] (main_arg0 : FVec F S8192x1024 .f32) (main_arg1 : FVec F S1024x2816 .f32) (main_arg2 : FVec F S1024x2816 .f32) (main_arg3 : FVec F S2816x1024 .f32) (main_arg4 : FVec F S8192x1024 .f32) : IVec S24832x1024 1 :=
  let main_v0 : FVec F S2816x1024 .f32 := (transpose S2816x1024 [1, 0] · transposes_S1024x2816_S2816x1024_1_0) main_arg1
  let main_v1 : FVec F S2816x1024 .f32 := (transpose S2816x1024 [1, 0] · transposes_S1024x2816_S2816x1024_1_0) main_arg2
  let main_v2 : FVec F S24832x1024 .f32 := concatenate S24832x1024 0 [⟨S8192x1024, main_arg0⟩, ⟨S2816x1024, main_v0⟩, ⟨S2816x1024, main_v1⟩, ⟨S2816x1024, main_arg3⟩, ⟨S8192x1024, main_arg4⟩] concatenates_S8192x1024_S2816x1024_S2816x1024_S2816x1024_S8192x1024_S24832x1024_d0
  let main_v3 : FVec F S24832x1024 .f32 := Host.absf main_v2
  let main_cst : FVec F S_ .f32 := constant S_ .f32 0x7F800000#32
  let main_v4 : FVec F S24832x1024 .f32 := broadcastInDim S24832x1024 ![] bcast_S_S24832x1024 main_cst
  let main_v5 : IVec S24832x1024 1 := cmpf .olt main_v3 main_v4
  main_v5
-- ==== Kernel.lean ====
abbrev S4x2048x4x3x64 : Shape := ⟨5, ![4, 2048, 4, 3, 64]⟩
abbrev S4x2048x4x3 : Shape := ⟨4, ![4, 2048, 4, 3]⟩
abbrev S4x2048x4x128 : Shape := ⟨4, ![4, 2048, 4, 128]⟩
abbrev S_ : Shape := ⟨0, ![]⟩
abbrev S4x2048x4x3x128 : Shape := ⟨5, ![4, 2048, 4, 3, 128]⟩
abbrev S4x2048x1536 : Shape := ⟨3, ![4, 2048, 1536]⟩
abbrev S4x2048x512 : Shape := ⟨3, ![4, 2048, 512]⟩
abbrev S4x2048x1024 : Shape := ⟨3, ![4, 2048, 1024]⟩
abbrev S4x512x2048 : Shape := ⟨3, ![4, 512, 2048]⟩
abbrev S4x32x2048 : Shape := ⟨3, ![4, 32, 2048]⟩
abbrev S1x2048x384 : Shape := ⟨3, ![1, 2048, 384]⟩
abbrev S1x2048x128 : Shape := ⟨3, ![1, 2048, 128]⟩
abbrev S1x8x2048 : Shape := ⟨3, ![1, 8, 2048]⟩
abbrev S24x128x128 : Shape := ⟨3, ![24, 128, 128]⟩
abbrev S128x128 : Shape := ⟨2, ![128, 128]⟩
abbrev S1x256x128 : Shape := ⟨3, ![1, 256, 128]⟩
abbrev S256x128 : Shape := ⟨2, ![256, 128]⟩
abbrev S128x256 : Shape := ⟨2, ![128, 256]⟩
abbrev S1x1 : Shape := ⟨2, ![1, 1]⟩
abbrev S1x256x1 : Shape := ⟨3, ![1, 256, 1]⟩
abbrev S256x1 : Shape := ⟨2, ![256, 1]⟩
abbrev S1x128x128 : Shape := ⟨3, ![1, 128, 128]⟩
abbrev S1x1x1 : Shape := ⟨3, ![1, 1, 1]⟩
abbrev S256x256 : Shape := ⟨2, ![256, 256]⟩
abbrev S1x1x256 : Shape := ⟨3, ![1, 1, 256]⟩
abbrev S1x256 : Shape := ⟨2, ![1, 256]⟩
abbrev S256 : Shape := ⟨1, ![256]⟩
abbrev S1 : Shape := ⟨1, ![1]⟩

abbrev nBuf : Space → Nat
  | .hbm => 31
  | .vmem => 23
  | .smem => 0
  | _ => 0

abbrev bufTy : (tb : Table) → Fin (tcTables nBuf tb) → BufTy
  | .hbm, ⟨0, _⟩ => ⟨S4x2048x4x3x64, .f32⟩
  | .hbm, ⟨1, _⟩ => ⟨S4x2048x4x3, .f32⟩
  | .hbm, ⟨2, _⟩ => ⟨S4x2048x4x128, .f32⟩
  | .hbm, ⟨3, _⟩ => ⟨S4x2048x4x128, .f32⟩
  | .hbm, ⟨4, _⟩ => ⟨S4x2048x4x3x64, .f32⟩
  | .hbm, ⟨5, _⟩ => ⟨S_, .i32⟩
  | .hbm, ⟨6, _⟩ => ⟨S_, .f32⟩
  | .hbm, ⟨7, _⟩ => ⟨S4x2048x4x3x128, .f32⟩
  | .hbm, ⟨8, _⟩ => ⟨S4x2048x1536, .f32⟩
  | .hbm, ⟨9, _⟩ => ⟨S4x2048x1536, .bf16⟩
  | .hbm, ⟨10, _⟩ => ⟨S_, .i32⟩
  | .hbm, ⟨11, _⟩ => ⟨S_, .f32⟩
  | .hbm, ⟨12, _⟩ => ⟨S4x2048x4x3x128, .f32⟩
  | .hbm, ⟨13, _⟩ => ⟨S4x2048x1536, .f32⟩
  | .hbm, ⟨14, _⟩ => ⟨S4x2048x512, .f32⟩
  | .hbm, ⟨15, _⟩ => ⟨S4x2048x512, .f32⟩
  | .hbm, ⟨16, _⟩ => ⟨S4x2048x1024, .f32⟩
  | .hbm, ⟨17, _⟩ => ⟨S4x2048x1024, .bf16⟩
  | .hbm, ⟨18, _⟩ => ⟨S_, .f32⟩
  | .hbm, ⟨19, _⟩ => ⟨S_, .f32⟩
  | .hbm, ⟨20, _⟩ => ⟨S4x2048x4x3, .f32⟩
  | .hbm, ⟨21, _⟩ => ⟨S_, .i32⟩
  | .hbm, ⟨22, _⟩ => ⟨S_, .f32⟩
  | .hbm, ⟨23, _⟩ => ⟨S4x2048x4x128, .f32⟩
  | .hbm, ⟨24, _⟩ => ⟨S4x2048x512, .f32⟩
  | .hbm, ⟨25, _⟩ => ⟨S4x512x2048, .f32⟩
  | .hbm, ⟨26, _⟩ => ⟨S4x2048x1536, .f32⟩
  | .hbm, ⟨27, _⟩ => ⟨S4x2048x512, .f32⟩
  | .hbm, ⟨28, _⟩ => ⟨S4x2048x512, .f32⟩
  | .hbm, ⟨29, _⟩ => ⟨S4x2048x512, .f32⟩
  | .hbm, ⟨30, _⟩ => ⟨S4x32x2048, .f32⟩
  | .local _ .vmem, ⟨0, _⟩ => ⟨S1x2048x384, .bf16⟩
  | .local _ .vmem, ⟨1, _⟩ => ⟨S1x2048x384, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .f32⟩
  | .local _ .vmem, ⟨7, _⟩ => ⟨S1x2048x128, .f32⟩
  | .local _ .vmem, ⟨8, _⟩ => ⟨S1x8x2048, .f32⟩
  | .local _ .vmem, ⟨9, _⟩ => ⟨S1x8x2048, .f32⟩
  | .local _ .vmem, ⟨10, _⟩ => ⟨S1x2048x384, .f32⟩
  | .local _ .vmem, ⟨11, _⟩ => ⟨S1x2048x384, .f32⟩
  | .local _ .vmem, ⟨12, _⟩ => ⟨S1x2048x384, .f32⟩
  | .local _ .vmem, ⟨13, _⟩ => ⟨S1x2048x384, .f32⟩
  | .local _ .vmem, ⟨14, _⟩ => ⟨S1x2048x128, .f32⟩
  | .local _ .vmem, ⟨15, _⟩ => ⟨S1x2048x128, .f32⟩
  | .local _ .vmem, ⟨16, _⟩ => ⟨S1x2048x128, .f32⟩
  | .local _ .vmem, ⟨17, _⟩ => ⟨S1x2048x128, .f32⟩
  | .local _ .vmem, ⟨18, _⟩ => ⟨S1x2048x128, .f32⟩
  | .local _ .vmem, ⟨19, _⟩ => ⟨S1x2048x128, .f32⟩
  | .local _ .vmem, ⟨20, _⟩ => ⟨S1x8x2048, .f32⟩
  | .local _ .vmem, ⟨21, _⟩ => ⟨S1x8x2048, .f32⟩
  | .local _ .vmem, ⟨22, _⟩ => ⟨S24x128x128, .f32⟩
  | _, _ => ⟨S4x2048x4x3x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call2_call0_cst : Ref sig .tc := ⟨.hbm, 18, rfl⟩
abbrev main_call2_call0_v0 : Ref sig .tc := ⟨.hbm, 19, rfl⟩
abbrev main_v9 : Ref sig .tc := ⟨.hbm, 20, rfl⟩
abbrev main_c_1 : Ref sig .tc := ⟨.hbm, 21, rfl⟩
abbrev main_call3_v0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13_0 : Ref sig .tc := ⟨.hbm, 26, rfl⟩
abbrev main_v13_1 : Ref sig .tc := ⟨.hbm, 27, rfl⟩
abbrev main_v13_2 : Ref sig .tc := ⟨.hbm, 28, rfl⟩
abbrev main_v13_3 : Ref sig .tc := ⟨.hbm, 29, rfl⟩
abbrev main_v13_4 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli c16_i32 arg1
  let c0_i32 : BitVec 32 := 0#32
  let c0_i32_0 : BitVec 32 := 0#32
  ![arg0.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4x2048x4x3x64 : Shape := ⟨5, ![4, 2048, 4, 3, 64]⟩
abbrev S4x2048x4x3 : Shape := ⟨4, ![4, 2048, 4, 3]⟩
abbrev S4x2048x4x128 : Shape := ⟨4, ![4, 2048, 4, 128]⟩
abbrev S_ : Shape := ⟨0, ![]⟩
abbrev S2048x2048 : Shape := ⟨2, ![2048, 2048]⟩
abbrev S4x2048x1x4x3 : Shape := ⟨5, ![4, 2048, 1, 4, 3]⟩
abbrev S4x1x2048x4x3 : Shape := ⟨5, ![4, 1, 2048, 4, 3]⟩
abbrev S4x2048x2048x4x3 : Shape := ⟨5, ![4, 2048, 2048, 4, 3]⟩
abbrev S1x2048x2048x1x1 : Shape := ⟨5, ![1, 2048, 2048, 1, 1]⟩
abbrev S4x4x2048x2048 : Shape := ⟨4, ![4, 4, 2048, 2048]⟩
abbrev S4x2048x2048x4 : Shape := ⟨4, ![4, 2048, 2048, 4]⟩
abbrev S4x2048x2048x4x1 : Shape := ⟨5, ![4, 2048, 2048, 4, 1]⟩
abbrev S4x4x3x64x2048 : Shape := ⟨5, ![4, 4, 3, 64, 2048]⟩
abbrev S4x4x3x2048x2048 : Shape := ⟨5, ![4, 4, 3, 2048, 2048]⟩
abbrev S4x4x2048x128 : Shape := ⟨4, ![4, 4, 2048, 128]⟩
abbrev S4x2048x4x3x128 : Shape := ⟨5, ![4, 2048, 4, 3, 128]⟩
abbrev S4x2048x1536 : Shape := ⟨3, ![4, 2048, 1536]⟩
abbrev S4x2048x512 : Shape := ⟨3, ![4, 2048, 512]⟩

abbrev nBuf : Space → Nat
  | .hbm => 60
  | .vmem => 0
  | .smem => 0
  | _ => 0

abbrev bufTy : (tb : Table) → Fin (tcTables nBuf tb) → BufTy
  | .hbm, ⟨0, _⟩ => ⟨S4x2048x4x3x64, .f32⟩
  | .hbm, ⟨1, _⟩ => ⟨S4x2048x4x3, .f32⟩
  | .hbm, ⟨2, _⟩ => ⟨S4x2048x4x128, .f32⟩
  | .hbm, ⟨3, _⟩ => ⟨S4x2048x4x128, .f32⟩
  | .hbm, ⟨4, _⟩ => ⟨S4x2048x4x3x64, .f32⟩
  | .hbm, ⟨5, _⟩ => ⟨S_, .f32⟩
  | .hbm, ⟨6, _⟩ => ⟨S_, .f32⟩
  | .hbm, ⟨7, _⟩ => ⟨S4x2048x4x3, .f32⟩
  | .hbm, ⟨8, _⟩ => ⟨S_, .i1⟩
  | .hbm, ⟨9, _⟩ => ⟨S2048x2048, .i1⟩
  | .hbm, ⟨10, _⟩ => ⟨S2048x2048, .i32⟩
  | .hbm, ⟨11, _⟩ => ⟨S_, .i32⟩
  | .hbm, ⟨12, _⟩ => ⟨S2048x2048, .i32⟩
  | .hbm, ⟨13, _⟩ => ⟨S2048x2048, .i32⟩
  | .hbm, ⟨14, _⟩ => ⟨S2048x2048, .i32⟩
  | .hbm, ⟨15, _⟩ => ⟨S2048x2048, .i1⟩
  | .hbm, ⟨16, _⟩ => ⟨S_, .i1⟩
  | .hbm, ⟨17, _⟩ => ⟨S2048x2048, .i1⟩
  | .hbm, ⟨18, _⟩ => ⟨S2048x2048, .i1⟩
  | .hbm, ⟨19, _⟩ => ⟨S4x2048x1x4x3, .f32⟩
  | .hbm, ⟨20, _⟩ => ⟨S4x1x2048x4x3, .f32⟩
  | .hbm, ⟨21, _⟩ => ⟨S4x2048x2048x4x3, .f32⟩
  | .hbm, ⟨22, _⟩ => ⟨S4x2048x2048x4x3, .f32⟩
  | .hbm, ⟨23, _⟩ => ⟨S4x2048x2048x4x3, .f32⟩
  | .hbm, ⟨24, _⟩ => ⟨S1x2048x2048x1x1, .i1⟩
  | .hbm, ⟨25, _⟩ => ⟨S_, .f32⟩
  | .hbm, ⟨26, _⟩ => ⟨S_, .f32⟩
  | .hbm, ⟨27, _⟩ => ⟨S4x2048x2048x4x3, .i1⟩
  | .hbm, ⟨28, _⟩ => ⟨S4x2048x2048x4x3, .f32⟩
  | .hbm, ⟨29, _⟩ => ⟨S4x2048x2048x4x3, .f32⟩
  | .hbm, ⟨30, _⟩ => ⟨S4x2048x2048x4x3, .f32⟩
  | .hbm, ⟨31, _⟩ => ⟨S4x4x2048x2048, .f32⟩
  | .hbm, ⟨32, _⟩ => ⟨S4x2048x2048x4, .f32⟩
  | .hbm, ⟨33, _⟩ => ⟨S4x2048x2048x4x1, .f32⟩
  | .hbm, ⟨34, _⟩ => ⟨S4x2048x2048x4x3, .f32⟩
  | .hbm, ⟨35, _⟩ => ⟨S4x2048x2048x4x3, .f32⟩
  | .hbm, ⟨36, _⟩ => ⟨S4x4x3x64x2048, .f32⟩
  | .hbm, ⟨37, _⟩ => ⟨S4x2048x4x3x64, .f32⟩
  | .hbm, ⟨38, _⟩ => ⟨S4x4x3x64x2048, .f32⟩
  | .hbm, ⟨39, _⟩ => ⟨S4x4x3x2048x2048, .f32⟩
  | .hbm, ⟨40, _⟩ => ⟨S4x2048x2048x4x3, .f32⟩
  | .hbm, ⟨41, _⟩ => ⟨S4x4x3x64x2048, .f32⟩
  | .hbm, ⟨42, _⟩ => ⟨S4x2048x4x3x64, .f32⟩
  | .hbm, ⟨43, _⟩ => ⟨S4x2048x2048x4x3, .f32⟩
  | .hbm, ⟨44, _⟩ => ⟨S_, .f32⟩
  | .hbm, ⟨45, _⟩ => ⟨S4x2048x2048x4, .f32⟩
  | .hbm, ⟨46, _⟩ => ⟨S4x2048x2048x4x1, .f32⟩
  | .hbm, ⟨47, _⟩ => ⟨S_, .f32⟩
  | .hbm, ⟨48, _⟩ => ⟨S4x2048x2048x4, .f32⟩
  | .hbm, ⟨49, _⟩ => ⟨S4x4x2048x2048, .f32⟩
  | .hbm, ⟨50, _⟩ => ⟨S4x4x2048x128, .f32⟩
  | .hbm, ⟨51, _⟩ => ⟨S4x2048x4x128, .f32⟩
  | .hbm, ⟨52, _⟩ => ⟨S4x4x2048x128, .f32⟩
  | .hbm, ⟨53, _⟩ => ⟨S4x2048x4x128, .f32⟩
  | .hbm, ⟨54, _⟩ => ⟨S_, .i32⟩
  | .hbm, ⟨55, _⟩ => ⟨S_, .f32⟩
  | .hbm, ⟨56, _⟩ => ⟨S4x2048x4x3x128, .f32⟩
  | .hbm, ⟨57, _⟩ => ⟨S4x2048x1536, .f32⟩
  | .hbm, ⟨58, _⟩ => ⟨S4x2048x512, .f32⟩
  | .hbm, ⟨59, _⟩ => ⟨S4x2048x512, .f32⟩
  | _, _ => ⟨S4x2048x4x3x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_call0_cst : Ref sig .tc := ⟨.hbm, 5, rfl⟩
abbrev main_call0_call0_v0 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_call1_v0 : Ref sig .tc := ⟨.hbm, 10, rfl⟩
abbrev main_call1_c : Ref sig .tc := ⟨.hbm, 11, rfl⟩
abbrev main_call1_v1 : Ref sig .tc := ⟨.hbm, 12, rfl⟩
abbrev main_call1_v2 : Ref sig .tc := ⟨.hbm, 13, rfl⟩
abbrev main_call1_v3 : Ref sig .tc := ⟨.hbm, 14, rfl⟩
abbrev main_call1_v4 : Ref sig .tc := ⟨.hbm, 15, rfl⟩
abbrev main_call1_c_0 : Ref sig .tc := ⟨.hbm, 16, rfl⟩
abbrev main_call1_v5 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst : Ref sig .tc := ⟨.hbm, 25, rfl⟩
abbrev main_call2_v0 : Ref sig .tc := ⟨.hbm, 26, rfl⟩
abbrev main_call2_v1 : Ref sig .tc := ⟨.hbm, 27, rfl⟩
abbrev main_call2_v2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_0 : Ref sig .tc := ⟨.hbm, 44, rfl⟩
abbrev main_v24 : Ref sig .tc := ⟨.hbm, 45, rfl⟩
abbrev main_v25 : Ref sig .tc := ⟨.hbm, 46, rfl⟩
abbrev main_cst_1 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_2 : Ref sig .tc := ⟨.hbm, 54, rfl⟩
abbrev main_call3_v0 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩

abbrev nD : Nat := 1
abbrev τ : Topo := Topo.v7x

variable {F : FTy → Type} [FloatOps F]
-- ==== Kernel2.lean ====
abbrev S8192x1024 : Shape := ⟨2, ![8192, 1024]⟩
abbrev S1024x2816 : Shape := ⟨2, ![1024, 2816]⟩
abbrev S2816x1024 : Shape := ⟨2, ![2816, 1024]⟩
abbrev S8192x2816 : Shape := ⟨2, ![8192, 2816]⟩
abbrev S8192x11x256 : Shape := ⟨3, ![8192, 11, 256]⟩
abbrev S8192x11x1x256 : Shape := ⟨4, ![8192, 11, 1, 256]⟩
abbrev S8192x11x2x256 : Shape := ⟨4, ![8192, 11, 2, 256]⟩
abbrev S8192x5632 : Shape := ⟨2, ![8192, 5632]⟩
abbrev S1024x11x256 : Shape := ⟨3, ![1024, 11, 256]⟩
abbrev S1024x11x1x256 : Shape := ⟨4, ![1024, 11, 1, 256]⟩
abbrev S1024x11x2x256 : Shape := ⟨4, ![1024, 11, 2, 256]⟩
abbrev S1024x5632 : Shape := ⟨2, ![1024, 5632]⟩
abbrev S_ : Shape := ⟨0, ![]⟩
abbrev S5632x1024 : Shape := ⟨2, ![5632, 1024]⟩
abbrev S512x1024 : Shape := ⟨2, ![512, 1024]⟩
abbrev S512x5632 : Shape := ⟨2, ![512, 5632]⟩
abbrev S1024x256 : Shape := ⟨2, ![1024, 256]⟩
abbrev S512x256 : Shape := ⟨2, ![512, 256]⟩
abbrev S512x512 : Shape := ⟨2, ![512, 512]⟩

abbrev nBuf : Space → Nat
  | .hbm => 31
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S8192x1024, .f32⟩
  | .hbm, ⟨5, _⟩ => ⟨S8192x2816, .f32⟩
  | .hbm, ⟨6, _⟩ => ⟨S8192x2816, .f32⟩
  | .hbm, ⟨7, _⟩ => ⟨S8192x11x256, .f32⟩
  | .hbm, ⟨8, _⟩ => ⟨S8192x11x256, .f32⟩
  | .hbm, ⟨9, _⟩ => ⟨S8192x11x1x256, .f32⟩
  | .hbm, ⟨10, _⟩ => ⟨S8192x11x1x256, .f32⟩
  | .hbm, ⟨11, _⟩ => ⟨S8192x11x2x256, .f32⟩
  | .hbm, ⟨12, _⟩ => ⟨S8192x5632, .f32⟩
  | .hbm, ⟨13, _⟩ => ⟨S8192x5632, .bf16⟩
  | .hbm, ⟨14, _⟩ => ⟨S1024x2816, .bf16⟩
  | .hbm, ⟨15, _⟩ => ⟨S1024x2816, .bf16⟩
  | .hbm, ⟨16, _⟩ => ⟨S1024x11x256, .bf16⟩
  | .hbm, ⟨17, _⟩ => ⟨S1024x11x256, .bf16⟩
  | .hbm, ⟨18, _⟩ => ⟨S1024x11x1x256, .bf16⟩
  | .hbm, ⟨19, _⟩ => ⟨S1024x11x1x256, .bf16⟩
  | .hbm, ⟨20, _⟩ => ⟨S1024x11x2x256, .bf16⟩
  | .hbm, ⟨21, _⟩ => ⟨S1024x5632, .bf16⟩
  | .hbm, ⟨22, _⟩ => ⟨S8192x1024, .bf16⟩
  | .hbm, ⟨23, _⟩ => ⟨S2816x1024, .bf16⟩
  | .hbm, ⟨24, _⟩ => ⟨S1024x2816, .bf16⟩
  | .hbm, ⟨25, _⟩ => ⟨S_, .bf16⟩
  | .hbm, ⟨26, _⟩ => ⟨S1024x2816, .bf16⟩
  | .hbm, ⟨27, _⟩ => ⟨S1024x2816, .bf16⟩
  | .hbm, ⟨28, _⟩ => ⟨S5632x1024, .bf16⟩
  | .hbm, ⟨29, _⟩ => ⟨S8192x5632, .bf16⟩
  | .hbm, ⟨30, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x2816, .bf16⟩
  | .local _ .vmem, ⟨5, _⟩ => ⟨S512x5632, .bf16⟩
  | .local _ .vmem, ⟨6, _⟩ => ⟨S512x5632, .bf16⟩
  | .local _ .vmem, ⟨7, _⟩ => ⟨S5632x1024, .bf16⟩
  | .local _ .vmem, ⟨8, _⟩ => ⟨S512x5632, .bf16⟩
  | .local _ .vmem, ⟨9, _⟩ => ⟨S512x5632, .bf16⟩
  | .local _ .vmem, ⟨10, _⟩ => ⟨S512x1024, .f32⟩
  | .local _ .vmem, ⟨11, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23_0 : Ref sig .tc := ⟨.hbm, 29, rfl⟩
abbrev main_v23_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S5632x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x5632 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S8192x1024 : Shape := ⟨2, ![8192, 1024]⟩
abbrev S1024x2816 : Shape := ⟨2, ![1024, 2816]⟩
abbrev S2816x1024 : Shape := ⟨2, ![2816, 1024]⟩
abbrev S_ : Shape := ⟨0, ![]⟩
abbrev S8192x2816 : Shape := ⟨2, ![8192, 2816]⟩

abbrev nBuf : Space → Nat
  | .hbm => 48
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x2816, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S_, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S8192x1024, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S8192x1024, .f32⟩
  | .hbm, ⟨46, _⟩ => ⟨S8192x1024, .f32⟩
  | .hbm, ⟨47, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v3_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v3_1 : Ref sig .tc := ⟨.hbm, 20, rfl⟩
abbrev main_v3_0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_1 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst_2 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩

abbrev nD : Nat := 1
abbrev τ : Topo := Topo.v7x

variable {F : FTy → Type} [FloatOps F]
-- ==== Kernel3.lean ====
abbrev S8192x1024 : Shape := ⟨2, ![8192, 1024]⟩
abbrev S1024x2816 : Shape := ⟨2, ![1024, 2816]⟩
abbrev S2816x1024 : Shape := ⟨2, ![2816, 1024]⟩
abbrev S8192x2816 : Shape := ⟨2, ![8192, 2816]⟩
abbrev S_ : Shape := ⟨0, ![]⟩
abbrev S2048x1408 : Shape := ⟨2, ![2048, 1408]⟩
abbrev S2048x512 : Shape := ⟨2, ![2048, 512]⟩
abbrev S1408x512 : Shape := ⟨2, ![1408, 512]⟩

abbrev nBuf : Space → Nat
  | .hbm => 20
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S8192x1024, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S_, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .bf16⟩
  | .hbm, ⟨18, _⟩ => ⟨S8192x1024, .bf16⟩
  | .hbm, ⟨19, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x512, .bf16⟩
  | .local _ .vmem, ⟨3, _⟩ => ⟨S2048x512, .bf16⟩
  | .local _ .vmem, ⟨4, _⟩ => ⟨S1408x512, .f32⟩
  | .local _ .vmem, ⟨5, _⟩ => ⟨S1408x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x1024 : Shape := ⟨2, ![8192, 1024]⟩
abbrev S1024x2816 : Shape := ⟨2, ![1024, 2816]⟩
abbrev S2816x1024 : Shape := ⟨2, ![2816, 1024]⟩
abbrev S_ : Shape := ⟨0, ![]⟩
abbrev S8192x2816 : Shape := ⟨2, ![8192, 2816]⟩

abbrev nBuf : Space → Nat
  | .hbm => 30
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x2816, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S1024x2816, .f32⟩
  | .hbm, ⟨29, _⟩ => ⟨S2816x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩

abbrev nD : Nat := 1
abbrev τ : Topo := Topo.v7x

variable {F : FTy → Type} [FloatOps F]
-- ==== Kernel4.lean ====
abbrev S8192x1024 : Shape := ⟨2, ![8192, 1024]⟩
abbrev S1024x2816 : Shape := ⟨2, ![1024, 2816]⟩
abbrev S2816x1024 : Shape := ⟨2, ![2816, 1024]⟩
abbrev S8192x2816 : Shape := ⟨2, ![8192, 2816]⟩
abbrev S_ : Shape := ⟨0, ![]⟩
abbrev S8192x11x256 : Shape := ⟨3, ![8192, 11, 256]⟩
abbrev S8192x11x1x256 : Shape := ⟨4, ![8192, 11, 1, 256]⟩
abbrev S8192x11x2x256 : Shape := ⟨4, ![8192, 11, 2, 256]⟩
abbrev S8192x5632 : Shape := ⟨2, ![8192, 5632]⟩
abbrev S2048x1024 : Shape := ⟨2, ![2048, 1024]⟩
abbrev S2048x512 : Shape := ⟨2, ![2048, 512]⟩
abbrev S256x1024 : Shape := ⟨2, ![256, 1024]⟩
abbrev S512x1024 : Shape := ⟨2, ![512, 1024]⟩

abbrev nBuf : Space → Nat
  | .hbm => 45
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S8192x1024, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x1024, .bf16⟩
  | .hbm, ⟨36, _⟩ => ⟨S8192x11x256, .f32⟩
  | .hbm, ⟨37, _⟩ => ⟨S8192x11x256, .f32⟩
  | .hbm, ⟨38, _⟩ => ⟨S8192x11x1x256, .f32⟩
  | .hbm, ⟨39, _⟩ => ⟨S8192x11x1x256, .f32⟩
  | .hbm, ⟨40, _⟩ => ⟨S8192x11x2x256, .f32⟩
  | .hbm, ⟨41, _⟩ => ⟨S8192x5632, .f32⟩
  | .hbm, ⟨42, _⟩ => ⟨S8192x5632, .bf16⟩
  | .hbm, ⟨43, _⟩ => ⟨S2816x1024, .f32⟩
  | .hbm, ⟨44, _⟩ => ⟨S2816x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21_0 : Ref sig .tc := ⟨.hbm, 43, rfl⟩
abbrev main_v21_1 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 4], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference4Ideal.lean ====
abbrev S8192x1024 : Shape := ⟨2, ![8192, 1024]⟩
abbrev S1024x2816 : Shape := ⟨2, ![1024, 2816]⟩
abbrev S2816x1024 : Shape := ⟨2, ![2816, 1024]⟩
abbrev S_ : Shape := ⟨0, ![]⟩
abbrev S8192x2816 : Shape := ⟨2, ![8192, 2816]⟩

abbrev nBuf : Space → Nat
  | .hbm => 45
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x2816, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S_, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S2816x1024, .f32⟩
  | .hbm, ⟨36, _⟩ => ⟨S1024x2816, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S2816x1024, .f32⟩
  | .hbm, ⟨42, _⟩ => ⟨S1024x2816, .f32⟩
  | .hbm, ⟨43, _⟩ => ⟨S2816x1024, .f32⟩
  | .hbm, ⟨44, _⟩ => ⟨S2816x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v3_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v3_1 : Ref sig .tc := ⟨.hbm, 20, rfl⟩
abbrev main_v3_0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst_1 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩

abbrev nD : Nat := 1
abbrev τ : Topo := Topo.v7x

variable {F : FTy → Type} [FloatOps F]
-- ==== Kernel5.lean ====
abbrev S8192x1024 : Shape := ⟨2, ![8192, 1024]⟩
abbrev S1024x2816 : Shape := ⟨2, ![1024, 2816]⟩
abbrev S2816x1024 : Shape := ⟨2, ![2816, 1024]⟩
abbrev S1x1024 : Shape := ⟨2, ![1, 1024]⟩
abbrev S1024x11x256 : Shape := ⟨3, ![1024, 11, 256]⟩
abbrev S1024x11x1x256 : Shape := ⟨4, ![1024, 11, 1, 256]⟩
abbrev S1024x11x2x256 : Shape := ⟨4, ![1024, 11, 2, 256]⟩
abbrev S1024x5632 : Shape := ⟨2, ![1024, 5632]⟩
abbrev S8192x5632 : Shape := ⟨2, ![8192, 5632]⟩
abbrev S8192x2816 : Shape := ⟨2, ![8192, 2816]⟩
abbrev S512x1024 : Shape := ⟨2, ![512, 1024]⟩
abbrev S512x5632 : Shape := ⟨2, ![512, 5632]⟩
abbrev S512x2816 : Shape := ⟨2, ![512, 2816]⟩
abbrev S1024x512 : Shape := ⟨2, ![1024, 512]⟩
abbrev S512x512 : Shape := ⟨2, ![512, 512]⟩
abbrev S512x256 : Shape := ⟨2, ![512, 256]⟩
abbrev S256x1024 : Shape := ⟨2, ![256, 1024]⟩
abbrev S512 : Shape := ⟨1, ![512]⟩
abbrev S512x1 : Shape := ⟨2, ![512, 1]⟩

abbrev nBuf : Space → Nat
  | .hbm => 21
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1x1024, .f32⟩
  | .hbm, ⟨5, _⟩ => ⟨S1x1024, .f32⟩
  | .hbm, ⟨6, _⟩ => ⟨S1024x2816, .bf16⟩
  | .hbm, ⟨7, _⟩ => ⟨S1024x2816, .bf16⟩
  | .hbm, ⟨8, _⟩ => ⟨S1024x11x256, .bf16⟩
  | .hbm, ⟨9, _⟩ => ⟨S1024x11x256, .bf16⟩
  | .hbm, ⟨10, _⟩ => ⟨S1024x11x1x256, .bf16⟩
  | .hbm, ⟨11, _⟩ => ⟨S1024x11x1x256, .bf16⟩
  | .hbm, ⟨12, _⟩ => ⟨S1024x11x2x256, .bf16⟩
  | .hbm, ⟨13, _⟩ => ⟨S1024x5632, .bf16⟩
  | .hbm, ⟨14, _⟩ => ⟨S8192x1024, .bf16⟩
  | .hbm, ⟨15, _⟩ => ⟨S2816x1024, .bf16⟩
  | .hbm, ⟨16, _⟩ => ⟨S8192x5632, .bf16⟩
  | .hbm, ⟨17, _⟩ => ⟨S8192x2816, .bf16⟩
  | .hbm, ⟨18, _⟩ => ⟨S8192x1024, .f32⟩
  | .hbm, ⟨19, _⟩ => ⟨S8192x1024, .f32⟩
  | .hbm, ⟨20, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x5632, .bf16⟩
  | .local _ .vmem, ⟨5, _⟩ => ⟨S2816x1024, .bf16⟩
  | .local _ .vmem, ⟨6, _⟩ => ⟨S1x1024, .f32⟩
  | .local _ .vmem, ⟨7, _⟩ => ⟨S1x1024, .f32⟩
  | .local _ .vmem, ⟨8, _⟩ => ⟨S512x5632, .bf16⟩
  | .local _ .vmem, ⟨9, _⟩ => ⟨S512x5632, .bf16⟩
  | .local _ .vmem, ⟨10, _⟩ => ⟨S512x2816, .bf16⟩
  | .local _ .vmem, ⟨11, _⟩ => ⟨S512x2816, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v10_2 : Ref sig .tc := ⟨.hbm, 18, rfl⟩
abbrev main_v10_3 : Ref sig .tc := ⟨.hbm, 19, rfl⟩
abbrev main_v10_4 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x5632 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference5Ideal.lean ====
abbrev S8192x1024 : Shape := ⟨2, ![8192, 1024]⟩
abbrev S1024x2816 : Shape := ⟨2, ![1024, 2816]⟩
abbrev S2816x1024 : Shape := ⟨2, ![2816, 1024]⟩
abbrev S1x1024 : Shape := ⟨2, ![1, 1024]⟩
abbrev S_ : Shape := ⟨0, ![]⟩
abbrev S8192x2816 : Shape := ⟨2, ![8192, 2816]⟩
abbrev S8192 : Shape := ⟨1, ![8192]⟩
abbrev S8192x1 : Shape := ⟨2, ![8192, 1]⟩

abbrev nBuf : Space → Nat
  | .hbm => 53
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1x1024, .f32⟩
  | .hbm, ⟨5, _⟩ => ⟨S1x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S8192x2816, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S8192x1, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩

abbrev nD : Nat := 1
abbrev τ : Topo := Topo.v7x

variable {F : FTy → Type} [FloatOps F]
-- ==== Kernel6.lean ====
abbrev S8192x1536 : Shape := ⟨2, ![8192, 1536]⟩
abbrev S8192x1024 : Shape := ⟨2, ![8192, 1024]⟩
abbrev S1536x1024 : Shape := ⟨2, ![1536, 1024]⟩
abbrev S2048x768 : Shape := ⟨2, ![2048, 768]⟩
abbrev S2048x1024 : Shape := ⟨2, ![2048, 1024]⟩
abbrev S768x1024 : Shape := ⟨2, ![768, 1024]⟩

abbrev nBuf : Space → Nat
  | .hbm => 7
  | .vmem => 6
  | .smem => 0
  | _ => 0

abbrev bufTy : (tb : Table) → Fin (tcTables nBuf tb) → BufTy
  | .hbm, ⟨0, _⟩ => ⟨S8192x1536, .f32⟩
  | .hbm, ⟨1, _⟩ => ⟨S8192x1024, .f32⟩
  | .hbm, ⟨2, _⟩ => ⟨S1536x1024, .f32⟩
  | .hbm, ⟨3, _⟩ => ⟨S8192x1024, .f32⟩
  | .hbm, ⟨4, _⟩ => ⟨S8192x1536, .bf16⟩
  | .hbm, ⟨5, _⟩ => ⟨S8192x1024, .bf16⟩
  | .hbm, ⟨6, _⟩ => ⟨S1536x1024, .f32⟩
  | .local _ .vmem, ⟨0, _⟩ => ⟨S2048x768, .bf16⟩
  | .local _ .vmem, ⟨1, _⟩ => ⟨S2048x768, .bf16⟩
  | .local _ .vmem, ⟨2, _⟩ => ⟨S2048x1024, .bf16⟩
  | .local _ .vmem, ⟨3, _⟩ => ⟨S2048x1024, .bf16⟩
  | .local _ .vmem, ⟨4, _⟩ => ⟨S768x1024, .f32⟩
  | .local _ .vmem, ⟨5, _⟩ => ⟨S768x1024, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x1536 : Shape := ⟨2, ![8192, 1536]⟩
abbrev S8192x1024 : Shape := ⟨2, ![8192, 1024]⟩
abbrev S1536x1024 : Shape := ⟨2, ![1536, 1024]⟩
abbrev S_ : Shape := ⟨0, ![]⟩
abbrev S1024x1536 : Shape := ⟨2, ![1024, 1536]⟩

abbrev nBuf : Space → Nat
  | .hbm => 11
  | .vmem => 0
  | .smem => 0
  | _ => 0

abbrev bufTy : (tb : Table) → Fin (tcTables nBuf tb) → BufTy
  | .hbm, ⟨0, _⟩ => ⟨S8192x1536, .f32⟩
  | .hbm, ⟨1, _⟩ => ⟨S8192x1024, .f32⟩
  | .hbm, ⟨2, _⟩ => ⟨S1536x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S1024x1536, .f32⟩
  | .hbm, ⟨10, _⟩ => ⟨S1536x1024, .f32⟩
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Kernel7.lean ====
abbrev S8192x1536 : Shape := ⟨2, ![8192, 1536]⟩
abbrev S8192x1024 : Shape := ⟨2, ![8192, 1024]⟩
abbrev S1536x1024 : Shape := ⟨2, ![1536, 1024]⟩
abbrev S1024x1536 : Shape := ⟨2, ![1024, 1536]⟩
abbrev S1024x1024 : Shape := ⟨2, ![1024, 1024]⟩
abbrev S1024x768 : Shape := ⟨2, ![1024, 768]⟩

abbrev nBuf : Space → Nat
  | .hbm => 8
  | .vmem => 6
  | .smem => 0
  | _ => 0

abbrev bufTy : (tb : Table) → Fin (tcTables nBuf tb) → BufTy
  | .hbm, ⟨0, _⟩ => ⟨S8192x1536, .f32⟩
  | .hbm, ⟨1, _⟩ => ⟨S8192x1024, .f32⟩
  | .hbm, ⟨2, _⟩ => ⟨S1536x1024, .f32⟩
  | .hbm, ⟨3, _⟩ => ⟨S8192x1024, .f32⟩
  | .hbm, ⟨4, _⟩ => ⟨S8192x1024, .bf16⟩
  | .hbm, ⟨5, _⟩ => ⟨S1536x1024, .bf16⟩
  | .hbm, ⟨6, _⟩ => ⟨S1024x1536, .bf16⟩
  | .hbm, ⟨7, _⟩ => ⟨S8192x1536, .f32⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .f32⟩
  | .local _ .vmem, ⟨5, _⟩ => ⟨S1024x768, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S8192x1536 : Shape := ⟨2, ![8192, 1536]⟩
abbrev S8192x1024 : Shape := ⟨2, ![8192, 1024]⟩
abbrev S1536x1024 : Shape := ⟨2, ![1536, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x1536, .f32⟩
  | .hbm, ⟨1, _⟩ => ⟨S8192x1024, .f32⟩
  | .hbm, ⟨2, _⟩ => ⟨S1536x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1536, .f32⟩
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== Kernel8.lean ====
abbrev S8192x1024 : Shape := ⟨2, ![8192, 1024]⟩
abbrev S1024x4876 : Shape := ⟨2, ![1024, 4876]⟩
abbrev S8192x4876 : Shape := ⟨2, ![8192, 4876]⟩
abbrev S1024x1536 : Shape := ⟨2, ![1024, 1536]⟩
abbrev S1024x768 : Shape := ⟨2, ![1024, 768]⟩
abbrev S1024x1792 : Shape := ⟨2, ![1024, 1792]⟩
abbrev S1024x12 : Shape := ⟨2, ![1024, 12]⟩
abbrev S_ : Shape := ⟨0, ![]⟩
abbrev S1024x128 : Shape := ⟨2, ![1024, 128]⟩
abbrev S8192x1536 : Shape := ⟨2, ![8192, 1536]⟩
abbrev S8192x768 : Shape := ⟨2, ![8192, 768]⟩
abbrev S8192x1792 : Shape := ⟨2, ![8192, 1792]⟩
abbrev S8192x12 : Shape := ⟨2, ![8192, 12]⟩
abbrev S8192x128 : Shape := ⟨2, ![8192, 128]⟩
abbrev S1536x1024 : Shape := ⟨2, ![1536, 1024]⟩
abbrev S768x1024 : Shape := ⟨2, ![768, 1024]⟩
abbrev S1792x1024 : Shape := ⟨2, ![1792, 1024]⟩
abbrev S128x1024 : Shape := ⟨2, ![128, 1024]⟩
abbrev S1536x512 : Shape := ⟨2, ![1536, 512]⟩
abbrev S768x512 : Shape := ⟨2, ![768, 512]⟩
abbrev S1792x512 : Shape := ⟨2, ![1792, 512]⟩
abbrev S128x512 : Shape := ⟨2, ![128, 512]⟩
abbrev S1024x512 : Shape := ⟨2, ![1024, 512]⟩

abbrev nBuf : Space → Nat
  | .hbm => 28
  | .vmem => 24
  | .smem => 0
  | _ => 0

abbrev bufTy : (tb : Table) → Fin (tcTables nBuf tb) → BufTy
  | .hbm, ⟨0, _⟩ => ⟨S8192x1024, .f32⟩
  | .hbm, ⟨1, _⟩ => ⟨S1024x4876, .f32⟩
  | .hbm, ⟨2, _⟩ => ⟨S8192x1024, .f32⟩
  | .hbm, ⟨3, _⟩ => ⟨S8192x4876, .f32⟩
  | .hbm, ⟨4, _⟩ => ⟨S1024x4876, .bf16⟩
  | .hbm, ⟨5, _⟩ => ⟨S1024x1536, .bf16⟩
  | .hbm, ⟨6, _⟩ => ⟨S1024x768, .bf16⟩
  | .hbm, ⟨7, _⟩ => ⟨S1024x768, .bf16⟩
  | .hbm, ⟨8, _⟩ => ⟨S1024x1792, .bf16⟩
  | .hbm, ⟨9, _⟩ => ⟨S1024x12, .bf16⟩
  | .hbm, ⟨10, _⟩ => ⟨S_, .i32⟩
  | .hbm, ⟨11, _⟩ => ⟨S_, .bf16⟩
  | .hbm, ⟨12, _⟩ => ⟨S1024x128, .bf16⟩
  | .hbm, ⟨13, _⟩ => ⟨S8192x4876, .bf16⟩
  | .hbm, ⟨14, _⟩ => ⟨S8192x1536, .bf16⟩
  | .hbm, ⟨15, _⟩ => ⟨S8192x768, .bf16⟩
  | .hbm, ⟨16, _⟩ => ⟨S8192x768, .bf16⟩
  | .hbm, ⟨17, _⟩ => ⟨S8192x1792, .bf16⟩
  | .hbm, ⟨18, _⟩ => ⟨S8192x12, .bf16⟩
  | .hbm, ⟨19, _⟩ => ⟨S_, .i32⟩
  | .hbm, ⟨20, _⟩ => ⟨S_, .bf16⟩
  | .hbm, ⟨21, _⟩ => ⟨S8192x128, .bf16⟩
  | .hbm, ⟨22, _⟩ => ⟨S1536x1024, .bf16⟩
  | .hbm, ⟨23, _⟩ => ⟨S768x1024, .bf16⟩
  | .hbm, ⟨24, _⟩ => ⟨S768x1024, .bf16⟩
  | .hbm, ⟨25, _⟩ => ⟨S1792x1024, .bf16⟩
  | .hbm, ⟨26, _⟩ => ⟨S128x1024, .bf16⟩
  | .hbm, ⟨27, _⟩ => ⟨S8192x1024, .f32⟩
  | .local _ .vmem, ⟨0, _⟩ => ⟨S1024x1536, .bf16⟩
  | .local _ .vmem, ⟨1, _⟩ => ⟨S1024x1536, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .bf16⟩
  | .local _ .vmem, ⟨5, _⟩ => ⟨S1024x768, .bf16⟩
  | .local _ .vmem, ⟨6, _⟩ => ⟨S1024x1792, .bf16⟩
  | .local _ .vmem, ⟨7, _⟩ => ⟨S1024x1792, .bf16⟩
  | .local _ .vmem, ⟨8, _⟩ => ⟨S1024x128, .bf16⟩
  | .local _ .vmem, ⟨9, _⟩ => ⟨S1024x128, .bf16⟩
  | .local _ .vmem, ⟨10, _⟩ => ⟨S1536x512, .bf16⟩
  | .local _ .vmem, ⟨11, _⟩ => ⟨S1536x512, .bf16⟩
  | .local _ .vmem, ⟨12, _⟩ => ⟨S768x512, .bf16⟩
  | .local _ .vmem, ⟨13, _⟩ => ⟨S768x512, .bf16⟩
  | .local _ .vmem, ⟨14, _⟩ => ⟨S768x512, .bf16⟩
  | .local _ .vmem, ⟨15, _⟩ => ⟨S768x512, .bf16⟩
  | .local _ .vmem, ⟨16, _⟩ => ⟨S1792x512, .bf16⟩
  | .local _ .vmem, ⟨17, _⟩ => ⟨S1792x512, .bf16⟩
  | .local _ .vmem, ⟨18, _⟩ => ⟨S128x512, .bf16⟩
  | .local _ .vmem, ⟨19, _⟩ => ⟨S128x512, .bf16⟩
  | .local _ .vmem, ⟨20, _⟩ => ⟨S1024x512, .f32⟩
  | .local _ .vmem, ⟨21, _⟩ => ⟨S1024x512, .f32⟩
  | .local _ .vmem, ⟨22, _⟩ => ⟨S1024x512, .f32⟩
  | .local _ .vmem, ⟨23, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_0 : Ref sig .tc := ⟨.hbm, 19, rfl⟩
abbrev main_call1_v0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1792 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1536x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S768x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S768x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1792x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S128x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1024x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference8Ideal.lean ====
abbrev S8192x1024 : Shape := ⟨2, ![8192, 1024]⟩
abbrev S1024x4876 : Shape := ⟨2, ![1024, 4876]⟩
abbrev S8192x4876 : Shape := ⟨2, ![8192, 4876]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4876, .f32⟩
  | .hbm, ⟨2, _⟩ => ⟨S8192x1024, .f32⟩
  | .hbm, ⟨3, _⟩ => ⟨S8192x4876, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S8192x4876, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== Kernel9.lean ====
abbrev S8192x1024 : Shape := ⟨2, ![8192, 1024]⟩
abbrev S1024x4876 : Shape := ⟨2, ![1024, 4876]⟩
abbrev S8192x4876 : Shape := ⟨2, ![8192, 4876]⟩
abbrev S8192x1536 : Shape := ⟨2, ![8192, 1536]⟩
abbrev S8192x768 : Shape := ⟨2, ![8192, 768]⟩
abbrev S8192x1792 : Shape := ⟨2, ![8192, 1792]⟩
abbrev S8192x12 : Shape := ⟨2, ![8192, 12]⟩
abbrev S_ : Shape := ⟨0, ![]⟩
abbrev S8192x128 : Shape := ⟨2, ![8192, 128]⟩
abbrev S1024x4992 : Shape := ⟨2, ![1024, 4992]⟩
abbrev S512x1024 : Shape := ⟨2, ![512, 1024]⟩
abbrev S512x1536 : Shape := ⟨2, ![512, 1536]⟩
abbrev S512x768 : Shape := ⟨2, ![512, 768]⟩
abbrev S512x1792 : Shape := ⟨2, ![512, 1792]⟩
abbrev S512x128 : Shape := ⟨2, ![512, 128]⟩
abbrev S1024x512 : Shape := ⟨2, ![1024, 512]⟩
abbrev S1024x1536 : Shape := ⟨2, ![1024, 1536]⟩
abbrev S1024x768 : Shape := ⟨2, ![1024, 768]⟩
abbrev S1024x1792 : Shape := ⟨2, ![1024, 1792]⟩
abbrev S1024x128 : Shape := ⟨2, ![1024, 128]⟩

abbrev nBuf : Space → Nat
  | .hbm => 15
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1024x4876, .f32⟩
  | .hbm, ⟨2, _⟩ => ⟨S8192x1024, .f32⟩
  | .hbm, ⟨3, _⟩ => ⟨S8192x4876, .f32⟩
  | .hbm, ⟨4, _⟩ => ⟨S8192x4876, .bf16⟩
  | .hbm, ⟨5, _⟩ => ⟨S8192x1536, .bf16⟩
  | .hbm, ⟨6, _⟩ => ⟨S8192x768, .bf16⟩
  | .hbm, ⟨7, _⟩ => ⟨S8192x768, .bf16⟩
  | .hbm, ⟨8, _⟩ => ⟨S8192x1792, .bf16⟩
  | .hbm, ⟨9, _⟩ => ⟨S8192x12, .bf16⟩
  | .hbm, ⟨10, _⟩ => ⟨S_, .i32⟩
  | .hbm, ⟨11, _⟩ => ⟨S_, .bf16⟩
  | .hbm, ⟨12, _⟩ => ⟨S8192x128, .bf16⟩
  | .hbm, ⟨13, _⟩ => ⟨S8192x1024, .bf16⟩
  | .hbm, ⟨14, _⟩ => ⟨S1024x4992, .f32⟩
  | .local _ .vmem, ⟨0, _⟩ => ⟨S512x1024, .bf16⟩
  | .local _ .vmem, ⟨1, _⟩ => ⟨S512x1024, .bf16⟩
  | .local _ .vmem, ⟨2, _⟩ => ⟨S512x1536, .bf16⟩
  | .local _ .vmem, ⟨3, _⟩ => ⟨S512x1536, .bf16⟩
  | .local _ .vmem, ⟨4, _⟩ => ⟨S512x768, .bf16⟩
  | .local _ .vmem, ⟨5, _⟩ => ⟨S512x768, .bf16⟩
  | .local _ .vmem, ⟨6, _⟩ => ⟨S512x768, .bf16⟩
  | .local _ .vmem, ⟨7, _⟩ => ⟨S512x768, .bf16⟩
  | .local _ .vmem, ⟨8, _⟩ => ⟨S512x1792, .bf16⟩
  | .local _ .vmem, ⟨9, _⟩ => ⟨S512x1792, .bf16⟩
  | .local _ .vmem, ⟨10, _⟩ => ⟨S512x128, .bf16⟩
  | .local _ .vmem, ⟨11, _⟩ => ⟨S512x128, .bf16⟩
  | .local _ .vmem, ⟨12, _⟩ => ⟨S1024x4992, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v18 : BitVec 1 := Scalar.cmpi .eq arg0 c0_i32
  let v19 : BitVec 32 := Scalar.extui v18
  let c0_i32_15 : BitVec 32 := 0#32
  let v20 : BitVec 1 := Scalar.cmpi .ne v19 c0_i32_15
  v20

def k0_cond2 (i : grid0.Coords) : BitVec 1 :=
  let arg0 : BitVec 32 := BitVec.ofNat 32 (i 0).val
  let c0_i32_16 : BitVec 32 := 0#32
  let v21 : BitVec 1 := Scalar.cmpi .sgt arg0 c0_i32_16
  let v22 : BitVec 32 := Scalar.extui v21
  let c0_i32_17 : BitVec 32 := 0#32
  let v23 : BitVec 1 := Scalar.cmpi .ne v22 c0_i32_17
  v23

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1792 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x4992 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference9Ideal.lean ====
abbrev S8192x1024 : Shape := ⟨2, ![8192, 1024]⟩
abbrev S1024x4876 : Shape := ⟨2, ![1024, 4876]⟩
abbrev S8192x4876 : Shape := ⟨2, ![8192, 4876]⟩
abbrev S_ : Shape := ⟨0, ![]⟩
abbrev S4876x1024 : Shape := ⟨2, ![4876, 1024]⟩
abbrev S1024x4992 : Shape := ⟨2, ![1024, 4992]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4876, .f32⟩
  | .hbm, ⟨2, _⟩ => ⟨S8192x1024, .f32⟩
  | .hbm, ⟨3, _⟩ => ⟨S8192x4876, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S8192x4876, .f32⟩
  | .hbm, ⟨8, _⟩ => ⟨S4876x1024, .f32⟩
  | .hbm, ⟨9, _⟩ => ⟨S1024x4876, .f32⟩
  | .hbm, ⟨10, _⟩ => ⟨S_, .i32⟩
  | .hbm, ⟨11, _⟩ => ⟨S_, .f32⟩
  | .hbm, ⟨12, _⟩ => ⟨S1024x4992, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩

abbrev nD : Nat := 1
abbrev τ : Topo := Topo.v7x

variable {F : FTy → Type} [FloatOps F]
-- ==== Kernel10.lean ====
abbrev S8192x1536 : Shape := ⟨2, ![8192, 1536]⟩
abbrev S8192x1024 : Shape := ⟨2, ![8192, 1024]⟩
abbrev S1536x1024 : Shape := ⟨2, ![1536, 1024]⟩
abbrev S1x1024 : Shape := ⟨2, ![1, 1024]⟩
abbrev S512x1536 : Shape := ⟨2, ![512, 1536]⟩
abbrev S512x1024 : Shape := ⟨2, ![512, 1024]⟩
abbrev S128x1024 : Shape := ⟨2, ![128, 1024]⟩
abbrev S128x1536 : Shape := ⟨2, ![128, 1536]⟩
abbrev S128 : Shape := ⟨1, ![128]⟩
abbrev S128x1 : Shape := ⟨2, ![128, 1]⟩

abbrev nBuf : Space → Nat
  | .hbm => 10
  | .vmem => 13
  | .smem => 0
  | _ => 0

abbrev bufTy : (tb : Table) → Fin (tcTables nBuf tb) → BufTy
  | .hbm, ⟨0, _⟩ => ⟨S8192x1536, .f32⟩
  | .hbm, ⟨1, _⟩ => ⟨S8192x1024, .f32⟩
  | .hbm, ⟨2, _⟩ => ⟨S1536x1024, .f32⟩
  | .hbm, ⟨3, _⟩ => ⟨S1x1024, .f32⟩
  | .hbm, ⟨4, _⟩ => ⟨S1x1024, .f32⟩
  | .hbm, ⟨5, _⟩ => ⟨S8192x1536, .bf16⟩
  | .hbm, ⟨6, _⟩ => ⟨S1536x1024, .bf16⟩
  | .hbm, ⟨7, _⟩ => ⟨S8192x1024, .f32⟩
  | .hbm, ⟨8, _⟩ => ⟨S8192x1024, .f32⟩
  | .hbm, ⟨9, _⟩ => ⟨S8192x1024, .bf16⟩
  | .local _ .vmem, ⟨0, _⟩ => ⟨S512x1536, .bf16⟩
  | .local _ .vmem, ⟨1, _⟩ => ⟨S512x1536, .bf16⟩
  | .local _ .vmem, ⟨2, _⟩ => ⟨S1536x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference10Ideal.lean ====
abbrev S8192x1536 : Shape := ⟨2, ![8192, 1536]⟩
abbrev S8192x1024 : Shape := ⟨2, ![8192, 1024]⟩
abbrev S1536x1024 : Shape := ⟨2, ![1536, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 37
  | .vmem => 0
  | .smem => 0
  | _ => 0

abbrev bufTy : (tb : Table) → Fin (tcTables nBuf tb) → BufTy
  | .hbm, ⟨0, _⟩ => ⟨S8192x1536, .f32⟩
  | .hbm, ⟨1, _⟩ => ⟨S8192x1024, .f32⟩
  | .hbm, ⟨2, _⟩ => ⟨S1536x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== Kernel11.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S8192x1024, .f32⟩
  | .hbm, ⟨4, _⟩ => ⟨S8192x1024, .f32⟩
  | .hbm, ⟨5, _⟩ => ⟨S8192x1024, .bf16⟩
  | .hbm, ⟨6, _⟩ => ⟨S1x1024, .f32⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | .local _ .vmem, ⟨11, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v65 : BitVec 1 := Scalar.cmpi .eq arg0 c0_i32
  let v66 : BitVec 32 := Scalar.extui v65
  let c0_i32_26 : BitVec 32 := 0#32
  let v67 : BitVec 1 := Scalar.cmpi .ne v66 c0_i32_26
  v67

def k0_cond2 (i : grid0.Coords) : BitVec 1 :=
  let arg0 : BitVec 32 := BitVec.ofNat 32 (i 0).val
  let c0_i32_27 : BitVec 32 := 0#32
  let v68 : BitVec 1 := Scalar.cmpi .sgt arg0 c0_i32_27
  let v69 : BitVec 32 := Scalar.extui v68
  let c0_i32_28 : BitVec 32 := 0#32
  let v70 : BitVec 1 := Scalar.cmpi .ne v69 c0_i32_28
  v70

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference11Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 79
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S8192x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192, .f32⟩
  | .hbm, ⟨51, _⟩ => ⟨S8192x1, .f32⟩
  | .hbm, ⟨52, _⟩ => ⟨S8192x1024, .f32⟩
  | .hbm, ⟨53, _⟩ => ⟨S8192x1024, .f32⟩
  | .hbm, ⟨54, _⟩ => ⟨S8192x1, .f32⟩
  | .hbm, ⟨55, _⟩ => ⟨S8192x1024, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S_, .f32⟩
  | .hbm, ⟨63, _⟩ => ⟨S8192, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S_, .f32⟩
  | .hbm, ⟨68, _⟩ => ⟨S8192, .f32⟩
  | .hbm, ⟨69, _⟩ => ⟨S8192x1, .f32⟩
  | .hbm, ⟨70, _⟩ => ⟨S8192x1024, .f32⟩
  | .hbm, ⟨71, _⟩ => ⟨S8192x1, .f32⟩
  | .hbm, ⟨72, _⟩ => ⟨S_, .f32⟩
  | .hbm, ⟨73, _⟩ => ⟨S8192x1, .f32⟩
  | .hbm, ⟨74, _⟩ => ⟨S8192x1, .f32⟩
  | .hbm, ⟨75, _⟩ => ⟨S_, .f32⟩
  | .hbm, ⟨76, _⟩ => ⟨S8192, .f32⟩
  | .hbm, ⟨77, _⟩ => ⟨S8192x1024, .f32⟩
  | .hbm, ⟨78, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_8 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_9 : Ref sig .tc := ⟨.hbm, 56, rfl⟩
abbrev main_v42 : Ref sig .tc := ⟨.hbm, 57, rfl⟩
abbrev main_v43 : Ref sig .tc := ⟨.hbm, 58, rfl⟩
abbrev main_cst_10 : Ref sig .tc := ⟨.hbm, 59, rfl⟩
abbrev main_v44 : Ref sig .tc := ⟨.hbm, 60, rfl⟩
abbrev main_v45 : Ref sig .tc := ⟨.hbm, 61, rfl⟩
abbrev main_cst_11 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_12 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_13 : Ref sig .tc := ⟨.hbm, 72, rfl⟩
abbrev main_v54 : Ref sig .tc := ⟨.hbm, 73, rfl⟩
abbrev main_v55 : Ref sig .tc := ⟨.hbm, 74, rfl⟩
abbrev main_cst_14 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩

abbrev nD : Nat := 1
abbrev τ : Topo := Topo.v7x

variable {F : FTy → Type} [FloatOps F]
-- ==== Kernel12.lean ====
abbrev S80x128 : Shape := ⟨2, ![80, 128]⟩
abbrev S16x128 : Shape := ⟨2, ![16, 128]⟩

abbrev nBuf : Space → Nat
  | .hbm => 8
  | .vmem => 16
  | .smem => 0
  | _ => 0

abbrev bufTy : (tb : Table) → Fin (tcTables nBuf tb) → BufTy
  | .hbm, ⟨0, _⟩ => ⟨S80x128, .f32⟩
  | .hbm, ⟨1, _⟩ => ⟨S80x128, .f32⟩
  | .hbm, ⟨2, _⟩ => ⟨S80x128, .f32⟩
  | .hbm, ⟨3, _⟩ => ⟨S80x128, .f32⟩
  | .hbm, ⟨4, _⟩ => ⟨S80x128, .f32⟩
  | .hbm, ⟨5, _⟩ => ⟨S80x128, .f32⟩
  | .hbm, ⟨6, _⟩ => ⟨S80x128, .f32⟩
  | .hbm, ⟨7, _⟩ => ⟨S80x128, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | .local _ .vmem, ⟨7, _⟩ => ⟨S16x128, .f32⟩
  | .local _ .vmem, ⟨8, _⟩ => ⟨S16x128, .f32⟩
  | .local _ .vmem, ⟨9, _⟩ => ⟨S16x128, .f32⟩
  | .local _ .vmem, ⟨10, _⟩ => ⟨S16x128, .f32⟩
  | .local _ .vmem, ⟨11, _⟩ => ⟨S16x128, .f32⟩
  | .local _ .vmem, ⟨12, _⟩ => ⟨S16x128, .f32⟩
  | .local _ .vmem, ⟨13, _⟩ => ⟨S16x128, .f32⟩
  | .local _ .vmem, ⟨14, _⟩ => ⟨S16x128, .f32⟩
  | .local _ .vmem, ⟨15, _⟩ => ⟨S16x128, .f32⟩
  | _, _ => ⟨S80x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference12Ideal.lean ====
abbrev S80x128 : Shape := ⟨2, ![80, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S80x128, .f32⟩
  | .hbm, ⟨1, _⟩ => ⟨S80x128, .f32⟩
  | .hbm, ⟨2, _⟩ => ⟨S80x128, .f32⟩
  | .hbm, ⟨3, _⟩ => ⟨S80x128, .f32⟩
  | .hbm, ⟨4, _⟩ => ⟨S_, .f32⟩
  | .hbm, ⟨5, _⟩ => ⟨S80x128, .f32⟩
  | .hbm, ⟨6, _⟩ => ⟨S80x128, .f32⟩
  | .hbm, ⟨7, _⟩ => ⟨S_, .f32⟩
  | .hbm, ⟨8, _⟩ => ⟨S80x128, .f32⟩
  | .hbm, ⟨9, _⟩ => ⟨S80x128, .f32⟩
  | .hbm, ⟨10, _⟩ => ⟨S80x128, .f32⟩
  | .hbm, ⟨11, _⟩ => ⟨S_, .f32⟩
  | .hbm, ⟨12, _⟩ => ⟨S80x128, .f32⟩
  | .hbm, ⟨13, _⟩ => ⟨S80x128, .f32⟩
  | .hbm, ⟨14, _⟩ => ⟨S80x128, .f32⟩
  | .hbm, ⟨15, _⟩ => ⟨S_, .f32⟩
  | .hbm, ⟨16, _⟩ => ⟨S80x128, .f32⟩
  | .hbm, ⟨17, _⟩ => ⟨S80x128, .f32⟩
  | .hbm, ⟨18, _⟩ => ⟨S80x128, .f32⟩
  | .hbm, ⟨19, _⟩ => ⟨S_, .f32⟩
  | .hbm, ⟨20, _⟩ => ⟨S80x128, .f32⟩
  | .hbm, ⟨21, _⟩ => ⟨S80x128, .f32⟩
  | .hbm, ⟨22, _⟩ => ⟨S_, .f32⟩
  | .hbm, ⟨23, _⟩ => ⟨S80x128, .f32⟩
  | .hbm, ⟨24, _⟩ => ⟨S80x128, .f32⟩
  | .hbm, ⟨25, _⟩ => ⟨S80x128, .f32⟩
  | .hbm, ⟨26, _⟩ => ⟨S_, .f32⟩
  | .hbm, ⟨27, _⟩ => ⟨S80x128, .f32⟩
  | .hbm, ⟨28, _⟩ => ⟨S80x128, .f32⟩
  | .hbm, ⟨29, _⟩ => ⟨S80x128, .f32⟩
  | .hbm, ⟨30, _⟩ => ⟨S_, .f32⟩
  | .hbm, ⟨31, _⟩ => ⟨S80x128, .f32⟩
  | .hbm, ⟨32, _⟩ => ⟨S80x128, .f32⟩
  | .hbm, ⟨33, _⟩ => ⟨S80x128, .f32⟩
  | .hbm, ⟨34, _⟩ => ⟨S_, .f32⟩
  | .hbm, ⟨35, _⟩ => ⟨S80x128, .f32⟩
  | .hbm, ⟨36, _⟩ => ⟨S80x128, .f32⟩
  | _, _ => ⟨S80x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel13.lean ====
abbrev S4x448 : Shape := ⟨2, ![4, 448]⟩

abbrev nBuf : Space → Nat
  | .hbm => 8
  | .vmem => 8
  | .smem => 0
  | _ => 0

abbrev bufTy : (tb : Table) → Fin (tcTables nBuf tb) → BufTy
  | .hbm, ⟨0, _⟩ => ⟨S4x448, .f32⟩
  | .hbm, ⟨1, _⟩ => ⟨S4x448, .f32⟩
  | .hbm, ⟨2, _⟩ => ⟨S4x448, .f32⟩
  | .hbm, ⟨3, _⟩ => ⟨S4x448, .f32⟩
  | .hbm, ⟨4, _⟩ => ⟨S4x448, .f32⟩
  | .hbm, ⟨5, _⟩ => ⟨S4x448, .f32⟩
  | .hbm, ⟨6, _⟩ => ⟨S4x448, .f32⟩
  | .hbm, ⟨7, _⟩ => ⟨S4x448, .f32⟩
  | .local _ .vmem, ⟨0, _⟩ => ⟨S4x448, .f32⟩
  | .local _ .vmem, ⟨1, _⟩ => ⟨S4x448, .f32⟩
  | .local _ .vmem, ⟨2, _⟩ => ⟨S4x448, .f32⟩
  | .local _ .vmem, ⟨3, _⟩ => ⟨S4x448, .f32⟩
  | .local _ .vmem, ⟨4, _⟩ => ⟨S4x448, .f32⟩
  | .local _ .vmem, ⟨5, _⟩ => ⟨S4x448, .f32⟩
  | .local _ .vmem, ⟨6, _⟩ => ⟨S4x448, .f32⟩
  | .local _ .vmem, ⟨7, _⟩ => ⟨S4x448, .f32⟩
  | _, _ => ⟨S4x448, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x448 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x448 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x448 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x448 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x448 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x448 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x448 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x448 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference13Ideal.lean ====
abbrev S4x448 : Shape := ⟨2, ![4, 448]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x448, .f32⟩
  | .hbm, ⟨1, _⟩ => ⟨S4x448, .f32⟩
  | .hbm, ⟨2, _⟩ => ⟨S4x448, .f32⟩
  | .hbm, ⟨3, _⟩ => ⟨S4x448, .f32⟩
  | .hbm, ⟨4, _⟩ => ⟨S_, .f32⟩
  | .hbm, ⟨5, _⟩ => ⟨S4x448, .f32⟩
  | .hbm, ⟨6, _⟩ => ⟨S4x448, .f32⟩
  | .hbm, ⟨7, _⟩ => ⟨S_, .f32⟩
  | .hbm, ⟨8, _⟩ => ⟨S4x448, .f32⟩
  | .hbm, ⟨9, _⟩ => ⟨S4x448, .f32⟩
  | .hbm, ⟨10, _⟩ => ⟨S4x448, .f32⟩
  | .hbm, ⟨11, _⟩ => ⟨S_, .f32⟩
  | .hbm, ⟨12, _⟩ => ⟨S4x448, .f32⟩
  | .hbm, ⟨13, _⟩ => ⟨S4x448, .f32⟩
  | .hbm, ⟨14, _⟩ => ⟨S4x448, .f32⟩
  | .hbm, ⟨15, _⟩ => ⟨S_, .f32⟩
  | .hbm, ⟨16, _⟩ => ⟨S4x448, .f32⟩
  | .hbm, ⟨17, _⟩ => ⟨S4x448, .f32⟩
  | .hbm, ⟨18, _⟩ => ⟨S4x448, .f32⟩
  | .hbm, ⟨19, _⟩ => ⟨S_, .f32⟩
  | .hbm, ⟨20, _⟩ => ⟨S4x448, .f32⟩
  | .hbm, ⟨21, _⟩ => ⟨S4x448, .f32⟩
  | .hbm, ⟨22, _⟩ => ⟨S_, .f32⟩
  | .hbm, ⟨23, _⟩ => ⟨S4x448, .f32⟩
  | .hbm, ⟨24, _⟩ => ⟨S4x448, .f32⟩
  | .hbm, ⟨25, _⟩ => ⟨S4x448, .f32⟩
  | .hbm, ⟨26, _⟩ => ⟨S_, .f32⟩
  | .hbm, ⟨27, _⟩ => ⟨S4x448, .f32⟩
  | .hbm, ⟨28, _⟩ => ⟨S4x448, .f32⟩
  | .hbm, ⟨29, _⟩ => ⟨S4x448, .f32⟩
  | .hbm, ⟨30, _⟩ => ⟨S_, .f32⟩
  | .hbm, ⟨31, _⟩ => ⟨S4x448, .f32⟩
  | .hbm, ⟨32, _⟩ => ⟨S4x448, .f32⟩
  | .hbm, ⟨33, _⟩ => ⟨S4x448, .f32⟩
  | .hbm, ⟨34, _⟩ => ⟨S_, .f32⟩
  | .hbm, ⟨35, _⟩ => ⟨S4x448, .f32⟩
  | .hbm, ⟨36, _⟩ => ⟨S4x448, .f32⟩
  | _, _ => ⟨S4x448, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel14.lean ====
abbrev S8192x1024 : Shape := ⟨2, ![8192, 1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1x1x1 : Shape := ⟨3, ![1, 1, 1]⟩
abbrev S1024 : Shape := ⟨1, ![1024]⟩

abbrev nBuf : Space → Nat
  | .hbm => 9
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S8192x1024, .f32⟩
  | .hbm, ⟨4, _⟩ => ⟨S8192x1024, .f32⟩
  | .hbm, ⟨5, _⟩ => ⟨S8192x1024, .bf16⟩
  | .hbm, ⟨6, _⟩ => ⟨S1x1024, .f32⟩
  | .hbm, ⟨7, _⟩ => ⟨S1x1024, .f32⟩
  | .hbm, ⟨8, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | .local _ .vmem, ⟨11, _⟩ => ⟨S1x1024, .f32⟩
  | .local _ .vmem, ⟨12, _⟩ => ⟨S1x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v99 : BitVec 1 := Scalar.cmpi .eq arg0 c0_i32
  let v100 : BitVec 32 := Scalar.extui v99
  let c0_i32_38 : BitVec 32 := 0#32
  let v101 : BitVec 1 := Scalar.cmpi .ne v100 c0_i32_38
  v101

def k0_cond2 (i : grid0.Coords) : BitVec 1 :=
  let arg0 : BitVec 32 := BitVec.ofNat 32 (i 0).val
  let c0_i32_39 : BitVec 32 := 0#32
  let v102 : BitVec 1 := Scalar.cmpi .sgt arg0 c0_i32_39
  let v103 : BitVec 32 := Scalar.extui v102
  let c0_i32_40 : BitVec 32 := 0#32
  let v104 : BitVec 1 := Scalar.cmpi .ne v103 c0_i32_40
  v104

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference14Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1x128 : Shape := ⟨2, ![1, 128]⟩

abbrev nBuf : Space → Nat
  | .hbm => 102
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192, .f32⟩
  | .hbm, ⟨45, _⟩ => ⟨S_, .f32⟩
  | .hbm, ⟨46, _⟩ => ⟨S8192, .f32⟩
  | .hbm, ⟨47, _⟩ => ⟨S8192, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S8192, .f32⟩
  | .hbm, ⟨56, _⟩ => ⟨S_, .f32⟩
  | .hbm, ⟨57, _⟩ => ⟨S8192, .f32⟩
  | .hbm, ⟨58, _⟩ => ⟨S8192, .f32⟩
  | .hbm, ⟨59, _⟩ => ⟨S8192x1024, .f32⟩
  | .hbm, ⟨60, _⟩ => ⟨S8192x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S8192x1024, .f32⟩
  | .hbm, ⟨65, _⟩ => ⟨S_, .f32⟩
  | .hbm, ⟨66, _⟩ => ⟨S1024, .f32⟩
  | .hbm, ⟨67, _⟩ => ⟨S1x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S_, .f32⟩
  | .hbm, ⟨72, _⟩ => ⟨S8192, .f32⟩
  | .hbm, ⟨73, _⟩ => ⟨S8192x1, .f32⟩
  | .hbm, ⟨74, _⟩ => ⟨S8192x1024, .f32⟩
  | .hbm, ⟨75, _⟩ => ⟨S8192x1024, .f32⟩
  | .hbm, ⟨76, _⟩ => ⟨S8192x1, .f32⟩
  | .hbm, ⟨77, _⟩ => ⟨S8192x1024, .f32⟩
  | .hbm, ⟨78, _⟩ => ⟨S_, .f32⟩
  | .hbm, ⟨79, _⟩ => ⟨S8192, .f32⟩
  | .hbm, ⟨80, _⟩ => ⟨S8192x1, .f32⟩
  | .hbm, ⟨81, _⟩ => ⟨S_, .f32⟩
  | .hbm, ⟨82, _⟩ => ⟨S8192x1, .f32⟩
  | .hbm, ⟨83, _⟩ => ⟨S8192x1, .f32⟩
  | .hbm, ⟨84, _⟩ => ⟨S_, .f32⟩
  | .hbm, ⟨85, _⟩ => ⟨S8192, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S_, .f32⟩
  | .hbm, ⟨90, _⟩ => ⟨S8192, .f32⟩
  | .hbm, ⟨91, _⟩ => ⟨S8192x1, .f32⟩
  | .hbm, ⟨92, _⟩ => ⟨S8192x1024, .f32⟩
  | .hbm, ⟨93, _⟩ => ⟨S8192x1, .f32⟩
  | .hbm, ⟨94, _⟩ => ⟨S_, .f32⟩
  | .hbm, ⟨95, _⟩ => ⟨S8192x1, .f32⟩
  | .hbm, ⟨96, _⟩ => ⟨S8192x1, .f32⟩
  | .hbm, ⟨97, _⟩ => ⟨S_, .f32⟩
  | .hbm, ⟨98, _⟩ => ⟨S8192, .f32⟩
  | .hbm, ⟨99, _⟩ => ⟨S8192x1024, .f32⟩
  | .hbm, ⟨100, _⟩ => ⟨S8192x1024, .f32⟩
  | .hbm, ⟨101, _⟩ => ⟨S1x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_cst_8 : Ref sig .tc := ⟨.hbm, 45, rfl⟩
abbrev main_v32 : Ref sig .tc := ⟨.hbm, 46, rfl⟩
abbrev main_v33 : Ref sig .tc := ⟨.hbm, 47, rfl⟩
abbrev main_cst_9 : Ref sig .tc := ⟨.hbm, 48, rfl⟩
abbrev main_v34 : Ref sig .tc := ⟨.hbm, 49, rfl⟩
abbrev main_cst_10 : Ref sig .tc := ⟨.hbm, 50, rfl⟩
abbrev main_v35 : Ref sig .tc := ⟨.hbm, 51, rfl⟩
abbrev main_cst_11 : Ref sig .tc := ⟨.hbm, 52, rfl⟩
abbrev main_cst_12 : Ref sig .tc := ⟨.hbm, 53, rfl⟩
abbrev main_v36 : Ref sig .tc := ⟨.hbm, 54, rfl⟩
abbrev main_v37 : Ref sig .tc := ⟨.hbm, 55, rfl⟩
abbrev main_cst_13 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_14 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_15 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_16 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_17 : Ref sig .tc := ⟨.hbm, 78, rfl⟩
abbrev main_v56 : Ref sig .tc := ⟨.hbm, 79, rfl⟩
abbrev main_v57 : Ref sig .tc := ⟨.hbm, 80, rfl⟩
abbrev main_cst_18 : Ref sig .tc := ⟨.hbm, 81, rfl⟩
abbrev main_v58 : Ref sig .tc := ⟨.hbm, 82, rfl⟩
abbrev main_v59 : Ref sig .tc := ⟨.hbm, 83, rfl⟩
abbrev main_cst_19 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_20 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_21 : Ref sig .tc := ⟨.hbm, 94, rfl⟩
abbrev main_v68 : Ref sig .tc := ⟨.hbm, 95, rfl⟩
abbrev main_v69 : Ref sig .tc := ⟨.hbm, 96, rfl⟩
abbrev main_cst_22 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩

abbrev nD : Nat := 1
abbrev τ : Topo := Topo.v7x

variable {F : FTy → Type} [FloatOps F]
-- ==== Proof.Chunk.lean ====
/-
What the kernel computes of one chunk of 256 tokens and one head, as definitions over the arrays it loads, and each
of them read at an index. Every array loaded is taken to be the coercion of a real array (`↑`), and so is every
array computed.
-/
module

public import proofs.«01_k».proof.Proof.Gen.KernelIdeal
public import Idealize.ShloMosaic.Lib.Pipeline.ValueKit
public import Idealize.ShloMosaic.Lib.Pointwise
public import Idealize.ShloMosaic.Lib.WordCmp
public import Mathlib.Data.EReal.Operations

@[expose] public section

set_option maxRecDepth 16384

noncomputable section

namespace Cert.Chunk

open Cert.KernelIdeal Cert.KernelIdeal.Gen Idealize.ShloMosaic
open scoped BigOperators

/-! ## Real numbers among the extended reals -/

theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- The zero the kernel starts its sums from. -/
abbrev zero {s : Shape} : FVec Ideal s .f32 := broadcast s (Scalar.ofBits (F := Ideal) .f32 0x00000000#32)

theorem zero_apply {s : Shape} (i : s.Idx) : (zero : FVec Ideal s .f32) i = ((0 : ℝ) : EReal) := by
  show FloatOps.ofBits (F := Ideal) .f32 0x00000000#32 = _
  exact Ideal.ofBits_zero_f32

/-! ## The forward state -/

/-- The decays of a chunk's tokens to the chunk's end. -/
def toEnd (ac : FVec Ideal S1x256x1 .f32) : FVec Ideal S256x1 .f32 :=
  exp (subf (broadcastTo S256x1 (extractStridedSlice S1x1 ![255, 0] (shapeCast S256x1 ac shapeCasts_S1x256x1_S256x1)
    slices_S256x1_o255_0_S1x1) broadcasts_S1x1_S256x1) (shapeCast S256x1 ac shapeCasts_S1x256x1_S256x1))

/-- The decay across a chunk, from the value `ap` before it. -/
def across (ac : FVec Ideal S1x256x1 .f32) (ap : FVec Ideal S1x1 .f32) : FVec Ideal S1x1 .f32 :=
  exp (subf (extractStridedSlice S1x1 ![255, 0] (shapeCast S256x1 ac shapeCasts_S1x256x1_S256x1)
    slices_S256x1_o255_0_S1x1) ap)

/-- The inputs of a chunk, each decayed to the chunk's end. -/
def xEnd (x : FVec Ideal S1x256x128 .bf16) (ac : FVec Ideal S1x256x1 .f32) : FVec Ideal S256x128 .bf16 :=
  truncf .bf16 (mulf (broadcastTo S256x128 (toEnd ac) broadcasts_S256x1_S256x128)
    (extf .f32 (shapeCast S256x128 x shapeCasts_S1x256x128_S256x128) bitsLt_bf16_f32)) bitsLt_bf16_f32

/-- One step of the forward state. -/
def stateStep (b x : FVec Ideal S1x256x128 .bf16) (ac : FVec Ideal S1x256x1 .f32) (ap : FVec Ideal S1x1 .f32)
    (st : FVec Ideal S128x128 .f32) : FVec Ideal S128x128 .f32 :=
  addf (mulf (broadcastTo S128x128 (across ac ap) broadcasts_S1x1_S128x128) st)
    (matmul dot_S128x256_S256x128_S128x128_1_0_0_1_n_n none
      (transpose S128x256 [1, 0] (shapeCast S256x128 b shapeCasts_S1x256x128_S256x128) transposes_S256x128_p1_0_S128x256)
      (xEnd x ac) (constant S128x128 .f32 0x00000000#32))

/-! ## The backward pass -/

/-- Where the column's token is not before the row's. -/
def okT : IVec S256x256 1 :=
  cmpi .sge (addi (iota .tc S256x256 32 [1] iota_S256x256_d1_w32) (broadcast S256x256 0#32))
    (iota .tc S256x256 32 [0] iota_S256x256_d0_w32)

/-- The decays between the tokens of one chunk, zero where the column's token is before the row's. -/
def decay (ac : FVec Ideal S1x256x1 .f32) (at' : FVec Ideal S1x1x256 .f32) : FVec Ideal S256x256 .f32 :=
  exp (select okT
    (subf (broadcastTo S256x256 (shapeCast S1x256 at' shapeCasts_S1x1x256_S1x256) broadcasts_S1x256_S256x256)
      (broadcastTo S256x256 (shapeCast S256x1 ac shapeCasts_S1x256x1_S256x1) broadcasts_S256x1_S256x256))
    (broadcast S256x256 (Named.named (F := Ideal) κ "mask" 0xF149F2CA#32)))

/-- The products of the rows of `B` with the rows of `C`. -/
def cbt (b cc : FVec Ideal S1x256x128 .bf16) : FVec Ideal S256x256 .f32 :=
  matmul dot_S256x128_S128x256_S256x256_1_0_0_1_n_n none (shapeCast S256x128 b shapeCasts_S1x256x128_S256x128)
    (transpose S128x256 [1, 0] (shapeCast S256x128 cc shapeCasts_S1x256x128_S256x128) transposes_S256x128_p1_0_S128x256)
    (constant S256x256 .f32 0x00000000#32)

/-- The upstream gradient of a chunk as the products take it. -/
def dy16 (dy : FVec Ideal S1x256x128 .f32) : FVec Ideal S256x128 .bf16 :=
  truncf .bf16 (shapeCast S256x128 dy shapeCasts_S1x256x128_S256x128) bitsLt_bf16_f32

/-- The upstream gradient of a chunk, decayed back to the chunk's start. -/
def dyStart (dy : FVec Ideal S1x256x128 .f32) (ac : FVec Ideal S1x256x1 .f32) (ap : FVec Ideal S1x1 .f32) :
    FVec Ideal S256x128 .bf16 :=
  truncf .bf16 (mulf (broadcastTo S256x128 (exp (subf (shapeCast S256x1 ac shapeCasts_S1x256x1_S256x1)
      (broadcastTo S256x1 ap broadcasts_S1x1_S256x1))) broadcasts_S256x1_S256x128)
    (shapeCast S256x128 dy shapeCasts_S1x256x128_S256x128)) bitsLt_bf16_f32

/-- The gradient of `x` of one chunk and head. -/
def dxStep (b cc : FVec Ideal S1x256x128 .bf16) (ac : FVec Ideal S1x256x1 .f32) (at' : FVec Ideal S1x1x256 .f32)
    (dy : FVec Ideal S1x256x128 .f32) (g : FVec Ideal S128x128 .f32) : FVec Ideal S1x256x128 .f32 :=
  shapeCast S1x256x128 (addf
    (matmul dot_S256x256_S256x128_S256x128_1_0_0_1_n_n none
      (truncf .bf16 (mulf (cbt b cc) (decay ac at')) bitsLt_bf16_f32) (dy16 dy) (constant S256x128 .f32 0x00000000#32))
    (mulf (broadcastTo S256x128 (toEnd ac) broadcasts_S256x1_S256x128)
      (matmul dot_S256x128_S128x128_S256x128_1_0_0_1_n_n none (shapeCast S256x128 b shapeCasts_S1x256x128_S256x128)
        (truncf .bf16 g bitsLt_bf16_f32) (constant S256x128 .f32 0x00000000#32)))) shapeCasts_S256x128_S1x256x128

/-- One head's part of the gradient of the products of `B` and `C`, added to that of the heads before it. -/
def dcbtStep (x : FVec Ideal S1x256x128 .bf16) (ac : FVec Ideal S1x256x1 .f32) (at' : FVec Ideal S1x1x256 .f32)
    (dy : FVec Ideal S1x256x128 .f32) (d : FVec Ideal S256x256 .f32) : FVec Ideal S256x256 .f32 :=
  addf d (mulf (matmul dot_S256x128_S256x128_S256x256_1_1_0_0_n_n none
    (shapeCast S256x128 x shapeCasts_S1x256x128_S256x128) (dy16 dy) (constant S256x256 .f32 0x00000000#32)) (decay ac at'))

/-- One head's part of the gradient of `C` from the tokens before the chunk, added to that of the heads before it. -/
def dcmStep (ac : FVec Ideal S1x256x1 .f32) (ap : FVec Ideal S1x1 .f32) (dy : FVec Ideal S1x256x128 .f32)
    (s : FVec Ideal S1x128x128 .f32) (d : FVec Ideal S256x128 .f32) : FVec Ideal S256x128 .f32 :=
  addf d (matmul dot_S256x128_S128x128_S256x128_1_1_0_0_n_n none (dyStart dy ac ap)
    (truncf .bf16 (shapeCast S128x128 s shapeCasts_S1x128x128_S128x128) bitsLt_bf16_f32)
    (constant S256x128 .f32 0x00000000#32))

/-- One head's part of the gradient of `B` from the tokens after the chunk, added to that of the heads before it. -/
def dbmStep (x : FVec Ideal S1x256x128 .bf16) (ac : FVec Ideal S1x256x1 .f32) (g : FVec Ideal S128x128 .f32)
    (d : FVec Ideal S256x128 .f32) : FVec Ideal S256x128 .f32 :=
  addf d (matmul dot_S256x128_S128x128_S256x128_1_1_0_0_n_n none (xEnd x ac) (truncf .bf16 g bitsLt_bf16_f32)
    (constant S256x128 .f32 0x00000000#32))

/-- One step of the backward state. -/
def gradStep (cc : FVec Ideal S1x256x128 .bf16) (ac : FVec Ideal S1x256x1 .f32) (ap : FVec Ideal S1x1 .f32)
    (dy : FVec Ideal S1x256x128 .f32) (g : FVec Ideal S128x128 .f32) : FVec Ideal S128x128 .f32 :=
  addf (matmul dot_S128x256_S256x128_S128x128_1_0_0_1_n_n none
      (transpose S128x256 [1, 0] (shapeCast S256x128 cc shapeCasts_S1x256x128_S256x128) transposes_S256x128_p1_0_S128x256)
      (dyStart dy ac ap) (constant S128x128 .f32 0x00000000#32))
    (mulf (broadcastTo S128x128 (across ac ap) broadcasts_S1x1_S128x128) g)

/-- The gradient of `B` of one chunk. -/
def dbStep (cc : FVec Ideal S1x256x128 .bf16) (dbm : FVec Ideal S256x128 .f32) (d : FVec Ideal S256x256 .f32) :
    FVec Ideal S1x256x128 .f32 :=
  shapeCast S1x256x128 (addf dbm (matmul dot_S256x256_S256x128_S256x128_1_0_0_1_n_n none
    (truncf .bf16 d bitsLt_bf16_f32) (shapeCast S256x128 cc shapeCasts_S1x256x128_S256x128)
    (constant S256x128 .f32 0x00000000#32))) shapeCasts_S256x128_S1x256x128

/-- The gradient of `C` of one chunk. -/
def dcStep (b : FVec Ideal S1x256x128 .bf16) (dcm : FVec Ideal S256x128 .f32) (d : FVec Ideal S256x256 .f32) :
    FVec Ideal S1x256x128 .f32 :=
  shapeCast S1x256x128 (addf dcm (matmul dot_S256x256_S256x128_S256x128_0_0_1_1_n_n none
    (truncf .bf16 d bitsLt_bf16_f32) (shapeCast S256x128 b shapeCasts_S1x256x128_S256x128)
    (constant S256x128 .f32 0x00000000#32))) shapeCasts_S256x128_S1x256x128

/-! ## Read at an index

`A l` is the running log-decay at the chunk's token `l`, `a` the one just before the chunk, and `B`, `C`, `X`, `D`
the rows of the chunk's arrays. -/

section

variable {b cc x : FVec Ideal S1x256x128 .bf16} {ac : FVec Ideal S1x256x1 .f32} {at' : FVec Ideal S1x1x256 .f32}
  {ap : FVec Ideal S1x1 .f32} {dy : FVec Ideal S1x256x128 .f32} {s : FVec Ideal S1x128x128 .f32}
  {g st : FVec Ideal S128x128 .f32} {dm : FVec Ideal S256x128 .f32} {dd : FVec Ideal S256x256 .f32}
  {A : Fin 256 → ℝ} {a : ℝ} {B C X D : Fin 256 → Fin 128 → ℝ} {G : Fin 128 → Fin 128 → ℝ}
  {M : Fin 256 → Fin 128 → ℝ} {N : Fin 256 → Fin 256 → ℝ}

theorem stateStep_apply (hb : ∀ l n, b (ix3 0 l n) = ↑(B l n)) (hx : ∀ l p, x (ix3 0 l p) = ↑(X l p))
    (ha : ∀ l, ac (ix3 0 l 0) = ↑(A l)) (hp : ap (ix2 0 0) = ↑a) (hst : ∀ n p, st (ix2 n p) = ↑(G n p)) (n p : Fin 128) :
    stateStep b x ac ap st (ix2 n p)
      = ↑(Real.exp (A 255 - a) * G n p + ∑ l, Real.exp (A 255 - A l) * (B l n * X l p)) := by
  pointwise [stateStep, across, xEnd, toEnd]
  simp only [hb, hx, ha, hp, hst, ← EReal.coe_sub, Ideal.exp_coe, ← EReal.coe_mul, ← coe_sum, ← EReal.coe_add]
  simp only [mul_left_comm]

theorem okT_apply (l m : Fin 256) : okT (ix2 l m) = if (l : ℕ) ≤ m then 1#1 else 0#1 := by
  have h : okT (ix2 l m) = IntOp.cmpi .sge (BitVec.ofNat 32 m) (BitVec.ofNat 32 l) := by
    pointwise [okT]
    rw [IntOp.addi, BitVec.add_zero]
  rw [h, WordCmp.cmpi_sge_ofNat (by omega) (by omega)]
  by_cases hlm : (l : ℕ) ≤ m <;> simp [hlm]

theorem decay_apply (ha : ∀ l, ac (ix3 0 l 0) = ↑(A l)) (ht : ∀ l, at' (ix3 0 0 l) = ↑(A l)) (l m : Fin 256) :
    decay ac at' (ix2 l m) = ↑(if (l : ℕ) ≤ m then Real.exp (A m - A l) else 0) := by
  have h := okT_apply l m
  pointwise [decay]
  rw [h, ha, ht]
  by_cases hlm : (l : ℕ) ≤ m
  · simp only [hlm, if_true, Scalar.select, ← EReal.coe_sub, Ideal.exp_coe]
    rfl
  · have e : Named.named (F := Ideal) (φ := .f32) κ "mask" 0xF149F2CA#32 = (⊥ : EReal) :=
      IdealRules.named_const.ideal_named_scalar _ _ _ _ rfl
    simp only [hlm, if_false, Scalar.select, e]
    exact Ideal.exp_bot

theorem dxStep_apply (hb : ∀ l n, b (ix3 0 l n) = ↑(B l n)) (hc : ∀ l n, cc (ix3 0 l n) = ↑(C l n))
    (ha : ∀ l, ac (ix3 0 l 0) = ↑(A l)) (ht : ∀ l, at' (ix3 0 0 l) = ↑(A l)) (hd : ∀ l p, dy (ix3 0 l p) = ↑(D l p))
    (hg : ∀ n p, g (ix2 n p) = ↑(G n p)) (l : Fin 256) (p : Fin 128) :
    dxStep b cc ac at' dy g (ix3 0 l p)
      = ↑((∑ m : Fin 256, (if (l : ℕ) ≤ m then Real.exp (A m - A l) else 0) * ((∑ n, B l n * C m n) * D m p))
          + Real.exp (A 255 - A l) * ∑ n, B l n * G n p) := by
  pointwise [dxStep, cbt, toEnd, dy16]
  simp only [decay_apply ha ht]
  simp only [hb, hc, ha, hd, hg, ← EReal.coe_sub, Ideal.exp_coe, ← EReal.coe_mul, ← coe_sum, ← EReal.coe_add]
  congr 2
  exact Finset.sum_congr rfl fun m _ => by ring

theorem dcbtStep_apply (hx : ∀ l p, x (ix3 0 l p) = ↑(X l p)) (ha : ∀ l, ac (ix3 0 l 0) = ↑(A l))
    (ht : ∀ l, at' (ix3 0 0 l) = ↑(A l)) (hd : ∀ l p, dy (ix3 0 l p) = ↑(D l p))
    (hN : ∀ l m, dd (ix2 l m) = ↑(N l m)) (l m : Fin 256) :
    dcbtStep x ac at' dy dd (ix2 l m)
      = ↑(N l m + (∑ p, X l p * D m p) * (if (l : ℕ) ≤ m then Real.exp (A m - A l) else 0)) := by
  pointwise [dcbtStep, dy16]
  simp only [decay_apply ha ht]
  simp only [hx, hd, hN, ← EReal.coe_mul, ← coe_sum, ← EReal.coe_add]

theorem dcmStep_apply (ha : ∀ l, ac (ix3 0 l 0) = ↑(A l)) (hp : ap (ix2 0 0) = ↑a)
    (hd : ∀ l p, dy (ix3 0 l p) = ↑(D l p)) (hs : ∀ n p, s (ix3 0 n p) = ↑(G n p))
    (hM : ∀ l n, dm (ix2 l n) = ↑(M l n)) (l : Fin 256) (n : Fin 128) :
    dcmStep ac ap dy s dm (ix2 l n) = ↑(M l n + Real.exp (A l - a) * ∑ p, D l p * G n p) := by
  pointwise [dcmStep, dyStart]
  simp only [ha, hp, hd, hs, hM, ← EReal.coe_sub, Ideal.exp_coe, ← EReal.coe_mul, ← coe_sum, ← EReal.coe_add]
  simp only [Finset.mul_sum, mul_assoc]

theorem dbmStep_apply (hx : ∀ l p, x (ix3 0 l p) = ↑(X l p)) (ha : ∀ l, ac (ix3 0 l 0) = ↑(A l))
    (hg : ∀ n p, g (ix2 n p) = ↑(G n p)) (hM : ∀ l n, dm (ix2 l n) = ↑(M l n)) (l : Fin 256) (n : Fin 128) :
    dbmStep x ac g dm (ix2 l n) = ↑(M l n + Real.exp (A 255 - A l) * ∑ p, X l p * G n p) := by
  pointwise [dbmStep, xEnd, toEnd]
  simp only [ha, hx, hg, hM, ← EReal.coe_sub, Ideal.exp_coe, ← EReal.coe_mul, ← coe_sum, ← EReal.coe_add]
  simp only [Finset.mul_sum, mul_assoc]

theorem gradStep_apply (hc : ∀ l n, cc (ix3 0 l n) = ↑(C l n)) (ha : ∀ l, ac (ix3 0 l 0) = ↑(A l))
    (hp : ap (ix2 0 0) = ↑a) (hd : ∀ l p, dy (ix3 0 l p) = ↑(D l p)) (hg : ∀ n p, g (ix2 n p) = ↑(G n p))
    (n p : Fin 128) :
    gradStep cc ac ap dy g (ix2 n p)
      = ↑((∑ l, Real.exp (A l - a) * (C l n * D l p)) + Real.exp (A 255 - a) * G n p) := by
  pointwise [gradStep, across, dyStart]
  simp only [ha, hp, hc, hd, hg, ← EReal.coe_sub, Ideal.exp_coe, ← EReal.coe_mul, ← coe_sum, ← EReal.coe_add]
  simp only [mul_left_comm]

theorem dbStep_apply (hc : ∀ l n, cc (ix3 0 l n) = ↑(C l n)) (hM : ∀ l n, dm (ix2 l n) = ↑(M l n))
    (hN : ∀ l m, dd (ix2 l m) = ↑(N l m)) (l : Fin 256) (n : Fin 128) :
    dbStep cc dm dd (ix3 0 l n) = ↑(M l n + ∑ m, N l m * C m n) := by
  pointwise [dbStep]
  simp only [hc, hM, hN, ← EReal.coe_mul, ← coe_sum, ← EReal.coe_add]

theorem dcStep_apply (hb : ∀ l n, b (ix3 0 l n) = ↑(B l n)) (hM : ∀ l n, dm (ix2 l n) = ↑(M l n))
    (hN : ∀ l m, dd (ix2 l m) = ↑(N l m)) (l : Fin 256) (n : Fin 128) :
    dcStep b dm dd (ix3 0 l n) = ↑(M l n + ∑ m, N m l * B m n) := by
  pointwise [dcStep]
  simp only [hb, hM, hN, ← EReal.coe_mul, ← coe_sum, ← EReal.coe_add]

end

end Cert.Chunk
-- ==== Proof.ScanMath.lean ====
/-
The arithmetic of the scan's gradients, over the real numbers and without any program.

`A` is the running sum of the log-decays of one head along the sequence; `w A s t = exp (A s - A t)` for `t ≤ s`, else 0,
is the weight with which token `t` reaches token `s`. A sum over the later tokens, weighted so, is cut at the end of the
256-token chunk of `t`: the chunk's own tokens directly, the others through what a backward state carries. The same for a
sum over the earlier tokens and the forward state.
-/
module

public import Mathlib.Analysis.SpecialFunctions.Exp
public import Mathlib.Algebra.BigOperators.Intervals
public import Mathlib.Data.Fintype.BigOperators
public import Mathlib.Tactic.Ring
public import Mathlib.Tactic.Linarith

@[expose] public section

noncomputable section

namespace Cert.ScanMath

open Finset

/-- The weight with which token `t` reaches token `s`. -/
def w (A : ℕ → ℝ) (s t : ℕ) : ℝ := if t ≤ s then Real.exp (A s - A t) else 0

/-- The log-decay just before chunk `i`: zero before the first. -/
def aprev (A : ℕ → ℝ) (i : ℕ) : ℝ := if i = 0 then 0 else A (256 * i - 1)

/-- The tokens before chunk `i`, each value `φ t` decayed to the chunk's start. -/
def before (A φ : ℕ → ℝ) (i : ℕ) : ℝ := ∑ t ∈ range (256 * i), Real.exp (A (256 * i - 1) - A t) * φ t

/-- The tokens after chunk `i`, each value `φ s` decayed back to the chunk's end. -/
def after (A φ : ℕ → ℝ) (i : ℕ) : ℝ :=
  ∑ s ∈ Ico (256 * (i + 1)) 2048, Real.exp (A s - A (256 * i + 255)) * φ s

theorem before_zero (A φ : ℕ → ℝ) : before A φ 0 = 0 := by simp [before]

/-- One step of the forward state. -/
theorem before_succ (A φ : ℕ → ℝ) (i : ℕ) :
    before A φ (i + 1) = Real.exp (A (256 * i + 255) - aprev A i) * before A φ i
      + ∑ l : Fin 256, Real.exp (A (256 * i + 255) - A (256 * i + l)) * φ (256 * i + l) := by
  have e : 256 * (i + 1) - 1 = 256 * i + 255 := by omega
  rw [before, e, show 256 * (i + 1) = 256 * i + 256 by ring, sum_range_add, Finset.sum_range (n := 256)]
  congr 1
  rcases Nat.eq_zero_or_pos i with rfl | hi
  · simp [before]
  · rw [before, mul_sum]
    refine sum_congr rfl fun t _ => ?_
    rw [← mul_assoc, ← Real.exp_add, aprev, if_neg hi.ne']
    congr 2; ring

theorem after_last (A φ : ℕ → ℝ) : after A φ 7 = 0 := by simp [after]

/-- One step of the backward state. -/
theorem after_pred (A φ : ℕ → ℝ) (i : ℕ) (hi : i < 7) :
    after A φ i = (∑ l : Fin 256, Real.exp (A (256 * (i + 1) + l) - A (256 * i + 255)) * φ (256 * (i + 1) + l))
      + Real.exp (A (256 * (i + 1) + 255) - A (256 * i + 255)) * after A φ (i + 1) := by
  rw [after, ← Finset.sum_Ico_consecutive _ (show 256 * (i + 1) ≤ 256 * (i + 1 + 1) by omega) (by omega)]
  congr 1
  · rw [Finset.sum_Ico_eq_sum_range, show 256 * (i + 1 + 1) - 256 * (i + 1) = 256 by omega, Finset.sum_range (n := 256)]
  · rw [after, mul_sum]
    refine sum_congr rfl fun t _ => ?_
    rw [← mul_assoc, ← Real.exp_add]
    congr 2; ring

/-- A weighted sum over the later tokens, from token `l` of chunk `i`. -/
theorem later (A φ : ℕ → ℝ) (i l : ℕ) (hi : i < 8) (hl : l < 256) :
    ∑ s : Fin 2048, w A s (256 * i + l) * φ s
      = (∑ m : Fin 256, (if l ≤ (m : ℕ) then Real.exp (A (256 * i + m) - A (256 * i + l)) else 0) * φ (256 * i + m))
        + Real.exp (A (256 * i + 255) - A (256 * i + l)) * after A φ i := by
  rw [← Finset.sum_range (n := 2048) (fun s => w A s (256 * i + l) * φ s),
    ← Finset.sum_range_add_sum_Ico _ (show 256 * i + 256 ≤ 2048 by omega), sum_range_add, Finset.sum_range (n := 256)]
  have h0 : ∑ x ∈ range (256 * i), w A x (256 * i + l) * φ x = 0 := by
    refine sum_eq_zero fun x hx => ?_
    rw [mem_range] at hx
    rw [w, if_neg (by omega), zero_mul]
  rw [h0, zero_add]
  congr 1
  · refine sum_congr rfl fun m _ => ?_
    unfold w
    simp only [Nat.add_le_add_iff_left]
  · rw [after, mul_sum]
    refine sum_congr rfl fun s hs => ?_
    rw [mem_Ico] at hs
    rw [w, if_pos (by omega), ← mul_assoc, ← Real.exp_add]
    congr 2; ring

/-- A weighted sum over the earlier tokens, from token `l` of chunk `i`. -/
theorem earlier (A φ : ℕ → ℝ) (i l : ℕ) (hi : i < 8) (hl : l < 256) :
    ∑ t : Fin 2048, w A (256 * i + l) t * φ t
      = (∑ m : Fin 256, (if (m : ℕ) ≤ l then Real.exp (A (256 * i + l) - A (256 * i + m)) else 0) * φ (256 * i + m))
        + Real.exp (A (256 * i + l) - aprev A i) * before A φ i := by
  rw [← Finset.sum_range (n := 2048) (fun t => w A (256 * i + l) t * φ t),
    ← Finset.sum_range_add_sum_Ico _ (show 256 * i + 256 ≤ 2048 by omega), sum_range_add, Finset.sum_range (n := 256)]
  have h0 : ∑ x ∈ Ico (256 * i + 256) 2048, w A (256 * i + l) x * φ x = 0 := by
    refine sum_eq_zero fun x hx => ?_
    rw [mem_Ico] at hx
    rw [w, if_neg (by omega), zero_mul]
  rw [h0, add_zero, add_comm]
  congr 1
  · refine sum_congr rfl fun m _ => ?_
    unfold w
    simp only [Nat.add_le_add_iff_left]
  · rcases Nat.eq_zero_or_pos i with rfl | hi
    · simp [before]
    · rw [before, mul_sum]
      refine sum_congr rfl fun t ht => ?_
      rw [mem_range] at ht
      rw [w, if_pos (by omega), ← mul_assoc, ← Real.exp_add, aprev, if_neg hi.ne']
      congr 2; ring

end Cert.ScanMath

end
-- ==== Proof.Step.lean ====
/-
The chunk's steps (Chunk.lean) with the running sums they carry put in: the forward state before chunk `i` is the
decayed sum over the tokens before the chunk, the backward state is the decayed sum over the tokens after it, and the
chunk's gradients are then sums over all 2048 tokens.
-/
module

public import proofs.«01_k».proof.Proof.Chunk
public import proofs.«01_k».proof.Proof.ScanMath

@[expose] public section

set_option maxRecDepth 16384

noncomputable section

namespace Cert.Chunk

open Cert.KernelIdeal Cert.KernelIdeal.Gen Cert.ScanMath Idealize.ShloMosaic
open scoped BigOperators

/-! ## The sums over the tokens before and after a chunk are linear -/

theorem sum_before {ι : Type*} [Fintype ι] (A : ℕ → ℝ) (k : ι → ℝ) (φ : ι → ℕ → ℝ) (i : ℕ) :
    ∑ p, k p * before A (φ p) i = before A (fun t => ∑ p, k p * φ p t) i := by
  simp only [before, Finset.mul_sum]
  rw [Finset.sum_comm]
  exact Finset.sum_congr rfl fun t _ => Finset.sum_congr rfl fun p _ => by ring

theorem sum_after {ι : Type*} [Fintype ι] (A : ℕ → ℝ) (k : ι → ℝ) (φ : ι → ℕ → ℝ) (i : ℕ) :
    ∑ p, k p * after A (φ p) i = after A (fun s => ∑ p, k p * φ p s) i := by
  simp only [after, Finset.mul_sum]
  rw [Finset.sum_comm]
  exact Finset.sum_congr rfl fun t _ => Finset.sum_congr rfl fun p _ => by ring

/-! ## What the gradients are

`A j` is head `j`'s running log-decay, `X j` its inputs, `D j` its upstream gradient; `B` and `C` are shared by the
group's heads. -/

/-- The gradient of head `j`'s input: token `t` reaches every later token `s`, through `B t · C s`. -/
def gradX (A : Fin 3 → ℕ → ℝ) (B C : ℕ → Fin 128 → ℝ) (D : Fin 3 → ℕ → Fin 128 → ℝ) (j : Fin 3) (t : ℕ) (p : Fin 128) : ℝ :=
  ∑ s : Fin 2048, w (A j) s t * ((∑ n, B t n * C s n) * D j s p)

/-- The gradient of `B`. -/
def gradB (A : Fin 3 → ℕ → ℝ) (C : ℕ → Fin 128 → ℝ) (X D : Fin 3 → ℕ → Fin 128 → ℝ) (t : ℕ) (n : Fin 128) : ℝ :=
  ∑ j : Fin 3, ∑ s : Fin 2048, w (A j) s t * ((∑ p, X j t p * D j s p) * C s n)

/-- The gradient of `C`. -/
def gradC (A : Fin 3 → ℕ → ℝ) (B : ℕ → Fin 128 → ℝ) (X D : Fin 3 → ℕ → Fin 128 → ℝ) (t : ℕ) (n : Fin 128) : ℝ :=
  ∑ j : Fin 3, ∑ u : Fin 2048, w (A j) t u * ((∑ p, X j u p * D j t p) * B u n)

/-! ## The parts of one chunk and head -/

/-- The forward state before chunk `i`. -/
def stateAt (A : Fin 3 → ℕ → ℝ) (B : ℕ → Fin 128 → ℝ) (X : Fin 3 → ℕ → Fin 128 → ℝ) (j : Fin 3) (i : ℕ) (n p : Fin 128) : ℝ :=
  before (A j) (fun t => B t n * X j t p) i

/-- The backward state after chunk `i`. -/
def gradAt (A : Fin 3 → ℕ → ℝ) (C : ℕ → Fin 128 → ℝ) (D : Fin 3 → ℕ → Fin 128 → ℝ) (j : Fin 3) (i : ℕ) (n p : Fin 128) : ℝ :=
  after (A j) (fun s => C s n * D j s p) i

/-- Head `j`'s part of the gradient of the products of `B` and `C` within chunk `i`. -/
def pairAt (A : Fin 3 → ℕ → ℝ) (X D : Fin 3 → ℕ → Fin 128 → ℝ) (i : ℕ) (l m : Fin 256) (j : Fin 3) : ℝ :=
  (∑ p, X j (256 * i + l) p * D j (256 * i + m) p)
    * (if (l : ℕ) ≤ m then Real.exp (A j (256 * i + m) - A j (256 * i + l)) else 0)

/-- Head `j`'s part of the gradient of `B` from the tokens after chunk `i`. -/
def restB (A : Fin 3 → ℕ → ℝ) (C : ℕ → Fin 128 → ℝ) (X D : Fin 3 → ℕ → Fin 128 → ℝ) (i : ℕ) (l : Fin 256) (n : Fin 128) (j : Fin 3) : ℝ :=
  Real.exp (A j (256 * i + 255) - A j (256 * i + l)) * ∑ p, X j (256 * i + l) p * gradAt A C D j i n p

/-- Head `j`'s part of the gradient of `C` from the tokens before chunk `i`. -/
def restC (A : Fin 3 → ℕ → ℝ) (B : ℕ → Fin 128 → ℝ) (X D : Fin 3 → ℕ → Fin 128 → ℝ) (i : ℕ) (l : Fin 256) (n : Fin 128) (j : Fin 3) : ℝ :=
  Real.exp (A j (256 * i + l) - aprev (A j) i) * ∑ p, D j (256 * i + l) p * stateAt A B X j i n p

/-! ## One chunk, whole -/

section

variable {b cc x : FVec Ideal S1x256x128 .bf16} {ac : FVec Ideal S1x256x1 .f32} {at' : FVec Ideal S1x1x256 .f32}
  {ap : FVec Ideal S1x1 .f32} {dy : FVec Ideal S1x256x128 .f32} {s : FVec Ideal S1x128x128 .f32}
  {g st : FVec Ideal S128x128 .f32} {dm : FVec Ideal S256x128 .f32} {dd : FVec Ideal S256x256 .f32}
  {A : Fin 3 → ℕ → ℝ} {B C : ℕ → Fin 128 → ℝ} {X D : Fin 3 → ℕ → Fin 128 → ℝ}

/-- The forward state steps from before chunk `i` to before chunk `i + 1`. -/
theorem state_next (i : ℕ) (j : Fin 3) (hb : ∀ l n, b (ix3 0 l n) = ↑(B (256 * i + l) n))
    (hx : ∀ l p, x (ix3 0 l p) = ↑(X j (256 * i + l) p)) (ha : ∀ l, ac (ix3 0 l 0) = ↑(A j (256 * i + l)))
    (hp : ap (ix2 0 0) = ↑(aprev (A j) i)) (hst : ∀ n p, st (ix2 n p) = ↑(stateAt A B X j i n p)) (n p : Fin 128) :
    stateStep b x ac ap st (ix2 n p) = ↑(stateAt A B X j (i + 1) n p) := by
  rw [stateStep_apply hb hx ha hp hst, stateAt, stateAt, before_succ]
  rfl

/-- The backward state steps from after chunk `i + 1` to after chunk `i`. -/
theorem grad_next (i : ℕ) (hi : i < 7) (j : Fin 3) (hc : ∀ l n, cc (ix3 0 l n) = ↑(C (256 * (i + 1) + l) n))
    (ha : ∀ l, ac (ix3 0 l 0) = ↑(A j (256 * (i + 1) + l))) (hp : ap (ix2 0 0) = ↑(aprev (A j) (i + 1)))
    (hd : ∀ l p, dy (ix3 0 l p) = ↑(D j (256 * (i + 1) + l) p))
    (hg : ∀ n p, g (ix2 n p) = ↑(gradAt A C D j (i + 1) n p)) (n p : Fin 128) :
    gradStep cc ac ap dy g (ix2 n p) = ↑(gradAt A C D j i n p) := by
  have e : aprev (A j) (i + 1) = A j (256 * i + 255) := by
    rw [aprev, if_neg (by omega)]
    congr 1
  rw [gradStep_apply hc ha hp hd hg, gradAt, gradAt, after_pred _ _ i hi, e]
  rfl

/-- The chunk's gradient of `x`. -/
theorem dx_out (i : ℕ) (hi : i < 8) (j : Fin 3) (hb : ∀ l n, b (ix3 0 l n) = ↑(B (256 * i + l) n))
    (hc : ∀ l n, cc (ix3 0 l n) = ↑(C (256 * i + l) n)) (ha : ∀ l, ac (ix3 0 l 0) = ↑(A j (256 * i + l)))
    (ht : ∀ l, at' (ix3 0 0 l) = ↑(A j (256 * i + l))) (hd : ∀ l p, dy (ix3 0 l p) = ↑(D j (256 * i + l) p))
    (hg : ∀ n p, g (ix2 n p) = ↑(gradAt A C D j i n p)) (l : Fin 256) (p : Fin 128) :
    dxStep b cc ac at' dy g (ix3 0 l p) = ↑(gradX A B C D j (256 * i + l) p) := by
  rw [dxStep_apply hb hc ha ht hd hg, gradX,
    later (A j) (fun s => (∑ n, B (256 * i + l) n * C s n) * D j s p) i l hi l.isLt]
  simp only [gradAt]
  rw [sum_after]
  simp only [← mul_assoc, ← Finset.sum_mul]
  rfl

/-- One head more in the gradient of the products. -/
theorem pair_next (i : ℕ) (j : Fin 3) {N : Fin 256 → Fin 256 → ℝ} (hx : ∀ l p, x (ix3 0 l p) = ↑(X j (256 * i + l) p))
    (ha : ∀ l, ac (ix3 0 l 0) = ↑(A j (256 * i + l))) (ht : ∀ l, at' (ix3 0 0 l) = ↑(A j (256 * i + l)))
    (hd : ∀ l p, dy (ix3 0 l p) = ↑(D j (256 * i + l) p)) (hN : ∀ l m, dd (ix2 l m) = ↑(N l m)) (l m : Fin 256) :
    dcbtStep x ac at' dy dd (ix2 l m) = ↑(N l m + pairAt A X D i l m j) :=
  dcbtStep_apply hx ha ht hd hN l m

/-- One head more in the gradient of `C` from the tokens before. -/
theorem restC_next (i : ℕ) (j : Fin 3) {M : Fin 256 → Fin 128 → ℝ} (ha : ∀ l, ac (ix3 0 l 0) = ↑(A j (256 * i + l)))
    (hp : ap (ix2 0 0) = ↑(aprev (A j) i)) (hd : ∀ l p, dy (ix3 0 l p) = ↑(D j (256 * i + l) p))
    (hs : ∀ n p, s (ix3 0 n p) = ↑(stateAt A B X j i n p)) (hM : ∀ l n, dm (ix2 l n) = ↑(M l n))
    (l : Fin 256) (n : Fin 128) :
    dcmStep ac ap dy s dm (ix2 l n) = ↑(M l n + restC A B X D i l n j) :=
  dcmStep_apply ha hp hd hs hM l n

/-- One head more in the gradient of `B` from the tokens after. -/
theorem restB_next (i : ℕ) (j : Fin 3) {M : Fin 256 → Fin 128 → ℝ} (hx : ∀ l p, x (ix3 0 l p) = ↑(X j (256 * i + l) p))
    (ha : ∀ l, ac (ix3 0 l 0) = ↑(A j (256 * i + l))) (hg : ∀ n p, g (ix2 n p) = ↑(gradAt A C D j i n p))
    (hM : ∀ l n, dm (ix2 l n) = ↑(M l n)) (l : Fin 256) (n : Fin 128) :
    dbmStep x ac g dm (ix2 l n) = ↑(M l n + restB A C X D i l n j) :=
  dbmStep_apply hx ha hg hM l n

/-- The chunk's gradient of `B`. -/
theorem db_out (i : ℕ) (hi : i < 8) (hc : ∀ l n, cc (ix3 0 l n) = ↑(C (256 * i + l) n))
    (hM : ∀ l n, dm (ix2 l n) = ↑(0 + restB A C X D i l n 0 + restB A C X D i l n 1 + restB A C X D i l n 2))
    (hN : ∀ l m, dd (ix2 l m) = ↑(0 + pairAt A X D i l m 0 + pairAt A X D i l m 1 + pairAt A X D i l m 2))
    (l : Fin 256) (n : Fin 128) :
    dbStep cc dm dd (ix3 0 l n) = ↑(gradB A C X D (256 * i + l) n) := by
  have hj : ∀ j : Fin 3, ∑ s : Fin 2048, w (A j) s (256 * i + l) * ((∑ p, X j (256 * i + l) p * D j s p) * C s n)
      = (∑ m, pairAt A X D i l m j * C (256 * i + m) n) + restB A C X D i l n j := fun j => by
    rw [later (A j) (fun s => (∑ p, X j (256 * i + l) p * D j s p) * C s n) i l hi l.isLt, restB]
    simp only [gradAt]
    rw [sum_after]
    congr 2
    · funext m
      rw [pairAt]
      ring
    · congr 1
      funext s
      rw [Finset.sum_mul]
      exact Finset.sum_congr rfl fun p _ => by ring
  rw [dbStep_apply hc hM hN, gradB, Fin.sum_univ_three, hj, hj, hj]
  simp only [zero_add, add_mul, Finset.sum_add_distrib]
  congr 1
  ring

/-- The chunk's gradient of `C`. -/
theorem dc_out (i : ℕ) (hi : i < 8) (hb : ∀ l n, b (ix3 0 l n) = ↑(B (256 * i + l) n))
    (hM : ∀ l n, dm (ix2 l n) = ↑(0 + restC A B X D i l n 0 + restC A B X D i l n 1 + restC A B X D i l n 2))
    (hN : ∀ l m, dd (ix2 l m) = ↑(0 + pairAt A X D i l m 0 + pairAt A X D i l m 1 + pairAt A X D i l m 2))
    (l : Fin 256) (n : Fin 128) :
    dcStep b dm dd (ix3 0 l n) = ↑(gradC A B X D (256 * i + l) n) := by
  have hj : ∀ j : Fin 3, ∑ u : Fin 2048, w (A j) (256 * i + l) u * ((∑ p, X j u p * D j (256 * i + l) p) * B u n)
      = (∑ m, pairAt A X D i m l j * B (256 * i + m) n) + restC A B X D i l n j := fun j => by
    rw [earlier (A j) (fun u => (∑ p, X j u p * D j (256 * i + l) p) * B u n) i l hi l.isLt, restC]
    simp only [stateAt]
    rw [sum_before]
    congr 2
    · funext m
      rw [pairAt]
      ring
    · congr 1
      funext s
      rw [Finset.sum_mul]
      exact Finset.sum_congr rfl fun p _ => by ring
  rw [dcStep_apply hb hM hN, gradC, Fin.sum_univ_three, hj, hj, hj]
  simp only [zero_add, add_mul, Finset.sum_add_distrib]
  congr 1
  ring

end

end Cert.Chunk
-- ==== Proof.Loads.lean ====
/-
What the kernel loads: the arrays of one step of the grid as coercions of real arrays, and a chunk's rows and columns of
them.
-/
module

public import proofs.«01_k».proof.Proof.Step
public import proofs.«01_k».proof.Proof.Gen.KernelIdeal.Frame
public import Idealize.ShloMosaic.Lib.WholeRead

@[expose] public section

set_option maxRecDepth 16384

noncomputable section

namespace Cert.Chunk

open Cert.KernelIdeal Cert.KernelIdeal.Gen Cert.ScanMath Idealize.ShloMosaic
open scoped BigOperators

/-- One step of the grid: the buffers of its six operands, their contents, and the real arrays the contents stand for. -/
structure Step where
  c : Dev nD
  arg2 : Memref sig .tc .vmem S1x2048x384 .bf16
  harg2 : arg2.IsWhole
  arg3 : Memref sig .tc .vmem S1x2048x128 .bf16
  harg3 : arg3.IsWhole
  arg4 : Memref sig .tc .vmem S1x2048x128 .bf16
  harg4 : arg4.IsWhole
  arg5 : Memref sig .tc .vmem S1x2048x128 .f32
  harg5 : arg5.IsWhole
  arg6 : Memref sig .tc .vmem S1x8x2048 .f32
  harg6 : arg6.IsWhole
  arg7 : Memref sig .tc .vmem S1x2048x384 .f32
  harg7 : arg7.IsWhole
  arg13 : Memref sig .tc .vmem S24x128x128 .f32
  x0 : Vec Ideal S1x2048x384 .bf16
  x1 : Vec Ideal S1x2048x128 .bf16
  x2 : Vec Ideal S1x2048x128 .bf16
  x3 : Vec Ideal S1x2048x128 .f32
  x4 : Vec Ideal S1x8x2048 .f32
  x5 : Vec Ideal S1x2048x384 .f32
  A : Fin 3 → ℕ → ℝ
  B : ℕ → Fin 128 → ℝ
  C : ℕ → Fin 128 → ℝ
  X : Fin 3 → ℕ → Fin 128 → ℝ
  D : Fin 3 → ℕ → Fin 128 → ℝ
  hx : ∀ (j : Fin 3) (t : Fin 2048) (p : Fin 128) (q : Fin 384), (q : ℕ) = 128 * j + p → x0 (ix3 0 t q) = ↑(X j t p)
  hb : ∀ (t : Fin 2048) (n : Fin 128), x1 (ix3 0 t n) = ↑(B t n)
  hc : ∀ (t : Fin 2048) (n : Fin 128), x2 (ix3 0 t n) = ↑(C t n)
  ha : ∀ (j : Fin 3) (t : Fin 2048) (q : Fin 128), (q : ℕ) = j → x3 (ix3 0 t q) = ↑(A j t)
  ht : ∀ (j : Fin 3) (t : Fin 2048) (q : Fin 8), (q : ℕ) = j → x4 (ix3 0 q t) = ↑(A j t)
  hd : ∀ (j : Fin 3) (t : Fin 2048) (p : Fin 128) (q : Fin 384), (q : ℕ) = 128 * j + p → x5 (ix3 0 t q) = ↑(D j t p)

namespace Step

variable (E : Step)

/-- Head `j`'s inputs of chunk `i`. -/
theorem ldx (i : ℕ) (j : Fin 3) (o q : ℕ) (hi : i < 8) (ho : o = 256 * i) (hq : q = 128 * j)
    (h : ∀ a, (![0, o, q] : Fin 3 → ℕ) a + S1x256x128.size a ≤ S1x2048x384.size a) :
    ∀ (l : Fin 256) (p : Fin 128), View.readAt (Elt Ideal) E.arg2.view (Rect.unit (s := S1x2048x384) ![0, o, q] S1x256x128.size h).toLoadRect
      (E.harg2.unread E.x0) (ix3 0 l p) = ↑(E.X j (256 * i + l) p) := by
  intro (l : Fin 256) (p : Fin 128)
  subst_vars
  rw [Memref.IsWhole.readAt_unread, ← E.hx j ⟨256 * i + l, by omega⟩ p ⟨128 * j + p, by omega⟩ rfl]
  congr 1
  idx_ext

/-- Head `j`'s upstream gradient of chunk `i`. -/
theorem ldd (i : ℕ) (j : Fin 3) (o q : ℕ) (hi : i < 8) (ho : o = 256 * i) (hq : q = 128 * j)
    (h : ∀ a, (![0, o, q] : Fin 3 → ℕ) a + S1x256x128.size a ≤ S1x2048x384.size a) :
    ∀ (l : Fin 256) (p : Fin 128), View.readAt (Elt Ideal) E.arg7.view (Rect.unit (s := S1x2048x384) ![0, o, q] S1x256x128.size h).toLoadRect
      (E.harg7.unread E.x5) (ix3 0 l p) = ↑(E.D j (256 * i + l) p) := by
  intro (l : Fin 256) (p : Fin 128)
  subst_vars
  rw [Memref.IsWhole.readAt_unread, ← E.hd j ⟨256 * i + l, by omega⟩ p ⟨128 * j + p, by omega⟩ rfl]
  congr 1
  idx_ext

/-- `B` of chunk `i`. -/
theorem ldb (i o : ℕ) (hi : i < 8) (ho : o = 256 * i)
    (h : ∀ a, (![0, o, 0] : Fin 3 → ℕ) a + S1x256x128.size a ≤ S1x2048x128.size a) :
    ∀ (l : Fin 256) (n : Fin 128), View.readAt (Elt Ideal) E.arg3.view (Rect.unit (s := S1x2048x128) ![0, o, 0] S1x256x128.size h).toLoadRect
      (E.harg3.unread E.x1) (ix3 0 l n) = ↑(E.B (256 * i + l) n) := by
  intro (l : Fin 256) (n : Fin 128)
  subst_vars
  rw [Memref.IsWhole.readAt_unread, ← E.hb ⟨256 * i + l, by omega⟩ n]
  congr 1
  idx_ext

/-- `C` of chunk `i`. -/
theorem ldc (i o : ℕ) (hi : i < 8) (ho : o = 256 * i)
    (h : ∀ a, (![0, o, 0] : Fin 3 → ℕ) a + S1x256x128.size a ≤ S1x2048x128.size a) :
    ∀ (l : Fin 256) (n : Fin 128), View.readAt (Elt Ideal) E.arg4.view (Rect.unit (s := S1x2048x128) ![0, o, 0] S1x256x128.size h).toLoadRect
      (E.harg4.unread E.x2) (ix3 0 l n) = ↑(E.C (256 * i + l) n) := by
  intro (l : Fin 256) (n : Fin 128)
  subst_vars
  rw [Memref.IsWhole.readAt_unread, ← E.hc ⟨256 * i + l, by omega⟩ n]
  congr 1
  idx_ext

/-- Head `j`'s running log-decay of chunk `i`, as a column. -/
theorem lda (i : ℕ) (j : Fin 3) (o q : ℕ) (hi : i < 8) (ho : o = 256 * i) (hq : q = j)
    (h : ∀ a, (![0, o, q] : Fin 3 → ℕ) a + S1x256x1.size a ≤ S1x2048x128.size a) :
    ∀ (l : Fin 256), View.readAt (Elt Ideal) E.arg5.view (Rect.unit (s := S1x2048x128) ![0, o, q] S1x256x1.size h).toLoadRect
      (E.harg5.unread E.x3) (ix3 0 l 0) = ↑(E.A j (256 * i + l)) := by
  intro (l : Fin 256)
  subst_vars
  rw [Memref.IsWhole.readAt_unread, ← E.ha j ⟨256 * i + l, by omega⟩ ⟨j, by omega⟩ rfl]
  congr 1
  idx_ext

/-- Head `j`'s running log-decay of chunk `i`, as a row. -/
theorem ldt (i : ℕ) (j : Fin 3) (o q : ℕ) (hi : i < 8) (ho : o = 256 * i) (hq : q = j)
    (h : ∀ a, (![0, q, o] : Fin 3 → ℕ) a + S1x1x256.size a ≤ S1x8x2048.size a) :
    ∀ (l : Fin 256), View.readAt (Elt Ideal) E.arg6.view (Rect.unit (s := S1x8x2048) ![0, q, o] S1x1x256.size h).toLoadRect
      (E.harg6.unread E.x4) (ix3 0 0 l) = ↑(E.A j (256 * i + l)) := by
  intro (l : Fin 256)
  subst_vars
  rw [Memref.IsWhole.readAt_unread, ← E.ht j ⟨256 * i + l, by omega⟩ ⟨j, by omega⟩ rfl]
  congr 1
  idx_ext

/-- Head `j`'s running log-decay just before chunk `i`, as the kernel reshapes it. -/
theorem ldp (i : ℕ) (j : Fin 3) (o q : ℕ) (hi : i < 8) (h0 : 0 < i) (ho : o = 256 * i - 1) (hq : q = j)
    (h : ∀ a, (![0, o, q] : Fin 3 → ℕ) a + S1x1x1.size a ≤ S1x2048x128.size a) :
    shapeCast S1x1 (View.readAt (Elt Ideal) E.arg5.view (Rect.unit (s := S1x2048x128) ![0, o, q] S1x1x1.size h).toLoadRect
      (E.harg5.unread E.x3)) shapeCasts_S1x1x1_S1x1 (ix2 0 0) = ↑(aprev (E.A j) i) := by
  subst_vars
  rw [aprev, if_neg (by omega)]
  refine Eq.trans ?_ (E.ha j ⟨256 * i - 1, by omega⟩ ⟨j, by omega⟩ rfl)
  pointwise [Memref.IsWhole.readAt_unread]

/-- Before the first chunk there is no decay. -/
theorem ldp_zero (j : Fin 3) : (zero : FVec Ideal S1x1 .f32) (ix2 0 0) = ↑(aprev (E.A j) 0) := by
  rw [zero_apply, aprev, if_pos rfl]

/-- The forward state starts from zero. -/
theorem state_zero (j : Fin 3) (n p : Fin 128) : (zero : FVec Ideal S128x128 .f32) (ix2 n p) = ↑(stateAt E.A E.B E.X j 0 n p) := by
  rw [zero_apply, stateAt, before_zero]

/-- The backward state starts from zero. -/
theorem grad_last (j : Fin 3) (n p : Fin 128) : (zero : FVec Ideal S128x128 .f32) (ix2 n p) = ↑(gradAt E.A E.C E.D j 7 n p) := by
  rw [zero_apply, gradAt, after_last]

end Step

/-- A sum over the heads starts from zero. -/
theorem zero_start {a b : ℕ} (l : Fin a) (n : Fin b) : (zero : FVec Ideal ⟨2, ![a, b]⟩ .f32) (ix2 l n) = ↑(0 : ℝ) :=
  zero_apply _

/-- The state as the kernel keeps it in its scratch array. -/
theorem keep {st : FVec Ideal S128x128 .f32} {f : Fin 128 → Fin 128 → ℝ} (h : ∀ n p, st (ix2 n p) = ↑(f n p)) (n p : Fin 128) :
    shapeCast S1x128x128 st shapeCasts_S128x128_S1x128x128 (ix3 0 n p) = ↑(f n p) := by
  rw [← h]
  pointwise

end Cert.Chunk
-- ==== Proof.Finite.lean ====
/-
The precondition read: every number of the five argument arrays is a real number. And the running sum of real numbers
along an axis, as the host takes it, is a real number.
-/
module

public import proofs.«01_k».proof.Proof.Gen.Pre_finite
public import Idealize.ShloMosaic.Lib.Pipeline.ValueKit
public import Idealize.ShloMosaic.Lib.Pointwise
public import Mathlib.Data.EReal.Operations

@[expose] public section

set_option maxRecDepth 16384

noncomputable section

namespace Cert.Finite

open Cert.Pre_finite Idealize.ShloMosaic
open scoped BigOperators

/-- Every number of the array is a real number. -/
def IsReal {s : Shape} (x : s.Idx → EReal) : Prop := ∀ i, x i = ((x i).toReal : EReal)

/-- An extended real of absolute value less than the word of the infinity is a real number. -/
theorem real_of_lt {x : EReal} (h : Ideal.cmp .olt (max x (-x)) (Ideal.ofBits .f32 0x7F800000#32) = 1#1) :
    x = (x.toReal : EReal) := by
  have htop : Ideal.ofBits .f32 0x7F800000#32 = ⊤ := by simp [Ideal.ofBits, Ideal.ieee]
  rw [htop] at h
  induction x with
  | bot => simp [Ideal.cmp] at h
  | top => simp [Ideal.cmp] at h
  | coe r => simp

theorem lt_at {x y : EReal} (h : x = y) :
    BitVec.ofBool (decide (FloatOps.absf (F := Ideal) (φ := .f32) x < Ideal.ofBits .f32 0x7F800000#32))
      = Ideal.cmp .olt (max y (-y)) (Ideal.ofBits .f32 0x7F800000#32) := by
  subst h
  rfl

attribute [local instance] Cert.Pre_finite.Gen.facts

variable (a0 : FVec Ideal S4x2048x4x3x64 .f32) (a1 : FVec Ideal S4x2048x4x3 .f32) (a2 a3 : FVec Ideal S4x2048x4x128 .f32)
  (a4 : FVec Ideal S4x2048x4x3x64 .f32)

theorem at0 (b : Fin 4) (t : Fin 2048) (g : Fin 4) (j : Fin 3) (p : Fin 64) :
    fn (F := Ideal) a0 a1 a2 a3 a4 (ix4 b t g (⟨64 * j + p, by omega⟩ : Fin 643))
      = Ideal.cmp .olt (max (a0 (ix5 b t g j p)) (-(a0 (ix5 b t g j p)))) (Ideal.ofBits .f32 0x7F800000#32) := by
  pointwise [fn]
  rw [dif_pos (by omega)]
  refine lt_at (congrArg _ ?_)
  idx_ext

theorem at1 (b : Fin 4) (t : Fin 2048) (g : Fin 4) (j : Fin 3) :
    fn (F := Ideal) a0 a1 a2 a3 a4 (ix4 b t g (⟨192 + j, by omega⟩ : Fin 643))
      = Ideal.cmp .olt (max (a1 (ix4 b t g j)) (-(a1 (ix4 b t g j)))) (Ideal.ofBits .f32 0x7F800000#32) := by
  pointwise [fn]
  rfl

theorem at2 (b : Fin 4) (t : Fin 2048) (g : Fin 4) (n : Fin 128) :
    fn (F := Ideal) a0 a1 a2 a3 a4 (ix4 b t g (⟨195 + n, by omega⟩ : Fin 643))
      = Ideal.cmp .olt (max (a2 (ix4 b t g n)) (-(a2 (ix4 b t g n)))) (Ideal.ofBits .f32 0x7F800000#32) := by
  pointwise [fn]
  rw [dif_neg (by omega), dif_neg (by omega), dif_pos (by omega)]
  refine lt_at (congrArg _ ?_)
  idx_ext

theorem at3 (b : Fin 4) (t : Fin 2048) (g : Fin 4) (n : Fin 128) :
    fn (F := Ideal) a0 a1 a2 a3 a4 (ix4 b t g (⟨323 + n, by omega⟩ : Fin 643))
      = Ideal.cmp .olt (max (a3 (ix4 b t g n)) (-(a3 (ix4 b t g n)))) (Ideal.ofBits .f32 0x7F800000#32) := by
  pointwise [fn]
  rw [dif_neg (by omega), dif_neg (by omega), dif_neg (by omega), dif_pos (by omega)]
  refine lt_at (congrArg _ ?_)
  idx_ext

theorem at4 (b : Fin 4) (t : Fin 2048) (g : Fin 4) (j : Fin 3) (p : Fin 64) :
    fn (F := Ideal) a0 a1 a2 a3 a4 (ix4 b t g (⟨451 + (64 * j + p), by omega⟩ : Fin 643))
      = Ideal.cmp .olt (max (a4 (ix5 b t g j p)) (-(a4 (ix5 b t g j p)))) (Ideal.ofBits .f32 0x7F800000#32) := by
  pointwise [fn]
  rw [dif_neg (by omega), dif_neg (by omega), dif_neg (by omega), dif_neg (by omega)]
  refine lt_at (congrArg _ ?_)
  idx_ext

/-- What the precondition says. -/
theorem real (h : fn (F := Ideal) a0 a1 a2 a3 a4 = fun _ => 1#1) : IsReal a0 ∧ IsReal a1 ∧ IsReal a2 ∧ IsReal a3 ∧ IsReal a4 := by
  refine ⟨fun i => ?_, fun i => ?_, fun i => ?_, fun i => ?_, fun i => ?_⟩
  · idx_vars i
    exact real_of_lt ((at0 a0 a1 a2 a3 a4 _ _ _ _ _).symm.trans (congrFun h _))
  · idx_vars i
    exact real_of_lt ((at1 a0 a1 a2 a3 a4 _ _ _ _).symm.trans (congrFun h _))
  · idx_vars i
    exact real_of_lt ((at2 a0 a1 a2 a3 a4 _ _ _ _).symm.trans (congrFun h _))
  · idx_vars i
    exact real_of_lt ((at3 a0 a1 a2 a3 a4 _ _ _ _).symm.trans (congrFun h _))
  · idx_vars i
    exact real_of_lt ((at4 a0 a1 a2 a3 a4 _ _ _ _ _).symm.trans (congrFun h _))

/-- A running sum of real numbers is a real number. -/
theorem fold_real {ι : Type*} (l : List ι) (f : ι → EReal) (hf : ∀ i, ∃ r : ℝ, f i = r) (x : EReal) (hx : ∃ r : ℝ, x = r) :
    ∃ r : ℝ, l.foldl (fun r i => r + f i) x = r := by
  induction l generalizing x with
  | nil => exact hx
  | cons i l ih =>
    obtain ⟨y, hy⟩ := hx
    obtain ⟨z, hz⟩ := hf i
    exact ih _ ⟨y + z, by simp only [hy, hz, EReal.coe_add]⟩

/-- The host's windowed sum of an array of real numbers, from a real number. -/
theorem window_real {s t u : Shape} (window strides lo high : Fin s.rank → Nat) (x : FVec Ideal s .f32) (init : FVec Ideal u .f32)
    (h : s.ReduceWindows window strides lo high t) (hu : 0 < u.numel) (hx : IsReal x) (hi : ∀ i, ∃ r : ℝ, init i = r) :
    IsReal (Host.reduceWindowAdd window strides lo high x init h hu) := fun j => by
  have : ∃ r : ℝ, Host.reduceWindowAdd window strides lo high x init h hu j = r := by
    refine fold_real _ _ (fun n => ?_) _ (hi _)
    split
    · exact ⟨_, hx _⟩
    · exact hi _
  obtain ⟨r, hr⟩ := this
  rw [hr, EReal.toReal_coe]

end Cert.Finite
-- ==== Proof.Host.lean ====
/-
The arrays the kernel's host code prepares, and a step of the grid's blocks of them: step `t` takes batch `t / 4` and
group `t % 4`.
-/
module

public import proofs.«01_k».proof.Proof.Loads
public import proofs.«01_k».proof.Proof.Finite
public import Idealize.ShloMosaic.Lib.Claim

@[expose] public section

set_option maxRecDepth 16384

noncomputable section

namespace Cert.Chunk

open Cert.KernelIdeal Cert.KernelIdeal.Gen Cert.Finite Idealize.ShloMosaic Idealize.ShloMosaic.TcCoe

/-! ## The real arrays -/

/-- Group `g`'s rows of `x` (or of the upstream gradient) of batch `b`: head, token, lane; the lanes from 64 on are zero. -/
def rows (a : FVec Ideal S4x2048x4x3x64 .f32) (b g : Fin 4) (j : Fin 3) (t : ℕ) (p : Fin 128) : ℝ :=
  if h : t < 2048 ∧ (p : ℕ) < 64 then (a (ix5 b ⟨t, h.1⟩ g j ⟨p, h.2⟩)).toReal else 0

/-- Group `g`'s rows of `B` (or of `C`) of batch `b`: token, state. -/
def cols (a : FVec Ideal S4x2048x4x128 .f32) (b g : Fin 4) (t : ℕ) (n : Fin 128) : ℝ :=
  if h : t < 2048 then (a (ix4 b ⟨t, h⟩ g n)).toReal else 0

/-- The running sum of the log-decays over the tokens, as the host takes it. -/
def running (a : FVec Ideal S4x2048x4x3 .f32) : FVec Ideal S4x2048x4x3 .f32 :=
  Host.reduceWindowAdd ![1, 2048, 1, 1] ![1, 1, 1, 1] ![0, 2047, 0, 0] ![0, 0, 0, 0] a
    (broadcastInDim S_ ![] bcast_S_S_ (constant S_ .f32 0x00000000#32))
    reduceWindows_S4x2048x4x3_S4x2048x4x3_w1s1p0_0_w2048s1p2047_0_w1s1p0_0_w1s1p0_0 h_S_

/-- Group `g`'s running log-decay of batch `b`: head, token. -/
def decays (a : FVec Ideal S4x2048x4x3 .f32) (b g : Fin 4) (j : Fin 3) (t : ℕ) : ℝ :=
  if h : t < 2048 then (running a (ix4 b ⟨t, h⟩ g j)).toReal else 0

theorem rows_in {a : FVec Ideal S4x2048x4x3x64 .f32} (h : IsReal a) (b g : Fin 4) (j : Fin 3) (t : Fin 2048) (p : Fin 128)
    (hp : (p : ℕ) < 64) : (rows a b g j t p : EReal) = a (ix5 b t g j ⟨p, hp⟩) := by
  rw [rows, dif_pos ⟨t.isLt, hp⟩]
  exact (h _).symm

theorem rows_out (a : FVec Ideal S4x2048x4x3x64 .f32) (b g : Fin 4) (j : Fin 3) (t : ℕ) (p : Fin 128)
    (hp : ¬ (p : ℕ) < 64) : rows a b g j t p = 0 := by
  rw [rows, dif_neg fun q => hp q.2]

theorem cols_apply {a : FVec Ideal S4x2048x4x128 .f32} (h : IsReal a) (b g : Fin 4) (t : Fin 2048) (n : Fin 128) :
    (cols a b g t n : EReal) = a (ix4 b t g n) := by
  rw [cols, dif_pos t.isLt]
  exact (h _).symm

theorem running_real {a : FVec Ideal S4x2048x4x3 .f32} (h : IsReal a) : IsReal (running a) :=
  window_real _ _ _ _ _ _ _ _ h fun i => ⟨0, by
    show FloatOps.ofBits (F := Ideal) .f32 0x00000000#32 = _
    exact Ideal.ofBits_zero_f32⟩

theorem decays_apply {a : FVec Ideal S4x2048x4x3 .f32} (h : IsReal a) (b g : Fin 4) (j : Fin 3) (t : Fin 2048) :
    (decays a b g j t : EReal) = running a (ix4 b t g j) := by
  rw [decays, dif_pos t.isLt]
  exact (running_real h _).symm

/-! ## The prepared arrays -/

/-- An array of rows padded to 128 lanes, its groups, heads and lanes one axis. -/
def padded (a : FVec Ideal S4x2048x4x3x64 .f32) : FVec Ideal S4x2048x1536 .f32 :=
  shapeCast S4x2048x1536 (pad S4x2048x4x3x128 ![0, 0, 0, 0, 0] ![0, 0, 0, 0, 64] ![0, 0, 0, 0, 0] a
    (sitofp .f32 (constantI S_ 32 0#32) : FVec Ideal S_ .f32)
    pads_S4x2048x4x3x64_S4x2048x4x3x128_000_000_000_000_0640 h_S_) shapeCasts_S4x2048x4x3x128_S4x2048x1536

/-- `B` and `C` side by side. -/
def joined (a a' : FVec Ideal S4x2048x4x128 .f32) : FVec Ideal S4x2048x1024 .f32 :=
  concatenate S4x2048x1024 2 [⟨S4x2048x512, shapeCast S4x2048x512 a shapeCasts_S4x2048x4x128_S4x2048x512⟩,
    ⟨S4x2048x512, shapeCast S4x2048x512 a' shapeCasts_S4x2048x4x128_S4x2048x512⟩]
    concatenates_S4x2048x512_S4x2048x512_S4x2048x1024_d2

/-- The running log-decay, its heads padded to 128 lanes. -/
def lanes (a : FVec Ideal S4x2048x4x3 .f32) : FVec Ideal S4x2048x512 .f32 :=
  shapeCast S4x2048x512 (pad S4x2048x4x128 ![0, 0, 0, 0] ![0, 0, 0, 125] ![0, 0, 0, 0] (running a)
    (sitofp .f32 (constantI S_ 32 0#32) : FVec Ideal S_ .f32)
    pads_S4x2048x4x3_S4x2048x4x128_000_000_000_01250 h_S_) shapeCasts_S4x2048x4x128_S4x2048x512

variable (m : (ℓ : Loc nD τ sig) → Buf (Elt Ideal) ℓ) (c : Dev nD)

/-! ## The arguments -/

abbrev argX : FVec Ideal S4x2048x4x3x64 .f32 := m ((c : Thread nD τ).loc main_arg0)
abbrev argA : FVec Ideal S4x2048x4x3 .f32 := m ((c : Thread nD τ).loc main_arg1)
abbrev argB : FVec Ideal S4x2048x4x128 .f32 := m ((c : Thread nD τ).loc main_arg2)
abbrev argC : FVec Ideal S4x2048x4x128 .f32 := m ((c : Thread nD τ).loc main_arg3)
abbrev argD : FVec Ideal S4x2048x4x3x64 .f32 := m ((c : Thread nD τ).loc main_arg4)

theorem V_x : V m c main_v2 = truncf .bf16 (padded (argX m c)) bitsLt_bf16_f32 := by
  unfold V
  simp only [List.flatten_cons, List.flatten_nil, List.cons_append, List.nil_append, List.append_nil]
  after_results
  simp -implicitDefEqProofs only [StableHlo.TRef.ofBuf_toBuf, StableHlo.TRef.toBuf, StableHlo.TRef.ofBuf, cast_cast, cast_eq]
  rfl

theorem V_dy : V m c main_v4 = padded (argD m c) := by
  unfold V
  simp only [List.flatten_cons, List.flatten_nil, List.cons_append, List.nil_append, List.append_nil]
  after_results
  simp -implicitDefEqProofs only [StableHlo.TRef.ofBuf_toBuf, StableHlo.TRef.toBuf, StableHlo.TRef.ofBuf, cast_cast, cast_eq]
  rfl

theorem V_bc : V m c main_v8
    = truncf .bf16 (joined (argB m c) (argC m c)) bitsLt_bf16_f32 := by
  unfold V
  simp only [List.flatten_cons, List.flatten_nil, List.cons_append, List.nil_append, List.append_nil]
  after_results
  simp -implicitDefEqProofs only [StableHlo.TRef.ofBuf_toBuf, StableHlo.TRef.toBuf, StableHlo.TRef.ofBuf, cast_cast, cast_eq]
  rfl

theorem V_a : V m c main_v11 = lanes (argA m c) := by
  unfold V
  simp only [List.flatten_cons, List.flatten_nil, List.cons_append, List.nil_append, List.append_nil]
  after_results
  simp -implicitDefEqProofs only [StableHlo.TRef.ofBuf_toBuf, StableHlo.TRef.toBuf, StableHlo.TRef.ofBuf, cast_cast, cast_eq]
  rfl

theorem V_at : V m c main_v12
    = transpose S4x512x2048 [0, 2, 1] (lanes (argA m c)) transposes_S4x2048x512_S4x512x2048_0_2_1 := by
  unfold V
  simp only [List.flatten_cons, List.flatten_nil, List.cons_append, List.nil_append, List.append_nil]
  after_results
  simp -implicitDefEqProofs only [StableHlo.TRef.ofBuf_toBuf, StableHlo.TRef.toBuf, StableHlo.TRef.ofBuf, cast_cast, cast_eq]
  rfl

/-! ## The prepared arrays at an index -/

/-- A word of zero bits is the number zero. -/
theorem word_zero : FloatOps.sitofp (F := Ideal) .f32 0#32 = ((0 : ℝ) : EReal) := by
  show ((((0#32 : BitVec 32).toInt : ℝ)) : EReal) = _
  simp

theorem padded_apply {a : FVec Ideal S4x2048x4x3x64 .f32} (h : IsReal a) (b : Fin 4) (t : Fin 2048) (g : Fin 4) (j : Fin 3) (p : Fin 128)
    (q : Fin 1536) (hq : (q : ℕ) = 384 * g + 128 * j + p) :
    padded a (ix3 b t q) = ↑(rows a b g j t p) := by
  by_cases hp : (p : ℕ) < 64
  · refine Eq.trans ?_ (rows_in h b g j t p hp).symm
    pointwise [padded]
    refine (dif_pos (by omega)).trans ?_
    congr 1
    idx_ext
  · refine Eq.trans ?_ (congrArg _ (rows_out a b g j t p hp).symm)
    pointwise [padded]
    exact (dif_neg (by omega)).trans word_zero

theorem joined_fst (a a' : FVec Ideal S4x2048x4x128 .f32) (b : Fin 4) (t : Fin 2048) (g : Fin 4) (n : Fin 128)
    (q : Fin 1024) (hq : (q : ℕ) = 128 * g + n) : joined a a' (ix3 b t q) = a (ix4 b t g n) := by
  pointwise [joined]
  rw [dif_pos (by omega)]
  congr 1
  idx_ext

theorem joined_snd (a a' : FVec Ideal S4x2048x4x128 .f32) (b : Fin 4) (t : Fin 2048) (g : Fin 4) (n : Fin 128)
    (q : Fin 1024) (hq : (q : ℕ) = 512 + (128 * g + n)) : joined a a' (ix3 b t q) = a' (ix4 b t g n) := by
  pointwise [joined]
  rw [dif_neg (by omega)]
  congr 1
  idx_ext

theorem lanes_apply (a : FVec Ideal S4x2048x4x3 .f32) (b : Fin 4) (t : Fin 2048) (g : Fin 4) (j : Fin 3)
    (q : Fin 512) (hq : (q : ℕ) = 128 * g + j) : lanes a (ix3 b t q) = running a (ix4 b t g j) := by
  pointwise [lanes]
  rw [dif_pos (by omega)]
  congr 1
  idx_ext

end Cert.Chunk
-- ==== Proof.Blocks.lean ====
module
public import proofs.«01_k».proof.Proof.Host
@[expose] public section
set_option maxRecDepth 16384
noncomputable section
namespace Cert.Chunk
open Cert.KernelIdeal Cert.KernelIdeal.Gen Cert.Finite Idealize.ShloMosaic Idealize.ShloMosaic.TcCoe
variable (m : (ℓ : Loc nD τ sig) → Buf (Elt Ideal) ℓ) (c : Dev nD)
/-! ## The blocks of a step -/

theorem idx : ∀ t : Fin cfg0.N, win0_0.index t = ![t.val / 4, 0, t.val % 4] ∧ win0_1.index t = ![t.val / 4, 0, t.val % 4]
    ∧ win0_2.index t = ![t.val / 4, 0, 4 + t.val % 4] ∧ win0_3.index t = ![t.val / 4, 0, t.val % 4]
    ∧ win0_4.index t = ![t.val / 4, 16 * (t.val % 4), 0] ∧ win0_5.index t = ![t.val / 4, 0, t.val % 4]
    ∧ win0_6.index t = ![t.val / 4, 0, t.val % 4] ∧ win0_7.index t = ![t.val / 4, 0, t.val % 4]
    ∧ win0_8.index t = ![t.val / 4, 0, t.val % 4] :=
  (by decide +kernel : ∀ t : Fin grid0.N, _)

/-- The batch of a step. -/
def batch (t : Fin cfg0.N) : Fin 4 := ⟨t.val / 4, by have := lt_of_lt_of_eq t.isLt N_0; omega⟩

/-- The group of a step. -/
def group (t : Fin cfg0.N) : Fin 4 := ⟨t.val % 4, by omega⟩

theorem read_x (G : S4x2048x1536.Idx → EReal) (t : Fin cfg0.N) (s : Fin 2048) (q : Fin 384) :
    ((cfg0.win 0).blk t).view.read (Elt Ideal) G (ix3 0 s q)
      = G (ix3 (batch t) s ⟨384 * (group t).val + q, by have := (group t).isLt; omega⟩) := by
  blk_ext [idx t]
  all_goals (simp only [batch, group]; omega)

theorem read_b (G : S4x2048x1024.Idx → EReal) (t : Fin cfg0.N) (s : Fin 2048) (q : Fin 128) :
    ((cfg0.win 1).blk t).view.read (Elt Ideal) G (ix3 0 s q)
      = G (ix3 (batch t) s ⟨128 * (group t).val + q, by have := (group t).isLt; omega⟩) := by
  blk_ext [idx t]
  all_goals (simp only [batch, group]; omega)

theorem read_c (G : S4x2048x1024.Idx → EReal) (t : Fin cfg0.N) (s : Fin 2048) (q : Fin 128) :
    ((cfg0.win 2).blk t).view.read (Elt Ideal) G (ix3 0 s q)
      = G (ix3 (batch t) s ⟨512 + (128 * (group t).val + q), by have := (group t).isLt; omega⟩) := by
  blk_ext [idx t]
  all_goals (simp only [batch, group]; omega)

theorem read_a (G : S4x2048x512.Idx → EReal) (t : Fin cfg0.N) (s : Fin 2048) (q : Fin 128) :
    ((cfg0.win 3).blk t).view.read (Elt Ideal) G (ix3 0 s q)
      = G (ix3 (batch t) s ⟨128 * (group t).val + q, by have := (group t).isLt; omega⟩) := by
  blk_ext [idx t]
  all_goals (simp only [batch, group]; omega)

theorem read_d (G : S4x2048x1536.Idx → EReal) (t : Fin cfg0.N) (s : Fin 2048) (q : Fin 384) :
    ((cfg0.win 5).blk t).view.read (Elt Ideal) G (ix3 0 s q)
      = G (ix3 (batch t) s ⟨384 * (group t).val + q, by have := (group t).isLt; omega⟩) := by
  blk_ext [idx t]
  all_goals (simp only [batch, group]; omega)

theorem read_at (G : S4x512x2048.Idx → EReal) (t : Fin cfg0.N) (q : Fin 8) (s : Fin 2048) :
    ((cfg0.win 4).blk t).view.read (Elt Ideal) G (ix3 0 q s)
      = G (ix3 (batch t) ⟨128 * (group t).val + q, by have := (group t).isLt; omega⟩ s) := by
  blk_ext [idx t]
  all_goals (simp only [batch, group]; omega)

variable {m} in
theorem blk_x (h : IsReal (argX m c)) (t : Fin cfg0.N) (j : Fin 3) (s : Fin 2048) (p : Fin 128) (q : Fin 384)
    (hq : (q : ℕ) = 128 * j + p) :
    iblk m c 0 t (ix3 0 s q) = ((rows (argX m c) (batch t) (group t) j s p : ℝ) : EReal) := by
  unfold iblk
  refine (read_x (V m c main_v2) t s q).trans ?_
  rw [V_x]
  exact padded_apply h (batch t) s (group t) j p _ (by dsimp only; omega)

variable {m} in
theorem blk_d (h : IsReal (argD m c)) (t : Fin cfg0.N) (j : Fin 3) (s : Fin 2048) (p : Fin 128) (q : Fin 384)
    (hq : (q : ℕ) = 128 * j + p) :
    iblk m c 5 t (ix3 0 s q) = ((rows (argD m c) (batch t) (group t) j s p : ℝ) : EReal) := by
  unfold iblk
  refine (read_d (V m c main_v4) t s q).trans ?_
  rw [V_dy]
  exact padded_apply h (batch t) s (group t) j p _ (by dsimp only; omega)

variable {m} in
theorem blk_b (h : IsReal (argB m c)) (t : Fin cfg0.N) (s : Fin 2048) (n : Fin 128) :
    iblk m c 1 t (ix3 0 s n) = ((cols (argB m c) (batch t) (group t) s n : ℝ) : EReal) := by
  unfold iblk
  refine (read_b (V m c main_v8) t s n).trans ?_
  rw [V_bc]
  exact (joined_fst (argB m c) (argC m c) (batch t) s (group t) n _ rfl).trans (cols_apply h _ _ _ _).symm

variable {m} in
theorem blk_c (h : IsReal (argC m c)) (t : Fin cfg0.N) (s : Fin 2048) (n : Fin 128) :
    iblk m c 2 t (ix3 0 s n) = ((cols (argC m c) (batch t) (group t) s n : ℝ) : EReal) := by
  unfold iblk
  refine (read_c (V m c main_v8) t s n).trans ?_
  rw [V_bc]
  exact (joined_snd (argB m c) (argC m c) (batch t) s (group t) n _ rfl).trans (cols_apply h _ _ _ _).symm

variable {m} in
theorem blk_a (h : IsReal (argA m c)) (t : Fin cfg0.N) (j : Fin 3) (s : Fin 2048) (q : Fin 128) (hq : (q : ℕ) = j) :
    iblk m c 3 t (ix3 0 s q) = ((decays (argA m c) (batch t) (group t) j s : ℝ) : EReal) := by
  unfold iblk
  refine (read_a (V m c main_v11) t s q).trans ?_
  rw [V_a]
  exact (lanes_apply (argA m c) (batch t) s (group t) j _ (by dsimp only; omega)).trans (decays_apply h _ _ _ _).symm

variable {m} in
theorem blk_at (h : IsReal (argA m c)) (t : Fin cfg0.N) (j : Fin 3) (s : Fin 2048) (q : Fin 8) (hq : (q : ℕ) = j) :
    iblk m c 4 t (ix3 0 q s) = ((decays (argA m c) (batch t) (group t) j s : ℝ) : EReal) := by
  unfold iblk
  refine (read_at (V m c main_v12) t q s).trans ?_
  rw [V_at]
  refine Eq.trans ?_ ((lanes_apply (argA m c) (batch t) s (group t) j ⟨128 * (group t).val + q, by have := (group t).isLt; omega⟩ (by dsimp only; omega)).trans (decays_apply h _ _ _ _).symm)
  pointwise

/-- The five arguments hold real numbers. -/
structure Reals : Prop where
  hx : IsReal (argX m c)
  ha : IsReal (argA m c)
  hb : IsReal (argB m c)
  hc : IsReal (argC m c)
  hd : IsReal (argD m c)

variable {m} {c} in
/-- One step of the grid, on the blocks of the prepared arguments. -/
def stepAt (h : Reals m c) (t : Fin cfg0.N) : Step where
  c := c
  arg2 := ms0_0 t
  harg2 := hs0_0 t
  arg3 := ms0_1 t
  harg3 := hs0_1 t
  arg4 := ms0_2 t
  harg4 := hs0_2 t
  arg5 := ms0_3 t
  harg5 := hs0_3 t
  arg6 := ms0_4 t
  harg6 := hs0_4 t
  arg7 := ms0_5 t
  harg7 := hs0_5 t
  arg13 := scM0_0
  x0 := iblk m c 0 t
  x1 := iblk m c 1 t
  x2 := iblk m c 2 t
  x3 := iblk m c 3 t
  x4 := iblk m c 4 t
  x5 := iblk m c 5 t
  A := decays (argA m c) (batch t) (group t)
  B := cols (argB m c) (batch t) (group t)
  C := cols (argC m c) (batch t) (group t)
  X := rows (argX m c) (batch t) (group t)
  D := rows (argD m c) (batch t) (group t)
  hx := blk_x c h.hx t
  hb := blk_b c h.hb t
  hc := blk_c c h.hc t
  ha := blk_a c h.ha t
  ht := blk_at c h.ha t
  hd := blk_d c h.hd t

end Cert.Chunk
-- ==== Proof.Backward.lean ====
/-
The backward state after each chunk, head by head.
-/
module

public import proofs.«01_k».proof.Proof.Loads

@[expose] public section

set_option maxRecDepth 16384

noncomputable section

namespace Cert.Chunk.Step

open Cert.KernelIdeal Cert.KernelIdeal.Gen Cert.ScanMath Idealize.ShloMosaic
open scoped BigOperators

variable (E : Step)

theorem grad_6_0 (n p : Fin 128) :
    (kernelRun0_A.sl.v639 (F := Ideal) E.c E.arg4 E.harg4 E.arg5 E.harg5 E.arg7 E.harg7 E.x2 E.x3 E.x5) (ix2 n p) = ↑(gradAt E.A E.C E.D 0 6 n p) := by
  have h := grad_next 6 (by decide) 0 (E.ldc 7 1792 (by decide) rfl inb_S1x2048x128_S1x256x128_0_1792_0) (E.lda 7 0 1792 0 (by decide) rfl rfl inb_S1x2048x128_S1x256x1_0_1792_0) (E.ldp 7 0 1791 0 (by decide) (by decide) rfl rfl inb_S1x2048x128_S1x1x1_0_1791_0) (E.ldd 7 0 1792 0 (by decide) rfl rfl inb_S1x2048x384_S1x256x128_0_1792_0) (E.grad_last 0) n p
  exact h

theorem grad_6_1 (n p : Fin 128) :
    (kernelRun0_A.sl.v748 (F := Ideal) E.c E.arg4 E.harg4 E.arg5 E.harg5 E.arg7 E.harg7 E.x2 E.x3 E.x5) (ix2 n p) = ↑(gradAt E.A E.C E.D 1 6 n p) := by
  have h := grad_next 6 (by decide) 1 (E.ldc 7 1792 (by decide) rfl inb_S1x2048x128_S1x256x128_0_1792_0) (E.lda 7 1 1792 1 (by decide) rfl rfl inb_S1x2048x128_S1x256x1_0_1792_1) (E.ldp 7 1 1791 1 (by decide) (by decide) rfl rfl inb_S1x2048x128_S1x1x1_0_1791_1) (E.ldd 7 1 1792 128 (by decide) rfl rfl inb_S1x2048x384_S1x256x128_0_1792_128) (E.grad_last 1) n p
  exact h

theorem grad_6_2 (n p : Fin 128) :
    (kernelRun0_A.sl.v857 (F := Ideal) E.c E.arg4 E.harg4 E.arg5 E.harg5 E.arg7 E.harg7 E.x2 E.x3 E.x5) (ix2 n p) = ↑(gradAt E.A E.C E.D 2 6 n p) := by
  have h := grad_next 6 (by decide) 2 (E.ldc 7 1792 (by decide) rfl inb_S1x2048x128_S1x256x128_0_1792_0) (E.lda 7 2 1792 2 (by decide) rfl rfl inb_S1x2048x128_S1x256x1_0_1792_2) (E.ldp 7 2 1791 2 (by decide) (by decide) rfl rfl inb_S1x2048x128_S1x1x1_0_1791_2) (E.ldd 7 2 1792 256 (by decide) rfl rfl inb_S1x2048x384_S1x256x128_0_1792_256) (E.grad_last 2) n p
  exact h

theorem grad_5_0 (n p : Fin 128) :
    (kernelRun0_A.sl.v986 (F := Ideal) E.c E.arg4 E.harg4 E.arg5 E.harg5 E.arg7 E.harg7 E.x2 E.x3 E.x5) (ix2 n p) = ↑(gradAt E.A E.C E.D 0 5 n p) := by
  have h := grad_next 5 (by decide) 0 (E.ldc 6 1536 (by decide) rfl inb_S1x2048x128_S1x256x128_0_1536_0) (E.lda 6 0 1536 0 (by decide) rfl rfl inb_S1x2048x128_S1x256x1_0_1536_0) (E.ldp 6 0 1535 0 (by decide) (by decide) rfl rfl inb_S1x2048x128_S1x1x1_0_1535_0) (E.ldd 6 0 1536 0 (by decide) rfl rfl inb_S1x2048x384_S1x256x128_0_1536_0) (grad_6_0 E) n p
  exact h

theorem grad_5_1 (n p : Fin 128) :
    (kernelRun0_A.sl.v1095 (F := Ideal) E.c E.arg4 E.harg4 E.arg5 E.harg5 E.arg7 E.harg7 E.x2 E.x3 E.x5) (ix2 n p) = ↑(gradAt E.A E.C E.D 1 5 n p) := by
  have h := grad_next 5 (by decide) 1 (E.ldc 6 1536 (by decide) rfl inb_S1x2048x128_S1x256x128_0_1536_0) (E.lda 6 1 1536 1 (by decide) rfl rfl inb_S1x2048x128_S1x256x1_0_1536_1) (E.ldp 6 1 1535 1 (by decide) (by decide) rfl rfl inb_S1x2048x128_S1x1x1_0_1535_1) (E.ldd 6 1 1536 128 (by decide) rfl rfl inb_S1x2048x384_S1x256x128_0_1536_128) (grad_6_1 E) n p
  exact h

theorem grad_5_2 (n p : Fin 128) :
    (kernelRun0_A.sl.v1204 (F := Ideal) E.c E.arg4 E.harg4 E.arg5 E.harg5 E.arg7 E.harg7 E.x2 E.x3 E.x5) (ix2 n p) = ↑(gradAt E.A E.C E.D 2 5 n p) := by
  have h := grad_next 5 (by decide) 2 (E.ldc 6 1536 (by decide) rfl inb_S1x2048x128_S1x256x128_0_1536_0) (E.lda 6 2 1536 2 (by decide) rfl rfl inb_S1x2048x128_S1x256x1_0_1536_2) (E.ldp 6 2 1535 2 (by decide) (by decide) rfl rfl inb_S1x2048x128_S1x1x1_0_1535_2) (E.ldd 6 2 1536 256 (by decide) rfl rfl inb_S1x2048x384_S1x256x128_0_1536_256) (grad_6_2 E) n p
  exact h

theorem grad_4_0 (n p : Fin 128) :
    (kernelRun0_A.sl.v1333 (F := Ideal) E.c E.arg4 E.harg4 E.arg5 E.harg5 E.arg7 E.harg7 E.x2 E.x3 E.x5) (ix2 n p) = ↑(gradAt E.A E.C E.D 0 4 n p) := by
  have h := grad_next 4 (by decide) 0 (E.ldc 5 1280 (by decide) rfl inb_S1x2048x128_S1x256x128_0_1280_0) (E.lda 5 0 1280 0 (by decide) rfl rfl inb_S1x2048x128_S1x256x1_0_1280_0) (E.ldp 5 0 1279 0 (by decide) (by decide) rfl rfl inb_S1x2048x128_S1x1x1_0_1279_0) (E.ldd 5 0 1280 0 (by decide) rfl rfl inb_S1x2048x384_S1x256x128_0_1280_0) (grad_5_0 E) n p
  exact h

theorem grad_4_1 (n p : Fin 128) :
    (kernelRun0_A.sl.v1442 (F := Ideal) E.c E.arg4 E.harg4 E.arg5 E.harg5 E.arg7 E.harg7 E.x2 E.x3 E.x5) (ix2 n p) = ↑(gradAt E.A E.C E.D 1 4 n p) := by
  have h := grad_next 4 (by decide) 1 (E.ldc 5 1280 (by decide) rfl inb_S1x2048x128_S1x256x128_0_1280_0) (E.lda 5 1 1280 1 (by decide) rfl rfl inb_S1x2048x128_S1x256x1_0_1280_1) (E.ldp 5 1 1279 1 (by decide) (by decide) rfl rfl inb_S1x2048x128_S1x1x1_0_1279_1) (E.ldd 5 1 1280 128 (by decide) rfl rfl inb_S1x2048x384_S1x256x128_0_1280_128) (grad_5_1 E) n p
  exact h

theorem grad_4_2 (n p : Fin 128) :
    (kernelRun0_A.sl.v1551 (F := Ideal) E.c E.arg4 E.harg4 E.arg5 E.harg5 E.arg7 E.harg7 E.x2 E.x3 E.x5) (ix2 n p) = ↑(gradAt E.A E.C E.D 2 4 n p) := by
  have h := grad_next 4 (by decide) 2 (E.ldc 5 1280 (by decide) rfl inb_S1x2048x128_S1x256x128_0_1280_0) (E.lda 5 2 1280 2 (by decide) rfl rfl inb_S1x2048x128_S1x256x1_0_1280_2) (E.ldp 5 2 1279 2 (by decide) (by decide) rfl rfl inb_S1x2048x128_S1x1x1_0_1279_2) (E.ldd 5 2 1280 256 (by decide) rfl rfl inb_S1x2048x384_S1x256x128_0_1280_256) (grad_5_2 E) n p
  exact h

theorem grad_3_0 (n p : Fin 128) :
    (kernelRun0_A.sl.v1680 (F := Ideal) E.c E.arg4 E.harg4 E.arg5 E.harg5 E.arg7 E.harg7 E.x2 E.x3 E.x5) (ix2 n p) = ↑(gradAt E.A E.C E.D 0 3 n p) := by
  have h := grad_next 3 (by decide) 0 (E.ldc 4 1024 (by decide) rfl inb_S1x2048x128_S1x256x128_0_1024_0) (E.lda 4 0 1024 0 (by decide) rfl rfl inb_S1x2048x128_S1x256x1_0_1024_0) (E.ldp 4 0 1023 0 (by decide) (by decide) rfl rfl inb_S1x2048x128_S1x1x1_0_1023_0) (E.ldd 4 0 1024 0 (by decide) rfl rfl inb_S1x2048x384_S1x256x128_0_1024_0) (grad_4_0 E) n p
  exact h

theorem grad_3_1 (n p : Fin 128) :
    (kernelRun0_A.sl.v1789 (F := Ideal) E.c E.arg4 E.harg4 E.arg5 E.harg5 E.arg7 E.harg7 E.x2 E.x3 E.x5) (ix2 n p) = ↑(gradAt E.A E.C E.D 1 3 n p) := by
  have h := grad_next 3 (by decide) 1 (E.ldc 4 1024 (by decide) rfl inb_S1x2048x128_S1x256x128_0_1024_0) (E.lda 4 1 1024 1 (by decide) rfl rfl inb_S1x2048x128_S1x256x1_0_1024_1) (E.ldp 4 1 1023 1 (by decide) (by decide) rfl rfl inb_S1x2048x128_S1x1x1_0_1023_1) (E.ldd 4 1 1024 128 (by decide) rfl rfl inb_S1x2048x384_S1x256x128_0_1024_128) (grad_4_1 E) n p
  exact h

theorem grad_3_2 (n p : Fin 128) :
    (kernelRun0_A.sl.v1898 (F := Ideal) E.c E.arg4 E.harg4 E.arg5 E.harg5 E.arg7 E.harg7 E.x2 E.x3 E.x5) (ix2 n p) = ↑(gradAt E.A E.C E.D 2 3 n p) := by
  have h := grad_next 3 (by decide) 2 (E.ldc 4 1024 (by decide) rfl inb_S1x2048x128_S1x256x128_0_1024_0) (E.lda 4 2 1024 2 (by decide) rfl rfl inb_S1x2048x128_S1x256x1_0_1024_2) (E.ldp 4 2 1023 2 (by decide) (by decide) rfl rfl inb_S1x2048x128_S1x1x1_0_1023_2) (E.ldd 4 2 1024 256 (by decide) rfl rfl inb_S1x2048x384_S1x256x128_0_1024_256) (grad_4_2 E) n p
  exact h

theorem grad_2_0 (n p : Fin 128) :
    (kernelRun0_A.sl.v2027 (F := Ideal) E.c E.arg4 E.harg4 E.arg5 E.harg5 E.arg7 E.harg7 E.x2 E.x3 E.x5) (ix2 n p) = ↑(gradAt E.A E.C E.D 0 2 n p) := by
  have h := grad_next 2 (by decide) 0 (E.ldc 3 768 (by decide) rfl inb_S1x2048x128_S1x256x128_0_768_0) (E.lda 3 0 768 0 (by decide) rfl rfl inb_S1x2048x128_S1x256x1_0_768_0) (E.ldp 3 0 767 0 (by decide) (by decide) rfl rfl inb_S1x2048x128_S1x1x1_0_767_0) (E.ldd 3 0 768 0 (by decide) rfl rfl inb_S1x2048x384_S1x256x128_0_768_0) (grad_3_0 E) n p
  exact h

theorem grad_2_1 (n p : Fin 128) :
    (kernelRun0_A.sl.v2136 (F := Ideal) E.c E.arg4 E.harg4 E.arg5 E.harg5 E.arg7 E.harg7 E.x2 E.x3 E.x5) (ix2 n p) = ↑(gradAt E.A E.C E.D 1 2 n p) := by
  have h := grad_next 2 (by decide) 1 (E.ldc 3 768 (by decide) rfl inb_S1x2048x128_S1x256x128_0_768_0) (E.lda 3 1 768 1 (by decide) rfl rfl inb_S1x2048x128_S1x256x1_0_768_1) (E.ldp 3 1 767 1 (by decide) (by decide) rfl rfl inb_S1x2048x128_S1x1x1_0_767_1) (E.ldd 3 1 768 128 (by decide) rfl rfl inb_S1x2048x384_S1x256x128_0_768_128) (grad_3_1 E) n p
  exact h

theorem grad_2_2 (n p : Fin 128) :
    (kernelRun0_A.sl.v2245 (F := Ideal) E.c E.arg4 E.harg4 E.arg5 E.harg5 E.arg7 E.harg7 E.x2 E.x3 E.x5) (ix2 n p) = ↑(gradAt E.A E.C E.D 2 2 n p) := by
  have h := grad_next 2 (by decide) 2 (E.ldc 3 768 (by decide) rfl inb_S1x2048x128_S1x256x128_0_768_0) (E.lda 3 2 768 2 (by decide) rfl rfl inb_S1x2048x128_S1x256x1_0_768_2) (E.ldp 3 2 767 2 (by decide) (by decide) rfl rfl inb_S1x2048x128_S1x1x1_0_767_2) (E.ldd 3 2 768 256 (by decide) rfl rfl inb_S1x2048x384_S1x256x128_0_768_256) (grad_3_2 E) n p
  exact h

theorem grad_1_0 (n p : Fin 128) :
    (kernelRun0_A.sl.v2374 (F := Ideal) E.c E.arg4 E.harg4 E.arg5 E.harg5 E.arg7 E.harg7 E.x2 E.x3 E.x5) (ix2 n p) = ↑(gradAt E.A E.C E.D 0 1 n p) := by
  have h := grad_next 1 (by decide) 0 (E.ldc 2 512 (by decide) rfl inb_S1x2048x128_S1x256x128_0_512_0) (E.lda 2 0 512 0 (by decide) rfl rfl inb_S1x2048x128_S1x256x1_0_512_0) (E.ldp 2 0 511 0 (by decide) (by decide) rfl rfl inb_S1x2048x128_S1x1x1_0_511_0) (E.ldd 2 0 512 0 (by decide) rfl rfl inb_S1x2048x384_S1x256x128_0_512_0) (grad_2_0 E) n p
  exact h

theorem grad_1_1 (n p : Fin 128) :
    (kernelRun0_A.sl.v2483 (F := Ideal) E.c E.arg4 E.harg4 E.arg5 E.harg5 E.arg7 E.harg7 E.x2 E.x3 E.x5) (ix2 n p) = ↑(gradAt E.A E.C E.D 1 1 n p) := by
  have h := grad_next 1 (by decide) 1 (E.ldc 2 512 (by decide) rfl inb_S1x2048x128_S1x256x128_0_512_0) (E.lda 2 1 512 1 (by decide) rfl rfl inb_S1x2048x128_S1x256x1_0_512_1) (E.ldp 2 1 511 1 (by decide) (by decide) rfl rfl inb_S1x2048x128_S1x1x1_0_511_1) (E.ldd 2 1 512 128 (by decide) rfl rfl inb_S1x2048x384_S1x256x128_0_512_128) (grad_2_1 E) n p
  exact h

theorem grad_1_2 (n p : Fin 128) :
    (kernelRun0_A.sl.v2592 (F := Ideal) E.c E.arg4 E.harg4 E.arg5 E.harg5 E.arg7 E.harg7 E.x2 E.x3 E.x5) (ix2 n p) = ↑(gradAt E.A E.C E.D 2 1 n p) := by
  have h := grad_next 1 (by decide) 2 (E.ldc 2 512 (by decide) rfl inb_S1x2048x128_S1x256x128_0_512_0) (E.lda 2 2 512 2 (by decide) rfl rfl inb_S1x2048x128_S1x256x1_0_512_2) (E.ldp 2 2 511 2 (by decide) (by decide) rfl rfl inb_S1x2048x128_S1x1x1_0_511_2) (E.ldd 2 2 512 256 (by decide) rfl rfl inb_S1x2048x384_S1x256x128_0_512_256) (grad_2_2 E) n p
  exact h

theorem grad_0_0 (n p : Fin 128) :
    (kernelRun0_A.sl.v2721 (F := Ideal) E.c E.arg4 E.harg4 E.arg5 E.harg5 E.arg7 E.harg7 E.x2 E.x3 E.x5) (ix2 n p) = ↑(gradAt E.A E.C E.D 0 0 n p) := by
  have h := grad_next 0 (by decide) 0 (E.ldc 1 256 (by decide) rfl inb_S1x2048x128_S1x256x128_0_256_0) (E.lda 1 0 256 0 (by decide) rfl rfl inb_S1x2048x128_S1x256x1_0_256_0) (E.ldp 1 0 255 0 (by decide) (by decide) rfl rfl inb_S1x2048x128_S1x1x1_0_255_0) (E.ldd 1 0 256 0 (by decide) rfl rfl inb_S1x2048x384_S1x256x128_0_256_0) (grad_1_0 E) n p
  exact h

theorem grad_0_1 (n p : Fin 128) :
    (kernelRun0_A.sl.v2830 (F := Ideal) E.c E.arg4 E.harg4 E.arg5 E.harg5 E.arg7 E.harg7 E.x2 E.x3 E.x5) (ix2 n p) = ↑(gradAt E.A E.C E.D 1 0 n p) := by
  have h := grad_next 0 (by decide) 1 (E.ldc 1 256 (by decide) rfl inb_S1x2048x128_S1x256x128_0_256_0) (E.lda 1 1 256 1 (by decide) rfl rfl inb_S1x2048x128_S1x256x1_0_256_1) (E.ldp 1 1 255 1 (by decide) (by decide) rfl rfl inb_S1x2048x128_S1x1x1_0_255_1) (E.ldd 1 1 256 128 (by decide) rfl rfl inb_S1x2048x384_S1x256x128_0_256_128) (grad_1_1 E) n p
  exact h

theorem grad_0_2 (n p : Fin 128) :
    (kernelRun0_A.sl.v2939 (F := Ideal) E.c E.arg4 E.harg4 E.arg5 E.harg5 E.arg7 E.harg7 E.x2 E.x3 E.x5) (ix2 n p) = ↑(gradAt E.A E.C E.D 2 0 n p) := by
  have h := grad_next 0 (by decide) 2 (E.ldc 1 256 (by decide) rfl inb_S1x2048x128_S1x256x128_0_256_0) (E.lda 1 2 256 2 (by decide) rfl rfl inb_S1x2048x128_S1x256x1_0_256_2) (E.ldp 1 2 255 2 (by decide) (by decide) rfl rfl inb_S1x2048x128_S1x1x1_0_255_2) (E.ldd 1 2 256 256 (by decide) rfl rfl inb_S1x2048x384_S1x256x128_0_256_256) (grad_1_2 E) n p
  exact h

end Cert.Chunk.Step
-- ==== Proof.TilesX.lean ====
/-
The tiles of the gradient of the inputs.
-/
module

public import proofs.«01_k».proof.Proof.Backward

@[expose] public section

set_option maxRecDepth 16384

noncomputable section

namespace Cert.Chunk.Step

open Cert.KernelIdeal Cert.KernelIdeal.Gen Cert.ScanMath Idealize.ShloMosaic
open scoped BigOperators

variable (E : Step)

theorem dx_0_0 (l : Fin 256) (p : Fin 128) :
    (kernelRun0_A.sl.v3058 (F := Ideal) E.c E.arg3 E.harg3 E.arg4 E.harg4 E.arg5 E.harg5 E.arg6 E.harg6 E.arg7 E.harg7 E.x1 E.x2 E.x3 E.x4 E.x5) (ix3 0 l p) = ↑(gradX E.A E.B E.C E.D 0 (256 * 0 + l) p) := by
  have h := dx_out 0 (by decide) 0 (E.ldb 0 0 (by decide) rfl inb_S1x2048x128_S1x256x128_0_0_0) (E.ldc 0 0 (by decide) rfl inb_S1x2048x128_S1x256x128_0_0_0) (E.lda 0 0 0 0 (by decide) rfl rfl inb_S1x2048x128_S1x256x1_0_0_0) (E.ldt 0 0 0 0 (by decide) rfl rfl inb_S1x8x2048_S1x1x256_0_0_0) (E.ldd 0 0 0 0 (by decide) rfl rfl inb_S1x2048x384_S1x256x128_0_0_0) (grad_0_0 E) l p
  exact h

theorem dx_0_1 (l : Fin 256) (p : Fin 128) :
    (kernelRun0_A.sl.v3154 (F := Ideal) E.c E.arg3 E.harg3 E.arg4 E.harg4 E.arg5 E.harg5 E.arg6 E.harg6 E.arg7 E.harg7 E.x1 E.x2 E.x3 E.x4 E.x5) (ix3 0 l p) = ↑(gradX E.A E.B E.C E.D 1 (256 * 0 + l) p) := by
  have h := dx_out 0 (by decide) 1 (E.ldb 0 0 (by decide) rfl inb_S1x2048x128_S1x256x128_0_0_0) (E.ldc 0 0 (by decide) rfl inb_S1x2048x128_S1x256x128_0_0_0) (E.lda 0 1 0 1 (by decide) rfl rfl inb_S1x2048x128_S1x256x1_0_0_1) (E.ldt 0 1 0 1 (by decide) rfl rfl inb_S1x8x2048_S1x1x256_0_1_0) (E.ldd 0 1 0 128 (by decide) rfl rfl inb_S1x2048x384_S1x256x128_0_0_128) (grad_0_1 E) l p
  exact h

theorem dx_0_2 (l : Fin 256) (p : Fin 128) :
    (k0_pay1028 (kernelRun0_A.sl.v3217 (F := Ideal) E.c E.arg3 E.harg3 E.arg4 E.harg4 E.arg5 E.harg5 E.arg6 E.harg6 E.arg7 E.harg7 E.x1 E.x2 E.x3 E.x4 E.x5)) (ix3 0 l p) = ↑(gradX E.A E.B E.C E.D 2 (256 * 0 + l) p) := by
  have h := dx_out 0 (by decide) 2 (E.ldb 0 0 (by decide) rfl inb_S1x2048x128_S1x256x128_0_0_0) (E.ldc 0 0 (by decide) rfl inb_S1x2048x128_S1x256x128_0_0_0) (E.lda 0 2 0 2 (by decide) rfl rfl inb_S1x2048x128_S1x256x1_0_0_2) (E.ldt 0 2 0 2 (by decide) rfl rfl inb_S1x8x2048_S1x1x256_0_2_0) (E.ldd 0 2 0 256 (by decide) rfl rfl inb_S1x2048x384_S1x256x128_0_0_256) (grad_0_2 E) l p
  exact h

theorem dx_1_0 (l : Fin 256) (p : Fin 128) :
    (kernelRun0_A.sl.v2724 (F := Ideal) E.c E.arg3 E.harg3 E.arg4 E.harg4 E.arg5 E.harg5 E.arg6 E.harg6 E.arg7 E.harg7 E.x1 E.x2 E.x3 E.x4 E.x5) (ix3 0 l p) = ↑(gradX E.A E.B E.C E.D 0 (256 * 1 + l) p) := by
  have h := dx_out 1 (by decide) 0 (E.ldb 1 256 (by decide) rfl inb_S1x2048x128_S1x256x128_0_256_0) (E.ldc 1 256 (by decide) rfl inb_S1x2048x128_S1x256x128_0_256_0) (E.lda 1 0 256 0 (by decide) rfl rfl inb_S1x2048x128_S1x256x1_0_256_0) (E.ldt 1 0 256 0 (by decide) rfl rfl inb_S1x8x2048_S1x1x256_0_0_256) (E.ldd 1 0 256 0 (by decide) rfl rfl inb_S1x2048x384_S1x256x128_0_256_0) (grad_1_0 E) l p
  exact h

theorem dx_1_1 (l : Fin 256) (p : Fin 128) :
    (kernelRun0_A.sl.v2833 (F := Ideal) E.c E.arg3 E.harg3 E.arg4 E.harg4 E.arg5 E.harg5 E.arg6 E.harg6 E.arg7 E.harg7 E.x1 E.x2 E.x3 E.x4 E.x5) (ix3 0 l p) = ↑(gradX E.A E.B E.C E.D 1 (256 * 1 + l) p) := by
  have h := dx_out 1 (by decide) 1 (E.ldb 1 256 (by decide) rfl inb_S1x2048x128_S1x256x128_0_256_0) (E.ldc 1 256 (by decide) rfl inb_S1x2048x128_S1x256x128_0_256_0) (E.lda 1 1 256 1 (by decide) rfl rfl inb_S1x2048x128_S1x256x1_0_256_1) (E.ldt 1 1 256 1 (by decide) rfl rfl inb_S1x8x2048_S1x1x256_0_1_256) (E.ldd 1 1 256 128 (by decide) rfl rfl inb_S1x2048x384_S1x256x128_0_256_128) (grad_1_1 E) l p
  exact h

theorem dx_1_2 (l : Fin 256) (p : Fin 128) :
    (kernelRun0_A.sl.v2942 (F := Ideal) E.c E.arg3 E.harg3 E.arg4 E.harg4 E.arg5 E.harg5 E.arg6 E.harg6 E.arg7 E.harg7 E.x1 E.x2 E.x3 E.x4 E.x5) (ix3 0 l p) = ↑(gradX E.A E.B E.C E.D 2 (256 * 1 + l) p) := by
  have h := dx_out 1 (by decide) 2 (E.ldb 1 256 (by decide) rfl inb_S1x2048x128_S1x256x128_0_256_0) (E.ldc 1 256 (by decide) rfl inb_S1x2048x128_S1x256x128_0_256_0) (E.lda 1 2 256 2 (by decide) rfl rfl inb_S1x2048x128_S1x256x1_0_256_2) (E.ldt 1 2 256 2 (by decide) rfl rfl inb_S1x8x2048_S1x1x256_0_2_256) (E.ldd 1 2 256 256 (by decide) rfl rfl inb_S1x2048x384_S1x256x128_0_256_256) (grad_1_2 E) l p
  exact h

theorem dx_2_0 (l : Fin 256) (p : Fin 128) :
    (kernelRun0_A.sl.v2377 (F := Ideal) E.c E.arg3 E.harg3 E.arg4 E.harg4 E.arg5 E.harg5 E.arg6 E.harg6 E.arg7 E.harg7 E.x1 E.x2 E.x3 E.x4 E.x5) (ix3 0 l p) = ↑(gradX E.A E.B E.C E.D 0 (256 * 2 + l) p) := by
  have h := dx_out 2 (by decide) 0 (E.ldb 2 512 (by decide) rfl inb_S1x2048x128_S1x256x128_0_512_0) (E.ldc 2 512 (by decide) rfl inb_S1x2048x128_S1x256x128_0_512_0) (E.lda 2 0 512 0 (by decide) rfl rfl inb_S1x2048x128_S1x256x1_0_512_0) (E.ldt 2 0 512 0 (by decide) rfl rfl inb_S1x8x2048_S1x1x256_0_0_512) (E.ldd 2 0 512 0 (by decide) rfl rfl inb_S1x2048x384_S1x256x128_0_512_0) (grad_2_0 E) l p
  exact h

theorem dx_2_1 (l : Fin 256) (p : Fin 128) :
    (kernelRun0_A.sl.v2486 (F := Ideal) E.c E.arg3 E.harg3 E.arg4 E.harg4 E.arg5 E.harg5 E.arg6 E.harg6 E.arg7 E.harg7 E.x1 E.x2 E.x3 E.x4 E.x5) (ix3 0 l p) = ↑(gradX E.A E.B E.C E.D 1 (256 * 2 + l) p) := by
  have h := dx_out 2 (by decide) 1 (E.ldb 2 512 (by decide) rfl inb_S1x2048x128_S1x256x128_0_512_0) (E.ldc 2 512 (by decide) rfl inb_S1x2048x128_S1x256x128_0_512_0) (E.lda 2 1 512 1 (by decide) rfl rfl inb_S1x2048x128_S1x256x1_0_512_1) (E.ldt 2 1 512 1 (by decide) rfl rfl inb_S1x8x2048_S1x1x256_0_1_512) (E.ldd 2 1 512 128 (by decide) rfl rfl inb_S1x2048x384_S1x256x128_0_512_128) (grad_2_1 E) l p
  exact h

theorem dx_2_2 (l : Fin 256) (p : Fin 128) :
    (kernelRun0_A.sl.v2595 (F := Ideal) E.c E.arg3 E.harg3 E.arg4 E.harg4 E.arg5 E.harg5 E.arg6 E.harg6 E.arg7 E.harg7 E.x1 E.x2 E.x3 E.x4 E.x5) (ix3 0 l p) = ↑(gradX E.A E.B E.C E.D 2 (256 * 2 + l) p) := by
  have h := dx_out 2 (by decide) 2 (E.ldb 2 512 (by decide) rfl inb_S1x2048x128_S1x256x128_0_512_0) (E.ldc 2 512 (by decide) rfl inb_S1x2048x128_S1x256x128_0_512_0) (E.lda 2 2 512 2 (by decide) rfl rfl inb_S1x2048x128_S1x256x1_0_512_2) (E.ldt 2 2 512 2 (by decide) rfl rfl inb_S1x8x2048_S1x1x256_0_2_512) (E.ldd 2 2 512 256 (by decide) rfl rfl inb_S1x2048x384_S1x256x128_0_512_256) (grad_2_2 E) l p
  exact h

theorem dx_3_0 (l : Fin 256) (p : Fin 128) :
    (kernelRun0_A.sl.v2030 (F := Ideal) E.c E.arg3 E.harg3 E.arg4 E.harg4 E.arg5 E.harg5 E.arg6 E.harg6 E.arg7 E.harg7 E.x1 E.x2 E.x3 E.x4 E.x5) (ix3 0 l p) = ↑(gradX E.A E.B E.C E.D 0 (256 * 3 + l) p) := by
  have h := dx_out 3 (by decide) 0 (E.ldb 3 768 (by decide) rfl inb_S1x2048x128_S1x256x128_0_768_0) (E.ldc 3 768 (by decide) rfl inb_S1x2048x128_S1x256x128_0_768_0) (E.lda 3 0 768 0 (by decide) rfl rfl inb_S1x2048x128_S1x256x1_0_768_0) (E.ldt 3 0 768 0 (by decide) rfl rfl inb_S1x8x2048_S1x1x256_0_0_768) (E.ldd 3 0 768 0 (by decide) rfl rfl inb_S1x2048x384_S1x256x128_0_768_0) (grad_3_0 E) l p
  exact h

theorem dx_3_1 (l : Fin 256) (p : Fin 128) :
    (kernelRun0_A.sl.v2139 (F := Ideal) E.c E.arg3 E.harg3 E.arg4 E.harg4 E.arg5 E.harg5 E.arg6 E.harg6 E.arg7 E.harg7 E.x1 E.x2 E.x3 E.x4 E.x5) (ix3 0 l p) = ↑(gradX E.A E.B E.C E.D 1 (256 * 3 + l) p) := by
  have h := dx_out 3 (by decide) 1 (E.ldb 3 768 (by decide) rfl inb_S1x2048x128_S1x256x128_0_768_0) (E.ldc 3 768 (by decide) rfl inb_S1x2048x128_S1x256x128_0_768_0) (E.lda 3 1 768 1 (by decide) rfl rfl inb_S1x2048x128_S1x256x1_0_768_1) (E.ldt 3 1 768 1 (by decide) rfl rfl inb_S1x8x2048_S1x1x256_0_1_768) (E.ldd 3 1 768 128 (by decide) rfl rfl inb_S1x2048x384_S1x256x128_0_768_128) (grad_3_1 E) l p
  exact h

theorem dx_3_2 (l : Fin 256) (p : Fin 128) :
    (kernelRun0_A.sl.v2248 (F := Ideal) E.c E.arg3 E.harg3 E.arg4 E.harg4 E.arg5 E.harg5 E.arg6 E.harg6 E.arg7 E.harg7 E.x1 E.x2 E.x3 E.x4 E.x5) (ix3 0 l p) = ↑(gradX E.A E.B E.C E.D 2 (256 * 3 + l) p) := by
  have h := dx_out 3 (by decide) 2 (E.ldb 3 768 (by decide) rfl inb_S1x2048x128_S1x256x128_0_768_0) (E.ldc 3 768 (by decide) rfl inb_S1x2048x128_S1x256x128_0_768_0) (E.lda 3 2 768 2 (by decide) rfl rfl inb_S1x2048x128_S1x256x1_0_768_2) (E.ldt 3 2 768 2 (by decide) rfl rfl inb_S1x8x2048_S1x1x256_0_2_768) (E.ldd 3 2 768 256 (by decide) rfl rfl inb_S1x2048x384_S1x256x128_0_768_256) (grad_3_2 E) l p
  exact h

theorem dx_4_0 (l : Fin 256) (p : Fin 128) :
    (kernelRun0_A.sl.v1683 (F := Ideal) E.c E.arg3 E.harg3 E.arg4 E.harg4 E.arg5 E.harg5 E.arg6 E.harg6 E.arg7 E.harg7 E.x1 E.x2 E.x3 E.x4 E.x5) (ix3 0 l p) = ↑(gradX E.A E.B E.C E.D 0 (256 * 4 + l) p) := by
  have h := dx_out 4 (by decide) 0 (E.ldb 4 1024 (by decide) rfl inb_S1x2048x128_S1x256x128_0_1024_0) (E.ldc 4 1024 (by decide) rfl inb_S1x2048x128_S1x256x128_0_1024_0) (E.lda 4 0 1024 0 (by decide) rfl rfl inb_S1x2048x128_S1x256x1_0_1024_0) (E.ldt 4 0 1024 0 (by decide) rfl rfl inb_S1x8x2048_S1x1x256_0_0_1024) (E.ldd 4 0 1024 0 (by decide) rfl rfl inb_S1x2048x384_S1x256x128_0_1024_0) (grad_4_0 E) l p
  exact h

theorem dx_4_1 (l : Fin 256) (p : Fin 128) :
    (kernelRun0_A.sl.v1792 (F := Ideal) E.c E.arg3 E.harg3 E.arg4 E.harg4 E.arg5 E.harg5 E.arg6 E.harg6 E.arg7 E.harg7 E.x1 E.x2 E.x3 E.x4 E.x5) (ix3 0 l p) = ↑(gradX E.A E.B E.C E.D 1 (256 * 4 + l) p) := by
  have h := dx_out 4 (by decide) 1 (E.ldb 4 1024 (by decide) rfl inb_S1x2048x128_S1x256x128_0_1024_0) (E.ldc 4 1024 (by decide) rfl inb_S1x2048x128_S1x256x128_0_1024_0) (E.lda 4 1 1024 1 (by decide) rfl rfl inb_S1x2048x128_S1x256x1_0_1024_1) (E.ldt 4 1 1024 1 (by decide) rfl rfl inb_S1x8x2048_S1x1x256_0_1_1024) (E.ldd 4 1 1024 128 (by decide) rfl rfl inb_S1x2048x384_S1x256x128_0_1024_128) (grad_4_1 E) l p
  exact h

theorem dx_4_2 (l : Fin 256) (p : Fin 128) :
    (kernelRun0_A.sl.v1901 (F := Ideal) E.c E.arg3 E.harg3 E.arg4 E.harg4 E.arg5 E.harg5 E.arg6 E.harg6 E.arg7 E.harg7 E.x1 E.x2 E.x3 E.x4 E.x5) (ix3 0 l p) = ↑(gradX E.A E.B E.C E.D 2 (256 * 4 + l) p) := by
  have h := dx_out 4 (by decide) 2 (E.ldb 4 1024 (by decide) rfl inb_S1x2048x128_S1x256x128_0_1024_0) (E.ldc 4 1024 (by decide) rfl inb_S1x2048x128_S1x256x128_0_1024_0) (E.lda 4 2 1024 2 (by decide) rfl rfl inb_S1x2048x128_S1x256x1_0_1024_2) (E.ldt 4 2 1024 2 (by decide) rfl rfl inb_S1x8x2048_S1x1x256_0_2_1024) (E.ldd 4 2 1024 256 (by decide) rfl rfl inb_S1x2048x384_S1x256x128_0_1024_256) (grad_4_2 E) l p
  exact h

theorem dx_5_0 (l : Fin 256) (p : Fin 128) :
    (kernelRun0_A.sl.v1336 (F := Ideal) E.c E.arg3 E.harg3 E.arg4 E.harg4 E.arg5 E.harg5 E.arg6 E.harg6 E.arg7 E.harg7 E.x1 E.x2 E.x3 E.x4 E.x5) (ix3 0 l p) = ↑(gradX E.A E.B E.C E.D 0 (256 * 5 + l) p) := by
  have h := dx_out 5 (by decide) 0 (E.ldb 5 1280 (by decide) rfl inb_S1x2048x128_S1x256x128_0_1280_0) (E.ldc 5 1280 (by decide) rfl inb_S1x2048x128_S1x256x128_0_1280_0) (E.lda 5 0 1280 0 (by decide) rfl rfl inb_S1x2048x128_S1x256x1_0_1280_0) (E.ldt 5 0 1280 0 (by decide) rfl rfl inb_S1x8x2048_S1x1x256_0_0_1280) (E.ldd 5 0 1280 0 (by decide) rfl rfl inb_S1x2048x384_S1x256x128_0_1280_0) (grad_5_0 E) l p
  exact h

theorem dx_5_1 (l : Fin 256) (p : Fin 128) :
    (kernelRun0_A.sl.v1445 (F := Ideal) E.c E.arg3 E.harg3 E.arg4 E.harg4 E.arg5 E.harg5 E.arg6 E.harg6 E.arg7 E.harg7 E.x1 E.x2 E.x3 E.x4 E.x5) (ix3 0 l p) = ↑(gradX E.A E.B E.C E.D 1 (256 * 5 + l) p) := by
  have h := dx_out 5 (by decide) 1 (E.ldb 5 1280 (by decide) rfl inb_S1x2048x128_S1x256x128_0_1280_0) (E.ldc 5 1280 (by decide) rfl inb_S1x2048x128_S1x256x128_0_1280_0) (E.lda 5 1 1280 1 (by decide) rfl rfl inb_S1x2048x128_S1x256x1_0_1280_1) (E.ldt 5 1 1280 1 (by decide) rfl rfl inb_S1x8x2048_S1x1x256_0_1_1280) (E.ldd 5 1 1280 128 (by decide) rfl rfl inb_S1x2048x384_S1x256x128_0_1280_128) (grad_5_1 E) l p
  exact h

theorem dx_5_2 (l : Fin 256) (p : Fin 128) :
    (kernelRun0_A.sl.v1554 (F := Ideal) E.c E.arg3 E.harg3 E.arg4 E.harg4 E.arg5 E.harg5 E.arg6 E.harg6 E.arg7 E.harg7 E.x1 E.x2 E.x3 E.x4 E.x5) (ix3 0 l p) = ↑(gradX E.A E.B E.C E.D 2 (256 * 5 + l) p) := by
  have h := dx_out 5 (by decide) 2 (E.ldb 5 1280 (by decide) rfl inb_S1x2048x128_S1x256x128_0_1280_0) (E.ldc 5 1280 (by decide) rfl inb_S1x2048x128_S1x256x128_0_1280_0) (E.lda 5 2 1280 2 (by decide) rfl rfl inb_S1x2048x128_S1x256x1_0_1280_2) (E.ldt 5 2 1280 2 (by decide) rfl rfl inb_S1x8x2048_S1x1x256_0_2_1280) (E.ldd 5 2 1280 256 (by decide) rfl rfl inb_S1x2048x384_S1x256x128_0_1280_256) (grad_5_2 E) l p
  exact h

theorem dx_6_0 (l : Fin 256) (p : Fin 128) :
    (kernelRun0_A.sl.v989 (F := Ideal) E.c E.arg3 E.harg3 E.arg4 E.harg4 E.arg5 E.harg5 E.arg6 E.harg6 E.arg7 E.harg7 E.x1 E.x2 E.x3 E.x4 E.x5) (ix3 0 l p) = ↑(gradX E.A E.B E.C E.D 0 (256 * 6 + l) p) := by
  have h := dx_out 6 (by decide) 0 (E.ldb 6 1536 (by decide) rfl inb_S1x2048x128_S1x256x128_0_1536_0) (E.ldc 6 1536 (by decide) rfl inb_S1x2048x128_S1x256x128_0_1536_0) (E.lda 6 0 1536 0 (by decide) rfl rfl inb_S1x2048x128_S1x256x1_0_1536_0) (E.ldt 6 0 1536 0 (by decide) rfl rfl inb_S1x8x2048_S1x1x256_0_0_1536) (E.ldd 6 0 1536 0 (by decide) rfl rfl inb_S1x2048x384_S1x256x128_0_1536_0) (grad_6_0 E) l p
  exact h

theorem dx_6_1 (l : Fin 256) (p : Fin 128) :
    (kernelRun0_A.sl.v1098 (F := Ideal) E.c E.arg3 E.harg3 E.arg4 E.harg4 E.arg5 E.harg5 E.arg6 E.harg6 E.arg7 E.harg7 E.x1 E.x2 E.x3 E.x4 E.x5) (ix3 0 l p) = ↑(gradX E.A E.B E.C E.D 1 (256 * 6 + l) p) := by
  have h := dx_out 6 (by decide) 1 (E.ldb 6 1536 (by decide) rfl inb_S1x2048x128_S1x256x128_0_1536_0) (E.ldc 6 1536 (by decide) rfl inb_S1x2048x128_S1x256x128_0_1536_0) (E.lda 6 1 1536 1 (by decide) rfl rfl inb_S1x2048x128_S1x256x1_0_1536_1) (E.ldt 6 1 1536 1 (by decide) rfl rfl inb_S1x8x2048_S1x1x256_0_1_1536) (E.ldd 6 1 1536 128 (by decide) rfl rfl inb_S1x2048x384_S1x256x128_0_1536_128) (grad_6_1 E) l p
  exact h

theorem dx_6_2 (l : Fin 256) (p : Fin 128) :
    (kernelRun0_A.sl.v1207 (F := Ideal) E.c E.arg3 E.harg3 E.arg4 E.harg4 E.arg5 E.harg5 E.arg6 E.harg6 E.arg7 E.harg7 E.x1 E.x2 E.x3 E.x4 E.x5) (ix3 0 l p) = ↑(gradX E.A E.B E.C E.D 2 (256 * 6 + l) p) := by
  have h := dx_out 6 (by decide) 2 (E.ldb 6 1536 (by decide) rfl inb_S1x2048x128_S1x256x128_0_1536_0) (E.ldc 6 1536 (by decide) rfl inb_S1x2048x128_S1x256x128_0_1536_0) (E.lda 6 2 1536 2 (by decide) rfl rfl inb_S1x2048x128_S1x256x1_0_1536_2) (E.ldt 6 2 1536 2 (by decide) rfl rfl inb_S1x8x2048_S1x1x256_0_2_1536) (E.ldd 6 2 1536 256 (by decide) rfl rfl inb_S1x2048x384_S1x256x128_0_1536_256) (grad_6_2 E) l p
  exact h

theorem dx_7_0 (l : Fin 256) (p : Fin 128) :
    (kernelRun0_A.sl.v642 (F := Ideal) E.c E.arg3 E.harg3 E.arg4 E.harg4 E.arg5 E.harg5 E.arg6 E.harg6 E.arg7 E.harg7 E.x1 E.x2 E.x3 E.x4 E.x5) (ix3 0 l p) = ↑(gradX E.A E.B E.C E.D 0 (256 * 7 + l) p) := by
  have h := dx_out 7 (by decide) 0 (E.ldb 7 1792 (by decide) rfl inb_S1x2048x128_S1x256x128_0_1792_0) (E.ldc 7 1792 (by decide) rfl inb_S1x2048x128_S1x256x128_0_1792_0) (E.lda 7 0 1792 0 (by decide) rfl rfl inb_S1x2048x128_S1x256x1_0_1792_0) (E.ldt 7 0 1792 0 (by decide) rfl rfl inb_S1x8x2048_S1x1x256_0_0_1792) (E.ldd 7 0 1792 0 (by decide) rfl rfl inb_S1x2048x384_S1x256x128_0_1792_0) (E.grad_last 0) l p
  exact h

theorem dx_7_1 (l : Fin 256) (p : Fin 128) :
    (kernelRun0_A.sl.v751 (F := Ideal) E.c E.arg3 E.harg3 E.arg4 E.harg4 E.arg5 E.harg5 E.arg6 E.harg6 E.arg7 E.harg7 E.x1 E.x2 E.x3 E.x4 E.x5) (ix3 0 l p) = ↑(gradX E.A E.B E.C E.D 1 (256 * 7 + l) p) := by
  have h := dx_out 7 (by decide) 1 (E.ldb 7 1792 (by decide) rfl inb_S1x2048x128_S1x256x128_0_1792_0) (E.ldc 7 1792 (by decide) rfl inb_S1x2048x128_S1x256x128_0_1792_0) (E.lda 7 1 1792 1 (by decide) rfl rfl inb_S1x2048x128_S1x256x1_0_1792_1) (E.ldt 7 1 1792 1 (by decide) rfl rfl inb_S1x8x2048_S1x1x256_0_1_1792) (E.ldd 7 1 1792 128 (by decide) rfl rfl inb_S1x2048x384_S1x256x128_0_1792_128) (E.grad_last 1) l p
  exact h

theorem dx_7_2 (l : Fin 256) (p : Fin 128) :
    (kernelRun0_A.sl.v860 (F := Ideal) E.c E.arg3 E.harg3 E.arg4 E.harg4 E.arg5 E.harg5 E.arg6 E.harg6 E.arg7 E.harg7 E.x1 E.x2 E.x3 E.x4 E.x5) (ix3 0 l p) = ↑(gradX E.A E.B E.C E.D 2 (256 * 7 + l) p) := by
  have h := dx_out 7 (by decide) 2 (E.ldb 7 1792 (by decide) rfl inb_S1x2048x128_S1x256x128_0_1792_0) (E.ldc 7 1792 (by decide) rfl inb_S1x2048x128_S1x256x128_0_1792_0) (E.lda 7 2 1792 2 (by decide) rfl rfl inb_S1x2048x128_S1x256x1_0_1792_2) (E.ldt 7 2 1792 2 (by decide) rfl rfl inb_S1x8x2048_S1x1x256_0_2_1792) (E.ldd 7 2 1792 256 (by decide) rfl rfl inb_S1x2048x384_S1x256x128_0_1792_256) (E.grad_last 2) l p
  exact h

end Cert.Chunk.Step
-- ==== Proof.Forward.lean ====
/-
The forward state before each chunk, head by head, and what the scratch array holds of it.
-/
module

public import proofs.«01_k».proof.Proof.Loads
public import Idealize.ShloMosaic.Lib.Pipeline.ReadBack

@[expose] public section

set_option maxRecDepth 16384

noncomputable section

namespace Cert.Chunk.Step

open Cert.KernelIdeal Cert.KernelIdeal.Gen Cert.ScanMath Idealize.ShloMosaic
open scoped BigOperators

variable (E : Step)

theorem state_1_0 (n p : Fin 128) :
    (kernelRun0_A.sl.v31 (F := Ideal) E.c E.arg2 E.harg2 E.arg3 E.harg3 E.arg5 E.harg5 E.x0 E.x1 E.x3) (ix2 n p) = ↑(stateAt E.A E.B E.X 0 1 n p) := by
  have h := state_next 0 0 (E.ldb 0 0 (by decide) rfl inb_S1x2048x128_S1x256x128_0_0_0) (E.ldx 0 0 0 0 (by decide) rfl rfl inb_S1x2048x384_S1x256x128_0_0_0) (E.lda 0 0 0 0 (by decide) rfl rfl inb_S1x2048x128_S1x256x1_0_0_0) (E.ldp_zero 0) (E.state_zero 0) n p
  exact h

theorem state_1_1 (n p : Fin 128) :
    (kernelRun0_A.sl.v53 (F := Ideal) E.c E.arg2 E.harg2 E.arg3 E.harg3 E.arg5 E.harg5 E.x0 E.x1 E.x3) (ix2 n p) = ↑(stateAt E.A E.B E.X 1 1 n p) := by
  have h := state_next 0 1 (E.ldb 0 0 (by decide) rfl inb_S1x2048x128_S1x256x128_0_0_0) (E.ldx 0 1 0 128 (by decide) rfl rfl inb_S1x2048x384_S1x256x128_0_0_128) (E.lda 0 1 0 1 (by decide) rfl rfl inb_S1x2048x128_S1x256x1_0_0_1) (E.ldp_zero 1) (E.state_zero 1) n p
  exact h

theorem state_1_2 (n p : Fin 128) :
    (kernelRun0_A.sl.v75 (F := Ideal) E.c E.arg2 E.harg2 E.arg3 E.harg3 E.arg5 E.harg5 E.x0 E.x1 E.x3) (ix2 n p) = ↑(stateAt E.A E.B E.X 2 1 n p) := by
  have h := state_next 0 2 (E.ldb 0 0 (by decide) rfl inb_S1x2048x128_S1x256x128_0_0_0) (E.ldx 0 2 0 256 (by decide) rfl rfl inb_S1x2048x384_S1x256x128_0_0_256) (E.lda 0 2 0 2 (by decide) rfl rfl inb_S1x2048x128_S1x256x1_0_0_2) (E.ldp_zero 2) (E.state_zero 2) n p
  exact h

theorem state_2_0 (n p : Fin 128) :
    (kernelRun0_A.sl.v101 (F := Ideal) E.c E.arg2 E.harg2 E.arg3 E.harg3 E.arg5 E.harg5 E.x0 E.x1 E.x3) (ix2 n p) = ↑(stateAt E.A E.B E.X 0 2 n p) := by
  have h := state_next 1 0 (E.ldb 1 256 (by decide) rfl inb_S1x2048x128_S1x256x128_0_256_0) (E.ldx 1 0 256 0 (by decide) rfl rfl inb_S1x2048x384_S1x256x128_0_256_0) (E.lda 1 0 256 0 (by decide) rfl rfl inb_S1x2048x128_S1x256x1_0_256_0) (E.ldp 1 0 255 0 (by decide) (by decide) rfl rfl inb_S1x2048x128_S1x1x1_0_255_0) (state_1_0 E) n p
  exact h

theorem state_2_1 (n p : Fin 128) :
    (kernelRun0_A.sl.v124 (F := Ideal) E.c E.arg2 E.harg2 E.arg3 E.harg3 E.arg5 E.harg5 E.x0 E.x1 E.x3) (ix2 n p) = ↑(stateAt E.A E.B E.X 1 2 n p) := by
  have h := state_next 1 1 (E.ldb 1 256 (by decide) rfl inb_S1x2048x128_S1x256x128_0_256_0) (E.ldx 1 1 256 128 (by decide) rfl rfl inb_S1x2048x384_S1x256x128_0_256_128) (E.lda 1 1 256 1 (by decide) rfl rfl inb_S1x2048x128_S1x256x1_0_256_1) (E.ldp 1 1 255 1 (by decide) (by decide) rfl rfl inb_S1x2048x128_S1x1x1_0_255_1) (state_1_1 E) n p
  exact h

theorem state_2_2 (n p : Fin 128) :
    (kernelRun0_A.sl.v147 (F := Ideal) E.c E.arg2 E.harg2 E.arg3 E.harg3 E.arg5 E.harg5 E.x0 E.x1 E.x3) (ix2 n p) = ↑(stateAt E.A E.B E.X 2 2 n p) := by
  have h := state_next 1 2 (E.ldb 1 256 (by decide) rfl inb_S1x2048x128_S1x256x128_0_256_0) (E.ldx 1 2 256 256 (by decide) rfl rfl inb_S1x2048x384_S1x256x128_0_256_256) (E.lda 1 2 256 2 (by decide) rfl rfl inb_S1x2048x128_S1x256x1_0_256_2) (E.ldp 1 2 255 2 (by decide) (by decide) rfl rfl inb_S1x2048x128_S1x1x1_0_255_2) (state_1_2 E) n p
  exact h

theorem state_3_0 (n p : Fin 128) :
    (kernelRun0_A.sl.v173 (F := Ideal) E.c E.arg2 E.harg2 E.arg3 E.harg3 E.arg5 E.harg5 E.x0 E.x1 E.x3) (ix2 n p) = ↑(stateAt E.A E.B E.X 0 3 n p) := by
  have h := state_next 2 0 (E.ldb 2 512 (by decide) rfl inb_S1x2048x128_S1x256x128_0_512_0) (E.ldx 2 0 512 0 (by decide) rfl rfl inb_S1x2048x384_S1x256x128_0_512_0) (E.lda 2 0 512 0 (by decide) rfl rfl inb_S1x2048x128_S1x256x1_0_512_0) (E.ldp 2 0 511 0 (by decide) (by decide) rfl rfl inb_S1x2048x128_S1x1x1_0_511_0) (state_2_0 E) n p
  exact h

theorem state_3_1 (n p : Fin 128) :
    (kernelRun0_A.sl.v196 (F := Ideal) E.c E.arg2 E.harg2 E.arg3 E.harg3 E.arg5 E.harg5 E.x0 E.x1 E.x3) (ix2 n p) = ↑(stateAt E.A E.B E.X 1 3 n p) := by
  have h := state_next 2 1 (E.ldb 2 512 (by decide) rfl inb_S1x2048x128_S1x256x128_0_512_0) (E.ldx 2 1 512 128 (by decide) rfl rfl inb_S1x2048x384_S1x256x128_0_512_128) (E.lda 2 1 512 1 (by decide) rfl rfl inb_S1x2048x128_S1x256x1_0_512_1) (E.ldp 2 1 511 1 (by decide) (by decide) rfl rfl inb_S1x2048x128_S1x1x1_0_511_1) (state_2_1 E) n p
  exact h

theorem state_3_2 (n p : Fin 128) :
    (kernelRun0_A.sl.v219 (F := Ideal) E.c E.arg2 E.harg2 E.arg3 E.harg3 E.arg5 E.harg5 E.x0 E.x1 E.x3) (ix2 n p) = ↑(stateAt E.A E.B E.X 2 3 n p) := by
  have h := state_next 2 2 (E.ldb 2 512 (by decide) rfl inb_S1x2048x128_S1x256x128_0_512_0) (E.ldx 2 2 512 256 (by decide) rfl rfl inb_S1x2048x384_S1x256x128_0_512_256) (E.lda 2 2 512 2 (by decide) rfl rfl inb_S1x2048x128_S1x256x1_0_512_2) (E.ldp 2 2 511 2 (by decide) (by decide) rfl rfl inb_S1x2048x128_S1x1x1_0_511_2) (state_2_2 E) n p
  exact h

theorem state_4_0 (n p : Fin 128) :
    (kernelRun0_A.sl.v245 (F := Ideal) E.c E.arg2 E.harg2 E.arg3 E.harg3 E.arg5 E.harg5 E.x0 E.x1 E.x3) (ix2 n p) = ↑(stateAt E.A E.B E.X 0 4 n p) := by
  have h := state_next 3 0 (E.ldb 3 768 (by decide) rfl inb_S1x2048x128_S1x256x128_0_768_0) (E.ldx 3 0 768 0 (by decide) rfl rfl inb_S1x2048x384_S1x256x128_0_768_0) (E.lda 3 0 768 0 (by decide) rfl rfl inb_S1x2048x128_S1x256x1_0_768_0) (E.ldp 3 0 767 0 (by decide) (by decide) rfl rfl inb_S1x2048x128_S1x1x1_0_767_0) (state_3_0 E) n p
  exact h

theorem state_4_1 (n p : Fin 128) :
    (kernelRun0_A.sl.v268 (F := Ideal) E.c E.arg2 E.harg2 E.arg3 E.harg3 E.arg5 E.harg5 E.x0 E.x1 E.x3) (ix2 n p) = ↑(stateAt E.A E.B E.X 1 4 n p) := by
  have h := state_next 3 1 (E.ldb 3 768 (by decide) rfl inb_S1x2048x128_S1x256x128_0_768_0) (E.ldx 3 1 768 128 (by decide) rfl rfl inb_S1x2048x384_S1x256x128_0_768_128) (E.lda 3 1 768 1 (by decide) rfl rfl inb_S1x2048x128_S1x256x1_0_768_1) (E.ldp 3 1 767 1 (by decide) (by decide) rfl rfl inb_S1x2048x128_S1x1x1_0_767_1) (state_3_1 E) n p
  exact h

theorem state_4_2 (n p : Fin 128) :
    (kernelRun0_A.sl.v291 (F := Ideal) E.c E.arg2 E.harg2 E.arg3 E.harg3 E.arg5 E.harg5 E.x0 E.x1 E.x3) (ix2 n p) = ↑(stateAt E.A E.B E.X 2 4 n p) := by
  have h := state_next 3 2 (E.ldb 3 768 (by decide) rfl inb_S1x2048x128_S1x256x128_0_768_0) (E.ldx 3 2 768 256 (by decide) rfl rfl inb_S1x2048x384_S1x256x128_0_768_256) (E.lda 3 2 768 2 (by decide) rfl rfl inb_S1x2048x128_S1x256x1_0_768_2) (E.ldp 3 2 767 2 (by decide) (by decide) rfl rfl inb_S1x2048x128_S1x1x1_0_767_2) (state_3_2 E) n p
  exact h

theorem state_5_0 (n p : Fin 128) :
    (kernelRun0_A.sl.v317 (F := Ideal) E.c E.arg2 E.harg2 E.arg3 E.harg3 E.arg5 E.harg5 E.x0 E.x1 E.x3) (ix2 n p) = ↑(stateAt E.A E.B E.X 0 5 n p) := by
  have h := state_next 4 0 (E.ldb 4 1024 (by decide) rfl inb_S1x2048x128_S1x256x128_0_1024_0) (E.ldx 4 0 1024 0 (by decide) rfl rfl inb_S1x2048x384_S1x256x128_0_1024_0) (E.lda 4 0 1024 0 (by decide) rfl rfl inb_S1x2048x128_S1x256x1_0_1024_0) (E.ldp 4 0 1023 0 (by decide) (by decide) rfl rfl inb_S1x2048x128_S1x1x1_0_1023_0) (state_4_0 E) n p
  exact h

theorem state_5_1 (n p : Fin 128) :
    (kernelRun0_A.sl.v340 (F := Ideal) E.c E.arg2 E.harg2 E.arg3 E.harg3 E.arg5 E.harg5 E.x0 E.x1 E.x3) (ix2 n p) = ↑(stateAt E.A E.B E.X 1 5 n p) := by
  have h := state_next 4 1 (E.ldb 4 1024 (by decide) rfl inb_S1x2048x128_S1x256x128_0_1024_0) (E.ldx 4 1 1024 128 (by decide) rfl rfl inb_S1x2048x384_S1x256x128_0_1024_128) (E.lda 4 1 1024 1 (by decide) rfl rfl inb_S1x2048x128_S1x256x1_0_1024_1) (E.ldp 4 1 1023 1 (by decide) (by decide) rfl rfl inb_S1x2048x128_S1x1x1_0_1023_1) (state_4_1 E) n p
  exact h

theorem state_5_2 (n p : Fin 128) :
    (kernelRun0_A.sl.v363 (F := Ideal) E.c E.arg2 E.harg2 E.arg3 E.harg3 E.arg5 E.harg5 E.x0 E.x1 E.x3) (ix2 n p) = ↑(stateAt E.A E.B E.X 2 5 n p) := by
  have h := state_next 4 2 (E.ldb 4 1024 (by decide) rfl inb_S1x2048x128_S1x256x128_0_1024_0) (E.ldx 4 2 1024 256 (by decide) rfl rfl inb_S1x2048x384_S1x256x128_0_1024_256) (E.lda 4 2 1024 2 (by decide) rfl rfl inb_S1x2048x128_S1x256x1_0_1024_2) (E.ldp 4 2 1023 2 (by decide) (by decide) rfl rfl inb_S1x2048x128_S1x1x1_0_1023_2) (state_4_2 E) n p
  exact h

theorem state_6_0 (n p : Fin 128) :
    (kernelRun0_A.sl.v389 (F := Ideal) E.c E.arg2 E.harg2 E.arg3 E.harg3 E.arg5 E.harg5 E.x0 E.x1 E.x3) (ix2 n p) = ↑(stateAt E.A E.B E.X 0 6 n p) := by
  have h := state_next 5 0 (E.ldb 5 1280 (by decide) rfl inb_S1x2048x128_S1x256x128_0_1280_0) (E.ldx 5 0 1280 0 (by decide) rfl rfl inb_S1x2048x384_S1x256x128_0_1280_0) (E.lda 5 0 1280 0 (by decide) rfl rfl inb_S1x2048x128_S1x256x1_0_1280_0) (E.ldp 5 0 1279 0 (by decide) (by decide) rfl rfl inb_S1x2048x128_S1x1x1_0_1279_0) (state_5_0 E) n p
  exact h

theorem state_6_1 (n p : Fin 128) :
    (kernelRun0_A.sl.v412 (F := Ideal) E.c E.arg2 E.harg2 E.arg3 E.harg3 E.arg5 E.harg5 E.x0 E.x1 E.x3) (ix2 n p) = ↑(stateAt E.A E.B E.X 1 6 n p) := by
  have h := state_next 5 1 (E.ldb 5 1280 (by decide) rfl inb_S1x2048x128_S1x256x128_0_1280_0) (E.ldx 5 1 1280 128 (by decide) rfl rfl inb_S1x2048x384_S1x256x128_0_1280_128) (E.lda 5 1 1280 1 (by decide) rfl rfl inb_S1x2048x128_S1x256x1_0_1280_1) (E.ldp 5 1 1279 1 (by decide) (by decide) rfl rfl inb_S1x2048x128_S1x1x1_0_1279_1) (state_5_1 E) n p
  exact h

theorem state_6_2 (n p : Fin 128) :
    (kernelRun0_A.sl.v435 (F := Ideal) E.c E.arg2 E.harg2 E.arg3 E.harg3 E.arg5 E.harg5 E.x0 E.x1 E.x3) (ix2 n p) = ↑(stateAt E.A E.B E.X 2 6 n p) := by
  have h := state_next 5 2 (E.ldb 5 1280 (by decide) rfl inb_S1x2048x128_S1x256x128_0_1280_0) (E.ldx 5 2 1280 256 (by decide) rfl rfl inb_S1x2048x384_S1x256x128_0_1280_256) (E.lda 5 2 1280 2 (by decide) rfl rfl inb_S1x2048x128_S1x256x1_0_1280_2) (E.ldp 5 2 1279 2 (by decide) (by decide) rfl rfl inb_S1x2048x128_S1x1x1_0_1279_2) (state_5_2 E) n p
  exact h

theorem state_7_0 (n p : Fin 128) :
    (kernelRun0_A.sl.v461 (F := Ideal) E.c E.arg2 E.harg2 E.arg3 E.harg3 E.arg5 E.harg5 E.x0 E.x1 E.x3) (ix2 n p) = ↑(stateAt E.A E.B E.X 0 7 n p) := by
  have h := state_next 6 0 (E.ldb 6 1536 (by decide) rfl inb_S1x2048x128_S1x256x128_0_1536_0) (E.ldx 6 0 1536 0 (by decide) rfl rfl inb_S1x2048x384_S1x256x128_0_1536_0) (E.lda 6 0 1536 0 (by decide) rfl rfl inb_S1x2048x128_S1x256x1_0_1536_0) (E.ldp 6 0 1535 0 (by decide) (by decide) rfl rfl inb_S1x2048x128_S1x1x1_0_1535_0) (state_6_0 E) n p
  exact h

theorem state_7_1 (n p : Fin 128) :
    (kernelRun0_A.sl.v484 (F := Ideal) E.c E.arg2 E.harg2 E.arg3 E.harg3 E.arg5 E.harg5 E.x0 E.x1 E.x3) (ix2 n p) = ↑(stateAt E.A E.B E.X 1 7 n p) := by
  have h := state_next 6 1 (E.ldb 6 1536 (by decide) rfl inb_S1x2048x128_S1x256x128_0_1536_0) (E.ldx 6 1 1536 128 (by decide) rfl rfl inb_S1x2048x384_S1x256x128_0_1536_128) (E.lda 6 1 1536 1 (by decide) rfl rfl inb_S1x2048x128_S1x256x1_0_1536_1) (E.ldp 6 1 1535 1 (by decide) (by decide) rfl rfl inb_S1x2048x128_S1x1x1_0_1535_1) (state_6_1 E) n p
  exact h

theorem state_7_2 (n p : Fin 128) :
    (kernelRun0_A.sl.v507 (F := Ideal) E.c E.arg2 E.harg2 E.arg3 E.harg3 E.arg5 E.harg5 E.x0 E.x1 E.x3) (ix2 n p) = ↑(stateAt E.A E.B E.X 2 7 n p) := by
  have h := state_next 6 2 (E.ldb 6 1536 (by decide) rfl inb_S1x2048x128_S1x256x128_0_1536_0) (E.ldx 6 2 1536 256 (by decide) rfl rfl inb_S1x2048x384_S1x256x128_0_1536_256) (E.lda 6 2 1536 2 (by decide) rfl rfl inb_S1x2048x128_S1x256x1_0_1536_2) (E.ldp 6 2 1535 2 (by decide) (by decide) rfl rfl inb_S1x2048x128_S1x1x1_0_1535_2) (state_6_2 E) n p
  exact h

theorem put_0_0 (n p : Fin 128) :
    (kernelRun0_A.sl.v15 (F := Ideal)) (ix3 0 n p) = ↑(stateAt E.A E.B E.X 0 0 n p) := by
  have h := keep (E.state_zero 0) n p
  exact h

theorem put_0_1 (n p : Fin 128) :
    (kernelRun0_A.sl.v15 (F := Ideal)) (ix3 0 n p) = ↑(stateAt E.A E.B E.X 1 0 n p) := by
  have h := keep (E.state_zero 1) n p
  exact h

theorem put_0_2 (n p : Fin 128) :
    (kernelRun0_A.sl.v15 (F := Ideal)) (ix3 0 n p) = ↑(stateAt E.A E.B E.X 2 0 n p) := by
  have h := keep (E.state_zero 2) n p
  exact h

theorem put_1_0 (n p : Fin 128) :
    (kernelRun0_A.sl.v85 (F := Ideal) E.c E.arg2 E.harg2 E.arg3 E.harg3 E.arg5 E.harg5 E.x0 E.x1 E.x3) (ix3 0 n p) = ↑(stateAt E.A E.B E.X 0 1 n p) := by
  have h := keep (state_1_0 E) n p
  exact h

theorem put_1_1 (n p : Fin 128) :
    (kernelRun0_A.sl.v108 (F := Ideal) E.c E.arg2 E.harg2 E.arg3 E.harg3 E.arg5 E.harg5 E.x0 E.x1 E.x3) (ix3 0 n p) = ↑(stateAt E.A E.B E.X 1 1 n p) := by
  have h := keep (state_1_1 E) n p
  exact h

theorem put_1_2 (n p : Fin 128) :
    (kernelRun0_A.sl.v131 (F := Ideal) E.c E.arg2 E.harg2 E.arg3 E.harg3 E.arg5 E.harg5 E.x0 E.x1 E.x3) (ix3 0 n p) = ↑(stateAt E.A E.B E.X 2 1 n p) := by
  have h := keep (state_1_2 E) n p
  exact h

theorem put_2_0 (n p : Fin 128) :
    (kernelRun0_A.sl.v157 (F := Ideal) E.c E.arg2 E.harg2 E.arg3 E.harg3 E.arg5 E.harg5 E.x0 E.x1 E.x3) (ix3 0 n p) = ↑(stateAt E.A E.B E.X 0 2 n p) := by
  have h := keep (state_2_0 E) n p
  exact h

theorem put_2_1 (n p : Fin 128) :
    (kernelRun0_A.sl.v180 (F := Ideal) E.c E.arg2 E.harg2 E.arg3 E.harg3 E.arg5 E.harg5 E.x0 E.x1 E.x3) (ix3 0 n p) = ↑(stateAt E.A E.B E.X 1 2 n p) := by
  have h := keep (state_2_1 E) n p
  exact h

theorem put_2_2 (n p : Fin 128) :
    (kernelRun0_A.sl.v203 (F := Ideal) E.c E.arg2 E.harg2 E.arg3 E.harg3 E.arg5 E.harg5 E.x0 E.x1 E.x3) (ix3 0 n p) = ↑(stateAt E.A E.B E.X 2 2 n p) := by
  have h := keep (state_2_2 E) n p
  exact h

theorem put_3_0 (n p : Fin 128) :
    (kernelRun0_A.sl.v229 (F := Ideal) E.c E.arg2 E.harg2 E.arg3 E.harg3 E.arg5 E.harg5 E.x0 E.x1 E.x3) (ix3 0 n p) = ↑(stateAt E.A E.B E.X 0 3 n p) := by
  have h := keep (state_3_0 E) n p
  exact h

theorem put_3_1 (n p : Fin 128) :
    (kernelRun0_A.sl.v252 (F := Ideal) E.c E.arg2 E.harg2 E.arg3 E.harg3 E.arg5 E.harg5 E.x0 E.x1 E.x3) (ix3 0 n p) = ↑(stateAt E.A E.B E.X 1 3 n p) := by
  have h := keep (state_3_1 E) n p
  exact h

theorem put_3_2 (n p : Fin 128) :
    (kernelRun0_A.sl.v275 (F := Ideal) E.c E.arg2 E.harg2 E.arg3 E.harg3 E.arg5 E.harg5 E.x0 E.x1 E.x3) (ix3 0 n p) = ↑(stateAt E.A E.B E.X 2 3 n p) := by
  have h := keep (state_3_2 E) n p
  exact h

theorem put_4_0 (n p : Fin 128) :
    (kernelRun0_A.sl.v301 (F := Ideal) E.c E.arg2 E.harg2 E.arg3 E.harg3 E.arg5 E.harg5 E.x0 E.x1 E.x3) (ix3 0 n p) = ↑(stateAt E.A E.B E.X 0 4 n p) := by
  have h := keep (state_4_0 E) n p
  exact h

theorem put_4_1 (n p : Fin 128) :
    (kernelRun0_A.sl.v324 (F := Ideal) E.c E.arg2 E.harg2 E.arg3 E.harg3 E.arg5 E.harg5 E.x0 E.x1 E.x3) (ix3 0 n p) = ↑(stateAt E.A E.B E.X 1 4 n p) := by
  have h := keep (state_4_1 E) n p
  exact h

theorem put_4_2 (n p : Fin 128) :
    (kernelRun0_A.sl.v347 (F := Ideal) E.c E.arg2 E.harg2 E.arg3 E.harg3 E.arg5 E.harg5 E.x0 E.x1 E.x3) (ix3 0 n p) = ↑(stateAt E.A E.B E.X 2 4 n p) := by
  have h := keep (state_4_2 E) n p
  exact h

theorem put_5_0 (n p : Fin 128) :
    (kernelRun0_A.sl.v373 (F := Ideal) E.c E.arg2 E.harg2 E.arg3 E.harg3 E.arg5 E.harg5 E.x0 E.x1 E.x3) (ix3 0 n p) = ↑(stateAt E.A E.B E.X 0 5 n p) := by
  have h := keep (state_5_0 E) n p
  exact h

theorem put_5_1 (n p : Fin 128) :
    (kernelRun0_A.sl.v396 (F := Ideal) E.c E.arg2 E.harg2 E.arg3 E.harg3 E.arg5 E.harg5 E.x0 E.x1 E.x3) (ix3 0 n p) = ↑(stateAt E.A E.B E.X 1 5 n p) := by
  have h := keep (state_5_1 E) n p
  exact h

theorem put_5_2 (n p : Fin 128) :
    (kernelRun0_A.sl.v419 (F := Ideal) E.c E.arg2 E.harg2 E.arg3 E.harg3 E.arg5 E.harg5 E.x0 E.x1 E.x3) (ix3 0 n p) = ↑(stateAt E.A E.B E.X 2 5 n p) := by
  have h := keep (state_5_2 E) n p
  exact h

theorem put_6_0 (n p : Fin 128) :
    (kernelRun0_A.sl.v445 (F := Ideal) E.c E.arg2 E.harg2 E.arg3 E.harg3 E.arg5 E.harg5 E.x0 E.x1 E.x3) (ix3 0 n p) = ↑(stateAt E.A E.B E.X 0 6 n p) := by
  have h := keep (state_6_0 E) n p
  exact h

theorem put_6_1 (n p : Fin 128) :
    (kernelRun0_A.sl.v468 (F := Ideal) E.c E.arg2 E.harg2 E.arg3 E.harg3 E.arg5 E.harg5 E.x0 E.x1 E.x3) (ix3 0 n p) = ↑(stateAt E.A E.B E.X 1 6 n p) := by
  have h := keep (state_6_1 E) n p
  exact h

theorem put_6_2 (n p : Fin 128) :
    (kernelRun0_A.sl.v491 (F := Ideal) E.c E.arg2 E.harg2 E.arg3 E.harg3 E.arg5 E.harg5 E.x0 E.x1 E.x3) (ix3 0 n p) = ↑(stateAt E.A E.B E.X 2 6 n p) := by
  have h := keep (state_6_2 E) n p
  exact h

theorem put_7_0 (n p : Fin 128) :
    (kernelRun0_A.sl.v510 (F := Ideal) E.c E.arg2 E.harg2 E.arg3 E.harg3 E.arg5 E.harg5 E.x0 E.x1 E.x3) (ix3 0 n p) = ↑(stateAt E.A E.B E.X 0 7 n p) := by
  have h := keep (state_7_0 E) n p
  exact h

theorem put_7_1 (n p : Fin 128) :
    (kernelRun0_A.sl.v513 (F := Ideal) E.c E.arg2 E.harg2 E.arg3 E.harg3 E.arg5 E.harg5 E.x0 E.x1 E.x3) (ix3 0 n p) = ↑(stateAt E.A E.B E.X 1 7 n p) := by
  have h := keep (state_7_1 E) n p
  exact h

theorem put_7_2 (n p : Fin 128) :
    (kernelRun0_A.sl.v516 (F := Ideal) E.c E.arg2 E.harg2 E.arg3 E.harg3 E.arg5 E.harg5 E.x0 E.x1 E.x3) (ix3 0 n p) = ↑(stateAt E.A E.B E.X 2 7 n p) := by
  have h := keep (state_7_2 E) n p
  exact h

theorem kept_0_0 (n p : Fin 128) :
    (kernelRun0_A.sl.v2979 (F := Ideal) E.c E.arg2 E.harg2 E.arg3 E.harg3 E.arg5 E.harg5 E.arg13 E.x0 E.x1 E.x3) (ix3 0 n p) = ↑(stateAt E.A E.B E.X 0 0 n p) := by
  rw [kernelRun0_A.sl.v2979, kernelRun0_A.sl.HS0_24]
  simp (disch := decide) only [↓ View.readCov_skip, ↓ View.readCov_cons_toLoadRect, ↓ View.readCov_fill]
  exact put_0_0 E n p

theorem kept_0_1 (n p : Fin 128) :
    (kernelRun0_A.sl.v3075 (F := Ideal) E.c E.arg2 E.harg2 E.arg3 E.harg3 E.arg5 E.harg5 E.arg13 E.x0 E.x1 E.x3) (ix3 0 n p) = ↑(stateAt E.A E.B E.X 1 0 n p) := by
  rw [kernelRun0_A.sl.v3075, kernelRun0_A.sl.HS0_24]
  simp (disch := decide) only [↓ View.readCov_skip, ↓ View.readCov_cons_toLoadRect, ↓ View.readCov_fill]
  exact put_0_1 E n p

theorem kept_0_2 (n p : Fin 128) :
    (kernelRun0_A.sl.v3171 (F := Ideal) E.c E.arg2 E.harg2 E.arg3 E.harg3 E.arg5 E.harg5 E.arg13 E.x0 E.x1 E.x3) (ix3 0 n p) = ↑(stateAt E.A E.B E.X 2 0 n p) := by
  rw [kernelRun0_A.sl.v3171, kernelRun0_A.sl.HS0_24]
  simp (disch := decide) only [↓ View.readCov_skip, ↓ View.readCov_cons_toLoadRect, ↓ View.readCov_fill]
  exact put_0_2 E n p

theorem kept_1_0 (n p : Fin 128) :
    (kernelRun0_A.sl.v2633 (F := Ideal) E.c E.arg2 E.harg2 E.arg3 E.harg3 E.arg5 E.harg5 E.arg13 E.x0 E.x1 E.x3) (ix3 0 n p) = ↑(stateAt E.A E.B E.X 0 1 n p) := by
  rw [kernelRun0_A.sl.v2633, kernelRun0_A.sl.HS0_24]
  simp (disch := decide) only [↓ View.readCov_skip, ↓ View.readCov_cons_toLoadRect, ↓ View.readCov_fill]
  exact put_1_0 E n p

theorem kept_1_1 (n p : Fin 128) :
    (kernelRun0_A.sl.v2742 (F := Ideal) E.c E.arg2 E.harg2 E.arg3 E.harg3 E.arg5 E.harg5 E.arg13 E.x0 E.x1 E.x3) (ix3 0 n p) = ↑(stateAt E.A E.B E.X 1 1 n p) := by
  rw [kernelRun0_A.sl.v2742, kernelRun0_A.sl.HS0_24]
  simp (disch := decide) only [↓ View.readCov_skip, ↓ View.readCov_cons_toLoadRect, ↓ View.readCov_fill]
  exact put_1_1 E n p

theorem kept_1_2 (n p : Fin 128) :
    (kernelRun0_A.sl.v2851 (F := Ideal) E.c E.arg2 E.harg2 E.arg3 E.harg3 E.arg5 E.harg5 E.arg13 E.x0 E.x1 E.x3) (ix3 0 n p) = ↑(stateAt E.A E.B E.X 2 1 n p) := by
  rw [kernelRun0_A.sl.v2851, kernelRun0_A.sl.HS0_24]
  simp (disch := decide) only [↓ View.readCov_skip, ↓ View.readCov_cons_toLoadRect, ↓ View.readCov_fill]
  exact put_1_2 E n p

theorem kept_2_0 (n p : Fin 128) :
    (kernelRun0_A.sl.v2286 (F := Ideal) E.c E.arg2 E.harg2 E.arg3 E.harg3 E.arg5 E.harg5 E.arg13 E.x0 E.x1 E.x3) (ix3 0 n p) = ↑(stateAt E.A E.B E.X 0 2 n p) := by
  rw [kernelRun0_A.sl.v2286, kernelRun0_A.sl.HS0_24]
  simp (disch := decide) only [↓ View.readCov_skip, ↓ View.readCov_cons_toLoadRect, ↓ View.readCov_fill]
  exact put_2_0 E n p

theorem kept_2_1 (n p : Fin 128) :
    (kernelRun0_A.sl.v2395 (F := Ideal) E.c E.arg2 E.harg2 E.arg3 E.harg3 E.arg5 E.harg5 E.arg13 E.x0 E.x1 E.x3) (ix3 0 n p) = ↑(stateAt E.A E.B E.X 1 2 n p) := by
  rw [kernelRun0_A.sl.v2395, kernelRun0_A.sl.HS0_24]
  simp (disch := decide) only [↓ View.readCov_skip, ↓ View.readCov_cons_toLoadRect, ↓ View.readCov_fill]
  exact put_2_1 E n p

theorem kept_2_2 (n p : Fin 128) :
    (kernelRun0_A.sl.v2504 (F := Ideal) E.c E.arg2 E.harg2 E.arg3 E.harg3 E.arg5 E.harg5 E.arg13 E.x0 E.x1 E.x3) (ix3 0 n p) = ↑(stateAt E.A E.B E.X 2 2 n p) := by
  rw [kernelRun0_A.sl.v2504, kernelRun0_A.sl.HS0_24]
  simp (disch := decide) only [↓ View.readCov_skip, ↓ View.readCov_cons_toLoadRect, ↓ View.readCov_fill]
  exact put_2_2 E n p

theorem kept_3_0 (n p : Fin 128) :
    (kernelRun0_A.sl.v1939 (F := Ideal) E.c E.arg2 E.harg2 E.arg3 E.harg3 E.arg5 E.harg5 E.arg13 E.x0 E.x1 E.x3) (ix3 0 n p) = ↑(stateAt E.A E.B E.X 0 3 n p) := by
  rw [kernelRun0_A.sl.v1939, kernelRun0_A.sl.HS0_24]
  simp (disch := decide) only [↓ View.readCov_skip, ↓ View.readCov_cons_toLoadRect, ↓ View.readCov_fill]
  exact put_3_0 E n p

theorem kept_3_1 (n p : Fin 128) :
    (kernelRun0_A.sl.v2048 (F := Ideal) E.c E.arg2 E.harg2 E.arg3 E.harg3 E.arg5 E.harg5 E.arg13 E.x0 E.x1 E.x3) (ix3 0 n p) = ↑(stateAt E.A E.B E.X 1 3 n p) := by
  rw [kernelRun0_A.sl.v2048, kernelRun0_A.sl.HS0_24]
  simp (disch := decide) only [↓ View.readCov_skip, ↓ View.readCov_cons_toLoadRect, ↓ View.readCov_fill]
  exact put_3_1 E n p

theorem kept_3_2 (n p : Fin 128) :
    (kernelRun0_A.sl.v2157 (F := Ideal) E.c E.arg2 E.harg2 E.arg3 E.harg3 E.arg5 E.harg5 E.arg13 E.x0 E.x1 E.x3) (ix3 0 n p) = ↑(stateAt E.A E.B E.X 2 3 n p) := by
  rw [kernelRun0_A.sl.v2157, kernelRun0_A.sl.HS0_24]
  simp (disch := decide) only [↓ View.readCov_skip, ↓ View.readCov_cons_toLoadRect, ↓ View.readCov_fill]
  exact put_3_2 E n p

theorem kept_4_0 (n p : Fin 128) :
    (kernelRun0_A.sl.v1592 (F := Ideal) E.c E.arg2 E.harg2 E.arg3 E.harg3 E.arg5 E.harg5 E.arg13 E.x0 E.x1 E.x3) (ix3 0 n p) = ↑(stateAt E.A E.B E.X 0 4 n p) := by
  rw [kernelRun0_A.sl.v1592, kernelRun0_A.sl.HS0_24]
  simp (disch := decide) only [↓ View.readCov_skip, ↓ View.readCov_cons_toLoadRect, ↓ View.readCov_fill]
  exact put_4_0 E n p

theorem kept_4_1 (n p : Fin 128) :
    (kernelRun0_A.sl.v1701 (F := Ideal) E.c E.arg2 E.harg2 E.arg3 E.harg3 E.arg5 E.harg5 E.arg13 E.x0 E.x1 E.x3) (ix3 0 n p) = ↑(stateAt E.A E.B E.X 1 4 n p) := by
  rw [kernelRun0_A.sl.v1701, kernelRun0_A.sl.HS0_24]
  simp (disch := decide) only [↓ View.readCov_skip, ↓ View.readCov_cons_toLoadRect, ↓ View.readCov_fill]
  exact put_4_1 E n p

theorem kept_4_2 (n p : Fin 128) :
    (kernelRun0_A.sl.v1810 (F := Ideal) E.c E.arg2 E.harg2 E.arg3 E.harg3 E.arg5 E.harg5 E.arg13 E.x0 E.x1 E.x3) (ix3 0 n p) = ↑(stateAt E.A E.B E.X 2 4 n p) := by
  rw [kernelRun0_A.sl.v1810, kernelRun0_A.sl.HS0_24]
  simp (disch := decide) only [↓ View.readCov_skip, ↓ View.readCov_cons_toLoadRect, ↓ View.readCov_fill]
  exact put_4_2 E n p

theorem kept_5_0 (n p : Fin 128) :
    (kernelRun0_A.sl.v1245 (F := Ideal) E.c E.arg2 E.harg2 E.arg3 E.harg3 E.arg5 E.harg5 E.arg13 E.x0 E.x1 E.x3) (ix3 0 n p) = ↑(stateAt E.A E.B E.X 0 5 n p) := by
  rw [kernelRun0_A.sl.v1245, kernelRun0_A.sl.HS0_24]
  simp (disch := decide) only [↓ View.readCov_skip, ↓ View.readCov_cons_toLoadRect, ↓ View.readCov_fill]
  exact put_5_0 E n p

theorem kept_5_1 (n p : Fin 128) :
    (kernelRun0_A.sl.v1354 (F := Ideal) E.c E.arg2 E.harg2 E.arg3 E.harg3 E.arg5 E.harg5 E.arg13 E.x0 E.x1 E.x3) (ix3 0 n p) = ↑(stateAt E.A E.B E.X 1 5 n p) := by
  rw [kernelRun0_A.sl.v1354, kernelRun0_A.sl.HS0_24]
  simp (disch := decide) only [↓ View.readCov_skip, ↓ View.readCov_cons_toLoadRect, ↓ View.readCov_fill]
  exact put_5_1 E n p

theorem kept_5_2 (n p : Fin 128) :
    (kernelRun0_A.sl.v1463 (F := Ideal) E.c E.arg2 E.harg2 E.arg3 E.harg3 E.arg5 E.harg5 E.arg13 E.x0 E.x1 E.x3) (ix3 0 n p) = ↑(stateAt E.A E.B E.X 2 5 n p) := by
  rw [kernelRun0_A.sl.v1463, kernelRun0_A.sl.HS0_24]
  simp (disch := decide) only [↓ View.readCov_skip, ↓ View.readCov_cons_toLoadRect, ↓ View.readCov_fill]
  exact put_5_2 E n p

theorem kept_6_0 (n p : Fin 128) :
    (kernelRun0_A.sl.v898 (F := Ideal) E.c E.arg2 E.harg2 E.arg3 E.harg3 E.arg5 E.harg5 E.arg13 E.x0 E.x1 E.x3) (ix3 0 n p) = ↑(stateAt E.A E.B E.X 0 6 n p) := by
  rw [kernelRun0_A.sl.v898, kernelRun0_A.sl.HS0_24]
  simp (disch := decide) only [↓ View.readCov_skip, ↓ View.readCov_cons_toLoadRect, ↓ View.readCov_fill]
  exact put_6_0 E n p

theorem kept_6_1 (n p : Fin 128) :
    (kernelRun0_A.sl.v1007 (F := Ideal) E.c E.arg2 E.harg2 E.arg3 E.harg3 E.arg5 E.harg5 E.arg13 E.x0 E.x1 E.x3) (ix3 0 n p) = ↑(stateAt E.A E.B E.X 1 6 n p) := by
  rw [kernelRun0_A.sl.v1007, kernelRun0_A.sl.HS0_24]
  simp (disch := decide) only [↓ View.readCov_skip, ↓ View.readCov_cons_toLoadRect, ↓ View.readCov_fill]
  exact put_6_1 E n p

theorem kept_6_2 (n p : Fin 128) :
    (kernelRun0_A.sl.v1116 (F := Ideal) E.c E.arg2 E.harg2 E.arg3 E.harg3 E.arg5 E.harg5 E.arg13 E.x0 E.x1 E.x3) (ix3 0 n p) = ↑(stateAt E.A E.B E.X 2 6 n p) := by
  rw [kernelRun0_A.sl.v1116, kernelRun0_A.sl.HS0_24]
  simp (disch := decide) only [↓ View.readCov_skip, ↓ View.readCov_cons_toLoadRect, ↓ View.readCov_fill]
  exact put_6_2 E n p

theorem kept_7_0 (n p : Fin 128) :
    (kernelRun0_A.sl.v551 (F := Ideal) E.c E.arg2 E.harg2 E.arg3 E.harg3 E.arg5 E.harg5 E.arg13 E.x0 E.x1 E.x3) (ix3 0 n p) = ↑(stateAt E.A E.B E.X 0 7 n p) := by
  rw [kernelRun0_A.sl.v551, kernelRun0_A.sl.HS0_24]
  simp (disch := decide) only [↓ View.readCov_skip, ↓ View.readCov_cons_toLoadRect, ↓ View.readCov_fill]
  exact put_7_0 E n p

theorem kept_7_1 (n p : Fin 128) :
    (kernelRun0_A.sl.v660 (F := Ideal) E.c E.arg2 E.harg2 E.arg3 E.harg3 E.arg5 E.harg5 E.arg13 E.x0 E.x1 E.x3) (ix3 0 n p) = ↑(stateAt E.A E.B E.X 1 7 n p) := by
  rw [kernelRun0_A.sl.v660, kernelRun0_A.sl.HS0_24]
  simp (disch := decide) only [↓ View.readCov_skip, ↓ View.readCov_cons_toLoadRect, ↓ View.readCov_fill]
  exact put_7_1 E n p

theorem kept_7_2 (n p : Fin 128) :
    (kernelRun0_A.sl.v769 (F := Ideal) E.c E.arg2 E.harg2 E.arg3 E.harg3 E.arg5 E.harg5 E.arg13 E.x0 E.x1 E.x3) (ix3 0 n p) = ↑(stateAt E.A E.B E.X 2 7 n p) := by
  rw [kernelRun0_A.sl.v769, kernelRun0_A.sl.HS0_24]
  simp (disch := decide) only [↓ View.readCov_skip, ↓ View.readCov_cons_toLoadRect, ↓ View.readCov_fill]
  exact put_7_2 E n p

end Cert.Chunk.Step
-- ==== Proof.TilesBC.lean ====
/-
The tiles of the gradients of `B` and `C`.
-/
module

public import proofs.«01_k».proof.Proof.Backward
public import proofs.«01_k».proof.Proof.Forward

@[expose] public section

set_option maxRecDepth 16384

noncomputable section

namespace Cert.Chunk.Step

open Cert.KernelIdeal Cert.KernelIdeal.Gen Cert.ScanMath Idealize.ShloMosaic
open scoped BigOperators

variable (E : Step)

theorem pair_0_0 (l m : Fin 256) :
    (kernelRun0_A.sl.r_252 (F := Ideal) E.c E.arg2 E.harg2 E.arg5 E.harg5 E.arg6 E.harg6 E.arg7 E.harg7 E.x0 E.x3 E.x4 E.x5) (ix2 l m) = ↑(0 + pairAt E.A E.X E.D 0 l m 0) := by
  have h := pair_next 0 0 (N := fun l m => 0) (E.ldx 0 0 0 0 (by decide) rfl rfl inb_S1x2048x384_S1x256x128_0_0_0) (E.lda 0 0 0 0 (by decide) rfl rfl inb_S1x2048x128_S1x256x1_0_0_0) (E.ldt 0 0 0 0 (by decide) rfl rfl inb_S1x8x2048_S1x1x256_0_0_0) (E.ldd 0 0 0 0 (by decide) rfl rfl inb_S1x2048x384_S1x256x128_0_0_0) zero_start l m
  exact h

theorem restB_0_0 (l : Fin 256) (n : Fin 128) :
    (kernelRun0_A.sl.r_262 (F := Ideal) E.c E.arg2 E.harg2 E.arg4 E.harg4 E.arg5 E.harg5 E.arg7 E.harg7 E.x0 E.x2 E.x3 E.x5) (ix2 l n) = ↑(0 + restB E.A E.C E.X E.D 0 l n 0) := by
  have h := restB_next 0 0 (M := fun l n => 0) (E.ldx 0 0 0 0 (by decide) rfl rfl inb_S1x2048x384_S1x256x128_0_0_0) (E.lda 0 0 0 0 (by decide) rfl rfl inb_S1x2048x128_S1x256x1_0_0_0) (grad_0_0 E) zero_start l n
  exact h

theorem restC_0_0 (l : Fin 256) (n : Fin 128) :
    (kernelRun0_A.sl.r_255 (F := Ideal) E.c E.arg2 E.harg2 E.arg3 E.harg3 E.arg5 E.harg5 E.arg7 E.harg7 E.arg13 E.x0 E.x1 E.x3 E.x5) (ix2 l n) = ↑(0 + restC E.A E.B E.X E.D 0 l n 0) := by
  have h := restC_next 0 0 (M := fun l n => 0) (E.lda 0 0 0 0 (by decide) rfl rfl inb_S1x2048x128_S1x256x1_0_0_0) (E.ldp_zero 0) (E.ldd 0 0 0 0 (by decide) rfl rfl inb_S1x2048x384_S1x256x128_0_0_0) (kept_0_0 E) zero_start l n
  exact h

theorem pair_0_1 (l m : Fin 256) :
    (kernelRun0_A.sl.r_267 (F := Ideal) E.c E.arg2 E.harg2 E.arg5 E.harg5 E.arg6 E.harg6 E.arg7 E.harg7 E.x0 E.x3 E.x4 E.x5) (ix2 l m) = ↑(0 + pairAt E.A E.X E.D 0 l m 0 + pairAt E.A E.X E.D 0 l m 1) := by
  have h := pair_next 0 1 (N := fun l m => 0 + pairAt E.A E.X E.D 0 l m 0) (E.ldx 0 1 0 128 (by decide) rfl rfl inb_S1x2048x384_S1x256x128_0_0_128) (E.lda 0 1 0 1 (by decide) rfl rfl inb_S1x2048x128_S1x256x1_0_0_1) (E.ldt 0 1 0 1 (by decide) rfl rfl inb_S1x8x2048_S1x1x256_0_1_0) (E.ldd 0 1 0 128 (by decide) rfl rfl inb_S1x2048x384_S1x256x128_0_0_128) (pair_0_0 E) l m
  exact h

theorem restB_0_1 (l : Fin 256) (n : Fin 128) :
    (kernelRun0_A.sl.v3126 (F := Ideal) E.c E.arg2 E.harg2 E.arg4 E.harg4 E.arg5 E.harg5 E.arg7 E.harg7 E.x0 E.x2 E.x3 E.x5) (ix2 l n) = ↑(0 + restB E.A E.C E.X E.D 0 l n 0 + restB E.A E.C E.X E.D 0 l n 1) := by
  have h := restB_next 0 1 (M := fun l n => 0 + restB E.A E.C E.X E.D 0 l n 0) (E.ldx 0 1 0 128 (by decide) rfl rfl inb_S1x2048x384_S1x256x128_0_0_128) (E.lda 0 1 0 1 (by decide) rfl rfl inb_S1x2048x128_S1x256x1_0_0_1) (grad_0_1 E) (restB_0_0 E) l n
  exact h

theorem restC_0_1 (l : Fin 256) (n : Fin 128) :
    (kernelRun0_A.sl.r_271 (F := Ideal) E.c E.arg2 E.harg2 E.arg3 E.harg3 E.arg5 E.harg5 E.arg7 E.harg7 E.arg13 E.x0 E.x1 E.x3 E.x5) (ix2 l n) = ↑(0 + restC E.A E.B E.X E.D 0 l n 0 + restC E.A E.B E.X E.D 0 l n 1) := by
  have h := restC_next 0 1 (M := fun l n => 0 + restC E.A E.B E.X E.D 0 l n 0) (E.lda 0 1 0 1 (by decide) rfl rfl inb_S1x2048x128_S1x256x1_0_0_1) (E.ldp_zero 1) (E.ldd 0 1 0 128 (by decide) rfl rfl inb_S1x2048x384_S1x256x128_0_0_128) (kept_0_1 E) (restC_0_0 E) l n
  exact h

theorem pair_0_2 (l m : Fin 256) :
    (kernelRun0_A.sl.r_280 (F := Ideal) E.c E.arg2 E.harg2 E.arg5 E.harg5 E.arg6 E.harg6 E.arg7 E.harg7 E.x0 E.x3 E.x4 E.x5) (ix2 l m) = ↑(0 + pairAt E.A E.X E.D 0 l m 0 + pairAt E.A E.X E.D 0 l m 1 + pairAt E.A E.X E.D 0 l m 2) := by
  have h := pair_next 0 2 (N := fun l m => 0 + pairAt E.A E.X E.D 0 l m 0 + pairAt E.A E.X E.D 0 l m 1) (E.ldx 0 2 0 256 (by decide) rfl rfl inb_S1x2048x384_S1x256x128_0_0_256) (E.lda 0 2 0 2 (by decide) rfl rfl inb_S1x2048x128_S1x256x1_0_0_2) (E.ldt 0 2 0 2 (by decide) rfl rfl inb_S1x8x2048_S1x1x256_0_2_0) (E.ldd 0 2 0 256 (by decide) rfl rfl inb_S1x2048x384_S1x256x128_0_0_256) (pair_0_1 E) l m
  exact h

theorem restB_0_2 (l : Fin 256) (n : Fin 128) :
    (kernelRun0_A.sl.v3222 (F := Ideal) E.c E.arg2 E.harg2 E.arg4 E.harg4 E.arg5 E.harg5 E.arg7 E.harg7 E.x0 E.x2 E.x3 E.x5) (ix2 l n) = ↑(0 + restB E.A E.C E.X E.D 0 l n 0 + restB E.A E.C E.X E.D 0 l n 1 + restB E.A E.C E.X E.D 0 l n 2) := by
  have h := restB_next 0 2 (M := fun l n => 0 + restB E.A E.C E.X E.D 0 l n 0 + restB E.A E.C E.X E.D 0 l n 1) (E.ldx 0 2 0 256 (by decide) rfl rfl inb_S1x2048x384_S1x256x128_0_0_256) (E.lda 0 2 0 2 (by decide) rfl rfl inb_S1x2048x128_S1x256x1_0_0_2) (grad_0_2 E) (restB_0_1 E) l n
  exact h

theorem restC_0_2 (l : Fin 256) (n : Fin 128) :
    (kernelRun0_A.sl.v3201 (F := Ideal) E.c E.arg2 E.harg2 E.arg3 E.harg3 E.arg5 E.harg5 E.arg7 E.harg7 E.arg13 E.x0 E.x1 E.x3 E.x5) (ix2 l n) = ↑(0 + restC E.A E.B E.X E.D 0 l n 0 + restC E.A E.B E.X E.D 0 l n 1 + restC E.A E.B E.X E.D 0 l n 2) := by
  have h := restC_next 0 2 (M := fun l n => 0 + restC E.A E.B E.X E.D 0 l n 0 + restC E.A E.B E.X E.D 0 l n 1) (E.lda 0 2 0 2 (by decide) rfl rfl inb_S1x2048x128_S1x256x1_0_0_2) (E.ldp_zero 2) (E.ldd 0 2 0 256 (by decide) rfl rfl inb_S1x2048x384_S1x256x128_0_0_256) (kept_0_2 E) (restC_0_1 E) l n
  exact h

theorem db_0 (l : Fin 256) (n : Fin 128) :
    (k0_pay1032 (kernelRun0_A.sl.v2963 (F := Ideal) E.c E.arg4 E.harg4 E.x2) (kernelRun0_A.sl.r_280 (F := Ideal) E.c E.arg2 E.harg2 E.arg5 E.harg5 E.arg6 E.harg6 E.arg7 E.harg7 E.x0 E.x3 E.x4 E.x5) (kernelRun0_A.sl.v3222 (F := Ideal) E.c E.arg2 E.harg2 E.arg4 E.harg4 E.arg5 E.harg5 E.arg7 E.harg7 E.x0 E.x2 E.x3 E.x5)) (ix3 0 l n) = ↑(gradB E.A E.C E.X E.D (256 * 0 + l) n) := by
  have h := db_out 0 (by decide) (E.ldc 0 0 (by decide) rfl inb_S1x2048x128_S1x256x128_0_0_0) (restB_0_2 E) (pair_0_2 E) l n
  exact h

theorem dc_0 (l : Fin 256) (n : Fin 128) :
    (k0_pay1 (kernelRun0_A.sl.v8 (F := Ideal) E.c E.arg3 E.harg3 E.x1) (kernelRun0_A.sl.v3201 (F := Ideal) E.c E.arg2 E.harg2 E.arg3 E.harg3 E.arg5 E.harg5 E.arg7 E.harg7 E.arg13 E.x0 E.x1 E.x3 E.x5) (kernelRun0_A.sl.r_283 (F := Ideal) E.c E.arg2 E.harg2 E.arg5 E.harg5 E.arg6 E.harg6 E.arg7 E.harg7 E.x0 E.x3 E.x4 E.x5)) (ix3 0 l n) = ↑(gradC E.A E.B E.X E.D (256 * 0 + l) n) := by
  have h := dc_out 0 (by decide) (E.ldb 0 0 (by decide) rfl inb_S1x2048x128_S1x256x128_0_0_0) (restC_0_2 E) (pair_0_2 E) l n
  exact h

theorem pair_1_0 (l m : Fin 256) :
    (kernelRun0_A.sl.r_225 (F := Ideal) E.c E.arg2 E.harg2 E.arg5 E.harg5 E.arg6 E.harg6 E.arg7 E.harg7 E.x0 E.x3 E.x4 E.x5) (ix2 l m) = ↑(0 + pairAt E.A E.X E.D 1 l m 0) := by
  have h := pair_next 1 0 (N := fun l m => 0) (E.ldx 1 0 256 0 (by decide) rfl rfl inb_S1x2048x384_S1x256x128_0_256_0) (E.lda 1 0 256 0 (by decide) rfl rfl inb_S1x2048x128_S1x256x1_0_256_0) (E.ldt 1 0 256 0 (by decide) rfl rfl inb_S1x8x2048_S1x1x256_0_0_256) (E.ldd 1 0 256 0 (by decide) rfl rfl inb_S1x2048x384_S1x256x128_0_256_0) zero_start l m
  exact h

theorem restB_1_0 (l : Fin 256) (n : Fin 128) :
    (kernelRun0_A.sl.v2685 (F := Ideal) E.c E.arg2 E.harg2 E.arg4 E.harg4 E.arg5 E.harg5 E.arg7 E.harg7 E.x0 E.x2 E.x3 E.x5) (ix2 l n) = ↑(0 + restB E.A E.C E.X E.D 1 l n 0) := by
  have h := restB_next 1 0 (M := fun l n => 0) (E.ldx 1 0 256 0 (by decide) rfl rfl inb_S1x2048x384_S1x256x128_0_256_0) (E.lda 1 0 256 0 (by decide) rfl rfl inb_S1x2048x128_S1x256x1_0_256_0) (grad_1_0 E) zero_start l n
  exact h

theorem restC_1_0 (l : Fin 256) (n : Fin 128) :
    (kernelRun0_A.sl.v2663 (F := Ideal) E.c E.arg2 E.harg2 E.arg3 E.harg3 E.arg5 E.harg5 E.arg7 E.harg7 E.arg13 E.x0 E.x1 E.x3 E.x5) (ix2 l n) = ↑(0 + restC E.A E.B E.X E.D 1 l n 0) := by
  have h := restC_next 1 0 (M := fun l n => 0) (E.lda 1 0 256 0 (by decide) rfl rfl inb_S1x2048x128_S1x256x1_0_256_0) (E.ldp 1 0 255 0 (by decide) (by decide) rfl rfl inb_S1x2048x128_S1x1x1_0_255_0) (E.ldd 1 0 256 0 (by decide) rfl rfl inb_S1x2048x384_S1x256x128_0_256_0) (kept_1_0 E) zero_start l n
  exact h

theorem pair_1_1 (l m : Fin 256) :
    (kernelRun0_A.sl.r_232 (F := Ideal) E.c E.arg2 E.harg2 E.arg5 E.harg5 E.arg6 E.harg6 E.arg7 E.harg7 E.x0 E.x3 E.x4 E.x5) (ix2 l m) = ↑(0 + pairAt E.A E.X E.D 1 l m 0 + pairAt E.A E.X E.D 1 l m 1) := by
  have h := pair_next 1 1 (N := fun l m => 0 + pairAt E.A E.X E.D 1 l m 0) (E.ldx 1 1 256 128 (by decide) rfl rfl inb_S1x2048x384_S1x256x128_0_256_128) (E.lda 1 1 256 1 (by decide) rfl rfl inb_S1x2048x128_S1x256x1_0_256_1) (E.ldt 1 1 256 1 (by decide) rfl rfl inb_S1x8x2048_S1x1x256_0_1_256) (E.ldd 1 1 256 128 (by decide) rfl rfl inb_S1x2048x384_S1x256x128_0_256_128) (pair_1_0 E) l m
  exact h

theorem restB_1_1 (l : Fin 256) (n : Fin 128) :
    (kernelRun0_A.sl.v2794 (F := Ideal) E.c E.arg2 E.harg2 E.arg4 E.harg4 E.arg5 E.harg5 E.arg7 E.harg7 E.x0 E.x2 E.x3 E.x5) (ix2 l n) = ↑(0 + restB E.A E.C E.X E.D 1 l n 0 + restB E.A E.C E.X E.D 1 l n 1) := by
  have h := restB_next 1 1 (M := fun l n => 0 + restB E.A E.C E.X E.D 1 l n 0) (E.ldx 1 1 256 128 (by decide) rfl rfl inb_S1x2048x384_S1x256x128_0_256_128) (E.lda 1 1 256 1 (by decide) rfl rfl inb_S1x2048x128_S1x256x1_0_256_1) (grad_1_1 E) (restB_1_0 E) l n
  exact h

theorem restC_1_1 (l : Fin 256) (n : Fin 128) :
    (kernelRun0_A.sl.r_235 (F := Ideal) E.c E.arg2 E.harg2 E.arg3 E.harg3 E.arg5 E.harg5 E.arg7 E.harg7 E.arg13 E.x0 E.x1 E.x3 E.x5) (ix2 l n) = ↑(0 + restC E.A E.B E.X E.D 1 l n 0 + restC E.A E.B E.X E.D 1 l n 1) := by
  have h := restC_next 1 1 (M := fun l n => 0 + restC E.A E.B E.X E.D 1 l n 0) (E.lda 1 1 256 1 (by decide) rfl rfl inb_S1x2048x128_S1x256x1_0_256_1) (E.ldp 1 1 255 1 (by decide) (by decide) rfl rfl inb_S1x2048x128_S1x1x1_0_255_1) (E.ldd 1 1 256 128 (by decide) rfl rfl inb_S1x2048x384_S1x256x128_0_256_128) (kept_1_1 E) (restC_1_0 E) l n
  exact h

theorem pair_1_2 (l m : Fin 256) :
    (kernelRun0_A.sl.v2866 (F := Ideal) E.c E.arg2 E.harg2 E.arg5 E.harg5 E.arg6 E.harg6 E.arg7 E.harg7 E.x0 E.x3 E.x4 E.x5) (ix2 l m) = ↑(0 + pairAt E.A E.X E.D 1 l m 0 + pairAt E.A E.X E.D 1 l m 1 + pairAt E.A E.X E.D 1 l m 2) := by
  have h := pair_next 1 2 (N := fun l m => 0 + pairAt E.A E.X E.D 1 l m 0 + pairAt E.A E.X E.D 1 l m 1) (E.ldx 1 2 256 256 (by decide) rfl rfl inb_S1x2048x384_S1x256x128_0_256_256) (E.lda 1 2 256 2 (by decide) rfl rfl inb_S1x2048x128_S1x256x1_0_256_2) (E.ldt 1 2 256 2 (by decide) rfl rfl inb_S1x8x2048_S1x1x256_0_2_256) (E.ldd 1 2 256 256 (by decide) rfl rfl inb_S1x2048x384_S1x256x128_0_256_256) (pair_1_1 E) l m
  exact h

theorem restB_1_2 (l : Fin 256) (n : Fin 128) :
    (kernelRun0_A.sl.v2903 (F := Ideal) E.c E.arg2 E.harg2 E.arg4 E.harg4 E.arg5 E.harg5 E.arg7 E.harg7 E.x0 E.x2 E.x3 E.x5) (ix2 l n) = ↑(0 + restB E.A E.C E.X E.D 1 l n 0 + restB E.A E.C E.X E.D 1 l n 1 + restB E.A E.C E.X E.D 1 l n 2) := by
  have h := restB_next 1 2 (M := fun l n => 0 + restB E.A E.C E.X E.D 1 l n 0 + restB E.A E.C E.X E.D 1 l n 1) (E.ldx 1 2 256 256 (by decide) rfl rfl inb_S1x2048x384_S1x256x128_0_256_256) (E.lda 1 2 256 2 (by decide) rfl rfl inb_S1x2048x128_S1x256x1_0_256_2) (grad_1_2 E) (restB_1_1 E) l n
  exact h

theorem restC_1_2 (l : Fin 256) (n : Fin 128) :
    (kernelRun0_A.sl.v2881 (F := Ideal) E.c E.arg2 E.harg2 E.arg3 E.harg3 E.arg5 E.harg5 E.arg7 E.harg7 E.arg13 E.x0 E.x1 E.x3 E.x5) (ix2 l n) = ↑(0 + restC E.A E.B E.X E.D 1 l n 0 + restC E.A E.B E.X E.D 1 l n 1 + restC E.A E.B E.X E.D 1 l n 2) := by
  have h := restC_next 1 2 (M := fun l n => 0 + restC E.A E.B E.X E.D 1 l n 0 + restC E.A E.B E.X E.D 1 l n 1) (E.lda 1 2 256 2 (by decide) rfl rfl inb_S1x2048x128_S1x256x1_0_256_2) (E.ldp 1 2 255 2 (by decide) (by decide) rfl rfl inb_S1x2048x128_S1x1x1_0_255_2) (E.ldd 1 2 256 256 (by decide) rfl rfl inb_S1x2048x384_S1x256x128_0_256_256) (kept_1_2 E) (restC_1_1 E) l n
  exact h

theorem db_1 (l : Fin 256) (n : Fin 128) :
    (kernelRun0_A.sl.v2954 (F := Ideal) E.c E.arg2 E.harg2 E.arg4 E.harg4 E.arg5 E.harg5 E.arg6 E.harg6 E.arg7 E.harg7 E.x0 E.x2 E.x3 E.x4 E.x5) (ix3 0 l n) = ↑(gradB E.A E.C E.X E.D (256 * 1 + l) n) := by
  have h := db_out 1 (by decide) (E.ldc 1 256 (by decide) rfl inb_S1x2048x128_S1x256x128_0_256_0) (restB_1_2 E) (pair_1_2 E) l n
  exact h

theorem dc_1 (l : Fin 256) (n : Fin 128) :
    (kernelRun0_A.sl.v2959 (F := Ideal) E.c E.arg2 E.harg2 E.arg3 E.harg3 E.arg5 E.harg5 E.arg6 E.harg6 E.arg7 E.harg7 E.arg13 E.x0 E.x1 E.x3 E.x4 E.x5) (ix3 0 l n) = ↑(gradC E.A E.B E.X E.D (256 * 1 + l) n) := by
  have h := dc_out 1 (by decide) (E.ldb 1 256 (by decide) rfl inb_S1x2048x128_S1x256x128_0_256_0) (restC_1_2 E) (pair_1_2 E) l n
  exact h

theorem pair_2_0 (l m : Fin 256) :
    (kernelRun0_A.sl.r_183 (F := Ideal) E.c E.arg2 E.harg2 E.arg5 E.harg5 E.arg6 E.harg6 E.arg7 E.harg7 E.x0 E.x3 E.x4 E.x5) (ix2 l m) = ↑(0 + pairAt E.A E.X E.D 2 l m 0) := by
  have h := pair_next 2 0 (N := fun l m => 0) (E.ldx 2 0 512 0 (by decide) rfl rfl inb_S1x2048x384_S1x256x128_0_512_0) (E.lda 2 0 512 0 (by decide) rfl rfl inb_S1x2048x128_S1x256x1_0_512_0) (E.ldt 2 0 512 0 (by decide) rfl rfl inb_S1x8x2048_S1x1x256_0_0_512) (E.ldd 2 0 512 0 (by decide) rfl rfl inb_S1x2048x384_S1x256x128_0_512_0) zero_start l m
  exact h

theorem restB_2_0 (l : Fin 256) (n : Fin 128) :
    (kernelRun0_A.sl.v2338 (F := Ideal) E.c E.arg2 E.harg2 E.arg4 E.harg4 E.arg5 E.harg5 E.arg7 E.harg7 E.x0 E.x2 E.x3 E.x5) (ix2 l n) = ↑(0 + restB E.A E.C E.X E.D 2 l n 0) := by
  have h := restB_next 2 0 (M := fun l n => 0) (E.ldx 2 0 512 0 (by decide) rfl rfl inb_S1x2048x384_S1x256x128_0_512_0) (E.lda 2 0 512 0 (by decide) rfl rfl inb_S1x2048x128_S1x256x1_0_512_0) (grad_2_0 E) zero_start l n
  exact h

theorem restC_2_0 (l : Fin 256) (n : Fin 128) :
    (kernelRun0_A.sl.r_186 (F := Ideal) E.c E.arg2 E.harg2 E.arg3 E.harg3 E.arg5 E.harg5 E.arg7 E.harg7 E.arg13 E.x0 E.x1 E.x3 E.x5) (ix2 l n) = ↑(0 + restC E.A E.B E.X E.D 2 l n 0) := by
  have h := restC_next 2 0 (M := fun l n => 0) (E.lda 2 0 512 0 (by decide) rfl rfl inb_S1x2048x128_S1x256x1_0_512_0) (E.ldp 2 0 511 0 (by decide) (by decide) rfl rfl inb_S1x2048x128_S1x1x1_0_511_0) (E.ldd 2 0 512 0 (by decide) rfl rfl inb_S1x2048x384_S1x256x128_0_512_0) (kept_2_0 E) zero_start l n
  exact h

theorem pair_2_1 (l m : Fin 256) :
    (kernelRun0_A.sl.r_203 (F := Ideal) E.c E.arg2 E.harg2 E.arg5 E.harg5 E.arg6 E.harg6 E.arg7 E.harg7 E.x0 E.x3 E.x4 E.x5) (ix2 l m) = ↑(0 + pairAt E.A E.X E.D 2 l m 0 + pairAt E.A E.X E.D 2 l m 1) := by
  have h := pair_next 2 1 (N := fun l m => 0 + pairAt E.A E.X E.D 2 l m 0) (E.ldx 2 1 512 128 (by decide) rfl rfl inb_S1x2048x384_S1x256x128_0_512_128) (E.lda 2 1 512 1 (by decide) rfl rfl inb_S1x2048x128_S1x256x1_0_512_1) (E.ldt 2 1 512 1 (by decide) rfl rfl inb_S1x8x2048_S1x1x256_0_1_512) (E.ldd 2 1 512 128 (by decide) rfl rfl inb_S1x2048x384_S1x256x128_0_512_128) (pair_2_0 E) l m
  exact h

theorem restB_2_1 (l : Fin 256) (n : Fin 128) :
    (kernelRun0_A.sl.v2447 (F := Ideal) E.c E.arg2 E.harg2 E.arg4 E.harg4 E.arg5 E.harg5 E.arg7 E.harg7 E.x0 E.x2 E.x3 E.x5) (ix2 l n) = ↑(0 + restB E.A E.C E.X E.D 2 l n 0 + restB E.A E.C E.X E.D 2 l n 1) := by
  have h := restB_next 2 1 (M := fun l n => 0 + restB E.A E.C E.X E.D 2 l n 0) (E.ldx 2 1 512 128 (by decide) rfl rfl inb_S1x2048x384_S1x256x128_0_512_128) (E.lda 2 1 512 1 (by decide) rfl rfl inb_S1x2048x128_S1x256x1_0_512_1) (grad_2_1 E) (restB_2_0 E) l n
  exact h

theorem restC_2_1 (l : Fin 256) (n : Fin 128) :
    (kernelRun0_A.sl.v2425 (F := Ideal) E.c E.arg2 E.harg2 E.arg3 E.harg3 E.arg5 E.harg5 E.arg7 E.harg7 E.arg13 E.x0 E.x1 E.x3 E.x5) (ix2 l n) = ↑(0 + restC E.A E.B E.X E.D 2 l n 0 + restC E.A E.B E.X E.D 2 l n 1) := by
  have h := restC_next 2 1 (M := fun l n => 0 + restC E.A E.B E.X E.D 2 l n 0) (E.lda 2 1 512 1 (by decide) rfl rfl inb_S1x2048x128_S1x256x1_0_512_1) (E.ldp 2 1 511 1 (by decide) (by decide) rfl rfl inb_S1x2048x128_S1x1x1_0_511_1) (E.ldd 2 1 512 128 (by decide) rfl rfl inb_S1x2048x384_S1x256x128_0_512_128) (kept_2_1 E) (restC_2_0 E) l n
  exact h

theorem pair_2_2 (l m : Fin 256) :
    (kernelRun0_A.sl.r_210 (F := Ideal) E.c E.arg2 E.harg2 E.arg5 E.harg5 E.arg6 E.harg6 E.arg7 E.harg7 E.x0 E.x3 E.x4 E.x5) (ix2 l m) = ↑(0 + pairAt E.A E.X E.D 2 l m 0 + pairAt E.A E.X E.D 2 l m 1 + pairAt E.A E.X E.D 2 l m 2) := by
  have h := pair_next 2 2 (N := fun l m => 0 + pairAt E.A E.X E.D 2 l m 0 + pairAt E.A E.X E.D 2 l m 1) (E.ldx 2 2 512 256 (by decide) rfl rfl inb_S1x2048x384_S1x256x128_0_512_256) (E.lda 2 2 512 2 (by decide) rfl rfl inb_S1x2048x128_S1x256x1_0_512_2) (E.ldt 2 2 512 2 (by decide) rfl rfl inb_S1x8x2048_S1x1x256_0_2_512) (E.ldd 2 2 512 256 (by decide) rfl rfl inb_S1x2048x384_S1x256x128_0_512_256) (pair_2_1 E) l m
  exact h

theorem restB_2_2 (l : Fin 256) (n : Fin 128) :
    (kernelRun0_A.sl.v2556 (F := Ideal) E.c E.arg2 E.harg2 E.arg4 E.harg4 E.arg5 E.harg5 E.arg7 E.harg7 E.x0 E.x2 E.x3 E.x5) (ix2 l n) = ↑(0 + restB E.A E.C E.X E.D 2 l n 0 + restB E.A E.C E.X E.D 2 l n 1 + restB E.A E.C E.X E.D 2 l n 2) := by
  have h := restB_next 2 2 (M := fun l n => 0 + restB E.A E.C E.X E.D 2 l n 0 + restB E.A E.C E.X E.D 2 l n 1) (E.ldx 2 2 512 256 (by decide) rfl rfl inb_S1x2048x384_S1x256x128_0_512_256) (E.lda 2 2 512 2 (by decide) rfl rfl inb_S1x2048x128_S1x256x1_0_512_2) (grad_2_2 E) (restB_2_1 E) l n
  exact h

theorem restC_2_2 (l : Fin 256) (n : Fin 128) :
    (kernelRun0_A.sl.r_213 (F := Ideal) E.c E.arg2 E.harg2 E.arg3 E.harg3 E.arg5 E.harg5 E.arg7 E.harg7 E.arg13 E.x0 E.x1 E.x3 E.x5) (ix2 l n) = ↑(0 + restC E.A E.B E.X E.D 2 l n 0 + restC E.A E.B E.X E.D 2 l n 1 + restC E.A E.B E.X E.D 2 l n 2) := by
  have h := restC_next 2 2 (M := fun l n => 0 + restC E.A E.B E.X E.D 2 l n 0 + restC E.A E.B E.X E.D 2 l n 1) (E.lda 2 2 512 2 (by decide) rfl rfl inb_S1x2048x128_S1x256x1_0_512_2) (E.ldp 2 2 511 2 (by decide) (by decide) rfl rfl inb_S1x2048x128_S1x1x1_0_511_2) (E.ldd 2 2 512 256 (by decide) rfl rfl inb_S1x2048x384_S1x256x128_0_512_256) (kept_2_2 E) (restC_2_1 E) l n
  exact h

theorem db_2 (l : Fin 256) (n : Fin 128) :
    (kernelRun0_A.sl.v2607 (F := Ideal) E.c E.arg2 E.harg2 E.arg4 E.harg4 E.arg5 E.harg5 E.arg6 E.harg6 E.arg7 E.harg7 E.x0 E.x2 E.x3 E.x4 E.x5) (ix3 0 l n) = ↑(gradB E.A E.C E.X E.D (256 * 2 + l) n) := by
  have h := db_out 2 (by decide) (E.ldc 2 512 (by decide) rfl inb_S1x2048x128_S1x256x128_0_512_0) (restB_2_2 E) (pair_2_2 E) l n
  exact h

theorem dc_2 (l : Fin 256) (n : Fin 128) :
    (kernelRun0_A.sl.v2612 (F := Ideal) E.c E.arg2 E.harg2 E.arg3 E.harg3 E.arg5 E.harg5 E.arg6 E.harg6 E.arg7 E.harg7 E.arg13 E.x0 E.x1 E.x3 E.x4 E.x5) (ix3 0 l n) = ↑(gradC E.A E.B E.X E.D (256 * 2 + l) n) := by
  have h := dc_out 2 (by decide) (E.ldb 2 512 (by decide) rfl inb_S1x2048x128_S1x256x128_0_512_0) (restC_2_2 E) (pair_2_2 E) l n
  exact h

theorem pair_3_0 (l m : Fin 256) :
    (kernelRun0_A.sl.r_153 (F := Ideal) E.c E.arg2 E.harg2 E.arg5 E.harg5 E.arg6 E.harg6 E.arg7 E.harg7 E.x0 E.x3 E.x4 E.x5) (ix2 l m) = ↑(0 + pairAt E.A E.X E.D 3 l m 0) := by
  have h := pair_next 3 0 (N := fun l m => 0) (E.ldx 3 0 768 0 (by decide) rfl rfl inb_S1x2048x384_S1x256x128_0_768_0) (E.lda 3 0 768 0 (by decide) rfl rfl inb_S1x2048x128_S1x256x1_0_768_0) (E.ldt 3 0 768 0 (by decide) rfl rfl inb_S1x8x2048_S1x1x256_0_0_768) (E.ldd 3 0 768 0 (by decide) rfl rfl inb_S1x2048x384_S1x256x128_0_768_0) zero_start l m
  exact h

theorem restB_3_0 (l : Fin 256) (n : Fin 128) :
    (kernelRun0_A.sl.v1991 (F := Ideal) E.c E.arg2 E.harg2 E.arg4 E.harg4 E.arg5 E.harg5 E.arg7 E.harg7 E.x0 E.x2 E.x3 E.x5) (ix2 l n) = ↑(0 + restB E.A E.C E.X E.D 3 l n 0) := by
  have h := restB_next 3 0 (M := fun l n => 0) (E.ldx 3 0 768 0 (by decide) rfl rfl inb_S1x2048x384_S1x256x128_0_768_0) (E.lda 3 0 768 0 (by decide) rfl rfl inb_S1x2048x128_S1x256x1_0_768_0) (grad_3_0 E) zero_start l n
  exact h

theorem restC_3_0 (l : Fin 256) (n : Fin 128) :
    (kernelRun0_A.sl.v1969 (F := Ideal) E.c E.arg2 E.harg2 E.arg3 E.harg3 E.arg5 E.harg5 E.arg7 E.harg7 E.arg13 E.x0 E.x1 E.x3 E.x5) (ix2 l n) = ↑(0 + restC E.A E.B E.X E.D 3 l n 0) := by
  have h := restC_next 3 0 (M := fun l n => 0) (E.lda 3 0 768 0 (by decide) rfl rfl inb_S1x2048x128_S1x256x1_0_768_0) (E.ldp 3 0 767 0 (by decide) (by decide) rfl rfl inb_S1x2048x128_S1x1x1_0_767_0) (E.ldd 3 0 768 0 (by decide) rfl rfl inb_S1x2048x384_S1x256x128_0_768_0) (kept_3_0 E) zero_start l n
  exact h

theorem pair_3_1 (l m : Fin 256) :
    (kernelRun0_A.sl.r_161 (F := Ideal) E.c E.arg2 E.harg2 E.arg5 E.harg5 E.arg6 E.harg6 E.arg7 E.harg7 E.x0 E.x3 E.x4 E.x5) (ix2 l m) = ↑(0 + pairAt E.A E.X E.D 3 l m 0 + pairAt E.A E.X E.D 3 l m 1) := by
  have h := pair_next 3 1 (N := fun l m => 0 + pairAt E.A E.X E.D 3 l m 0) (E.ldx 3 1 768 128 (by decide) rfl rfl inb_S1x2048x384_S1x256x128_0_768_128) (E.lda 3 1 768 1 (by decide) rfl rfl inb_S1x2048x128_S1x256x1_0_768_1) (E.ldt 3 1 768 1 (by decide) rfl rfl inb_S1x8x2048_S1x1x256_0_1_768) (E.ldd 3 1 768 128 (by decide) rfl rfl inb_S1x2048x384_S1x256x128_0_768_128) (pair_3_0 E) l m
  exact h

theorem restB_3_1 (l : Fin 256) (n : Fin 128) :
    (kernelRun0_A.sl.v2100 (F := Ideal) E.c E.arg2 E.harg2 E.arg4 E.harg4 E.arg5 E.harg5 E.arg7 E.harg7 E.x0 E.x2 E.x3 E.x5) (ix2 l n) = ↑(0 + restB E.A E.C E.X E.D 3 l n 0 + restB E.A E.C E.X E.D 3 l n 1) := by
  have h := restB_next 3 1 (M := fun l n => 0 + restB E.A E.C E.X E.D 3 l n 0) (E.ldx 3 1 768 128 (by decide) rfl rfl inb_S1x2048x384_S1x256x128_0_768_128) (E.lda 3 1 768 1 (by decide) rfl rfl inb_S1x2048x128_S1x256x1_0_768_1) (grad_3_1 E) (restB_3_0 E) l n
  exact h

theorem restC_3_1 (l : Fin 256) (n : Fin 128) :
    (kernelRun0_A.sl.r_164 (F := Ideal) E.c E.arg2 E.harg2 E.arg3 E.harg3 E.arg5 E.harg5 E.arg7 E.harg7 E.arg13 E.x0 E.x1 E.x3 E.x5) (ix2 l n) = ↑(0 + restC E.A E.B E.X E.D 3 l n 0 + restC E.A E.B E.X E.D 3 l n 1) := by
  have h := restC_next 3 1 (M := fun l n => 0 + restC E.A E.B E.X E.D 3 l n 0) (E.lda 3 1 768 1 (by decide) rfl rfl inb_S1x2048x128_S1x256x1_0_768_1) (E.ldp 3 1 767 1 (by decide) (by decide) rfl rfl inb_S1x2048x128_S1x1x1_0_767_1) (E.ldd 3 1 768 128 (by decide) rfl rfl inb_S1x2048x384_S1x256x128_0_768_128) (kept_3_1 E) (restC_3_0 E) l n
  exact h

theorem pair_3_2 (l m : Fin 256) :
    (kernelRun0_A.sl.r_181 (F := Ideal) E.c E.arg2 E.harg2 E.arg5 E.harg5 E.arg6 E.harg6 E.arg7 E.harg7 E.x0 E.x3 E.x4 E.x5) (ix2 l m) = ↑(0 + pairAt E.A E.X E.D 3 l m 0 + pairAt E.A E.X E.D 3 l m 1 + pairAt E.A E.X E.D 3 l m 2) := by
  have h := pair_next 3 2 (N := fun l m => 0 + pairAt E.A E.X E.D 3 l m 0 + pairAt E.A E.X E.D 3 l m 1) (E.ldx 3 2 768 256 (by decide) rfl rfl inb_S1x2048x384_S1x256x128_0_768_256) (E.lda 3 2 768 2 (by decide) rfl rfl inb_S1x2048x128_S1x256x1_0_768_2) (E.ldt 3 2 768 2 (by decide) rfl rfl inb_S1x8x2048_S1x1x256_0_2_768) (E.ldd 3 2 768 256 (by decide) rfl rfl inb_S1x2048x384_S1x256x128_0_768_256) (pair_3_1 E) l m
  exact h

theorem restB_3_2 (l : Fin 256) (n : Fin 128) :
    (kernelRun0_A.sl.v2209 (F := Ideal) E.c E.arg2 E.harg2 E.arg4 E.harg4 E.arg5 E.harg5 E.arg7 E.harg7 E.x0 E.x2 E.x3 E.x5) (ix2 l n) = ↑(0 + restB E.A E.C E.X E.D 3 l n 0 + restB E.A E.C E.X E.D 3 l n 1 + restB E.A E.C E.X E.D 3 l n 2) := by
  have h := restB_next 3 2 (M := fun l n => 0 + restB E.A E.C E.X E.D 3 l n 0 + restB E.A E.C E.X E.D 3 l n 1) (E.ldx 3 2 768 256 (by decide) rfl rfl inb_S1x2048x384_S1x256x128_0_768_256) (E.lda 3 2 768 2 (by decide) rfl rfl inb_S1x2048x128_S1x256x1_0_768_2) (grad_3_2 E) (restB_3_1 E) l n
  exact h

theorem restC_3_2 (l : Fin 256) (n : Fin 128) :
    (kernelRun0_A.sl.v2187 (F := Ideal) E.c E.arg2 E.harg2 E.arg3 E.harg3 E.arg5 E.harg5 E.arg7 E.harg7 E.arg13 E.x0 E.x1 E.x3 E.x5) (ix2 l n) = ↑(0 + restC E.A E.B E.X E.D 3 l n 0 + restC E.A E.B E.X E.D 3 l n 1 + restC E.A E.B E.X E.D 3 l n 2) := by
  have h := restC_next 3 2 (M := fun l n => 0 + restC E.A E.B E.X E.D 3 l n 0 + restC E.A E.B E.X E.D 3 l n 1) (E.lda 3 2 768 2 (by decide) rfl rfl inb_S1x2048x128_S1x256x1_0_768_2) (E.ldp 3 2 767 2 (by decide) (by decide) rfl rfl inb_S1x2048x128_S1x1x1_0_767_2) (E.ldd 3 2 768 256 (by decide) rfl rfl inb_S1x2048x384_S1x256x128_0_768_256) (kept_3_2 E) (restC_3_1 E) l n
  exact h

theorem db_3 (l : Fin 256) (n : Fin 128) :
    (kernelRun0_A.sl.v2260 (F := Ideal) E.c E.arg2 E.harg2 E.arg4 E.harg4 E.arg5 E.harg5 E.arg6 E.harg6 E.arg7 E.harg7 E.x0 E.x2 E.x3 E.x4 E.x5) (ix3 0 l n) = ↑(gradB E.A E.C E.X E.D (256 * 3 + l) n) := by
  have h := db_out 3 (by decide) (E.ldc 3 768 (by decide) rfl inb_S1x2048x128_S1x256x128_0_768_0) (restB_3_2 E) (pair_3_2 E) l n
  exact h

theorem dc_3 (l : Fin 256) (n : Fin 128) :
    (kernelRun0_A.sl.v2265 (F := Ideal) E.c E.arg2 E.harg2 E.arg3 E.harg3 E.arg5 E.harg5 E.arg6 E.harg6 E.arg7 E.harg7 E.arg13 E.x0 E.x1 E.x3 E.x4 E.x5) (ix3 0 l n) = ↑(gradC E.A E.B E.X E.D (256 * 3 + l) n) := by
  have h := dc_out 3 (by decide) (E.ldb 3 768 (by decide) rfl inb_S1x2048x128_S1x256x128_0_768_0) (restC_3_2 E) (pair_3_2 E) l n
  exact h

theorem pair_4_0 (l m : Fin 256) :
    (kernelRun0_A.sl.r_109 (F := Ideal) E.c E.arg2 E.harg2 E.arg5 E.harg5 E.arg6 E.harg6 E.arg7 E.harg7 E.x0 E.x3 E.x4 E.x5) (ix2 l m) = ↑(0 + pairAt E.A E.X E.D 4 l m 0) := by
  have h := pair_next 4 0 (N := fun l m => 0) (E.ldx 4 0 1024 0 (by decide) rfl rfl inb_S1x2048x384_S1x256x128_0_1024_0) (E.lda 4 0 1024 0 (by decide) rfl rfl inb_S1x2048x128_S1x256x1_0_1024_0) (E.ldt 4 0 1024 0 (by decide) rfl rfl inb_S1x8x2048_S1x1x256_0_0_1024) (E.ldd 4 0 1024 0 (by decide) rfl rfl inb_S1x2048x384_S1x256x128_0_1024_0) zero_start l m
  exact h

theorem restB_4_0 (l : Fin 256) (n : Fin 128) :
    (kernelRun0_A.sl.v1644 (F := Ideal) E.c E.arg2 E.harg2 E.arg4 E.harg4 E.arg5 E.harg5 E.arg7 E.harg7 E.x0 E.x2 E.x3 E.x5) (ix2 l n) = ↑(0 + restB E.A E.C E.X E.D 4 l n 0) := by
  have h := restB_next 4 0 (M := fun l n => 0) (E.ldx 4 0 1024 0 (by decide) rfl rfl inb_S1x2048x384_S1x256x128_0_1024_0) (E.lda 4 0 1024 0 (by decide) rfl rfl inb_S1x2048x128_S1x256x1_0_1024_0) (grad_4_0 E) zero_start l n
  exact h

theorem restC_4_0 (l : Fin 256) (n : Fin 128) :
    (kernelRun0_A.sl.r_112 (F := Ideal) E.c E.arg2 E.harg2 E.arg3 E.harg3 E.arg5 E.harg5 E.arg7 E.harg7 E.arg13 E.x0 E.x1 E.x3 E.x5) (ix2 l n) = ↑(0 + restC E.A E.B E.X E.D 4 l n 0) := by
  have h := restC_next 4 0 (M := fun l n => 0) (E.lda 4 0 1024 0 (by decide) rfl rfl inb_S1x2048x128_S1x256x1_0_1024_0) (E.ldp 4 0 1023 0 (by decide) (by decide) rfl rfl inb_S1x2048x128_S1x1x1_0_1023_0) (E.ldd 4 0 1024 0 (by decide) rfl rfl inb_S1x2048x384_S1x256x128_0_1024_0) (kept_4_0 E) zero_start l n
  exact h

theorem pair_4_1 (l m : Fin 256) :
    (kernelRun0_A.sl.r_129 (F := Ideal) E.c E.arg2 E.harg2 E.arg5 E.harg5 E.arg6 E.harg6 E.arg7 E.harg7 E.x0 E.x3 E.x4 E.x5) (ix2 l m) = ↑(0 + pairAt E.A E.X E.D 4 l m 0 + pairAt E.A E.X E.D 4 l m 1) := by
  have h := pair_next 4 1 (N := fun l m => 0 + pairAt E.A E.X E.D 4 l m 0) (E.ldx 4 1 1024 128 (by decide) rfl rfl inb_S1x2048x384_S1x256x128_0_1024_128) (E.lda 4 1 1024 1 (by decide) rfl rfl inb_S1x2048x128_S1x256x1_0_1024_1) (E.ldt 4 1 1024 1 (by decide) rfl rfl inb_S1x8x2048_S1x1x256_0_1_1024) (E.ldd 4 1 1024 128 (by decide) rfl rfl inb_S1x2048x384_S1x256x128_0_1024_128) (pair_4_0 E) l m
  exact h

theorem restB_4_1 (l : Fin 256) (n : Fin 128) :
    (kernelRun0_A.sl.v1753 (F := Ideal) E.c E.arg2 E.harg2 E.arg4 E.harg4 E.arg5 E.harg5 E.arg7 E.harg7 E.x0 E.x2 E.x3 E.x5) (ix2 l n) = ↑(0 + restB E.A E.C E.X E.D 4 l n 0 + restB E.A E.C E.X E.D 4 l n 1) := by
  have h := restB_next 4 1 (M := fun l n => 0 + restB E.A E.C E.X E.D 4 l n 0) (E.ldx 4 1 1024 128 (by decide) rfl rfl inb_S1x2048x384_S1x256x128_0_1024_128) (E.lda 4 1 1024 1 (by decide) rfl rfl inb_S1x2048x128_S1x256x1_0_1024_1) (grad_4_1 E) (restB_4_0 E) l n
  exact h

theorem restC_4_1 (l : Fin 256) (n : Fin 128) :
    (kernelRun0_A.sl.v1731 (F := Ideal) E.c E.arg2 E.harg2 E.arg3 E.harg3 E.arg5 E.harg5 E.arg7 E.harg7 E.arg13 E.x0 E.x1 E.x3 E.x5) (ix2 l n) = ↑(0 + restC E.A E.B E.X E.D 4 l n 0 + restC E.A E.B E.X E.D 4 l n 1) := by
  have h := restC_next 4 1 (M := fun l n => 0 + restC E.A E.B E.X E.D 4 l n 0) (E.lda 4 1 1024 1 (by decide) rfl rfl inb_S1x2048x128_S1x256x1_0_1024_1) (E.ldp 4 1 1023 1 (by decide) (by decide) rfl rfl inb_S1x2048x128_S1x1x1_0_1023_1) (E.ldd 4 1 1024 128 (by decide) rfl rfl inb_S1x2048x384_S1x256x128_0_1024_128) (kept_4_1 E) (restC_4_0 E) l n
  exact h

theorem pair_4_2 (l m : Fin 256) :
    (kernelRun0_A.sl.r_137 (F := Ideal) E.c E.arg2 E.harg2 E.arg5 E.harg5 E.arg6 E.harg6 E.arg7 E.harg7 E.x0 E.x3 E.x4 E.x5) (ix2 l m) = ↑(0 + pairAt E.A E.X E.D 4 l m 0 + pairAt E.A E.X E.D 4 l m 1 + pairAt E.A E.X E.D 4 l m 2) := by
  have h := pair_next 4 2 (N := fun l m => 0 + pairAt E.A E.X E.D 4 l m 0 + pairAt E.A E.X E.D 4 l m 1) (E.ldx 4 2 1024 256 (by decide) rfl rfl inb_S1x2048x384_S1x256x128_0_1024_256) (E.lda 4 2 1024 2 (by decide) rfl rfl inb_S1x2048x128_S1x256x1_0_1024_2) (E.ldt 4 2 1024 2 (by decide) rfl rfl inb_S1x8x2048_S1x1x256_0_2_1024) (E.ldd 4 2 1024 256 (by decide) rfl rfl inb_S1x2048x384_S1x256x128_0_1024_256) (pair_4_1 E) l m
  exact h

theorem restB_4_2 (l : Fin 256) (n : Fin 128) :
    (kernelRun0_A.sl.v1862 (F := Ideal) E.c E.arg2 E.harg2 E.arg4 E.harg4 E.arg5 E.harg5 E.arg7 E.harg7 E.x0 E.x2 E.x3 E.x5) (ix2 l n) = ↑(0 + restB E.A E.C E.X E.D 4 l n 0 + restB E.A E.C E.X E.D 4 l n 1 + restB E.A E.C E.X E.D 4 l n 2) := by
  have h := restB_next 4 2 (M := fun l n => 0 + restB E.A E.C E.X E.D 4 l n 0 + restB E.A E.C E.X E.D 4 l n 1) (E.ldx 4 2 1024 256 (by decide) rfl rfl inb_S1x2048x384_S1x256x128_0_1024_256) (E.lda 4 2 1024 2 (by decide) rfl rfl inb_S1x2048x128_S1x256x1_0_1024_2) (grad_4_2 E) (restB_4_1 E) l n
  exact h

theorem restC_4_2 (l : Fin 256) (n : Fin 128) :
    (kernelRun0_A.sl.r_140 (F := Ideal) E.c E.arg2 E.harg2 E.arg3 E.harg3 E.arg5 E.harg5 E.arg7 E.harg7 E.arg13 E.x0 E.x1 E.x3 E.x5) (ix2 l n) = ↑(0 + restC E.A E.B E.X E.D 4 l n 0 + restC E.A E.B E.X E.D 4 l n 1 + restC E.A E.B E.X E.D 4 l n 2) := by
  have h := restC_next 4 2 (M := fun l n => 0 + restC E.A E.B E.X E.D 4 l n 0 + restC E.A E.B E.X E.D 4 l n 1) (E.lda 4 2 1024 2 (by decide) rfl rfl inb_S1x2048x128_S1x256x1_0_1024_2) (E.ldp 4 2 1023 2 (by decide) (by decide) rfl rfl inb_S1x2048x128_S1x1x1_0_1023_2) (E.ldd 4 2 1024 256 (by decide) rfl rfl inb_S1x2048x384_S1x256x128_0_1024_256) (kept_4_2 E) (restC_4_1 E) l n
  exact h

theorem db_4 (l : Fin 256) (n : Fin 128) :
    (kernelRun0_A.sl.v1913 (F := Ideal) E.c E.arg2 E.harg2 E.arg4 E.harg4 E.arg5 E.harg5 E.arg6 E.harg6 E.arg7 E.harg7 E.x0 E.x2 E.x3 E.x4 E.x5) (ix3 0 l n) = ↑(gradB E.A E.C E.X E.D (256 * 4 + l) n) := by
  have h := db_out 4 (by decide) (E.ldc 4 1024 (by decide) rfl inb_S1x2048x128_S1x256x128_0_1024_0) (restB_4_2 E) (pair_4_2 E) l n
  exact h

theorem dc_4 (l : Fin 256) (n : Fin 128) :
    (kernelRun0_A.sl.v1918 (F := Ideal) E.c E.arg2 E.harg2 E.arg3 E.harg3 E.arg5 E.harg5 E.arg6 E.harg6 E.arg7 E.harg7 E.arg13 E.x0 E.x1 E.x3 E.x4 E.x5) (ix3 0 l n) = ↑(gradC E.A E.B E.X E.D (256 * 4 + l) n) := by
  have h := dc_out 4 (by decide) (E.ldb 4 1024 (by decide) rfl inb_S1x2048x128_S1x256x128_0_1024_0) (restC_4_2 E) (pair_4_2 E) l n
  exact h

theorem pair_5_0 (l m : Fin 256) :
    (kernelRun0_A.sl.r_80 (F := Ideal) E.c E.arg2 E.harg2 E.arg5 E.harg5 E.arg6 E.harg6 E.arg7 E.harg7 E.x0 E.x3 E.x4 E.x5) (ix2 l m) = ↑(0 + pairAt E.A E.X E.D 5 l m 0) := by
  have h := pair_next 5 0 (N := fun l m => 0) (E.ldx 5 0 1280 0 (by decide) rfl rfl inb_S1x2048x384_S1x256x128_0_1280_0) (E.lda 5 0 1280 0 (by decide) rfl rfl inb_S1x2048x128_S1x256x1_0_1280_0) (E.ldt 5 0 1280 0 (by decide) rfl rfl inb_S1x8x2048_S1x1x256_0_0_1280) (E.ldd 5 0 1280 0 (by decide) rfl rfl inb_S1x2048x384_S1x256x128_0_1280_0) zero_start l m
  exact h

theorem restB_5_0 (l : Fin 256) (n : Fin 128) :
    (kernelRun0_A.sl.v1297 (F := Ideal) E.c E.arg2 E.harg2 E.arg4 E.harg4 E.arg5 E.harg5 E.arg7 E.harg7 E.x0 E.x2 E.x3 E.x5) (ix2 l n) = ↑(0 + restB E.A E.C E.X E.D 5 l n 0) := by
  have h := restB_next 5 0 (M := fun l n => 0) (E.ldx 5 0 1280 0 (by decide) rfl rfl inb_S1x2048x384_S1x256x128_0_1280_0) (E.lda 5 0 1280 0 (by decide) rfl rfl inb_S1x2048x128_S1x256x1_0_1280_0) (grad_5_0 E) zero_start l n
  exact h

theorem restC_5_0 (l : Fin 256) (n : Fin 128) :
    (kernelRun0_A.sl.v1275 (F := Ideal) E.c E.arg2 E.harg2 E.arg3 E.harg3 E.arg5 E.harg5 E.arg7 E.harg7 E.arg13 E.x0 E.x1 E.x3 E.x5) (ix2 l n) = ↑(0 + restC E.A E.B E.X E.D 5 l n 0) := by
  have h := restC_next 5 0 (M := fun l n => 0) (E.lda 5 0 1280 0 (by decide) rfl rfl inb_S1x2048x128_S1x256x1_0_1280_0) (E.ldp 5 0 1279 0 (by decide) (by decide) rfl rfl inb_S1x2048x128_S1x1x1_0_1279_0) (E.ldd 5 0 1280 0 (by decide) rfl rfl inb_S1x2048x384_S1x256x128_0_1280_0) (kept_5_0 E) zero_start l n
  exact h

theorem pair_5_1 (l m : Fin 256) :
    (kernelRun0_A.sl.r_88 (F := Ideal) E.c E.arg2 E.harg2 E.arg5 E.harg5 E.arg6 E.harg6 E.arg7 E.harg7 E.x0 E.x3 E.x4 E.x5) (ix2 l m) = ↑(0 + pairAt E.A E.X E.D 5 l m 0 + pairAt E.A E.X E.D 5 l m 1) := by
  have h := pair_next 5 1 (N := fun l m => 0 + pairAt E.A E.X E.D 5 l m 0) (E.ldx 5 1 1280 128 (by decide) rfl rfl inb_S1x2048x384_S1x256x128_0_1280_128) (E.lda 5 1 1280 1 (by decide) rfl rfl inb_S1x2048x128_S1x256x1_0_1280_1) (E.ldt 5 1 1280 1 (by decide) rfl rfl inb_S1x8x2048_S1x1x256_0_1_1280) (E.ldd 5 1 1280 128 (by decide) rfl rfl inb_S1x2048x384_S1x256x128_0_1280_128) (pair_5_0 E) l m
  exact h

theorem restB_5_1 (l : Fin 256) (n : Fin 128) :
    (kernelRun0_A.sl.v1406 (F := Ideal) E.c E.arg2 E.harg2 E.arg4 E.harg4 E.arg5 E.harg5 E.arg7 E.harg7 E.x0 E.x2 E.x3 E.x5) (ix2 l n) = ↑(0 + restB E.A E.C E.X E.D 5 l n 0 + restB E.A E.C E.X E.D 5 l n 1) := by
  have h := restB_next 5 1 (M := fun l n => 0 + restB E.A E.C E.X E.D 5 l n 0) (E.ldx 5 1 1280 128 (by decide) rfl rfl inb_S1x2048x384_S1x256x128_0_1280_128) (E.lda 5 1 1280 1 (by decide) rfl rfl inb_S1x2048x128_S1x256x1_0_1280_1) (grad_5_1 E) (restB_5_0 E) l n
  exact h

theorem restC_5_1 (l : Fin 256) (n : Fin 128) :
    (kernelRun0_A.sl.r_91 (F := Ideal) E.c E.arg2 E.harg2 E.arg3 E.harg3 E.arg5 E.harg5 E.arg7 E.harg7 E.arg13 E.x0 E.x1 E.x3 E.x5) (ix2 l n) = ↑(0 + restC E.A E.B E.X E.D 5 l n 0 + restC E.A E.B E.X E.D 5 l n 1) := by
  have h := restC_next 5 1 (M := fun l n => 0 + restC E.A E.B E.X E.D 5 l n 0) (E.lda 5 1 1280 1 (by decide) rfl rfl inb_S1x2048x128_S1x256x1_0_1280_1) (E.ldp 5 1 1279 1 (by decide) (by decide) rfl rfl inb_S1x2048x128_S1x1x1_0_1279_1) (E.ldd 5 1 1280 128 (by decide) rfl rfl inb_S1x2048x384_S1x256x128_0_1280_128) (kept_5_1 E) (restC_5_0 E) l n
  exact h

theorem pair_5_2 (l m : Fin 256) :
    (kernelRun0_A.sl.r_107 (F := Ideal) E.c E.arg2 E.harg2 E.arg5 E.harg5 E.arg6 E.harg6 E.arg7 E.harg7 E.x0 E.x3 E.x4 E.x5) (ix2 l m) = ↑(0 + pairAt E.A E.X E.D 5 l m 0 + pairAt E.A E.X E.D 5 l m 1 + pairAt E.A E.X E.D 5 l m 2) := by
  have h := pair_next 5 2 (N := fun l m => 0 + pairAt E.A E.X E.D 5 l m 0 + pairAt E.A E.X E.D 5 l m 1) (E.ldx 5 2 1280 256 (by decide) rfl rfl inb_S1x2048x384_S1x256x128_0_1280_256) (E.lda 5 2 1280 2 (by decide) rfl rfl inb_S1x2048x128_S1x256x1_0_1280_2) (E.ldt 5 2 1280 2 (by decide) rfl rfl inb_S1x8x2048_S1x1x256_0_2_1280) (E.ldd 5 2 1280 256 (by decide) rfl rfl inb_S1x2048x384_S1x256x128_0_1280_256) (pair_5_1 E) l m
  exact h

theorem restB_5_2 (l : Fin 256) (n : Fin 128) :
    (kernelRun0_A.sl.v1515 (F := Ideal) E.c E.arg2 E.harg2 E.arg4 E.harg4 E.arg5 E.harg5 E.arg7 E.harg7 E.x0 E.x2 E.x3 E.x5) (ix2 l n) = ↑(0 + restB E.A E.C E.X E.D 5 l n 0 + restB E.A E.C E.X E.D 5 l n 1 + restB E.A E.C E.X E.D 5 l n 2) := by
  have h := restB_next 5 2 (M := fun l n => 0 + restB E.A E.C E.X E.D 5 l n 0 + restB E.A E.C E.X E.D 5 l n 1) (E.ldx 5 2 1280 256 (by decide) rfl rfl inb_S1x2048x384_S1x256x128_0_1280_256) (E.lda 5 2 1280 2 (by decide) rfl rfl inb_S1x2048x128_S1x256x1_0_1280_2) (grad_5_2 E) (restB_5_1 E) l n
  exact h

theorem restC_5_2 (l : Fin 256) (n : Fin 128) :
    (kernelRun0_A.sl.v1493 (F := Ideal) E.c E.arg2 E.harg2 E.arg3 E.harg3 E.arg5 E.harg5 E.arg7 E.harg7 E.arg13 E.x0 E.x1 E.x3 E.x5) (ix2 l n) = ↑(0 + restC E.A E.B E.X E.D 5 l n 0 + restC E.A E.B E.X E.D 5 l n 1 + restC E.A E.B E.X E.D 5 l n 2) := by
  have h := restC_next 5 2 (M := fun l n => 0 + restC E.A E.B E.X E.D 5 l n 0 + restC E.A E.B E.X E.D 5 l n 1) (E.lda 5 2 1280 2 (by decide) rfl rfl inb_S1x2048x128_S1x256x1_0_1280_2) (E.ldp 5 2 1279 2 (by decide) (by decide) rfl rfl inb_S1x2048x128_S1x1x1_0_1279_2) (E.ldd 5 2 1280 256 (by decide) rfl rfl inb_S1x2048x384_S1x256x128_0_1280_256) (kept_5_2 E) (restC_5_1 E) l n
  exact h

theorem db_5 (l : Fin 256) (n : Fin 128) :
    (kernelRun0_A.sl.v1566 (F := Ideal) E.c E.arg2 E.harg2 E.arg4 E.harg4 E.arg5 E.harg5 E.arg6 E.harg6 E.arg7 E.harg7 E.x0 E.x2 E.x3 E.x4 E.x5) (ix3 0 l n) = ↑(gradB E.A E.C E.X E.D (256 * 5 + l) n) := by
  have h := db_out 5 (by decide) (E.ldc 5 1280 (by decide) rfl inb_S1x2048x128_S1x256x128_0_1280_0) (restB_5_2 E) (pair_5_2 E) l n
  exact h

theorem dc_5 (l : Fin 256) (n : Fin 128) :
    (kernelRun0_A.sl.v1571 (F := Ideal) E.c E.arg2 E.harg2 E.arg3 E.harg3 E.arg5 E.harg5 E.arg6 E.harg6 E.arg7 E.harg7 E.arg13 E.x0 E.x1 E.x3 E.x4 E.x5) (ix3 0 l n) = ↑(gradC E.A E.B E.X E.D (256 * 5 + l) n) := by
  have h := dc_out 5 (by decide) (E.ldb 5 1280 (by decide) rfl inb_S1x2048x128_S1x256x128_0_1280_0) (restC_5_2 E) (pair_5_2 E) l n
  exact h

theorem pair_6_0 (l m : Fin 256) :
    (kernelRun0_A.sl.r_38 (F := Ideal) E.c E.arg2 E.harg2 E.arg5 E.harg5 E.arg6 E.harg6 E.arg7 E.harg7 E.x0 E.x3 E.x4 E.x5) (ix2 l m) = ↑(0 + pairAt E.A E.X E.D 6 l m 0) := by
  have h := pair_next 6 0 (N := fun l m => 0) (E.ldx 6 0 1536 0 (by decide) rfl rfl inb_S1x2048x384_S1x256x128_0_1536_0) (E.lda 6 0 1536 0 (by decide) rfl rfl inb_S1x2048x128_S1x256x1_0_1536_0) (E.ldt 6 0 1536 0 (by decide) rfl rfl inb_S1x8x2048_S1x1x256_0_0_1536) (E.ldd 6 0 1536 0 (by decide) rfl rfl inb_S1x2048x384_S1x256x128_0_1536_0) zero_start l m
  exact h

theorem restB_6_0 (l : Fin 256) (n : Fin 128) :
    (kernelRun0_A.sl.r_47 (F := Ideal) E.c E.arg2 E.harg2 E.arg4 E.harg4 E.arg5 E.harg5 E.arg7 E.harg7 E.x0 E.x2 E.x3 E.x5) (ix2 l n) = ↑(0 + restB E.A E.C E.X E.D 6 l n 0) := by
  have h := restB_next 6 0 (M := fun l n => 0) (E.ldx 6 0 1536 0 (by decide) rfl rfl inb_S1x2048x384_S1x256x128_0_1536_0) (E.lda 6 0 1536 0 (by decide) rfl rfl inb_S1x2048x128_S1x256x1_0_1536_0) (grad_6_0 E) zero_start l n
  exact h

theorem restC_6_0 (l : Fin 256) (n : Fin 128) :
    (kernelRun0_A.sl.r_41 (F := Ideal) E.c E.arg2 E.harg2 E.arg3 E.harg3 E.arg5 E.harg5 E.arg7 E.harg7 E.arg13 E.x0 E.x1 E.x3 E.x5) (ix2 l n) = ↑(0 + restC E.A E.B E.X E.D 6 l n 0) := by
  have h := restC_next 6 0 (M := fun l n => 0) (E.lda 6 0 1536 0 (by decide) rfl rfl inb_S1x2048x128_S1x256x1_0_1536_0) (E.ldp 6 0 1535 0 (by decide) (by decide) rfl rfl inb_S1x2048x128_S1x1x1_0_1535_0) (E.ldd 6 0 1536 0 (by decide) rfl rfl inb_S1x2048x384_S1x256x128_0_1536_0) (kept_6_0 E) zero_start l n
  exact h

theorem pair_6_1 (l m : Fin 256) :
    (kernelRun0_A.sl.r_57 (F := Ideal) E.c E.arg2 E.harg2 E.arg5 E.harg5 E.arg6 E.harg6 E.arg7 E.harg7 E.x0 E.x3 E.x4 E.x5) (ix2 l m) = ↑(0 + pairAt E.A E.X E.D 6 l m 0 + pairAt E.A E.X E.D 6 l m 1) := by
  have h := pair_next 6 1 (N := fun l m => 0 + pairAt E.A E.X E.D 6 l m 0) (E.ldx 6 1 1536 128 (by decide) rfl rfl inb_S1x2048x384_S1x256x128_0_1536_128) (E.lda 6 1 1536 1 (by decide) rfl rfl inb_S1x2048x128_S1x256x1_0_1536_1) (E.ldt 6 1 1536 1 (by decide) rfl rfl inb_S1x8x2048_S1x1x256_0_1_1536) (E.ldd 6 1 1536 128 (by decide) rfl rfl inb_S1x2048x384_S1x256x128_0_1536_128) (pair_6_0 E) l m
  exact h

theorem restB_6_1 (l : Fin 256) (n : Fin 128) :
    (kernelRun0_A.sl.v1059 (F := Ideal) E.c E.arg2 E.harg2 E.arg4 E.harg4 E.arg5 E.harg5 E.arg7 E.harg7 E.x0 E.x2 E.x3 E.x5) (ix2 l n) = ↑(0 + restB E.A E.C E.X E.D 6 l n 0 + restB E.A E.C E.X E.D 6 l n 1) := by
  have h := restB_next 6 1 (M := fun l n => 0 + restB E.A E.C E.X E.D 6 l n 0) (E.ldx 6 1 1536 128 (by decide) rfl rfl inb_S1x2048x384_S1x256x128_0_1536_128) (E.lda 6 1 1536 1 (by decide) rfl rfl inb_S1x2048x128_S1x256x1_0_1536_1) (grad_6_1 E) (restB_6_0 E) l n
  exact h

theorem restC_6_1 (l : Fin 256) (n : Fin 128) :
    (kernelRun0_A.sl.v1037 (F := Ideal) E.c E.arg2 E.harg2 E.arg3 E.harg3 E.arg5 E.harg5 E.arg7 E.harg7 E.arg13 E.x0 E.x1 E.x3 E.x5) (ix2 l n) = ↑(0 + restC E.A E.B E.X E.D 6 l n 0 + restC E.A E.B E.X E.D 6 l n 1) := by
  have h := restC_next 6 1 (M := fun l n => 0 + restC E.A E.B E.X E.D 6 l n 0) (E.lda 6 1 1536 1 (by decide) rfl rfl inb_S1x2048x128_S1x256x1_0_1536_1) (E.ldp 6 1 1535 1 (by decide) (by decide) rfl rfl inb_S1x2048x128_S1x1x1_0_1535_1) (E.ldd 6 1 1536 128 (by decide) rfl rfl inb_S1x2048x384_S1x256x128_0_1536_128) (kept_6_1 E) (restC_6_0 E) l n
  exact h

theorem pair_6_2 (l m : Fin 256) :
    (kernelRun0_A.sl.r_63 (F := Ideal) E.c E.arg2 E.harg2 E.arg5 E.harg5 E.arg6 E.harg6 E.arg7 E.harg7 E.x0 E.x3 E.x4 E.x5) (ix2 l m) = ↑(0 + pairAt E.A E.X E.D 6 l m 0 + pairAt E.A E.X E.D 6 l m 1 + pairAt E.A E.X E.D 6 l m 2) := by
  have h := pair_next 6 2 (N := fun l m => 0 + pairAt E.A E.X E.D 6 l m 0 + pairAt E.A E.X E.D 6 l m 1) (E.ldx 6 2 1536 256 (by decide) rfl rfl inb_S1x2048x384_S1x256x128_0_1536_256) (E.lda 6 2 1536 2 (by decide) rfl rfl inb_S1x2048x128_S1x256x1_0_1536_2) (E.ldt 6 2 1536 2 (by decide) rfl rfl inb_S1x8x2048_S1x1x256_0_2_1536) (E.ldd 6 2 1536 256 (by decide) rfl rfl inb_S1x2048x384_S1x256x128_0_1536_256) (pair_6_1 E) l m
  exact h

theorem restB_6_2 (l : Fin 256) (n : Fin 128) :
    (kernelRun0_A.sl.v1168 (F := Ideal) E.c E.arg2 E.harg2 E.arg4 E.harg4 E.arg5 E.harg5 E.arg7 E.harg7 E.x0 E.x2 E.x3 E.x5) (ix2 l n) = ↑(0 + restB E.A E.C E.X E.D 6 l n 0 + restB E.A E.C E.X E.D 6 l n 1 + restB E.A E.C E.X E.D 6 l n 2) := by
  have h := restB_next 6 2 (M := fun l n => 0 + restB E.A E.C E.X E.D 6 l n 0 + restB E.A E.C E.X E.D 6 l n 1) (E.ldx 6 2 1536 256 (by decide) rfl rfl inb_S1x2048x384_S1x256x128_0_1536_256) (E.lda 6 2 1536 2 (by decide) rfl rfl inb_S1x2048x128_S1x256x1_0_1536_2) (grad_6_2 E) (restB_6_1 E) l n
  exact h

theorem restC_6_2 (l : Fin 256) (n : Fin 128) :
    (kernelRun0_A.sl.r_66 (F := Ideal) E.c E.arg2 E.harg2 E.arg3 E.harg3 E.arg5 E.harg5 E.arg7 E.harg7 E.arg13 E.x0 E.x1 E.x3 E.x5) (ix2 l n) = ↑(0 + restC E.A E.B E.X E.D 6 l n 0 + restC E.A E.B E.X E.D 6 l n 1 + restC E.A E.B E.X E.D 6 l n 2) := by
  have h := restC_next 6 2 (M := fun l n => 0 + restC E.A E.B E.X E.D 6 l n 0 + restC E.A E.B E.X E.D 6 l n 1) (E.lda 6 2 1536 2 (by decide) rfl rfl inb_S1x2048x128_S1x256x1_0_1536_2) (E.ldp 6 2 1535 2 (by decide) (by decide) rfl rfl inb_S1x2048x128_S1x1x1_0_1535_2) (E.ldd 6 2 1536 256 (by decide) rfl rfl inb_S1x2048x384_S1x256x128_0_1536_256) (kept_6_2 E) (restC_6_1 E) l n
  exact h

theorem db_6 (l : Fin 256) (n : Fin 128) :
    (kernelRun0_A.sl.v1219 (F := Ideal) E.c E.arg2 E.harg2 E.arg4 E.harg4 E.arg5 E.harg5 E.arg6 E.harg6 E.arg7 E.harg7 E.x0 E.x2 E.x3 E.x4 E.x5) (ix3 0 l n) = ↑(gradB E.A E.C E.X E.D (256 * 6 + l) n) := by
  have h := db_out 6 (by decide) (E.ldc 6 1536 (by decide) rfl inb_S1x2048x128_S1x256x128_0_1536_0) (restB_6_2 E) (pair_6_2 E) l n
  exact h

theorem dc_6 (l : Fin 256) (n : Fin 128) :
    (kernelRun0_A.sl.v1224 (F := Ideal) E.c E.arg2 E.harg2 E.arg3 E.harg3 E.arg5 E.harg5 E.arg6 E.harg6 E.arg7 E.harg7 E.arg13 E.x0 E.x1 E.x3 E.x4 E.x5) (ix3 0 l n) = ↑(gradC E.A E.B E.X E.D (256 * 6 + l) n) := by
  have h := dc_out 6 (by decide) (E.ldb 6 1536 (by decide) rfl inb_S1x2048x128_S1x256x128_0_1536_0) (restC_6_2 E) (pair_6_2 E) l n
  exact h

theorem pair_7_0 (l m : Fin 256) :
    (kernelRun0_A.sl.r_7 (F := Ideal) E.c E.arg2 E.harg2 E.arg5 E.harg5 E.arg6 E.harg6 E.arg7 E.harg7 E.x0 E.x3 E.x4 E.x5) (ix2 l m) = ↑(0 + pairAt E.A E.X E.D 7 l m 0) := by
  have h := pair_next 7 0 (N := fun l m => 0) (E.ldx 7 0 1792 0 (by decide) rfl rfl inb_S1x2048x384_S1x256x128_0_1792_0) (E.lda 7 0 1792 0 (by decide) rfl rfl inb_S1x2048x128_S1x256x1_0_1792_0) (E.ldt 7 0 1792 0 (by decide) rfl rfl inb_S1x8x2048_S1x1x256_0_0_1792) (E.ldd 7 0 1792 0 (by decide) rfl rfl inb_S1x2048x384_S1x256x128_0_1792_0) zero_start l m
  exact h

theorem restB_7_0 (l : Fin 256) (n : Fin 128) :
    (kernelRun0_A.sl.v603 (F := Ideal) E.c E.arg2 E.harg2 E.arg5 E.harg5 E.x0 E.x3) (ix2 l n) = ↑(0 + restB E.A E.C E.X E.D 7 l n 0) := by
  have h := restB_next 7 0 (M := fun l n => 0) (E.ldx 7 0 1792 0 (by decide) rfl rfl inb_S1x2048x384_S1x256x128_0_1792_0) (E.lda 7 0 1792 0 (by decide) rfl rfl inb_S1x2048x128_S1x256x1_0_1792_0) (E.grad_last 0) zero_start l n
  exact h

theorem restC_7_0 (l : Fin 256) (n : Fin 128) :
    (kernelRun0_A.sl.v581 (F := Ideal) E.c E.arg2 E.harg2 E.arg3 E.harg3 E.arg5 E.harg5 E.arg7 E.harg7 E.arg13 E.x0 E.x1 E.x3 E.x5) (ix2 l n) = ↑(0 + restC E.A E.B E.X E.D 7 l n 0) := by
  have h := restC_next 7 0 (M := fun l n => 0) (E.lda 7 0 1792 0 (by decide) rfl rfl inb_S1x2048x128_S1x256x1_0_1792_0) (E.ldp 7 0 1791 0 (by decide) (by decide) rfl rfl inb_S1x2048x128_S1x1x1_0_1791_0) (E.ldd 7 0 1792 0 (by decide) rfl rfl inb_S1x2048x384_S1x256x128_0_1792_0) (kept_7_0 E) zero_start l n
  exact h

theorem pair_7_1 (l m : Fin 256) :
    (kernelRun0_A.sl.r_15 (F := Ideal) E.c E.arg2 E.harg2 E.arg5 E.harg5 E.arg6 E.harg6 E.arg7 E.harg7 E.x0 E.x3 E.x4 E.x5) (ix2 l m) = ↑(0 + pairAt E.A E.X E.D 7 l m 0 + pairAt E.A E.X E.D 7 l m 1) := by
  have h := pair_next 7 1 (N := fun l m => 0 + pairAt E.A E.X E.D 7 l m 0) (E.ldx 7 1 1792 128 (by decide) rfl rfl inb_S1x2048x384_S1x256x128_0_1792_128) (E.lda 7 1 1792 1 (by decide) rfl rfl inb_S1x2048x128_S1x256x1_0_1792_1) (E.ldt 7 1 1792 1 (by decide) rfl rfl inb_S1x8x2048_S1x1x256_0_1_1792) (E.ldd 7 1 1792 128 (by decide) rfl rfl inb_S1x2048x384_S1x256x128_0_1792_128) (pair_7_0 E) l m
  exact h

theorem restB_7_1 (l : Fin 256) (n : Fin 128) :
    (kernelRun0_A.sl.v712 (F := Ideal) E.c E.arg2 E.harg2 E.arg5 E.harg5 E.x0 E.x3) (ix2 l n) = ↑(0 + restB E.A E.C E.X E.D 7 l n 0 + restB E.A E.C E.X E.D 7 l n 1) := by
  have h := restB_next 7 1 (M := fun l n => 0 + restB E.A E.C E.X E.D 7 l n 0) (E.ldx 7 1 1792 128 (by decide) rfl rfl inb_S1x2048x384_S1x256x128_0_1792_128) (E.lda 7 1 1792 1 (by decide) rfl rfl inb_S1x2048x128_S1x256x1_0_1792_1) (E.grad_last 1) (restB_7_0 E) l n
  exact h

theorem restC_7_1 (l : Fin 256) (n : Fin 128) :
    (kernelRun0_A.sl.r_18 (F := Ideal) E.c E.arg2 E.harg2 E.arg3 E.harg3 E.arg5 E.harg5 E.arg7 E.harg7 E.arg13 E.x0 E.x1 E.x3 E.x5) (ix2 l n) = ↑(0 + restC E.A E.B E.X E.D 7 l n 0 + restC E.A E.B E.X E.D 7 l n 1) := by
  have h := restC_next 7 1 (M := fun l n => 0 + restC E.A E.B E.X E.D 7 l n 0) (E.lda 7 1 1792 1 (by decide) rfl rfl inb_S1x2048x128_S1x256x1_0_1792_1) (E.ldp 7 1 1791 1 (by decide) (by decide) rfl rfl inb_S1x2048x128_S1x1x1_0_1791_1) (E.ldd 7 1 1792 128 (by decide) rfl rfl inb_S1x2048x384_S1x256x128_0_1792_128) (kept_7_1 E) (restC_7_0 E) l n
  exact h

theorem pair_7_2 (l m : Fin 256) :
    (kernelRun0_A.sl.r_35 (F := Ideal) E.c E.arg2 E.harg2 E.arg5 E.harg5 E.arg6 E.harg6 E.arg7 E.harg7 E.x0 E.x3 E.x4 E.x5) (ix2 l m) = ↑(0 + pairAt E.A E.X E.D 7 l m 0 + pairAt E.A E.X E.D 7 l m 1 + pairAt E.A E.X E.D 7 l m 2) := by
  have h := pair_next 7 2 (N := fun l m => 0 + pairAt E.A E.X E.D 7 l m 0 + pairAt E.A E.X E.D 7 l m 1) (E.ldx 7 2 1792 256 (by decide) rfl rfl inb_S1x2048x384_S1x256x128_0_1792_256) (E.lda 7 2 1792 2 (by decide) rfl rfl inb_S1x2048x128_S1x256x1_0_1792_2) (E.ldt 7 2 1792 2 (by decide) rfl rfl inb_S1x8x2048_S1x1x256_0_2_1792) (E.ldd 7 2 1792 256 (by decide) rfl rfl inb_S1x2048x384_S1x256x128_0_1792_256) (pair_7_1 E) l m
  exact h

theorem restB_7_2 (l : Fin 256) (n : Fin 128) :
    (kernelRun0_A.sl.v821 (F := Ideal) E.c E.arg2 E.harg2 E.arg5 E.harg5 E.x0 E.x3) (ix2 l n) = ↑(0 + restB E.A E.C E.X E.D 7 l n 0 + restB E.A E.C E.X E.D 7 l n 1 + restB E.A E.C E.X E.D 7 l n 2) := by
  have h := restB_next 7 2 (M := fun l n => 0 + restB E.A E.C E.X E.D 7 l n 0 + restB E.A E.C E.X E.D 7 l n 1) (E.ldx 7 2 1792 256 (by decide) rfl rfl inb_S1x2048x384_S1x256x128_0_1792_256) (E.lda 7 2 1792 2 (by decide) rfl rfl inb_S1x2048x128_S1x256x1_0_1792_2) (E.grad_last 2) (restB_7_1 E) l n
  exact h

theorem restC_7_2 (l : Fin 256) (n : Fin 128) :
    (kernelRun0_A.sl.v799 (F := Ideal) E.c E.arg2 E.harg2 E.arg3 E.harg3 E.arg5 E.harg5 E.arg7 E.harg7 E.arg13 E.x0 E.x1 E.x3 E.x5) (ix2 l n) = ↑(0 + restC E.A E.B E.X E.D 7 l n 0 + restC E.A E.B E.X E.D 7 l n 1 + restC E.A E.B E.X E.D 7 l n 2) := by
  have h := restC_next 7 2 (M := fun l n => 0 + restC E.A E.B E.X E.D 7 l n 0 + restC E.A E.B E.X E.D 7 l n 1) (E.lda 7 2 1792 2 (by decide) rfl rfl inb_S1x2048x128_S1x256x1_0_1792_2) (E.ldp 7 2 1791 2 (by decide) (by decide) rfl rfl inb_S1x2048x128_S1x1x1_0_1791_2) (E.ldd 7 2 1792 256 (by decide) rfl rfl inb_S1x2048x384_S1x256x128_0_1792_256) (kept_7_2 E) (restC_7_1 E) l n
  exact h

theorem db_7 (l : Fin 256) (n : Fin 128) :
    (kernelRun0_A.sl.v872 (F := Ideal) E.c E.arg2 E.harg2 E.arg4 E.harg4 E.arg5 E.harg5 E.arg6 E.harg6 E.arg7 E.harg7 E.x0 E.x2 E.x3 E.x4 E.x5) (ix3 0 l n) = ↑(gradB E.A E.C E.X E.D (256 * 7 + l) n) := by
  have h := db_out 7 (by decide) (E.ldc 7 1792 (by decide) rfl inb_S1x2048x128_S1x256x128_0_1792_0) (restB_7_2 E) (pair_7_2 E) l n
  exact h

theorem dc_7 (l : Fin 256) (n : Fin 128) :
    (kernelRun0_A.sl.v877 (F := Ideal) E.c E.arg2 E.harg2 E.arg3 E.harg3 E.arg5 E.harg5 E.arg6 E.harg6 E.arg7 E.harg7 E.arg13 E.x0 E.x1 E.x3 E.x4 E.x5) (ix3 0 l n) = ↑(gradC E.A E.B E.X E.D (256 * 7 + l) n) := by
  have h := dc_out 7 (by decide) (E.ldb 7 1792 (by decide) rfl inb_S1x2048x128_S1x256x128_0_1792_0) (restC_7_2 E) (pair_7_2 E) l n
  exact h

end Cert.Chunk.Step
-- ==== Proof.Outputs.lean ====
/-
What one step of the grid leaves in its three output blocks: the gradients of Step.lean, a stored tile at a time.
-/
module

public import proofs.«01_k».proof.Proof.Blocks
public import proofs.«01_k».proof.Proof.TilesX
public import proofs.«01_k».proof.Proof.TilesBC

@[expose] public section

set_option maxRecDepth 16384

noncomputable section

namespace Cert.Chunk

open Cert.KernelIdeal Cert.KernelIdeal.Gen Cert.Finite Idealize.ShloMosaic Idealize.ShloMosaic.TcCoe

/-- One stored tile of a chunk against a function of the row and the lane. -/
theorem tile {w : S1x256x128.Idx → EReal} {f : ℕ → Fin 128 → ℝ} (i : ℕ)
    (hw : ∀ (l : Fin 256) (p : Fin 128), w (ix3 0 l p) = ↑(f (256 * i + l) p)) (y : S1x256x128.Idx) (s : Fin 2048) (n : Fin 128)
    (h1 : (s : ℕ) = 256 * i + (y 1 : ℕ)) (h2 : (n : ℕ) = (y 2 : ℕ)) : w y = ↑(f s n) := by
  idx_vars y
  have e : n = y2 := Fin.ext h2
  have h1' : (s : ℕ) = 256 * i + (y1 : ℕ) := h1
  have hz : y0 = 0 := Subsingleton.elim _ _
  rw [h1', e, hz]
  exact hw _ _

section

variable (E : Step) (i0 : grid0.Coords)
  (arg8 : Memref sig .tc .vmem S1x2048x384 .f32) (harg8 : arg8.IsWhole) (arg9 : Memref sig .tc .vmem S1x2048x128 .f32) (harg9 : arg9.IsWhole)
  (arg10 : Memref sig .tc .vmem S1x2048x128 .f32) (harg10 : arg10.IsWhole) (arg11 : Memref sig .tc .vmem S1x2048x128 .f32) (harg11 : arg11.IsWhole)
  (arg12 : Memref sig .tc .vmem S1x8x2048 .f32) (harg12 : arg12.IsWhole) (harg13 : E.arg13.IsWhole)

theorem out_b (s : Fin 2048) (n : Fin 128) :
    out0_A_7 E.c i0 E.arg2 E.harg2 E.arg3 E.harg3 E.arg4 E.harg4 E.arg5 E.harg5 E.arg6 E.harg6 E.arg7 E.harg7 arg8 harg8 arg9 harg9 arg10 harg10 arg11 harg11 arg12 harg12 E.arg13 harg13 E.x0 E.x1 E.x2 E.x3 E.x4 E.x5 (ix3 0 s n) = ((gradB E.A E.C E.X E.D s n : ℝ) : EReal) := by
  unfold out0_A_7 kernelRun0_A
  dsimp only
  rw [View.read_writes_junk_eq_canon]
  canon_tiles y hy
  · exact tile (f := gradB E.A E.C E.X E.D) 0 (fun l p => E.db_0 l p) y s n (by have e : (s : ℕ) = _ := hy1; omega) hy2
  · exact tile (f := gradB E.A E.C E.X E.D) 1 (fun l p => E.db_1 l p) y s n (by have e : (s : ℕ) = _ := hy1; omega) hy2
  · exact tile (f := gradB E.A E.C E.X E.D) 2 (fun l p => E.db_2 l p) y s n (by have e : (s : ℕ) = _ := hy1; omega) hy2
  · exact tile (f := gradB E.A E.C E.X E.D) 3 (fun l p => E.db_3 l p) y s n (by have e : (s : ℕ) = _ := hy1; omega) hy2
  · exact tile (f := gradB E.A E.C E.X E.D) 4 (fun l p => E.db_4 l p) y s n (by have e : (s : ℕ) = _ := hy1; omega) hy2
  · exact tile (f := gradB E.A E.C E.X E.D) 5 (fun l p => E.db_5 l p) y s n (by have e : (s : ℕ) = _ := hy1; omega) hy2
  · exact tile (f := gradB E.A E.C E.X E.D) 6 (fun l p => E.db_6 l p) y s n (by have e : (s : ℕ) = _ := hy1; omega) hy2
  · exact tile (f := gradB E.A E.C E.X E.D) 7 (fun l p => E.db_7 l p) y s n (by have e : (s : ℕ) = _ := hy1; omega) hy2

theorem out_c (s : Fin 2048) (n : Fin 128) :
    out0_A_8 E.c i0 E.arg2 E.harg2 E.arg3 E.harg3 E.arg4 E.harg4 E.arg5 E.harg5 E.arg6 E.harg6 E.arg7 E.harg7 arg8 harg8 arg9 harg9 arg10 harg10 arg11 harg11 arg12 harg12 E.arg13 harg13 E.x0 E.x1 E.x2 E.x3 E.x4 E.x5 (ix3 0 s n) = ((gradC E.A E.B E.X E.D s n : ℝ) : EReal) := by
  unfold out0_A_8 kernelRun0_A
  dsimp only
  rw [View.read_writes_junk_eq_canon]
  canon_tiles y hy
  · exact tile (f := gradC E.A E.B E.X E.D) 0 (fun l p => E.dc_0 l p) y s n (by have e : (s : ℕ) = _ := hy1; omega) hy2
  · exact tile (f := gradC E.A E.B E.X E.D) 1 (fun l p => E.dc_1 l p) y s n (by have e : (s : ℕ) = _ := hy1; omega) hy2
  · exact tile (f := gradC E.A E.B E.X E.D) 2 (fun l p => E.dc_2 l p) y s n (by have e : (s : ℕ) = _ := hy1; omega) hy2
  · exact tile (f := gradC E.A E.B E.X E.D) 3 (fun l p => E.dc_3 l p) y s n (by have e : (s : ℕ) = _ := hy1; omega) hy2
  · exact tile (f := gradC E.A E.B E.X E.D) 4 (fun l p => E.dc_4 l p) y s n (by have e : (s : ℕ) = _ := hy1; omega) hy2
  · exact tile (f := gradC E.A E.B E.X E.D) 5 (fun l p => E.dc_5 l p) y s n (by have e : (s : ℕ) = _ := hy1; omega) hy2
  · exact tile (f := gradC E.A E.B E.X E.D) 6 (fun l p => E.dc_6 l p) y s n (by have e : (s : ℕ) = _ := hy1; omega) hy2
  · exact tile (f := gradC E.A E.B E.X E.D) 7 (fun l p => E.dc_7 l p) y s n (by have e : (s : ℕ) = _ := hy1; omega) hy2

theorem out_x (s : Fin 2048) (q : Fin 384) (j : Fin 3) (p : Fin 128)
    (hq : (q : ℕ) = 128 * j + p) :
    out0_A_6 E.c i0 E.arg2 E.harg2 E.arg3 E.harg3 E.arg4 E.harg4 E.arg5 E.harg5 E.arg6 E.harg6 E.arg7 E.harg7 arg8 harg8 arg9 harg9 arg10 harg10 arg11 harg11 arg12 harg12 E.arg13 harg13 E.x0 E.x1 E.x2 E.x3 E.x4 E.x5 (ix3 0 s q) = ((gradX E.A E.B E.C E.D j s p : ℝ) : EReal) := by
  unfold out0_A_6 kernelRun0_A
  dsimp only
  rw [View.read_writes_junk_eq_canon]
  canon_tiles y hy
  · have e1 : (s : ℕ) = _ := hy1
    have e2 : (q : ℕ) = _ := hy2
    obtain rfl : j = 2 := Fin.ext (by show (j : ℕ) = 2; omega)
    exact tile (f := gradX E.A E.B E.C E.D 2) 0 (fun l p => E.dx_0_2 l p) y s p (by omega) (by have e3 : (q : ℕ) = 128 * 2 + p := hq; omega)
  · have e1 : (s : ℕ) = _ := hy1
    have e2 : (q : ℕ) = _ := hy2
    obtain rfl : j = 1 := Fin.ext (by show (j : ℕ) = 1; omega)
    exact tile (f := gradX E.A E.B E.C E.D 1) 0 (fun l p => E.dx_0_1 l p) y s p (by omega) (by have e3 : (q : ℕ) = 128 * 1 + p := hq; omega)
  · have e1 : (s : ℕ) = _ := hy1
    have e2 : (q : ℕ) = _ := hy2
    obtain rfl : j = 0 := Fin.ext (by show (j : ℕ) = 0; omega)
    exact tile (f := gradX E.A E.B E.C E.D 0) 0 (fun l p => E.dx_0_0 l p) y s p (by omega) (by have e3 : (q : ℕ) = 128 * 0 + p := hq; omega)
  · have e1 : (s : ℕ) = _ := hy1
    have e2 : (q : ℕ) = _ := hy2
    obtain rfl : j = 2 := Fin.ext (by show (j : ℕ) = 2; omega)
    exact tile (f := gradX E.A E.B E.C E.D 2) 1 (fun l p => E.dx_1_2 l p) y s p (by omega) (by have e3 : (q : ℕ) = 128 * 2 + p := hq; omega)
  · have e1 : (s : ℕ) = _ := hy1
    have e2 : (q : ℕ) = _ := hy2
    obtain rfl : j = 1 := Fin.ext (by show (j : ℕ) = 1; omega)
    exact tile (f := gradX E.A E.B E.C E.D 1) 1 (fun l p => E.dx_1_1 l p) y s p (by omega) (by have e3 : (q : ℕ) = 128 * 1 + p := hq; omega)
  · have e1 : (s : ℕ) = _ := hy1
    have e2 : (q : ℕ) = _ := hy2
    obtain rfl : j = 0 := Fin.ext (by show (j : ℕ) = 0; omega)
    exact tile (f := gradX E.A E.B E.C E.D 0) 1 (fun l p => E.dx_1_0 l p) y s p (by omega) (by have e3 : (q : ℕ) = 128 * 0 + p := hq; omega)
  · have e1 : (s : ℕ) = _ := hy1
    have e2 : (q : ℕ) = _ := hy2
    obtain rfl : j = 2 := Fin.ext (by show (j : ℕ) = 2; omega)
    exact tile (f := gradX E.A E.B E.C E.D 2) 2 (fun l p => E.dx_2_2 l p) y s p (by omega) (by have e3 : (q : ℕ) = 128 * 2 + p := hq; omega)
  · have e1 : (s : ℕ) = _ := hy1
    have e2 : (q : ℕ) = _ := hy2
    obtain rfl : j = 1 := Fin.ext (by show (j : ℕ) = 1; omega)
    exact tile (f := gradX E.A E.B E.C E.D 1) 2 (fun l p => E.dx_2_1 l p) y s p (by omega) (by have e3 : (q : ℕ) = 128 * 1 + p := hq; omega)
  · have e1 : (s : ℕ) = _ := hy1
    have e2 : (q : ℕ) = _ := hy2
    obtain rfl : j = 0 := Fin.ext (by show (j : ℕ) = 0; omega)
    exact tile (f := gradX E.A E.B E.C E.D 0) 2 (fun l p => E.dx_2_0 l p) y s p (by omega) (by have e3 : (q : ℕ) = 128 * 0 + p := hq; omega)
  · have e1 : (s : ℕ) = _ := hy1
    have e2 : (q : ℕ) = _ := hy2
    obtain rfl : j = 2 := Fin.ext (by show (j : ℕ) = 2; omega)
    exact tile (f := gradX E.A E.B E.C E.D 2) 3 (fun l p => E.dx_3_2 l p) y s p (by omega) (by have e3 : (q : ℕ) = 128 * 2 + p := hq; omega)
  · have e1 : (s : ℕ) = _ := hy1
    have e2 : (q : ℕ) = _ := hy2
    obtain rfl : j = 1 := Fin.ext (by show (j : ℕ) = 1; omega)
    exact tile (f := gradX E.A E.B E.C E.D 1) 3 (fun l p => E.dx_3_1 l p) y s p (by omega) (by have e3 : (q : ℕ) = 128 * 1 + p := hq; omega)
  · have e1 : (s : ℕ) = _ := hy1
    have e2 : (q : ℕ) = _ := hy2
    obtain rfl : j = 0 := Fin.ext (by show (j : ℕ) = 0; omega)
    exact tile (f := gradX E.A E.B E.C E.D 0) 3 (fun l p => E.dx_3_0 l p) y s p (by omega) (by have e3 : (q : ℕ) = 128 * 0 + p := hq; omega)
  · have e1 : (s : ℕ) = _ := hy1
    have e2 : (q : ℕ) = _ := hy2
    obtain rfl : j = 2 := Fin.ext (by show (j : ℕ) = 2; omega)
    exact tile (f := gradX E.A E.B E.C E.D 2) 4 (fun l p => E.dx_4_2 l p) y s p (by omega) (by have e3 : (q : ℕ) = 128 * 2 + p := hq; omega)
  · have e1 : (s : ℕ) = _ := hy1
    have e2 : (q : ℕ) = _ := hy2
    obtain rfl : j = 1 := Fin.ext (by show (j : ℕ) = 1; omega)
    exact tile (f := gradX E.A E.B E.C E.D 1) 4 (fun l p => E.dx_4_1 l p) y s p (by omega) (by have e3 : (q : ℕ) = 128 * 1 + p := hq; omega)
  · have e1 : (s : ℕ) = _ := hy1
    have e2 : (q : ℕ) = _ := hy2
    obtain rfl : j = 0 := Fin.ext (by show (j : ℕ) = 0; omega)
    exact tile (f := gradX E.A E.B E.C E.D 0) 4 (fun l p => E.dx_4_0 l p) y s p (by omega) (by have e3 : (q : ℕ) = 128 * 0 + p := hq; omega)
  · have e1 : (s : ℕ) = _ := hy1
    have e2 : (q : ℕ) = _ := hy2
    obtain rfl : j = 2 := Fin.ext (by show (j : ℕ) = 2; omega)
    exact tile (f := gradX E.A E.B E.C E.D 2) 5 (fun l p => E.dx_5_2 l p) y s p (by omega) (by have e3 : (q : ℕ) = 128 * 2 + p := hq; omega)
  · have e1 : (s : ℕ) = _ := hy1
    have e2 : (q : ℕ) = _ := hy2
    obtain rfl : j = 1 := Fin.ext (by show (j : ℕ) = 1; omega)
    exact tile (f := gradX E.A E.B E.C E.D 1) 5 (fun l p => E.dx_5_1 l p) y s p (by omega) (by have e3 : (q : ℕ) = 128 * 1 + p := hq; omega)
  · have e1 : (s : ℕ) = _ := hy1
    have e2 : (q : ℕ) = _ := hy2
    obtain rfl : j = 0 := Fin.ext (by show (j : ℕ) = 0; omega)
    exact tile (f := gradX E.A E.B E.C E.D 0) 5 (fun l p => E.dx_5_0 l p) y s p (by omega) (by have e3 : (q : ℕ) = 128 * 0 + p := hq; omega)
  · have e1 : (s : ℕ) = _ := hy1
    have e2 : (q : ℕ) = _ := hy2
    obtain rfl : j = 2 := Fin.ext (by show (j : ℕ) = 2; omega)
    exact tile (f := gradX E.A E.B E.C E.D 2) 6 (fun l p => E.dx_6_2 l p) y s p (by omega) (by have e3 : (q : ℕ) = 128 * 2 + p := hq; omega)
  · have e1 : (s : ℕ) = _ := hy1
    have e2 : (q : ℕ) = _ := hy2
    obtain rfl : j = 1 := Fin.ext (by show (j : ℕ) = 1; omega)
    exact tile (f := gradX E.A E.B E.C E.D 1) 6 (fun l p => E.dx_6_1 l p) y s p (by omega) (by have e3 : (q : ℕ) = 128 * 1 + p := hq; omega)
  · have e1 : (s : ℕ) = _ := hy1
    have e2 : (q : ℕ) = _ := hy2
    obtain rfl : j = 0 := Fin.ext (by show (j : ℕ) = 0; omega)
    exact tile (f := gradX E.A E.B E.C E.D 0) 6 (fun l p => E.dx_6_0 l p) y s p (by omega) (by have e3 : (q : ℕ) = 128 * 0 + p := hq; omega)
  · have e1 : (s : ℕ) = _ := hy1
    have e2 : (q : ℕ) = _ := hy2
    obtain rfl : j = 2 := Fin.ext (by show (j : ℕ) = 2; omega)
    exact tile (f := gradX E.A E.B E.C E.D 2) 7 (fun l p => E.dx_7_2 l p) y s p (by omega) (by have e3 : (q : ℕ) = 128 * 2 + p := hq; omega)
  · have e1 : (s : ℕ) = _ := hy1
    have e2 : (q : ℕ) = _ := hy2
    obtain rfl : j = 1 := Fin.ext (by show (j : ℕ) = 1; omega)
    exact tile (f := gradX E.A E.B E.C E.D 1) 7 (fun l p => E.dx_7_1 l p) y s p (by omega) (by have e3 : (q : ℕ) = 128 * 1 + p := hq; omega)
  · have e1 : (s : ℕ) = _ := hy1
    have e2 : (q : ℕ) = _ := hy2
    obtain rfl : j = 0 := Fin.ext (by show (j : ℕ) = 0; omega)
    exact tile (f := gradX E.A E.B E.C E.D 0) 7 (fun l p => E.dx_7_0 l p) y s p (by omega) (by have e3 : (q : ℕ) = 128 * 0 + p := hq; omega)

end

end Cert.Chunk
-- ==== Proof.Arrays.lean ====
/-
The three arrays that the kernel's grid leaves: every element is the gradient of Step.lean, of its batch, group and head.
-/
module

public import proofs.«01_k».proof.Proof.Outputs
public import proofs.«01_k».proof.Proof.Gen.KernelIdeal.Value

@[expose] public section

set_option maxRecDepth 16384

noncomputable section

namespace Cert.Chunk

open Cert.KernelIdeal Cert.KernelIdeal.Gen Cert.Finite Idealize.ShloMosaic Idealize.ShloMosaic.TcCoe

/-- The gradient of the inputs, heads padded to 128 lanes, side by side. -/
def dxAll (m : (ℓ : Loc nD τ sig) → Buf (Elt Ideal) ℓ) (c : Dev nD) : S4x2048x1536.Idx → EReal := fun i =>
  let b : Fin 4 := i 0
  let q : Fin 1536 := i 2
  let g : Fin 4 := ⟨q / 384, by omega⟩
  ((gradX (decays (argA m c) b g) (cols (argB m c) b g) (cols (argC m c) b g) (rows (argD m c) b g)
    ⟨q % 384 / 128, by omega⟩ (i 1) ⟨q % 128, by omega⟩ : ℝ) : EReal)

/-- The gradient of the matrices `B`, groups side by side. -/
def dbAll (m : (ℓ : Loc nD τ sig) → Buf (Elt Ideal) ℓ) (c : Dev nD) : S4x2048x512.Idx → EReal := fun i =>
  let b : Fin 4 := i 0
  let q : Fin 512 := i 2
  let g : Fin 4 := ⟨q / 128, by omega⟩
  ((gradB (decays (argA m c) b g) (cols (argC m c) b g) (rows (argX m c) b g) (rows (argD m c) b g)
    (i 1) ⟨q % 128, by omega⟩ : ℝ) : EReal)

/-- The gradient of the matrices `C`, groups side by side. -/
def dcAll (m : (ℓ : Loc nD τ sig) → Buf (Elt Ideal) ℓ) (c : Dev nD) : S4x2048x512.Idx → EReal := fun i =>
  let b : Fin 4 := i 0
  let q : Fin 512 := i 2
  let g : Fin 4 := ⟨q / 128, by omega⟩
  ((gradC (decays (argA m c) b g) (cols (argB m c) b g) (rows (argX m c) b g) (rows (argD m c) b g)
    (i 1) ⟨q % 128, by omega⟩ : ℝ) : EReal)

variable {m : (ℓ : Loc nD τ sig) → Buf (Elt Ideal) ℓ} {c : Dev nD}

theorem emb_x (t : Fin cfg0.N) (s : Fin 2048) (q : Fin 384) : (((cfg0.win 6).blk t).view.emb (ix3 0 s q) : S4x2048x1536.Idx)
    = ix3 (batch t) s ⟨384 * (group t).val + q, by have := (group t).isLt; omega⟩ := by
  blk_ext [idx t]
  all_goals (simp only [batch, group]; omega)

theorem emb_b (t : Fin cfg0.N) (s : Fin 2048) (q : Fin 128) : (((cfg0.win 7).blk t).view.emb (ix3 0 s q) : S4x2048x512.Idx)
    = ix3 (batch t) s ⟨128 * (group t).val + q, by have := (group t).isLt; omega⟩ := by
  blk_ext [idx t]
  all_goals (simp only [batch, group]; omega)

theorem emb_c (t : Fin cfg0.N) (s : Fin 2048) (q : Fin 128) : (((cfg0.win 8).blk t).view.emb (ix3 0 s q) : S4x2048x512.Idx)
    = ix3 (batch t) s ⟨128 * (group t).val + q, by have := (group t).isLt; omega⟩ := by
  blk_ext [idx t]
  all_goals (simp only [batch, group]; omega)

theorem all_x (b : Fin 4) (s : Fin 2048) (g : Fin 4) (j : Fin 3) (p : Fin 128) (q : Fin 1536)
    (hq : (q : ℕ) = 384 * g + 128 * j + p) :
    dxAll m c (ix3 b s q) = ((gradX (decays (argA m c) b g) (cols (argB m c) b g) (cols (argC m c) b g) (rows (argD m c) b g) j s p : ℝ) : EReal) := by
  have key : ∀ (g' : Fin 4) (j' : Fin 3) (p' : Fin 128), g' = g → j' = j → p' = p →
      ((gradX (decays (argA m c) b g') (cols (argB m c) b g') (cols (argC m c) b g') (rows (argD m c) b g') j' s p' : ℝ) : EReal)
        = ((gradX (decays (argA m c) b g) (cols (argB m c) b g) (cols (argC m c) b g) (rows (argD m c) b g) j s p : ℝ) : EReal) := by
    rintro _ _ _ rfl rfl rfl
    rfl
  exact key ⟨q / 384, by omega⟩ ⟨q % 384 / 128, by omega⟩ ⟨q % 128, by omega⟩ (Fin.ext (by dsimp only; omega))
    (Fin.ext (by dsimp only; omega)) (Fin.ext (by dsimp only; omega))

theorem all_b (b : Fin 4) (s : Fin 2048) (g : Fin 4) (n : Fin 128) (q : Fin 512) (hq : (q : ℕ) = 128 * g + n) :
    dbAll m c (ix3 b s q) = ((gradB (decays (argA m c) b g) (cols (argC m c) b g) (rows (argX m c) b g) (rows (argD m c) b g) s n : ℝ) : EReal) := by
  have key : ∀ (g' : Fin 4) (n' : Fin 128), g' = g → n' = n →
      ((gradB (decays (argA m c) b g') (cols (argC m c) b g') (rows (argX m c) b g') (rows (argD m c) b g') s n' : ℝ) : EReal)
        = ((gradB (decays (argA m c) b g) (cols (argC m c) b g) (rows (argX m c) b g) (rows (argD m c) b g) s n : ℝ) : EReal) := by
    rintro _ _ rfl rfl
    rfl
  exact key ⟨q / 128, by omega⟩ ⟨q % 128, by omega⟩ (Fin.ext (by dsimp only; omega)) (Fin.ext (by dsimp only; omega))

theorem all_c (b : Fin 4) (s : Fin 2048) (g : Fin 4) (n : Fin 128) (q : Fin 512) (hq : (q : ℕ) = 128 * g + n) :
    dcAll m c (ix3 b s q) = ((gradC (decays (argA m c) b g) (cols (argB m c) b g) (rows (argX m c) b g) (rows (argD m c) b g) s n : ℝ) : EReal) := by
  have key : ∀ (g' : Fin 4) (n' : Fin 128), g' = g → n' = n →
      ((gradC (decays (argA m c) b g') (cols (argB m c) b g') (rows (argX m c) b g') (rows (argD m c) b g') s n' : ℝ) : EReal)
        = ((gradC (decays (argA m c) b g) (cols (argB m c) b g) (rows (argX m c) b g) (rows (argD m c) b g) s n : ℝ) : EReal) := by
    rintro _ _ rfl rfl
    rfl
  exact key ⟨q / 128, by omega⟩ ⟨q % 128, by omega⟩ (Fin.ext (by dsimp only; omega)) (Fin.ext (by dsimp only; omega))

end Cert.Chunk
-- ==== Proof.Finals.lean ====
/-
The three arrays that the kernel's run leaves.
-/
module

public import proofs.«01_k».proof.Proof.Arrays

@[expose] public section

set_option maxRecDepth 16384

noncomputable section

namespace Cert.Chunk

open Cert.KernelIdeal Cert.KernelIdeal.Gen Cert.Finite Idealize.ShloMosaic Idealize.ShloMosaic.TcCoe

variable {m : (ℓ : Loc nD τ sig) → Buf (Elt Ideal) ℓ} {c : Dev nD}

theorem after_x (h : Reals m c) (t : Fin cfg0.N) (s : Fin 2048) (q : Fin 384) (j : Fin 3) (p : Fin 128) (hq : (q : ℕ) = 128 * j + p) :
    (dats m 0 c).after 6 t (ix3 0 s q) = ((gradX (decays (argA m c) (batch t) (group t)) (cols (argB m c) (batch t) (group t)) (cols (argC m c) (batch t) (group t))
      (rows (argD m c) (batch t) (group t)) j s p : ℝ) : EReal) := by
  rw [after0_6]
  unfold outsAt0
  dsimp only
  exact out_x (stepAt h t) (grid0.coords t) (ms0_6 t) (hs0_6 t) (ms0_7 t) (hs0_7 t) (ms0_8 t) (hs0_8 t) (ms0_9 t) (hs0_9 t) (ms0_10 t) (hs0_10 t) (Memref.isWhole_whole _) s q j p hq

theorem point_x (h : Reals m c) (t : Fin cfg0.N) (y : S1x2048x384.Idx) :
    (dats m 0 c).after 6 t y = dxAll m c (((cfg0.win 6).blk t).view.emb y) := by
  idx_vars y
  obtain rfl : y0 = 0 := Subsingleton.elim _ _
  refine (after_x h t y1 y2 ⟨y2 / 128, by omega⟩ ⟨y2 % 128, by omega⟩ (by dsimp only; omega)).trans ?_
  refine Eq.trans ?_ (congrArg (dxAll m c) (emb_x t y1 y2)).symm
  exact (all_x (batch t) y1 (group t) ⟨y2 / 128, by omega⟩ ⟨y2 % 128, by omega⟩ _ (by dsimp only; omega)).symm

/-- The first array after the run. -/
theorem arr_x (h : Reals m c) : (dats m 0 c).arrAt 6 cfg0.N = dxAll m c := by
  refine (dats m 0 c).arrAt_eq_of_covers 6 _ (by decide +kernel) fun t hf y => ?_
  blk_simp
  exact point_x h t y

theorem after_b (h : Reals m c) (t : Fin cfg0.N) (s : Fin 2048) (n : Fin 128) :
    (dats m 0 c).after 7 t (ix3 0 s n) = ((gradB (decays (argA m c) (batch t) (group t)) (cols (argC m c) (batch t) (group t)) (rows (argX m c) (batch t) (group t))
      (rows (argD m c) (batch t) (group t)) s n : ℝ) : EReal) := by
  rw [after0_7]
  unfold outsAt0
  dsimp only
  exact out_b (stepAt h t) (grid0.coords t) (ms0_6 t) (hs0_6 t) (ms0_7 t) (hs0_7 t) (ms0_8 t) (hs0_8 t) (ms0_9 t) (hs0_9 t) (ms0_10 t) (hs0_10 t) (Memref.isWhole_whole _) s n

theorem point_b (h : Reals m c) (t : Fin cfg0.N) (y : S1x2048x128.Idx) :
    (dats m 0 c).after 7 t y = dbAll m c (((cfg0.win 7).blk t).view.emb y) := by
  idx_vars y
  obtain rfl : y0 = 0 := Subsingleton.elim _ _
  refine (after_b h t y1 y2).trans ?_
  refine Eq.trans ?_ (congrArg (dbAll m c) (emb_b t y1 y2)).symm
  exact (all_b (batch t) y1 (group t) y2 _ rfl).symm

/-- The second array after the run. -/
theorem arr_b (h : Reals m c) : (dats m 0 c).arrAt 7 cfg0.N = dbAll m c := by
  refine (dats m 0 c).arrAt_eq_of_covers 7 _ (by decide +kernel) fun t hf y => ?_
  blk_simp
  exact point_b h t y

theorem after_c (h : Reals m c) (t : Fin cfg0.N) (s : Fin 2048) (n : Fin 128) :
    (dats m 0 c).after 8 t (ix3 0 s n) = ((gradC (decays (argA m c) (batch t) (group t)) (cols (argB m c) (batch t) (group t)) (rows (argX m c) (batch t) (group t))
      (rows (argD m c) (batch t) (group t)) s n : ℝ) : EReal) := by
  rw [after0_8]
  unfold outsAt0
  dsimp only
  exact out_c (stepAt h t) (grid0.coords t) (ms0_6 t) (hs0_6 t) (ms0_7 t) (hs0_7 t) (ms0_8 t) (hs0_8 t) (ms0_9 t) (hs0_9 t) (ms0_10 t) (hs0_10 t) (Memref.isWhole_whole _) s n

theorem point_c (h : Reals m c) (t : Fin cfg0.N) (y : S1x2048x128.Idx) :
    (dats m 0 c).after 8 t y = dcAll m c (((cfg0.win 8).blk t).view.emb y) := by
  idx_vars y
  obtain rfl : y0 = 0 := Subsingleton.elim _ _
  refine (after_c h t y1 y2).trans ?_
  refine Eq.trans ?_ (congrArg (dcAll m c) (emb_c t y1 y2)).symm
  exact (all_c (batch t) y1 (group t) y2 _ rfl).symm

/-- The third array after the run. -/
theorem arr_c (h : Reals m c) : (dats m 0 c).arrAt 8 cfg0.N = dcAll m c := by
  refine (dats m 0 c).arrAt_eq_of_covers 8 _ (by decide +kernel) fun t hf y => ?_
  blk_simp
  exact point_c h t y

end Cert.Chunk
-- ==== Proof.Reference.lean ====
/-
The reference read: its three results are the undivided sums of Step.lean.
-/
module

public import proofs.«01_k».proof.Proof.Host
public import proofs.«01_k».proof.Proof.Gen.ReferenceIdeal.Read

@[expose] public section

set_option maxRecDepth 16384

noncomputable section

namespace Cert.Chunk

open Cert.ReferenceIdeal Cert.ReferenceIdeal.Gen Cert.ReferenceIdeal.Read Cert.Finite Cert.ScanMath Idealize.ShloMosaic
open scoped BigOperators

theorem ref_mask (b : Fin 4) (s t : Fin 2048) (g : Fin 4) (j : Fin 3) :
    val_main_call2_v1 (F := Ideal) (ix5 b s t g j) = if (t : ℕ) ≤ s then 1#1 else 0#1 := by
  pointwise [val_main_call2_v1, val_main_v8, val_main_v2, val_main_call1_v4, val_main_v1, val_main_call1_v5, val_main_call1_v2, val_main_call1_v3, val_main_call1_v1, val_main_call1_v0, val_main_call1_c, val_main_call1_c_0, val_main_c]
  have z : IntOp.addi (BitVec.ofNat 32 s) 0#32 = BitVec.ofNat 32 s := BitVec.add_zero _
  rw [z]
  rw [WordCmp.cmpi_sge_ofNat (by omega) (by omega)]
  by_cases hst : (t : ℕ) ≤ s <;> simp [hst, Scalar.select]

theorem ref_w (a : FVec Ideal S4x2048x4x3 .f32) (h : IsReal a) (b : Fin 4) (s t : Fin 2048) (g : Fin 4) (j : Fin 3) :
    val_main_v10 (F := Ideal) a (ix5 b s t g j) = ↑(w (decays a b g j) s t) := by
  rw [val_main_v10_apply, val_main_v9_apply, ref_mask]
  have e : val_main_v7 (F := Ideal) a (ix5 b s t g j) = running a (ix4 b s g j) - running a (ix4 b t g j) := by
    pointwise [val_main_v7, val_main_v5, val_main_v6, val_main_v3, val_main_v4, val_main_v0]
    rfl
  rw [e, ← decays_apply h, ← decays_apply h]
  unfold w
  by_cases hst : (t : ℕ) ≤ s
  · rw [if_pos hst, if_pos hst, ← EReal.coe_sub]
    exact Ideal.exp_coe _
  · rw [if_neg hst, if_neg hst]
    have hb : val_main_call2_v2 (F := Ideal) (ix5 b s t g j) = ⊥ := by
      rw [val_main_call2_v2_apply, val_main_call2_v0_apply, val_main_cst_apply]
      show Ideal.ofBits .f32 0xFF800000#32 = ⊥
      simp [Ideal.ofBits, Ideal.ieee]
    rw [hb]
    exact Ideal.exp_bot

theorem ref_bc (x2 x3 : FVec Ideal S4x2048x4x128 .f32) (b : Fin 4) (s t : Fin 2048) (g : Fin 4) (j : Fin 3) :
    val_main_v14 (F := Ideal) x2 x3 (ix5 b s t g j) = ∑ n : Fin 128, x2 (ix4 b t g n) * x3 (ix4 b s g n) := by
  pointwise [val_main_v14, val_main_v13, val_main_v12, val_main_v11]

theorem ref_xd (x0 x4 : FVec Ideal S4x2048x4x3x64 .f32) (b : Fin 4) (s t : Fin 2048) (g : Fin 4) (j : Fin 3) :
    val_main_v20 (F := Ideal) x0 x4 (ix5 b s t g j) = ∑ p : Fin 64, x4 (ix5 b s g j p) * x0 (ix5 b t g j p) := by
  pointwise [val_main_v20, val_main_v19, val_main_v18]

/-- Head `j`'s pairing of the upstream gradient of token `s` with the input of token `t`, over the padded lanes. -/
theorem pair_lanes (x0 x4 : FVec Ideal S4x2048x4x3x64 .f32) (b g : Fin 4) (j : Fin 3) (s t : ℕ) :
    ∑ p : Fin 128, rows x0 b g j t p * rows x4 b g j s p
      = ∑ p : Fin 64, rows x0 b g j t ⟨p, by omega⟩ * rows x4 b g j s ⟨p, by omega⟩ := by
  rw [Fin.sum_univ_add (a := 64) (b := 64) (f := fun p : Fin 128 => rows x0 b g j t p * rows x4 b g j s p)]
  have z : ∀ p : Fin 64, rows x0 b g j t (Fin.natAdd 64 p) * rows x4 b g j s (Fin.natAdd 64 p) = 0 := fun p => by
    rw [rows_out _ _ _ _ _ _ (by simp), zero_mul]
  rw [Finset.sum_eq_zero fun p _ => z p, add_zero]
  rfl

theorem ref_pair (x0 x4 : FVec Ideal S4x2048x4x3x64 .f32) (h0 : IsReal x0) (h4 : IsReal x4) (b : Fin 4) (s t : Fin 2048) (g : Fin 4)
    (j : Fin 3) : val_main_v20 (F := Ideal) x0 x4 (ix5 b s t g j) = ↑(∑ p : Fin 128, rows x0 b g j t p * rows x4 b g j s p) := by
  rw [ref_xd, pair_lanes, coe_sum]
  refine Finset.sum_congr rfl fun p _ => ?_
  rw [EReal.coe_mul, rows_in h0 b g j t ⟨p, by omega⟩ p.isLt, rows_in h4 b g j s ⟨p, by omega⟩ p.isLt, mul_comm]

theorem ref_cb (x2 x3 : FVec Ideal S4x2048x4x128 .f32) (h2 : IsReal x2) (h3 : IsReal x3) (b : Fin 4) (s t : Fin 2048) (g : Fin 4)
    (j : Fin 3) : val_main_v14 (F := Ideal) x2 x3 (ix5 b s t g j) = ↑(∑ n : Fin 128, cols x2 b g t n * cols x3 b g s n) := by
  rw [ref_bc, coe_sum]
  refine Finset.sum_congr rfl fun n _ => ?_
  rw [EReal.coe_mul, cols_apply h2, cols_apply h3]

theorem ref_dcb (x0 x4 : FVec Ideal S4x2048x4x3x64 .f32) (x1 : FVec Ideal S4x2048x4x3 .f32) (h0 : IsReal x0) (h1 : IsReal x1)
    (h4 : IsReal x4) (b g : Fin 4) (t s : Fin 2048) :
    val_main_v27 (F := Ideal) x0 x1 x4 (ix4 b g t s)
      = ↑(∑ j : Fin 3, w (decays x1 b g j) s t * ∑ p : Fin 128, rows x0 b g j t p * rows x4 b g j s p) := by
  rw [coe_sum]
  have e : val_main_v27 (F := Ideal) x0 x1 x4 (ix4 b g t s) = ∑ j : Fin 3, val_main_v23 (F := Ideal) x0 x1 x4 (ix5 b s t g j) := by
    pointwise [val_main_v27, val_main_v26, val_main_v25, val_main_v24]
    have z : FloatOps.ofBits (F := Ideal) .f32 0x00000000#32 = 0 := Ideal.ofBits_zero_f32
    show FloatOps.ofBits (F := Ideal) .f32 0x00000000#32
      + ∑ _x : Fin 1, (FloatOps.ofBits (F := Ideal) .f32 0x00000000#32 + _) = _
    rw [z, zero_add, Fin.sum_univ_one, zero_add]
  rw [e]
  refine Finset.sum_congr rfl fun j _ => ?_
  rw [val_main_v23_apply, ref_pair x0 x4 h0 h4, ref_w x1 h1, EReal.coe_mul, mul_comm]
  rfl

theorem ref_dx (x1 : FVec Ideal S4x2048x4x3 .f32) (x2 x3 : FVec Ideal S4x2048x4x128 .f32) (x4 : FVec Ideal S4x2048x4x3x64 .f32)
    (h1 : IsReal x1) (h2 : IsReal x2) (h3 : IsReal x3) (h4 : IsReal x4) (b : Fin 4) (t : Fin 2048) (g : Fin 4) (j : Fin 3) (p : Fin 64) :
    val_main_v22 (F := Ideal) x1 x2 x3 x4 (ix5 b t g j p)
      = ↑(gradX (decays x1 b g) (cols x2 b g) (cols x3 b g) (rows x4 b g) j t ⟨p, by omega⟩) := by
  unfold gradX
  rw [coe_sum]
  have e : val_main_v22 (F := Ideal) x1 x2 x3 x4 (ix5 b t g j p)
      = ∑ s : Fin 2048, x4 (ix5 b s g j p) * val_main_v15 (F := Ideal) x1 x2 x3 (ix5 b s t g j) := by
    pointwise [val_main_v22, val_main_v21, val_main_v18]
  rw [e]
  refine Finset.sum_congr rfl fun s _ => ?_
  rw [val_main_v15_apply, ref_cb x2 x3 h2 h3, ref_w x1 h1, EReal.coe_mul, EReal.coe_mul, rows_in h4 b g j s ⟨p, by omega⟩ p.isLt]
  show _ * (_ * _) = _
  ac_rfl

theorem ref_dc (x0 x4 : FVec Ideal S4x2048x4x3x64 .f32) (x1 : FVec Ideal S4x2048x4x3 .f32) (x2 : FVec Ideal S4x2048x4x128 .f32)
    (h0 : IsReal x0) (h1 : IsReal x1) (h2 : IsReal x2) (h4 : IsReal x4) (b : Fin 4) (t : Fin 2048) (g : Fin 4) (n : Fin 128) :
    val_main_v29 (F := Ideal) x0 x1 x2 x4 (ix4 b t g n)
      = ↑(gradC (decays x1 b g) (cols x2 b g) (rows x0 b g) (rows x4 b g) t n) := by
  have e : val_main_v29 (F := Ideal) x0 x1 x2 x4 (ix4 b t g n)
      = ∑ u : Fin 2048, val_main_v27 (F := Ideal) x0 x1 x4 (ix4 b g u t) * x2 (ix4 b u g n) := by
    pointwise [val_main_v29, val_main_v28]
  rw [e]
  simp only [ref_dcb x0 x4 x1 h0 h1 h4, ← cols_apply h2, ← EReal.coe_mul, ← coe_sum]
  congr 1
  unfold gradC
  rw [Finset.sum_comm]
  refine Finset.sum_congr rfl fun u _ => ?_
  rw [Finset.sum_mul]
  refine Finset.sum_congr rfl fun j _ => ?_
  ring

theorem ref_db (x0 x4 : FVec Ideal S4x2048x4x3x64 .f32) (x1 : FVec Ideal S4x2048x4x3 .f32) (x3 : FVec Ideal S4x2048x4x128 .f32)
    (h0 : IsReal x0) (h1 : IsReal x1) (h3 : IsReal x3) (h4 : IsReal x4) (b : Fin 4) (t : Fin 2048) (g : Fin 4) (n : Fin 128) :
    val_main_v31 (F := Ideal) x0 x1 x3 x4 (ix4 b t g n)
      = ↑(gradB (decays x1 b g) (cols x3 b g) (rows x0 b g) (rows x4 b g) t n) := by
  have e : val_main_v31 (F := Ideal) x0 x1 x3 x4 (ix4 b t g n)
      = ∑ s : Fin 2048, val_main_v27 (F := Ideal) x0 x1 x4 (ix4 b g t s) * x3 (ix4 b s g n) := by
    pointwise [val_main_v31, val_main_v30]
  rw [e]
  simp only [ref_dcb x0 x4 x1 h0 h1 h4, ← cols_apply h3, ← EReal.coe_mul, ← coe_sum]
  congr 1
  unfold gradB
  rw [Finset.sum_comm]
  refine Finset.sum_congr rfl fun u _ => ?_
  rw [Finset.sum_mul]
  refine Finset.sum_congr rfl fun j _ => ?_
  ring

/-- The reference's first result. -/
theorem ref_x (x1 : FVec Ideal S4x2048x4x3 .f32) (x2 x3 : FVec Ideal S4x2048x4x128 .f32) (x4 : FVec Ideal S4x2048x4x3x64 .f32)
    (h1 : IsReal x1) (h2 : IsReal x2) (h3 : IsReal x3) (h4 : IsReal x4) (b : Fin 4) (t : Fin 2048) (g : Fin 4) (j : Fin 3) (p : Fin 128)
    (q : Fin 1536) (hq : (q : ℕ) = 384 * g + 128 * j + p) :
    val_main_v33 (F := Ideal) x1 x2 x3 x4 (ix3 b t q)
      = ↑(gradX (decays x1 b g) (cols x2 b g) (cols x3 b g) (rows x4 b g) j t p) := by
  have e : val_main_v33 (F := Ideal) x1 x2 x3 x4 (ix3 b t q) = val_main_v32 (F := Ideal) x1 x2 x3 x4 (ix5 b t g j p) := by
    pointwise [val_main_v33]
    congr 1
    idx_ext
  rw [e]
  by_cases hp : (p : ℕ) < 64
  · refine Eq.trans ?_ (ref_dx x1 x2 x3 x4 h1 h2 h3 h4 b t g j ⟨p, hp⟩)
    pointwise [val_main_v32]
    refine (dif_pos (by omega)).trans ?_
    congr 1
  · have z : gradX (decays x1 b g) (cols x2 b g) (cols x3 b g) (rows x4 b g) j t p = 0 :=
      Finset.sum_eq_zero fun s _ => by rw [rows_out x4 b g j s p hp, mul_zero, mul_zero]
    rw [z]
    refine Eq.trans ?_ word_zero
    pointwise [val_main_v32]
    exact (dif_neg (by omega)).trans rfl

/-- The reference's second result. -/
theorem ref_b (x0 x4 : FVec Ideal S4x2048x4x3x64 .f32) (x1 : FVec Ideal S4x2048x4x3 .f32) (x3 : FVec Ideal S4x2048x4x128 .f32)
    (h0 : IsReal x0) (h1 : IsReal x1) (h3 : IsReal x3) (h4 : IsReal x4) (b : Fin 4) (t : Fin 2048) (g : Fin 4) (n : Fin 128)
    (q : Fin 512) (hq : (q : ℕ) = 128 * g + n) :
    val_main_v34 (F := Ideal) x0 x1 x3 x4 (ix3 b t q) = ↑(gradB (decays x1 b g) (cols x3 b g) (rows x0 b g) (rows x4 b g) t n) := by
  refine Eq.trans ?_ (ref_db x0 x4 x1 x3 h0 h1 h3 h4 b t g n)
  pointwise [val_main_v34]
  congr 1
  idx_ext

/-- The reference's third result. -/
theorem ref_c (x0 x4 : FVec Ideal S4x2048x4x3x64 .f32) (x1 : FVec Ideal S4x2048x4x3 .f32) (x2 : FVec Ideal S4x2048x4x128 .f32)
    (h0 : IsReal x0) (h1 : IsReal x1) (h2 : IsReal x2) (h4 : IsReal x4) (b : Fin 4) (t : Fin 2048) (g : Fin 4) (n : Fin 128)
    (q : Fin 512) (hq : (q : ℕ) = 128 * g + n) :
    val_main_v35 (F := Ideal) x0 x1 x2 x4 (ix3 b t q) = ↑(gradC (decays x1 b g) (cols x2 b g) (rows x0 b g) (rows x4 b g) t n) := by
  refine Eq.trans ?_ (ref_dc x0 x4 x1 x2 h0 h1 h2 h4 b t g n)
  pointwise [val_main_v35]
  congr 1
  idx_ext

end Cert.Chunk
-- ==== Proof.Results.lean ====
/-
The kernel's arrays and the reference's results are the same three arrays.
-/
module

public import proofs.«01_k».proof.Defs
public import proofs.«01_k».proof.Proof.Finals
public import proofs.«01_k».proof.Proof.Reference
public import proofs.«01_k».proof.Proof.Gen.Pre_finite
public import Idealize.ShloMosaic.Adequacy
public import Idealize.ShloMosaic.Init

@[expose] public section

noncomputable section

namespace Cert.Chunk

open Idealize.ShloMosaic Idealize.SL.Sem Idealize.ShloMosaic.TcCoe

/-- Finite arguments hold real numbers. -/
theorem reals (m : (ℓ : Loc Cert.KernelIdeal.nD Cert.KernelIdeal.τ Cert.KernelIdeal.sig) → Buf (Elt Ideal) ℓ)
    (h : Pre_KernelIdeal_finite (hPre_finite := Cert.Pre_finite.Gen.facts) m) (c : Dev Cert.KernelIdeal.nD) : Reals m c := by
  obtain ⟨h0, h1, h2, h3, h4⟩ := Cert.Finite.real _ _ _ _ _ (h c)
  exact ⟨h0, h1, h2, h3, h4⟩

/-- The reference's first result is the kernel's. -/
theorem result_x (m : (ℓ : Loc Cert.KernelIdeal.nD Cert.KernelIdeal.τ Cert.KernelIdeal.sig) → Buf (Elt Ideal) ℓ) (c : Dev Cert.KernelIdeal.nD)
    (h : Reals m c) : Cert.ReferenceIdeal.Read.val_main_v33 (F := Ideal) (argA m c) (argB m c) (argC m c) (argD m c) = dxAll m c := by
  funext i
  idx_vars i
  have hi := i2.isLt
  refine (ref_x (argA m c) (argB m c) (argC m c) (argD m c) h.ha h.hb h.hc h.hd i0 i1 ⟨i2 / 384, by omega⟩ ⟨i2 % 384 / 128, by omega⟩
    ⟨i2 % 128, by omega⟩ i2 (by dsimp only; omega)).trans ?_
  exact (all_x i0 i1 ⟨i2 / 384, by omega⟩ ⟨i2 % 384 / 128, by omega⟩ ⟨i2 % 128, by omega⟩ i2 (by dsimp only; omega)).symm

/-- The reference's second result is the kernel's. -/
theorem result_b (m : (ℓ : Loc Cert.KernelIdeal.nD Cert.KernelIdeal.τ Cert.KernelIdeal.sig) → Buf (Elt Ideal) ℓ) (c : Dev Cert.KernelIdeal.nD)
    (h : Reals m c) : Cert.ReferenceIdeal.Read.val_main_v34 (F := Ideal) (argX m c) (argA m c) (argC m c) (argD m c) = dbAll m c := by
  funext i
  idx_vars i
  have hi := i2.isLt
  refine (ref_b (argX m c) (argD m c) (argA m c) (argC m c) h.hx h.ha h.hc h.hd i0 i1 ⟨i2 / 128, by omega⟩
    ⟨i2 % 128, by omega⟩ i2 (by dsimp only; omega)).trans ?_
  exact (all_b i0 i1 ⟨i2 / 128, by omega⟩ ⟨i2 % 128, by omega⟩ i2 (by dsimp only; omega)).symm

/-- The reference's third result is the kernel's. -/
theorem result_c (m : (ℓ : Loc Cert.KernelIdeal.nD Cert.KernelIdeal.τ Cert.KernelIdeal.sig) → Buf (Elt Ideal) ℓ) (c : Dev Cert.KernelIdeal.nD)
    (h : Reals m c) : Cert.ReferenceIdeal.Read.val_main_v35 (F := Ideal) (argX m c) (argA m c) (argB m c) (argD m c) = dcAll m c := by
  funext i
  idx_vars i
  have hi := i2.isLt
  refine (ref_c (argX m c) (argD m c) (argA m c) (argB m c) h.hx h.ha h.hb h.hd i0 i1 ⟨i2 / 128, by omega⟩
    ⟨i2 % 128, by omega⟩ i2 (by dsimp only; omega)).trans ?_
  exact (all_c i0 i1 ⟨i2 / 128, by omega⟩ ⟨i2 % 128, by omega⟩ i2 (by dsimp only; omega)).symm

theorem same_x (m : (ℓ : Loc Cert.KernelIdeal.nD Cert.KernelIdeal.τ Cert.KernelIdeal.sig) → Buf (Elt Ideal) ℓ) (c : Dev Cert.KernelIdeal.nD)
    (h : Reals m c) (y0 : FVec Ideal Cert.KernelIdeal.S4x2048x4x3 .f32) (y1 : FVec Ideal Cert.KernelIdeal.S4x2048x4x128 .f32) (y2 : FVec Ideal Cert.KernelIdeal.S4x2048x4x128 .f32) (y3 : FVec Ideal Cert.KernelIdeal.S4x2048x4x3x64 .f32)
    (e0 : y0 = argA m c) (e1 : y1 = argB m c) (e2 : y2 = argC m c) (e3 : y3 = argD m c) :
    Cert.ReferenceIdeal.Read.val_main_v33 (F := Ideal) y0 y1 y2 y3 = dxAll m c := by
  subst e0 e1 e2 e3
  exact result_x m c h

theorem same_b (m : (ℓ : Loc Cert.KernelIdeal.nD Cert.KernelIdeal.τ Cert.KernelIdeal.sig) → Buf (Elt Ideal) ℓ) (c : Dev Cert.KernelIdeal.nD)
    (h : Reals m c) (y0 : FVec Ideal Cert.KernelIdeal.S4x2048x4x3x64 .f32) (y1 : FVec Ideal Cert.KernelIdeal.S4x2048x4x3 .f32) (y2 : FVec Ideal Cert.KernelIdeal.S4x2048x4x128 .f32) (y3 : FVec Ideal Cert.KernelIdeal.S4x2048x4x3x64 .f32)
    (e0 : y0 = argX m c) (e1 : y1 = argA m c) (e2 : y2 = argC m c) (e3 : y3 = argD m c) :
    Cert.ReferenceIdeal.Read.val_main_v34 (F := Ideal) y0 y1 y2 y3 = dbAll m c := by
  subst e0 e1 e2 e3
  exact result_b m c h

theorem same_c (m : (ℓ : Loc Cert.KernelIdeal.nD Cert.KernelIdeal.τ Cert.KernelIdeal.sig) → Buf (Elt Ideal) ℓ) (c : Dev Cert.KernelIdeal.nD)
    (h : Reals m c) (y0 : FVec Ideal Cert.KernelIdeal.S4x2048x4x3x64 .f32) (y1 : FVec Ideal Cert.KernelIdeal.S4x2048x4x3 .f32) (y2 : FVec Ideal Cert.KernelIdeal.S4x2048x4x128 .f32) (y3 : FVec Ideal Cert.KernelIdeal.S4x2048x4x3x64 .f32)
    (e0 : y0 = argX m c) (e1 : y1 = argA m c) (e2 : y2 = argB m c) (e3 : y3 = argD m c) :
    Cert.ReferenceIdeal.Read.val_main_v35 (F := Ideal) y0 y1 y2 y3 = dcAll m c := by
  subst e0 e1 e2 e3
  exact result_c m c h

end Cert.Chunk
-- ==== Proof.Ffn.lean ====
module
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Reference5Ideal.Read
public import proofs.«01_k».proof.Proof.Gen.Pre_finite2
-- ==== Proof.FfnMath.lean ====
/-
The feed-forward block's mathematics: the logistic function as the kernel computes it (by `tanh`) and as the reference
writes it (by `exp`), the lanes of the interleaved gate and up columns, and a sum over 2816 columns taken 256 at a time.
-/
module

public import Idealize.ShloMosaic.Lib.Pointwise
public import Mathlib.Data.EReal.Operations
public import Mathlib.Analysis.SpecialFunctions.Trigonometric.DerivHyp

@[expose] public section

noncomputable section

namespace Cert.Ffn

open Idealize.ShloMosaic
open scoped BigOperators

/-- The lane of gate column `f` among the interleaved columns, chunks of 256 gate and 256 up columns in turn. -/
def gl (f : Fin 2816) : Fin 5632 := ⟨512 * (f / 256) + f % 256, by omega⟩

/-- The lane of up column `f` among the interleaved columns. -/
def ul (f : Fin 2816) : Fin 5632 := ⟨512 * (f / 256) + (256 + f % 256), by omega⟩

/-- A sum over 2816 columns, 256 at a time in order. -/
theorem sum_chunks {M : Type*} [AddCommMonoid M] (F : Fin 2816 → M) :
    ∑ f : Fin 2816, F f = ∑ j : Fin 11, ∑ q : Fin 256, F ⟨256 * j + q, by omega⟩ := by
  rw [← Fintype.sum_prod_type' (f := fun (j : Fin 11) (q : Fin 256) => F ⟨256 * j + q, by omega⟩)]
  refine (Fintype.sum_equiv (finProdFinEquiv (m := 11) (n := 256)) _ F fun p => congrArg F (Fin.ext ?_)).symm
  show 256 * (p.1 : ℕ) + p.2 = p.2 + 256 * p.1
  omega

/-- A sum over 8192 tokens, 2048 at a time in order. -/
theorem sum_tokens {M : Type*} [AddCommMonoid M] (F : Fin 8192 → M) :
    ∑ s : Fin 8192, F s = ∑ j : Fin 4, ∑ q : Fin 2048, F ⟨2048 * j + q, by omega⟩ := by
  rw [← Fintype.sum_prod_type' (f := fun (j : Fin 4) (q : Fin 2048) => F ⟨2048 * j + q, by omega⟩)]
  refine (Fintype.sum_equiv (finProdFinEquiv (m := 4) (n := 2048)) _ F fun p => congrArg F (Fin.ext ?_)).symm
  show 2048 * (p.1 : ℕ) + p.2 = p.2 + 2048 * p.1
  omega

/-- A nonnegative real number times a sum of extended reals. -/
theorem mul_sum_real {ι : Type*} (r : ℝ) (hr : 0 ≤ r) (s : Finset ι) (f : ι → EReal) :
    (∑ i ∈ s, f i) * (r : EReal) = ∑ i ∈ s, f i * (r : EReal) := by
  classical
  induction s using Finset.induction_on with
  | empty => simp
  | insert a s h ih =>
    rw [Finset.sum_insert h, Finset.sum_insert h, ← ih]
    exact EReal.right_distrib_of_nonneg_of_ne_top (by exact_mod_cast hr) (EReal.coe_ne_top r) _ _

/-- Eleven terms added to zero one after the other. -/
theorem sum_eleven (z : EReal) (hz : z = 0) (P : Fin 11 → EReal) :
    z + P 0 + P 1 + P 2 + P 3 + P 4 + P 5 + P 6 + P 7 + P 8 + P 9 + P 10 = ∑ j, P j := by
  simp only [Fin.sum_univ_succ, Fin.sum_univ_zero, hz, zero_add, add_zero, add_assoc]
  rfl

/-- A sum over 512 lanes: 256 and 256 more. -/
theorem sum_halves {M : Type*} [AddCommMonoid M] (F : Fin 512 → M) :
    ∑ q : Fin 512, F q = ∑ q : Fin 256, (F ⟨q, by omega⟩ + F ⟨256 + q, by omega⟩) := by
  rw [Finset.sum_add_distrib]
  exact Fin.sum_univ_add (a := 256) (b := 256) F

theorem coe_sum {ι : Type*} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- The word of one half. -/
theorem half_word : Ideal.ofBits .f32 0x3F000000#32 = ((1 / 2 : ℝ) : EReal) := by
  have h : ((8388608 : ℝ) : EReal) * (((2 ^ 24 : ℝ)⁻¹ : ℝ) : EReal) = (((2 : ℝ)⁻¹ : ℝ) : EReal) := by
    rw [← EReal.coe_mul]
    norm_num
  simpa [Ideal.ofBits, Ideal.ieee] using h

/-- The word of one. -/
theorem one_word : Ideal.ofBits .f32 0x3F800000#32 = ((1 : ℝ) : EReal) := by
  have h : ((8388608 : ℝ) : EReal) * (((2 ^ 23 : ℝ)⁻¹ : ℝ) : EReal) = ((1 : ℝ) : EReal) := by
    rw [← EReal.coe_mul]
    norm_num
  simpa [Ideal.ofBits, Ideal.ieee] using h

/-- The logistic function as the kernel computes it. -/
def sg (a : EReal) : EReal :=
  Ideal.ofBits .f32 0x3F000000#32 * Ideal.tanh (Ideal.ofBits .f32 0x3F000000#32 * a) + Ideal.ofBits .f32 0x3F000000#32

/-- A gate column's gradient as the kernel computes it, of the product's gradient, the gate and the up column. -/
def dgate (d a u : EReal) : EReal := d * u * (sg a + a * sg a - a * sg a * sg a)

/-- An up column's gradient as the kernel computes it. -/
def dup (d a : EReal) : EReal := d * (a * sg a)

/-- The logistic function of a real number. -/
def lg (r : ℝ) : ℝ := 1 / (1 + Real.exp (-r))

theorem tanh_half (r : ℝ) : 1 / 2 * Real.tanh (1 / 2 * r) + 1 / 2 = lg r := by
  have h : Real.exp (-r) = Real.exp (-(1 / 2 * r)) * Real.exp (-(1 / 2 * r)) := by rw [← Real.exp_add]; ring_nf
  have h1 := Real.exp_pos (1 / 2 * r)
  rw [lg, h, Real.tanh_eq_sinh_div_cosh, Real.sinh_eq, Real.cosh_eq, Real.exp_neg]
  field_simp
  ring

theorem sg_coe (r : ℝ) : sg (r : EReal) = (lg r : EReal) := by
  rw [sg, half_word, ← EReal.coe_mul, Ideal.tanh_coe, ← EReal.coe_mul, ← EReal.coe_add, tanh_half]

/-- The logistic function as the reference writes it. -/
def sr (a : EReal) : EReal :=
  Ideal.div (Ideal.ofBits .f32 0x3F800000#32) (Ideal.ofBits .f32 0x3F800000#32 + Ideal.exp (-a))

theorem sr_coe (r : ℝ) : sr (r : EReal) = (lg r : EReal) := by
  have h : (1 + Real.exp (-r) : ℝ) ≠ 0 := by positivity
  rw [sr, one_word, ← EReal.coe_neg, Ideal.exp_coe, ← EReal.coe_add, lg]
  have h' : ((1 + Real.exp (-r) : ℝ) : EReal) ≠ 0 := fun e => h (by exact_mod_cast e)
  rw [Ideal.div, if_neg h', ← EReal.coe_inv, ← EReal.coe_mul, one_div, one_mul]

/-- The two spellings agree at every extended real. -/
theorem sg_eq (a : EReal) : sg a = sr a := by
  induction a with
  | coe r => rw [sg_coe, sr_coe]
  | top =>
    simp only [sg, sr, half_word, one_word]
    rw [EReal.coe_mul_top_of_pos (by norm_num), Ideal.tanh_top, EReal.neg_top, Ideal.exp_bot]
    rw [mul_one, add_zero, Ideal.div, if_neg (by norm_num), ← EReal.coe_add, ← EReal.coe_inv, ← EReal.coe_mul]
    norm_num
  | bot =>
    simp only [sg, sr, half_word, one_word]
    rw [EReal.coe_mul_bot_of_pos (by norm_num), Ideal.tanh_bot, EReal.neg_bot, Ideal.exp_top]
    rw [EReal.coe_add_top, Ideal.div, if_neg (by simp), EReal.inv_top, mul_zero, mul_neg, mul_one, ← EReal.coe_neg, ← EReal.coe_add]
    norm_num

/-- A gate column's gradient as the reference writes it: the product's gradient, through the logistic function and through
its factor. -/
def dgate' (d a u : EReal) : EReal :=
  d * u * sr a + a * (d * u) * (sr a * (Ideal.ofBits .f32 0x3F800000#32 - sr a))

/-- At real numbers the two agree. -/
theorem dgate_eq (d a u : ℝ) : dgate d a u = dgate' d a u := by
  simp only [dgate, dgate', sg_coe, sr_coe, one_word]
  norm_cast
  ring_nf

end Cert.Ffn
-- ==== Proof.FfnBwdTile.lean ====
/-
A row block of the SwiGLU block's backward call: what the body writes for the input's gradient, from the blocks it reads.
The body takes the 2816 columns 256 at a time; a chunk is the same operations of its own columns.
-/
module

public import proofs.«01_k».proof.Proof.Gen.Kernel2Ideal.Frame
public import proofs.«01_k».proof.Proof.FfnMath
public import Idealize.ShloMosaic.Lib.Pipeline.ValueKit

@[expose] public section

set_option maxRecDepth 16384

noncomputable section

namespace Cert.FfnBwd

open Cert.Kernel2Ideal Cert.Kernel2Ideal.Gen Cert.Ffn Idealize.ShloMosaic
open scoped BigOperators

/-- A chunk's share of the gradient: its 256 gate and 256 up columns' gradients times their weights. -/
def part (v0 : Vec Ideal S512x1024 .bf16) (w : Vec Ideal S1024x256 .bf16) (a : Vec Ideal S512x512 .bf16) (x : Vec Ideal S512x1024 .bf16) :
    FVec Ideal S512x1024 .f32 :=
  matmul dot_S512x512_S512x1024_S512x1024_1_0_0_1_n_n none (k0_pay3 v0 w a)
    (shapeCast S512x1024 x shapeCasts_S512x1024_S512x1024 : FVec Ideal S512x1024 .bf16) (constant S512x1024 .f32 0x00000000#32)

/-- The body's payload for the input's gradient is the residual's share and the eleven chunks'. -/
theorem out_parts (x0 : Vec Ideal S512x1024 .bf16) (x1 : Vec Ideal S512x1024 .f32) (x2 : Vec Ideal S1024x2816 .bf16) (x3 : Vec Ideal S512x5632 .bf16)
    (x4 : Vec Ideal S5632x1024 .bf16) : out0_6 x0 x1 x2 x3 x4 = View.canon [⟨r0_0,
      addf (mulf (broadcast S512x1024 (Scalar.ofBits .f32 0x3F9837F0#32 : Ideal .f32)) (View.ld x1 r0_0))
        (addf (addf (addf (addf (addf (addf (addf (addf (addf (addf (addf (broadcast S512x1024 (Scalar.ofBits .f32 0x00000000#32 : Ideal .f32))
          (part (View.ld x0 r0_0) (View.ld x2 r0_1) (View.ld x3 r0_2) (View.ld x4 r0_3)))
          (part (View.ld x0 r0_0) (View.ld x2 r0_4) (View.ld x3 r0_5) (View.ld x4 r0_6)))
          (part (View.ld x0 r0_0) (View.ld x2 r0_7) (View.ld x3 r0_8) (View.ld x4 r0_9)))
          (part (View.ld x0 r0_0) (View.ld x2 r0_10) (View.ld x3 r0_11) (View.ld x4 r0_12)))
          (part (View.ld x0 r0_0) (View.ld x2 r0_13) (View.ld x3 r0_14) (View.ld x4 r0_15)))
          (part (View.ld x0 r0_0) (View.ld x2 r0_16) (View.ld x3 r0_17) (View.ld x4 r0_18)))
          (part (View.ld x0 r0_0) (View.ld x2 r0_19) (View.ld x3 r0_20) (View.ld x4 r0_21)))
          (part (View.ld x0 r0_0) (View.ld x2 r0_22) (View.ld x3 r0_23) (View.ld x4 r0_24)))
          (part (View.ld x0 r0_0) (View.ld x2 r0_25) (View.ld x3 r0_26) (View.ld x4 r0_27)))
          (part (View.ld x0 r0_0) (View.ld x2 r0_28) (View.ld x3 r0_29) (View.ld x4 r0_30)))
          (part (View.ld x0 r0_0) (View.ld x2 r0_31) (View.ld x3 r0_32) (View.ld x4 r0_33)))⟩] := by
  unfold_out out0_6
  rfl

theorem part_apply (v0 : Vec Ideal S512x1024 .bf16) (w : Vec Ideal S1024x256 .bf16) (a : Vec Ideal S512x512 .bf16) (x : Vec Ideal S512x1024 .bf16)
    (s : Fin 512) (n : Fin 1024) : part v0 w a x (ix2 s n) = ∑ q : Fin 512, k0_pay3 v0 w a (ix2 s q) * x (ix2 q n) := by
  pointwise [part]

theorem gate_apply (v0 : Vec Ideal S512x1024 .bf16) (w : Vec Ideal S1024x256 .bf16) (a : Vec Ideal S512x512 .bf16)
    (s : Fin 512) (q : Fin 256) : k0_pay3 v0 w a (ix2 s ⟨q, by omega⟩)
      = dgate (∑ k : Fin 1024, v0 (ix2 s k) * w (ix2 k q)) (a (ix2 s ⟨q, by omega⟩)) (a (ix2 s ⟨256 + q, by omega⟩)) := by
  pointwise [k0_pay3, k0_pay2]
  rfl

theorem up_apply (v0 : Vec Ideal S512x1024 .bf16) (w : Vec Ideal S1024x256 .bf16) (a : Vec Ideal S512x512 .bf16)
    (s : Fin 512) (q : Fin 256) : k0_pay3 v0 w a (ix2 s ⟨256 + q, by omega⟩)
      = dup (∑ k : Fin 1024, v0 (ix2 s k) * w (ix2 k q)) (a (ix2 s ⟨q, by omega⟩)) := by
  pointwise [k0_pay3, k0_pay2]
  rfl

variable (x0 : Vec Ideal S512x1024 .bf16) (x1 : Vec Ideal S512x1024 .f32) (x2 : Vec Ideal S1024x2816 .bf16) (x3 : Vec Ideal S512x5632 .bf16)
  (x4 : Vec Ideal S5632x1024 .bf16)

/-- Column `f`'s share of the gradient at row `s` and feature `n`. -/
def term (s : Fin 512) (n : Fin 1024) (f : Fin 2816) : EReal :=
  dgate (∑ k : Fin 1024, x0 (ix2 s k) * x2 (ix2 k f)) (x3 (ix2 s (gl f))) (x3 (ix2 s (ul f))) * x4 (ix2 (gl f) n)
    + dup (∑ k : Fin 1024, x0 (ix2 s k) * x2 (ix2 k f)) (x3 (ix2 s (gl f))) * x4 (ix2 (ul f) n)

/-- Chunk `j` of the columns. -/
theorem part_term (j : ℕ) (hj : j < 11) (v0 : Vec Ideal S512x1024 .bf16) (w : Vec Ideal S1024x256 .bf16) (a : Vec Ideal S512x512 .bf16)
    (x : Vec Ideal S512x1024 .bf16) (h0 : ∀ s k, v0 (ix2 s k) = x0 (ix2 s k))
    (hw : ∀ (k : Fin 1024) (q : Fin 256), w (ix2 k q) = x2 (ix2 k ⟨256 * j + q, by omega⟩))
    (ha : ∀ (s : Fin 512) (q : Fin 512), a (ix2 s q) = x3 (ix2 s ⟨512 * j + q, by omega⟩))
    (hx : ∀ (q : Fin 512) (n : Fin 1024), x (ix2 q n) = x4 (ix2 ⟨512 * j + q, by omega⟩ n)) (s : Fin 512) (n : Fin 1024) :
    part v0 w a x (ix2 s n) = ∑ q : Fin 256, term x0 x2 x3 x4 s n ⟨256 * j + q, by omega⟩ := by
  rw [part_apply, sum_halves]
  refine Finset.sum_congr rfl fun q _ => ?_
  have hq := q.isLt
  have eg : gl ⟨256 * j + q, by omega⟩ = ⟨512 * j + q, by omega⟩ := Fin.ext (by simp only [gl]; omega)
  have eu : ul ⟨256 * j + q, by omega⟩ = ⟨512 * j + (256 + q), by omega⟩ := Fin.ext (by simp only [ul]; omega)
  rw [gate_apply, up_apply]
  simp only [h0, hw, ha, hx, term, eg, eu]

theorem part0 (s : Fin 512) (n : Fin 1024) :
    part (View.ld x0 r0_0) (View.ld x2 r0_1) (View.ld x3 r0_2) (View.ld x4 r0_3) (ix2 s n)
      = ∑ q : Fin 256, term x0 x2 x3 x4 s n ⟨256 * 0 + q, by omega⟩ :=
  part_term x0 x2 x3 x4 0 (by omega) _ _ _ _ (fun s k => by pointwise) (fun k q => by pointwise) (fun s q => by pointwise)
    (fun q n => by pointwise) s n

theorem part1 (s : Fin 512) (n : Fin 1024) :
    part (View.ld x0 r0_0) (View.ld x2 r0_4) (View.ld x3 r0_5) (View.ld x4 r0_6) (ix2 s n)
      = ∑ q : Fin 256, term x0 x2 x3 x4 s n ⟨256 * 1 + q, by omega⟩ :=
  part_term x0 x2 x3 x4 1 (by omega) _ _ _ _ (fun s k => by pointwise) (fun k q => by pointwise) (fun s q => by pointwise)
    (fun q n => by pointwise) s n

theorem part2 (s : Fin 512) (n : Fin 1024) :
    part (View.ld x0 r0_0) (View.ld x2 r0_7) (View.ld x3 r0_8) (View.ld x4 r0_9) (ix2 s n)
      = ∑ q : Fin 256, term x0 x2 x3 x4 s n ⟨256 * 2 + q, by omega⟩ :=
  part_term x0 x2 x3 x4 2 (by omega) _ _ _ _ (fun s k => by pointwise) (fun k q => by pointwise) (fun s q => by pointwise)
    (fun q n => by pointwise) s n

theorem part3 (s : Fin 512) (n : Fin 1024) :
    part (View.ld x0 r0_0) (View.ld x2 r0_10) (View.ld x3 r0_11) (View.ld x4 r0_12) (ix2 s n)
      = ∑ q : Fin 256, term x0 x2 x3 x4 s n ⟨256 * 3 + q, by omega⟩ :=
  part_term x0 x2 x3 x4 3 (by omega) _ _ _ _ (fun s k => by pointwise) (fun k q => by pointwise) (fun s q => by pointwise)
    (fun q n => by pointwise) s n

theorem part4 (s : Fin 512) (n : Fin 1024) :
    part (View.ld x0 r0_0) (View.ld x2 r0_13) (View.ld x3 r0_14) (View.ld x4 r0_15) (ix2 s n)
      = ∑ q : Fin 256, term x0 x2 x3 x4 s n ⟨256 * 4 + q, by omega⟩ :=
  part_term x0 x2 x3 x4 4 (by omega) _ _ _ _ (fun s k => by pointwise) (fun k q => by pointwise) (fun s q => by pointwise)
    (fun q n => by pointwise) s n

theorem part5 (s : Fin 512) (n : Fin 1024) :
    part (View.ld x0 r0_0) (View.ld x2 r0_16) (View.ld x3 r0_17) (View.ld x4 r0_18) (ix2 s n)
      = ∑ q : Fin 256, term x0 x2 x3 x4 s n ⟨256 * 5 + q, by omega⟩ :=
  part_term x0 x2 x3 x4 5 (by omega) _ _ _ _ (fun s k => by pointwise) (fun k q => by pointwise) (fun s q => by pointwise)
    (fun q n => by pointwise) s n

theorem part6 (s : Fin 512) (n : Fin 1024) :
    part (View.ld x0 r0_0) (View.ld x2 r0_19) (View.ld x3 r0_20) (View.ld x4 r0_21) (ix2 s n)
      = ∑ q : Fin 256, term x0 x2 x3 x4 s n ⟨256 * 6 + q, by omega⟩ :=
  part_term x0 x2 x3 x4 6 (by omega) _ _ _ _ (fun s k => by pointwise) (fun k q => by pointwise) (fun s q => by pointwise)
    (fun q n => by pointwise) s n

theorem part7 (s : Fin 512) (n : Fin 1024) :
    part (View.ld x0 r0_0) (View.ld x2 r0_22) (View.ld x3 r0_23) (View.ld x4 r0_24) (ix2 s n)
      = ∑ q : Fin 256, term x0 x2 x3 x4 s n ⟨256 * 7 + q, by omega⟩ :=
  part_term x0 x2 x3 x4 7 (by omega) _ _ _ _ (fun s k => by pointwise) (fun k q => by pointwise) (fun s q => by pointwise)
    (fun q n => by pointwise) s n

theorem part8 (s : Fin 512) (n : Fin 1024) :
    part (View.ld x0 r0_0) (View.ld x2 r0_25) (View.ld x3 r0_26) (View.ld x4 r0_27) (ix2 s n)
      = ∑ q : Fin 256, term x0 x2 x3 x4 s n ⟨256 * 8 + q, by omega⟩ :=
  part_term x0 x2 x3 x4 8 (by omega) _ _ _ _ (fun s k => by pointwise) (fun k q => by pointwise) (fun s q => by pointwise)
    (fun q n => by pointwise) s n

theorem part9 (s : Fin 512) (n : Fin 1024) :
    part (View.ld x0 r0_0) (View.ld x2 r0_28) (View.ld x3 r0_29) (View.ld x4 r0_30) (ix2 s n)
      = ∑ q : Fin 256, term x0 x2 x3 x4 s n ⟨256 * 9 + q, by omega⟩ :=
  part_term x0 x2 x3 x4 9 (by omega) _ _ _ _ (fun s k => by pointwise) (fun k q => by pointwise) (fun s q => by pointwise)
    (fun q n => by pointwise) s n

theorem part10 (s : Fin 512) (n : Fin 1024) :
    part (View.ld x0 r0_0) (View.ld x2 r0_31) (View.ld x3 r0_32) (View.ld x4 r0_33) (ix2 s n)
      = ∑ q : Fin 256, term x0 x2 x3 x4 s n ⟨256 * 10 + q, by omega⟩ :=
  part_term x0 x2 x3 x4 10 (by omega) _ _ _ _ (fun s k => by pointwise) (fun k q => by pointwise) (fun s q => by pointwise)
    (fun q n => by pointwise) s n

theorem ld1 (s : Fin 512) (n : Fin 1024) : (View.ld x1 r0_0 : Vec Ideal S512x1024 .f32) (ix2 s n) = x1 (ix2 s n) := by
  pointwise

/-- What the body writes for the input's gradient. -/
theorem out_apply (s : Fin 512) (n : Fin 1024) : out0_6 x0 x1 x2 x3 x4 (ix2 s n)
    = Ideal.ofBits .f32 0x3F9837F0#32 * x1 (ix2 s n) + ∑ f : Fin 2816, term x0 x2 x3 x4 s n f := by
  rw [out_parts]
  refine (congrFun (View.canon_unit_zero (Val := Elt Ideal) (S := S512x1024) (by ext a; fin_cases a <;> rfl) _ _) (ix2 s n)).trans ?_
  simp only [addf_apply, mulf_apply]
  rw [part0, part1, part2, part3, part4, part5, part6, part7, part8, part9, part10, sum_chunks]
  exact congrArg₂ (· + ·) (congrArg (Ideal.ofBits .f32 0x3F9837F0#32 * ·) (ld1 x1 s n))
    (sum_eleven _ Ideal.ofBits_zero_f32 fun j => ∑ q : Fin 256, term x0 x2 x3 x4 s n ⟨256 * j + q, by omega⟩)

end Cert.FfnBwd
-- ==== Proof.FfnBwdHost.lean ====
/-
The arrays the backward call reads, as the host prepares them: the upstream gradient, the down weights transposed and
halved, the block's gate and up columns interleaved, and the gate and up weights interleaved the same way and transposed.
-/
module

public import proofs.«01_k».proof.Proof.FfnBwdTile
public import Idealize.ShloMosaic.Lib.Claim

@[expose] public section

set_option maxRecDepth 16384

noncomputable section

namespace Cert.FfnBwd

open Cert.Kernel2Ideal Cert.Kernel2Ideal.Gen Cert.Ffn Idealize.ShloMosaic Idealize.ShloMosaic.TcCoe
open scoped BigOperators

/-- Two arrays of 2816 columns interleaved, 256 and 256 in turn. -/
def rowsBoth (a b : FVec Ideal S8192x2816 .f32) : FVec Ideal S8192x5632 .f32 :=
  shapeCast S8192x5632 (concatenate S8192x11x2x256 2
    [⟨S8192x11x1x256, broadcastInDim S8192x11x1x256 ![0, 1, 3] bcast_S8192x11x256_S8192x11x1x256_0_1_3
        (shapeCast S8192x11x256 a shapeCasts_S8192x2816_S8192x11x256)⟩,
     ⟨S8192x11x1x256, broadcastInDim S8192x11x1x256 ![0, 1, 3] bcast_S8192x11x256_S8192x11x1x256_0_1_3
        (shapeCast S8192x11x256 b shapeCasts_S8192x2816_S8192x11x256)⟩]
    concatenates_S8192x11x1x256_S8192x11x1x256_S8192x11x2x256_d2) shapeCasts_S8192x11x2x256_S8192x5632

/-- Two weights of 2816 columns interleaved the same way. -/
def weightsBoth (a b : FVec Ideal S1024x2816 .bf16) : FVec Ideal S1024x5632 .bf16 :=
  shapeCast S1024x5632 (concatenate S1024x11x2x256 2
    [⟨S1024x11x1x256, broadcastInDim S1024x11x1x256 ![0, 1, 3] bcast_S1024x11x256_S1024x11x1x256_0_1_3
        (shapeCast S1024x11x256 a shapeCasts_S1024x2816_S1024x11x256)⟩,
     ⟨S1024x11x1x256, broadcastInDim S1024x11x1x256 ![0, 1, 3] bcast_S1024x11x256_S1024x11x1x256_0_1_3
        (shapeCast S1024x11x256 b shapeCasts_S1024x2816_S1024x11x256)⟩]
    concatenates_S1024x11x1x256_S1024x11x1x256_S1024x11x2x256_d2) shapeCasts_S1024x11x2x256_S1024x5632

theorem rowsBoth_gate (a b : FVec Ideal S8192x2816 .f32) (s : Fin 8192) (f : Fin 2816) :
    rowsBoth a b (ix2 s (gl f)) = a (ix2 s f) := by
  pointwise [rowsBoth, gl]
  rw [dif_pos (by omega)]

theorem rowsBoth_up (a b : FVec Ideal S8192x2816 .f32) (s : Fin 8192) (f : Fin 2816) :
    rowsBoth a b (ix2 s (ul f)) = b (ix2 s f) := by
  pointwise [rowsBoth, ul]
  rw [dif_neg (by omega)]

theorem weightsBoth_gate (a b : FVec Ideal S1024x2816 .bf16) (s : Fin 1024) (f : Fin 2816) :
    weightsBoth a b (ix2 s (gl f)) = a (ix2 s f) := by
  pointwise [weightsBoth, gl]
  rw [dif_pos (by omega)]

theorem weightsBoth_up (a b : FVec Ideal S1024x2816 .bf16) (s : Fin 1024) (f : Fin 2816) :
    weightsBoth a b (ix2 s (ul f)) = b (ix2 s f) := by
  pointwise [weightsBoth, ul]
  rw [dif_neg (by omega)]

variable (m : (ℓ : Loc nD τ sig) → Buf (Elt Ideal) ℓ) (c : Dev nD)

abbrev argH : FVec Ideal S8192x1024 .f32 := m ((c : Thread nD τ).loc main_arg0)
abbrev argG : FVec Ideal S1024x2816 .f32 := m ((c : Thread nD τ).loc main_arg1)
abbrev argU : FVec Ideal S1024x2816 .f32 := m ((c : Thread nD τ).loc main_arg2)
abbrev argD : FVec Ideal S2816x1024 .f32 := m ((c : Thread nD τ).loc main_arg3)
abbrev argC : FVec Ideal S8192x1024 .f32 := m ((c : Thread nD τ).loc main_arg4)

/-- The product of the block's input and a weight. -/
def prod (h : FVec Ideal S8192x1024 .f32) (w : FVec Ideal S1024x2816 .f32) : FVec Ideal S8192x2816 .f32 :=
  Host.dotGeneral dot_S8192x1024_S1024x2816_S8192x2816_1_0_0_1_n_n none h w

theorem prod_apply (h : FVec Ideal S8192x1024 .f32) (w : FVec Ideal S1024x2816 .f32) (s : Fin 8192) (f : Fin 2816) :
    prod h w (ix2 s f) = ∑ k : Fin 1024, h (ix2 s k) * w (ix2 k f) := by
  pointwise [prod]

theorem V_ct : V m c main_v17 = truncf .bf16 (argC m c) bitsLt_bf16_f32 := by
  unfold V
  after_results

theorem V_au : V m c main_v8 = truncf .bf16 (rowsBoth (prod (argH m c) (argG m c)) (prod (argH m c) (argU m c))) bitsLt_bf16_f32 := by
  unfold V
  after_results
  simp -implicitDefEqProofs only [StableHlo.TRef.ofBuf_toBuf, StableHlo.TRef.toBuf, StableHlo.TRef.ofBuf, cast_cast, cast_eq]
  rfl

theorem V_wd : V m c main_v21 = mulf (transpose S1024x2816 [1, 0] (truncf .bf16 (argD m c) bitsLt_bf16_f32) transposes_S2816x1024_S1024x2816_1_0)
    (broadcastInDim S1024x2816 ![] bcast_S_S1024x2816 (constant S_ .bf16 0x3F00#16)) := by
  unfold V
  simp only [List.flatten_cons, List.flatten_nil, List.cons_append, List.nil_append, List.append_nil]
  after_results

theorem V_wgu : V m c main_v22 = transpose S5632x1024 [1, 0] (weightsBoth (truncf .bf16 (argG m c) bitsLt_bf16_f32)
    (truncf .bf16 (argU m c) bitsLt_bf16_f32)) transposes_S1024x5632_S5632x1024_1_0 := by
  unfold V
  simp only [List.flatten_cons, List.flatten_nil, List.cons_append, List.nil_append, List.append_nil]
  after_results
  simp -implicitDefEqProofs only [StableHlo.TRef.ofBuf_toBuf, StableHlo.TRef.toBuf, StableHlo.TRef.ofBuf, cast_cast, cast_eq]
  rfl

/-! ## The blocks of a step -/

theorem idx : ∀ t : Fin cfg0.N, win0_0.index t = ![t.val, 0] ∧ win0_1.index t = ![t.val, 0]
    ∧ win0_2.index t = ![0, 0] ∧ win0_3.index t = ![t.val, 0] ∧ win0_4.index t = ![0, 0] ∧ win0_6.index t = ![t.val, 0] :=
  (by decide +kernel : ∀ t : Fin grid0.N, _)

/-- Row `s` of step `t`'s block. -/
def row (t : Fin cfg0.N) (s : Fin 512) : Fin 8192 := ⟨512 * t + s, by have := lt_of_lt_of_eq t.isLt N_0; omega⟩

theorem read_ct (G : S8192x1024.Idx → EReal) (t : Fin cfg0.N) (s : Fin 512) (n : Fin 1024) :
    ((cfg0.win 0).blk t).view.read (Elt Ideal) G (ix2 s n) = G (ix2 (row t s) n) := by
  blk_ext [idx t]
  all_goals (simp only [row]; omega)

theorem read_res (G : S8192x1024.Idx → EReal) (t : Fin cfg0.N) (s : Fin 512) (n : Fin 1024) :
    ((cfg0.win 1).blk t).view.read (Elt Ideal) G (ix2 s n) = G (ix2 (row t s) n) := by
  blk_ext [idx t]
  all_goals (simp only [row]; omega)

theorem read_wd (G : S1024x2816.Idx → EReal) (t : Fin cfg0.N) (s : Fin 1024) (n : Fin 2816) :
    ((cfg0.win 2).blk t).view.read (Elt Ideal) G (ix2 s n) = G (ix2 s n) := by
  blk_ext [idx t]
  all_goals omega

theorem read_au (G : S8192x5632.Idx → EReal) (t : Fin cfg0.N) (s : Fin 512) (n : Fin 5632) :
    ((cfg0.win 3).blk t).view.read (Elt Ideal) G (ix2 s n) = G (ix2 (row t s) n) := by
  blk_ext [idx t]
  all_goals (simp only [row]; omega)

theorem read_wgu (G : S5632x1024.Idx → EReal) (t : Fin cfg0.N) (s : Fin 5632) (n : Fin 1024) :
    ((cfg0.win 4).blk t).view.read (Elt Ideal) G (ix2 s n) = G (ix2 s n) := by
  blk_ext [idx t]
  all_goals omega

theorem blk_ct (t : Fin cfg0.N) (s : Fin 512) (n : Fin 1024) : iblk m c 0 t (ix2 s n) = argC m c (ix2 (row t s) n) := by
  unfold iblk
  refine (read_ct (V m c main_v17) t s n).trans ?_
  rw [V_ct]
  rfl

theorem blk_res (t : Fin cfg0.N) (s : Fin 512) (n : Fin 1024) : iblk m c 1 t (ix2 s n) = argC m c (ix2 (row t s) n) := by
  unfold iblk
  refine (read_res (V m c main_arg4) t s n).trans ?_
  rw [V_main_arg4]

theorem blk_wd (t : Fin cfg0.N) (k : Fin 1024) (f : Fin 2816) :
    iblk m c 2 t (ix2 k f) = argD m c (ix2 f k) * Ideal.ofBits .bf16 0x3F00#16 := by
  unfold iblk
  refine (read_wd (V m c main_v21) t k f).trans ?_
  rw [V_wd]
  generalize argD m c = D
  pointwise

theorem blk_gate (t : Fin cfg0.N) (s : Fin 512) (f : Fin 2816) :
    iblk m c 3 t (ix2 s (gl f)) = ∑ k : Fin 1024, argH m c (ix2 (row t s) k) * argG m c (ix2 k f) := by
  unfold iblk
  refine (read_au (V m c main_v8) t s (gl f)).trans ?_
  rw [V_au, ← prod_apply]
  exact rowsBoth_gate _ _ _ _

theorem blk_up (t : Fin cfg0.N) (s : Fin 512) (f : Fin 2816) :
    iblk m c 3 t (ix2 s (ul f)) = ∑ k : Fin 1024, argH m c (ix2 (row t s) k) * argU m c (ix2 k f) := by
  unfold iblk
  refine (read_au (V m c main_v8) t s (ul f)).trans ?_
  rw [V_au, ← prod_apply]
  exact rowsBoth_up _ _ _ _

theorem turned (w : FVec Ideal S1024x5632 .bf16) (l : Fin 5632) (n : Fin 1024) :
    transpose S5632x1024 [1, 0] w transposes_S1024x5632_S5632x1024_1_0 (ix2 l n) = w (ix2 n l) := by
  pointwise

theorem blk_wgate (t : Fin cfg0.N) (f : Fin 2816) (n : Fin 1024) : iblk m c 4 t (ix2 (gl f) n) = argG m c (ix2 n f) := by
  unfold iblk
  refine (read_wgu (V m c main_v22) t (gl f) n).trans ?_
  rw [V_wgu, turned]
  exact weightsBoth_gate _ _ _ _

theorem blk_wup (t : Fin cfg0.N) (f : Fin 2816) (n : Fin 1024) : iblk m c 4 t (ix2 (ul f) n) = argU m c (ix2 n f) := by
  unfold iblk
  refine (read_wgu (V m c main_v22) t (ul f) n).trans ?_
  rw [V_wgu, turned]
  exact weightsBoth_up _ _ _ _

end Cert.FfnBwd
-- ==== Proof.FfnBwd.lean ====
/-
The gradient of the SwiGLU block's input: the array that the backward call's grid leaves, and the reference's result.
-/
module

public import proofs.«01_k».proof.Proof.FfnBwdHost
public import proofs.«01_k».proof.Proof.Finite
public import proofs.«01_k».proof.Proof.Gen.Kernel2Ideal.Value
public import proofs.«01_k».proof.Proof.Gen.Reference2Ideal.Read

@[expose] public section

set_option maxRecDepth 16384

noncomputable section

namespace Cert.FfnBwd

open Cert.Kernel2Ideal Cert.Kernel2Ideal.Gen Cert.Ffn Cert.Finite Idealize.ShloMosaic Idealize.ShloMosaic.TcCoe
open scoped BigOperators

section

variable (h : FVec Ideal S8192x1024 .f32) (wg wu : FVec Ideal S1024x2816 .f32) (wd : FVec Ideal S2816x1024 .f32)
  (ct : FVec Ideal S8192x1024 .f32)

/-- The gradient reaching the gated product: row `s`, column `f`. -/
def dprod (s : Fin 8192) (f : Fin 2816) : EReal := ∑ k : Fin 1024, ct (ix2 s k) * (wd (ix2 f k) * Ideal.ofBits .bf16 0x3F00#16)

/-- A gate (or up) column of the block: row `s`, column `f`. -/
def lin (w : FVec Ideal S1024x2816 .f32) (s : Fin 8192) (f : Fin 2816) : EReal := ∑ k : Fin 1024, h (ix2 s k) * w (ix2 k f)

/-- The gradient of the block's input, as the kernel's columns give it. -/
def dhAll (i : S8192x1024.Idx) : EReal :=
  Ideal.ofBits .f32 0x3F9837F0#32 * ct (ix2 (i 0) (i 1))
    + ∑ f : Fin 2816, (dgate (dprod wd ct (i 0) f) (lin h wg (i 0) f) (lin h wu (i 0) f) * wg (ix2 (i 1) f)
      + dup (dprod wd ct (i 0) f) (lin h wg (i 0) f) * wu (ix2 (i 1) f))

end

variable (m : (ℓ : Loc nD τ sig) → Buf (Elt Ideal) ℓ) (c : Dev nD)

theorem step_apply (t : Fin cfg0.N) (s : Fin 512) (n : Fin 1024) :
    out0_6 (iblk m c 0 t) (iblk m c 1 t) (iblk m c 2 t) (iblk m c 3 t) (iblk m c 4 t) (ix2 s n)
      = dhAll (argH m c) (argG m c) (argU m c) (argD m c) (argC m c) (ix2 (row t s) n) := by
  refine (out_apply _ _ _ _ _ s n).trans ?_
  refine congrArg₂ (· + ·) (congrArg _ (blk_res m c t s n)) (Finset.sum_congr rfl fun f _ => ?_)
  have hd : (∑ k : Fin 1024, (fun x y : EReal => x * y) (iblk m c 0 t (ix2 s k)) (iblk m c 2 t (ix2 k f))) = dprod (argD m c) (argC m c) (row t s) f :=
    Finset.sum_congr rfl fun k _ => congrArg₂ (fun x y : EReal => x * y) (blk_ct m c t s k) (blk_wd m c t k f)
  have ha : iblk m c 3 t (ix2 s (gl f)) = lin (argH m c) (argG m c) (row t s) f := blk_gate m c t s f
  have hu : iblk m c 3 t (ix2 s (ul f)) = lin (argH m c) (argU m c) (row t s) f := blk_up m c t s f
  have e1 := blk_wgate m c t f n
  have e2 := blk_wup m c t f n
  unfold term
  refine congrArg₂ (· + ·) (congrArg₂ (· * ·) ?_ e1) (congrArg₂ (· * ·) ?_ e2)
  · exact congr (congr (congrArg dgate hd) ha) hu
  · exact congr (congrArg dup hd) ha

theorem emb_out (t : Fin cfg0.N) (s : Fin 512) (n : Fin 1024) :
    (((cfg0.win 6).blk t).view.emb (ix2 s n) : S8192x1024.Idx) = ix2 (row t s) n := by
  blk_ext [idx t]
  all_goals (simp only [row]; omega)

theorem point_out (t : Fin cfg0.N) (y : S512x1024.Idx) : (dats m 0 c).after 6 t y
    = dhAll (argH m c) (argG m c) (argU m c) (argD m c) (argC m c) (((cfg0.win 6).blk t).view.emb y) := by
  idx_vars y
  rw [after0_6]
  refine (step_apply m c t y0 y1).trans ?_
  exact (congrArg _ (emb_out t y0 y1)).symm

/-- The array after the run. -/
theorem arr_out : (dats m 0 c).arrAt 6 cfg0.N = dhAll (argH m c) (argG m c) (argU m c) (argD m c) (argC m c) := by
  refine (dats m 0 c).arrAt_eq_of_covers 6 _ (by decide +kernel) fun t hf y => ?_
  blk_simp
  exact point_out m c t y

/-! ## The reference -/

section

open Cert.Reference2Ideal.Read

variable (h : FVec Ideal S8192x1024 .f32) (wg wu : FVec Ideal S1024x2816 .f32) (wd : FVec Ideal S2816x1024 .f32)
  (ct : FVec Ideal S8192x1024 .f32)

theorem ref_gate (s : Fin 8192) (f : Fin 2816) : val_main_v2 (F := Ideal) h wg (ix2 s f) = lin h wg s f := by
  pointwise [val_main_v2, lin]

theorem ref_up (s : Fin 8192) (f : Fin 2816) : val_main_v4 (F := Ideal) h wu (ix2 s f) = lin h wu s f := by
  pointwise [val_main_v4, lin]

theorem ref_sig (s : Fin 8192) (f : Fin 2816) : val_main_v3_2 (F := Ideal) h wg (ix2 s f) = sr (lin h wg s f) := by
  rw [← ref_gate]
  rw [val_main_v3_2_apply, val_main_call0_v4_apply, val_main_call0_v3_apply, val_main_call0_v2_apply, val_main_call0_v1_apply, val_main_call0_v0_apply]
  rfl

theorem half16 : Ideal.ofBits .bf16 0x3F00#16 = ((1 / 2 : ℝ) : EReal) := by
  have h : ((128 : ℝ) : EReal) * (((2 ^ 8 : ℝ)⁻¹ : ℝ) : EReal) = (((2 : ℝ)⁻¹ : ℝ) : EReal) := by
    rw [← EReal.coe_mul]
    norm_num
  simpa [Ideal.ofBits, Ideal.ieee] using h

theorem ref_dprod (s : Fin 8192) (f : Fin 2816) : val_main_v14 (F := Ideal) wd ct (ix2 s f) = dprod wd ct s f := by
  pointwise [val_main_v14, val_main_v13, val_main_v12, val_main_v11, val_main_cst_1, dprod]
  refine Finset.sum_congr rfl fun k _ => ?_
  rw [half16, half_word]
  rw [mul_comm (((1 / 2 : ℝ) : EReal)) (ct _), mul_assoc, mul_comm (((1 / 2 : ℝ) : EReal)) (wd _)]

theorem ref_dup (s : Fin 8192) (f : Fin 2816) :
    val_main_v15 (F := Ideal) h wg wd ct (ix2 s f) = dup (dprod wd ct s f) (lin h wg s f) := by
  rw [val_main_v15_apply, val_main_v3_0_apply, ref_gate, ref_sig, ref_dprod, dup, sg_eq]
  exact mul_comm _ _

theorem ref_dgate (s : Fin 8192) (f : Fin 2816) :
    val_main_v18 (F := Ideal) h wg wu wd ct (ix2 s f) = dgate' (dprod wd ct s f) (lin h wg s f) (lin h wu s f) := by
  rw [val_main_v18_apply, val_main_call1_v1_apply, val_main_call1_v2_apply, val_main_call1_v0_apply, val_main_v16_apply, val_main_v3_1_apply,
    val_main_call0_v7_apply, val_main_call0_v6_apply, ref_gate, ref_sig, ref_dprod, ref_up]
  rfl

theorem lin_real {h : FVec Ideal S8192x1024 .f32} {w : FVec Ideal S1024x2816 .f32} (hh : IsReal h) (hw : IsReal w) (s : Fin 8192) (f : Fin 2816) :
    lin h w s f = ((∑ k : Fin 1024, (h (ix2 s k)).toReal * (w (ix2 k f)).toReal : ℝ) : EReal) := by
  rw [coe_sum]
  refine Finset.sum_congr rfl fun k _ => ?_
  rw [EReal.coe_mul, ← hh, ← hw]

theorem dprod_real {wd : FVec Ideal S2816x1024 .f32} {ct : FVec Ideal S8192x1024 .f32} (hw : IsReal wd) (hc : IsReal ct) (s : Fin 8192) (f : Fin 2816) :
    dprod wd ct s f = ((∑ k : Fin 1024, (ct (ix2 s k)).toReal * ((wd (ix2 f k)).toReal * (1 / 2)) : ℝ) : EReal) := by
  rw [coe_sum]
  refine Finset.sum_congr rfl fun k _ => ?_
  rw [EReal.coe_mul, EReal.coe_mul, ← hw, ← hc, half16]

/-- The reference's result is the kernel's. -/
theorem ref_out (hh : IsReal h) (hg : IsReal wg) (hu : IsReal wu) (hd : IsReal wd) (hc : IsReal ct) :
    val_main_v23 (F := Ideal) h wg wu wd ct = dhAll h wg wu wd ct := by
  funext i
  idx_vars i
  have e17 : val_main_v17 (F := Ideal) h wg wu wd ct (ix2 i0 i1)
      = ∑ f : Fin 2816, val_main_v15 (F := Ideal) h wg wd ct (ix2 i0 f) * wu (ix2 i1 f) := by
    pointwise [val_main_v17]
  have e19 : val_main_v19 (F := Ideal) h wg wu wd ct (ix2 i0 i1)
      = ∑ f : Fin 2816, val_main_v18 (F := Ideal) h wg wu wd ct (ix2 i0 f) * wg (ix2 i1 f) := by
    pointwise [val_main_v19]
  have e22 : val_main_v22 (F := Ideal) ct (ix2 i0 i1) = Ideal.ofBits .f32 0x3F9837F0#32 * ct (ix2 i0 i1) := by
    pointwise [val_main_v22, val_main_v21, val_main_cst_2, val_main_v10]
  rw [val_main_v23_apply, val_main_v20_apply, e17, e19, e22]
  have hs : ∀ f : Fin 2816, val_main_v18 (F := Ideal) h wg wu wd ct (ix2 i0 f)
      = dgate (dprod wd ct i0 f) (lin h wg i0 f) (lin h wu i0 f) := fun f => by
    rw [ref_dgate, dprod_real hd hc, lin_real hh hg, lin_real hh hu, dgate_eq]
  simp only [hs, ref_dup]
  refine (add_comm (G := EReal) _ _).trans (congrArg (fun x : EReal => Ideal.ofBits .f32 0x3F9837F0#32 * ct (ix2 i0 i1) + x) ?_)
  refine (add_comm (G := EReal) _ _).trans (Finset.sum_add_distrib (M := EReal)).symm

end

end Cert.FfnBwd
-- ==== Proof.FfnDown.lean ====
/-
The gradient of the SwiGLU block's down weights: the columns of the gated product times the upstream gradient, summed over
the tokens 2048 at a time in one block and halved once.
-/
module

public import proofs.«01_k».proof.Proof.FfnMath
public import proofs.«01_k».proof.Proof.Gen.Kernel3Ideal.Value
public import proofs.«01_k».proof.Proof.Gen.Reference3Ideal.Read
public import Idealize.ShloMosaic.Lib.Pipeline.ValueKit
public import Idealize.ShloMosaic.Lib.Claim

@[expose] public section

set_option maxRecDepth 16384

noncomputable section

namespace Cert.FfnDown

open Cert.Kernel3Ideal Cert.Kernel3Ideal.Gen Cert.Ffn Idealize.ShloMosaic Idealize.ShloMosaic.TcCoe
open scoped BigOperators

/-- A step's product: 2048 tokens. -/
theorem pay_first (x0 : Vec Ideal S2048x1408 .bf16) (x1 : Vec Ideal S2048x512 .bf16) (f : Fin 1408) (n : Fin 512) :
    k0_pay1 x0 x1 (ix2 f n) = ∑ s : Fin 2048, x0 (ix2 s f) * x1 (ix2 s n) := by
  pointwise [k0_pay1]

theorem pay_add (x0 : Vec Ideal S2048x1408 .bf16) (x1 : Vec Ideal S2048x512 .bf16) (z : Vec Ideal S1408x512 .f32) (f : Fin 1408) (n : Fin 512) :
    k0_pay2 x0 x1 z (ix2 f n) = z (ix2 f n) + ∑ s : Fin 2048, x0 (ix2 s f) * x1 (ix2 s n) := by
  pointwise [k0_pay2, k0_pay1]

theorem pay_half (z : Vec Ideal S1408x512 .f32) (f : Fin 1408) (n : Fin 512) :
    k0_pay3 z (ix2 f n) = z (ix2 f n) * Ideal.ofBits .f32 0x3F000000#32 := by
  pointwise [k0_pay3]

variable (m : (ℓ : Loc nD τ sig) → Buf (Elt Ideal) ℓ) (c : Dev nD)

/-- The product of step `t` at an element of its block. -/
def pp (t : Fin cfg0.N) (f : Fin 1408) (n : Fin 512) : EReal :=
  ∑ s : Fin 2048, (fun x y : EReal => x * y) (iblk m c 0 t (ix2 s f)) (iblk m c 1 t (ix2 s n))

theorem at_first (t : Fin cfg0.N) (h : t.val % 4 = 0) (f : Fin 1408) (n : Fin 512) :
    outsAt0 m c t.val t.isLt (ix2 f n) = pp m c t f n := by
  rw [outsAt0_A m c t h (by omega) (by omega)]
  frame_out
  exact pay_first _ _ f n

theorem at_middle (t : Fin cfg0.N) (h0 : ¬ t.val % 4 = 0) (h3 : ¬ t.val % 4 = 3) (f : Fin 1408) (n : Fin 512) :
    outsAt0 m c t.val t.isLt (ix2 f n)
      = outsAt0 m c (t.val - 1) (Nat.lt_of_le_of_lt (Nat.sub_le _ _) t.isLt) (ix2 f n) + pp m c t f n := by
  rw [outsAt0_B m c t h0 (by omega) h3]
  frame_out
  exact pay_add _ _ _ f n

theorem at_last (t : Fin cfg0.N) (h3 : t.val % 4 = 3) (f : Fin 1408) (n : Fin 512) :
    outsAt0 m c t.val t.isLt (ix2 f n)
      = (outsAt0 m c (t.val - 1) (Nat.lt_of_le_of_lt (Nat.sub_le _ _) t.isLt) (ix2 f n) + pp m c t f n) * Ideal.ofBits .f32 0x3F000000#32 := by
  rw [outsAt0_C m c t (by omega) (by omega) h3]
  frame_out
  refine (pay_half _ f n).trans ?_
  exact congrArg (fun x : EReal => x * _) (pay_add _ _ _ f n)

/-! ## The arrays the call reads -/

abbrev argH : FVec Ideal S8192x1024 .f32 := m ((c : Thread nD τ).loc main_arg0)
abbrev argG : FVec Ideal S1024x2816 .f32 := m ((c : Thread nD τ).loc main_arg1)
abbrev argU : FVec Ideal S1024x2816 .f32 := m ((c : Thread nD τ).loc main_arg2)
abbrev argD : FVec Ideal S2816x1024 .f32 := m ((c : Thread nD τ).loc main_arg3)
abbrev argC : FVec Ideal S8192x1024 .f32 := m ((c : Thread nD τ).loc main_arg4)

/-- The product of the block's input and a weight. -/
def prod (h : FVec Ideal S8192x1024 .f32) (w : FVec Ideal S1024x2816 .f32) : FVec Ideal S8192x2816 .f32 :=
  Host.dotGeneral dot_S8192x1024_S1024x2816_S8192x2816_1_0_0_1_n_n none h w

/-- The array of ones. -/
def ones : FVec Ideal S8192x2816 .f32 := broadcastInDim S8192x2816 ![] bcast_S_S8192x2816 (constant S_ .f32 0x3F800000#32)

/-- The gated product, as the host takes it. -/
def gated (h : FVec Ideal S8192x1024 .f32) (wg wu : FVec Ideal S1024x2816 .f32) : FVec Ideal S8192x2816 .f32 :=
  mulf (mulf (prod h wg) (Host.divf ones (addf ones (Host.exp (Host.negf (prod h wg)))))) (prod h wu)

theorem V_hm : V m c main_v4 = truncf .bf16 (gated (argH m c) (argG m c) (argU m c)) bitsLt_bf16_f32 := by
  unfold V
  simp only [List.flatten_cons, List.flatten_nil, List.cons_append, List.nil_append, List.append_nil]
  after_results
  simp -implicitDefEqProofs only [StableHlo.TRef.ofBuf_toBuf, StableHlo.TRef.toBuf, StableHlo.TRef.ofBuf, cast_cast, cast_eq]
  rfl

theorem V_ct : V m c main_v5 = truncf .bf16 (argC m c) bitsLt_bf16_f32 := by
  unfold V
  simp only [List.flatten_cons, List.flatten_nil, List.cons_append, List.nil_append, List.append_nil]
  after_results

theorem idx : ∀ t : Fin cfg0.N, win0_0.index t = ![t.val % 4, t.val / 8] ∧ win0_1.index t = ![t.val % 4, t.val / 4 % 2]
    ∧ win0_2.index t = ![t.val / 8, t.val / 4 % 2] :=
  (by decide +kernel : ∀ t : Fin grid0.N, _)

/-- Token `s` of a step's 2048. -/
def tok (j : ℕ) (hj : j < 4) (s : Fin 2048) : Fin 8192 := ⟨2048 * j + s, by omega⟩

/-- Column `f` of a step's 1408. -/
def col (t : Fin cfg0.N) (f : Fin 1408) : Fin 2816 := ⟨1408 * (t / 8) + f, by have := lt_of_lt_of_eq t.isLt N_0; omega⟩

/-- Feature `n` of a step's 512. -/
def feat (t : Fin cfg0.N) (n : Fin 512) : Fin 1024 := ⟨512 * (t / 4 % 2) + n, by omega⟩

theorem read_hm (G : S8192x2816.Idx → EReal) (t : Fin cfg0.N) (s : Fin 2048) (f : Fin 1408) :
    ((cfg0.win 0).blk t).view.read (Elt Ideal) G (ix2 s f) = G (ix2 (tok (t.val % 4) (by omega) s) (col t f)) := by
  blk_ext [idx t]
  all_goals (simp only [tok, col]; omega)

theorem read_ct (G : S8192x1024.Idx → EReal) (t : Fin cfg0.N) (s : Fin 2048) (n : Fin 512) :
    ((cfg0.win 1).blk t).view.read (Elt Ideal) G (ix2 s n) = G (ix2 (tok (t.val % 4) (by omega) s) (feat t n)) := by
  blk_ext [idx t]
  all_goals (simp only [tok, feat]; omega)

/-- Tokens `2048 * j` and on: their share of the product of the gated product and the upstream gradient. -/
def share (hm : FVec Ideal S8192x2816 .f32) (ct : FVec Ideal S8192x1024 .f32) (j : ℕ) (hj : j < 4) (f : Fin 2816) (n : Fin 1024) : EReal :=
  ∑ s : Fin 2048, hm (ix2 (tok j hj s) f) * ct (ix2 (tok j hj s) n)

theorem pp_eq (t : Fin cfg0.N) (f : Fin 1408) (n : Fin 512) :
    pp m c t f n = share (gated (argH m c) (argG m c) (argU m c)) (argC m c) (t.val % 4) (by omega) (col t f) (feat t n) := by
  unfold pp share
  refine Finset.sum_congr rfl fun s _ => ?_
  refine congrArg₂ (fun x y : EReal => x * y) ?_ ?_
  · unfold iblk
    refine (read_hm (V m c main_v4) t s f).trans ?_
    rw [V_hm]
    rfl
  · unfold iblk
    refine (read_ct (V m c main_v5) t s n).trans ?_
    rw [V_ct]
    rfl

/-- The gradient of the down weights, as the kernel sums it. -/
def dwAll (h : FVec Ideal S8192x1024 .f32) (wg wu : FVec Ideal S1024x2816 .f32) (ct : FVec Ideal S8192x1024 .f32) (i : S2816x1024.Idx) : EReal :=
  (∑ s : Fin 8192, gated h wg wu (ix2 s (i 0)) * ct (ix2 s (i 1))) * Ideal.ofBits .f32 0x3F000000#32

theorem four (hm : FVec Ideal S8192x2816 .f32) (ct : FVec Ideal S8192x1024 .f32) (f : Fin 2816) (n : Fin 1024) :
    share hm ct 0 (by omega) f n + share hm ct 1 (by omega) f n + share hm ct 2 (by omega) f n + share hm ct 3 (by omega) f n
      = ∑ s : Fin 8192, hm (ix2 s f) * ct (ix2 s n) := by
  rw [sum_tokens, Fin.sum_univ_four]
  rfl

theorem share_at (hm : FVec Ideal S8192x2816 .f32) (ct : FVec Ideal S8192x1024 .f32) {j j' : ℕ} (hj : j < 4) (hj' : j' < 4) (e : j = j')
    {f f' : Fin 2816} (ef : f = f') {n n' : Fin 1024} (en : n = n') : share hm ct j hj f n = share hm ct j' hj' f' n' := by
  subst e ef en
  rfl

/-- A block's last step leaves the whole sum halved. -/
theorem step_last (t : Fin cfg0.N) (h3 : t.val % 4 = 3) (f : Fin 1408) (n : Fin 512) : outsAt0 m c t.val t.isLt (ix2 f n)
    = dwAll (argH m c) (argG m c) (argU m c) (argC m c) (ix2 (col t f) (feat t n)) := by
  have hN := lt_of_lt_of_eq t.isLt N_0
  have b2 : t.val - 1 < cfg0.N := Nat.lt_of_le_of_lt (Nat.sub_le _ _) t.isLt
  have b1 : t.val - 1 - 1 < cfg0.N := Nat.lt_of_le_of_lt (Nat.sub_le _ _) b2
  have b0 : t.val - 1 - 1 - 1 < cfg0.N := Nat.lt_of_le_of_lt (Nat.sub_le _ _) b1
  rw [at_last m c t h3, at_middle m c ⟨t.val - 1, b2⟩ (by dsimp only; omega) (by dsimp only; omega),
    at_middle m c ⟨t.val - 1 - 1, b1⟩ (by dsimp only; omega) (by dsimp only; omega),
    at_first m c ⟨t.val - 1 - 1 - 1, b0⟩ (by dsimp only; omega), pp_eq, pp_eq, pp_eq, pp_eq]
  refine Eq.trans ?_ (congrArg (fun x : EReal => x * Ideal.ofBits .f32 0x3F000000#32)
    (four (gated (argH m c) (argG m c) (argU m c)) (argC m c) (col t f) (feat t n)))
  refine congrArg (fun x : EReal => x * _) ?_
  refine congrArg₂ (fun x y : EReal => x + y) (congrArg₂ (fun x y : EReal => x + y) (congrArg₂ (fun x y : EReal => x + y) ?_ ?_) ?_) ?_
  all_goals
    refine share_at _ _ _ _ ?_ ?_ ?_
    · first | omega | (dsimp only; omega)
    · exact Fin.ext (by simp only [col]; try omega)
    · exact Fin.ext (by simp only [feat]; try omega)

theorem emb_out (t : Fin cfg0.N) (f : Fin 1408) (n : Fin 512) :
    (((cfg0.win 2).blk t).view.emb (ix2 f n) : S2816x1024.Idx) = ix2 (col t f) (feat t n) := by
  blk_ext [idx t]
  all_goals (simp only [col, feat]; omega)

theorem point_out (t : Fin cfg0.N) (h3 : t.val % 4 = 3) (y : S1408x512.Idx) : (dats m 0 c).after 2 t y
    = dwAll (argH m c) (argG m c) (argU m c) (argC m c) (((cfg0.win 2).blk t).view.emb y) := by
  idx_vars y
  rw [after0_2]
  refine (step_last m c t h3 y0 y1).trans ?_
  exact (congrArg _ (emb_out t y0 y1)).symm

/-- The array after the run. -/
theorem arr_out : (dats m 0 c).arrAt 2 cfg0.N = dwAll (argH m c) (argG m c) (argU m c) (argC m c) := by
  refine (dats m 0 c).arrAt_eq_of_covers 2 _ (by decide +kernel) fun t hf y => ?_
  blk_simp
  exact point_out m c t ((flush0_2 t).mp hf) y

/-! ## The reference -/

section

open Cert.Reference3Ideal.Read

variable (h : FVec Ideal S8192x1024 .f32) (wg wu : FVec Ideal S1024x2816 .f32) (ct : FVec Ideal S8192x1024 .f32)

theorem ref_gated : val_main_v5 (F := Ideal) h wg wu = gated h wg wu := rfl

/-- The reference's result is the kernel's: the half is taken of the upstream gradient there, of the sum here. -/
theorem ref_out : val_main_v13 (F := Ideal) h wg wu ct = dwAll h wg wu ct := by
  funext i
  idx_vars i
  have e : val_main_v13 (F := Ideal) h wg wu ct (ix2 i0 i1)
      = ∑ s : Fin 8192, (Ideal.ofBits .f32 0x3F000000#32 * ct (ix2 s i1)) * val_main_v5 (F := Ideal) h wg wu (ix2 s i0) := by
    pointwise [val_main_v13, val_main_v12, val_main_v11, val_main_v10, val_main_cst_1]
  rw [e, ref_gated]
  unfold dwAll
  rw [half_word, mul_sum_real _ (by norm_num)]
  refine Finset.sum_congr rfl fun s _ => ?_
  rw [mul_comm, mul_comm (((1 / 2 : ℝ) : EReal)), mul_assoc]
  rfl

end

end Cert.FfnDown
-- ==== Proof.FfnUp.lean ====
/-
The gradients of the SwiGLU block's gate and up weights, transposed: the columns of the two inner gradients times the
block's input, summed over the tokens 2048 at a time. The inner gradients come interleaved, 256 columns of the gate and 256
of the up product in turn, so that one product gives a chunk of both.
-/
module

public import proofs.«01_k».proof.Proof.FfnMath
public import proofs.«01_k».proof.Proof.Gen.Kernel4Ideal.Value
public import proofs.«01_k».proof.Proof.Gen.Reference4Ideal.Read
public import Idealize.ShloMosaic.Lib.Pipeline.ValueKit
public import Idealize.ShloMosaic.Lib.Claim

@[expose] public section

set_option maxRecDepth 16384

noncomputable section

namespace Cert.FfnUp

open Cert.Kernel4Ideal Cert.Kernel4Ideal.Gen Cert.Ffn Idealize.ShloMosaic Idealize.ShloMosaic.TcCoe
open scoped BigOperators

/-- Gate column `q` of a chunk. -/
def gq (q : Fin 256) : Fin 512 := ⟨q, by omega⟩

/-- Up column `q` of a chunk. -/
def uq (q : Fin 256) : Fin 512 := ⟨256 + q, by omega⟩

/-- A step's product: 2048 tokens. -/
theorem pay_gate (x1 : Vec Ideal S2048x512 .bf16) (x0 : Vec Ideal S2048x1024 .bf16) (q : Fin 256) (n : Fin 1024) :
    k0_pay2 x1 x0 (ix2 q n) = ∑ s : Fin 2048, x1 (ix2 s (gq q)) * x0 (ix2 s n) := by
  pointwise [k0_pay2, k0_pay1, gq]

theorem pay_up (x1 : Vec Ideal S2048x512 .bf16) (x0 : Vec Ideal S2048x1024 .bf16) (q : Fin 256) (n : Fin 1024) :
    k0_pay3 x1 x0 (ix2 q n) = ∑ s : Fin 2048, x1 (ix2 s (uq q)) * x0 (ix2 s n) := by
  pointwise [k0_pay3, k0_pay1, uq]

theorem pay_gate_add (x1 : Vec Ideal S2048x512 .bf16) (x0 : Vec Ideal S2048x1024 .bf16) (z : Vec Ideal S256x1024 .f32)
    (q : Fin 256) (n : Fin 1024) :
    k0_pay4 x1 x0 z (ix2 q n) = z (ix2 q n) + ∑ s : Fin 2048, x1 (ix2 s (gq q)) * x0 (ix2 s n) := by
  pointwise [k0_pay4, k0_pay1, gq]

theorem pay_up_add (x1 : Vec Ideal S2048x512 .bf16) (x0 : Vec Ideal S2048x1024 .bf16) (z : Vec Ideal S256x1024 .f32)
    (q : Fin 256) (n : Fin 1024) :
    k0_pay5 x1 x0 z (ix2 q n) = z (ix2 q n) + ∑ s : Fin 2048, x1 (ix2 s (uq q)) * x0 (ix2 s n) := by
  pointwise [k0_pay5, k0_pay1, uq]

variable (m : (ℓ : Loc nD τ sig) → Buf (Elt Ideal) ℓ) (c : Dev nD)

/-- The product of step `t` at a column of its chunk. -/
def pp (t : Fin cfg0.N) (l : Fin 512) (n : Fin 1024) : EReal :=
  ∑ s : Fin 2048, (fun x y : EReal => x * y) (iblk m c 1 t (ix2 s l)) (iblk m c 0 t (ix2 s n))

theorem gate_first (t : Fin cfg0.N) (h : t.val % 4 = 0) (q : Fin 256) (n : Fin 1024) :
    (outsAt0 m c t.val t.isLt).1 (ix2 q n) = pp m c t (gq q) n := by
  rw [outsAt0_A m c t h (by omega)]
  frame_out
  exact pay_gate _ _ q n

theorem up_first (t : Fin cfg0.N) (h : t.val % 4 = 0) (q : Fin 256) (n : Fin 1024) :
    (outsAt0 m c t.val t.isLt).2 (ix2 q n) = pp m c t (uq q) n := by
  rw [outsAt0_A m c t h (by omega)]
  frame_out
  exact pay_up _ _ q n

theorem gate_next (t : Fin cfg0.N) (h : ¬ t.val % 4 = 0) (q : Fin 256) (n : Fin 1024) :
    (outsAt0 m c t.val t.isLt).1 (ix2 q n)
      = (outsAt0 m c (t.val - 1) (Nat.lt_of_le_of_lt (Nat.sub_le _ _) t.isLt)).1 (ix2 q n) + pp m c t (gq q) n := by
  rw [outsAt0_B m c t h (by omega)]
  frame_out
  exact pay_gate_add _ _ _ q n

theorem up_next (t : Fin cfg0.N) (h : ¬ t.val % 4 = 0) (q : Fin 256) (n : Fin 1024) :
    (outsAt0 m c t.val t.isLt).2 (ix2 q n)
      = (outsAt0 m c (t.val - 1) (Nat.lt_of_le_of_lt (Nat.sub_le _ _) t.isLt)).2 (ix2 q n) + pp m c t (uq q) n := by
  rw [outsAt0_B m c t h (by omega)]
  frame_out
  exact pay_up_add _ _ _ q n

/-! ## The arrays the call reads -/

/-- Two arrays of 2816 columns interleaved, 256 and 256 in turn. -/
def rowsBoth (a b : FVec Ideal S8192x2816 .f32) : FVec Ideal S8192x5632 .f32 :=
  shapeCast S8192x5632 (concatenate S8192x11x2x256 2
    [⟨S8192x11x1x256, broadcastInDim S8192x11x1x256 ![0, 1, 3] bcast_S8192x11x256_S8192x11x1x256_0_1_3
        (shapeCast S8192x11x256 a shapeCasts_S8192x2816_S8192x11x256)⟩,
     ⟨S8192x11x1x256, broadcastInDim S8192x11x1x256 ![0, 1, 3] bcast_S8192x11x256_S8192x11x1x256_0_1_3
        (shapeCast S8192x11x256 b shapeCasts_S8192x2816_S8192x11x256)⟩]
    concatenates_S8192x11x1x256_S8192x11x1x256_S8192x11x2x256_d2) shapeCasts_S8192x11x2x256_S8192x5632

theorem rowsBoth_gate (a b : FVec Ideal S8192x2816 .f32) (s : Fin 8192) (f : Fin 2816) :
    rowsBoth a b (ix2 s (gl f)) = a (ix2 s f) := by
  pointwise [rowsBoth, gl]
  rw [dif_pos (by omega)]

theorem rowsBoth_up (a b : FVec Ideal S8192x2816 .f32) (s : Fin 8192) (f : Fin 2816) :
    rowsBoth a b (ix2 s (ul f)) = b (ix2 s f) := by
  pointwise [rowsBoth, ul]
  rw [dif_neg (by omega)]

abbrev argH : FVec Ideal S8192x1024 .f32 := m ((c : Thread nD τ).loc main_arg0)
abbrev argG : FVec Ideal S1024x2816 .f32 := m ((c : Thread nD τ).loc main_arg1)
abbrev argU : FVec Ideal S1024x2816 .f32 := m ((c : Thread nD τ).loc main_arg2)
abbrev argD : FVec Ideal S2816x1024 .f32 := m ((c : Thread nD τ).loc main_arg3)
abbrev argC : FVec Ideal S8192x1024 .f32 := m ((c : Thread nD τ).loc main_arg4)

/-- The product of the block's input and a weight. -/
def prod (h : FVec Ideal S8192x1024 .f32) (w : FVec Ideal S1024x2816 .f32) : FVec Ideal S8192x2816 .f32 :=
  Host.dotGeneral dot_S8192x1024_S1024x2816_S8192x2816_1_0_0_1_n_n none h w

/-- The array of ones. -/
def ones : FVec Ideal S8192x2816 .f32 := broadcastInDim S8192x2816 ![] bcast_S_S8192x2816 (constant S_ .f32 0x3F800000#32)

/-- The logistic function of the gate product. -/
def lgs (h : FVec Ideal S8192x1024 .f32) (wg : FVec Ideal S1024x2816 .f32) : FVec Ideal S8192x2816 .f32 :=
  Host.divf ones (addf ones (Host.exp (Host.negf (prod h wg))))

/-- The gradient of the gated product. -/
def dhm (wd : FVec Ideal S2816x1024 .f32) (ct : FVec Ideal S8192x1024 .f32) : FVec Ideal S8192x2816 .f32 :=
  Host.dotGeneral dot_S8192x1024_S2816x1024_S8192x2816_1_1_0_0_n_n none
    (mulf (broadcastInDim S8192x1024 ![] bcast_S_S8192x1024 (constant S_ .f32 0x3F000000#32)) ct) wd

/-- The gradient of the up product. -/
def dus (h : FVec Ideal S8192x1024 .f32) (wg : FVec Ideal S1024x2816 .f32) (wd : FVec Ideal S2816x1024 .f32)
    (ct : FVec Ideal S8192x1024 .f32) : FVec Ideal S8192x2816 .f32 :=
  mulf (mulf (prod h wg) (lgs h wg)) (dhm wd ct)

/-- The gradient of the gate product. -/
def das (h : FVec Ideal S8192x1024 .f32) (wg wu : FVec Ideal S1024x2816 .f32) (wd : FVec Ideal S2816x1024 .f32)
    (ct : FVec Ideal S8192x1024 .f32) : FVec Ideal S8192x2816 .f32 :=
  addf (mulf (mulf (dhm wd ct) (prod h wu)) (lgs h wg))
    (mulf (mulf (prod h wg) (mulf (dhm wd ct) (prod h wu))) (mulf (lgs h wg) (subf ones (lgs h wg))))

theorem V_h : V m c main_v13 = truncf .bf16 (argH m c) bitsLt_bf16_f32 := by
  unfold V
  simp only [List.flatten_cons, List.flatten_nil, List.cons_append, List.nil_append, List.append_nil]
  after_results

theorem V_both : V m c main_v20 = truncf .bf16 (rowsBoth (das (argH m c) (argG m c) (argU m c) (argD m c) (argC m c))
    (dus (argH m c) (argG m c) (argD m c) (argC m c))) bitsLt_bf16_f32 := by
  unfold V
  simp only [List.flatten_cons, List.flatten_nil, List.cons_append, List.nil_append, List.append_nil]
  after_results
  simp -implicitDefEqProofs only [StableHlo.TRef.ofBuf_toBuf, StableHlo.TRef.toBuf, StableHlo.TRef.ofBuf, cast_cast, cast_eq]
  rfl

theorem idx : ∀ t : Fin cfg0.N, win0_0.index t = ![t.val % 4, 0] ∧ win0_1.index t = ![t.val % 4, t.val / 4]
    ∧ win0_2.index t = ![t.val / 4, 0] ∧ win0_3.index t = ![t.val / 4, 0] :=
  (by decide +kernel : ∀ t : Fin grid0.N, _)

/-- Token `s` of a step's 2048. -/
def tok (j : ℕ) (hj : j < 4) (s : Fin 2048) : Fin 8192 := ⟨2048 * j + s, by omega⟩

/-- Column `q` of a step's 256. -/
def col (t : Fin cfg0.N) (q : Fin 256) : Fin 2816 := ⟨256 * (t / 4) + q, by have := lt_of_lt_of_eq t.isLt N_0; omega⟩

theorem read_h (G : S8192x1024.Idx → EReal) (t : Fin cfg0.N) (s : Fin 2048) (n : Fin 1024) :
    ((cfg0.win 0).blk t).view.read (Elt Ideal) G (ix2 s n) = G (ix2 (tok (t.val % 4) (by omega) s) n) := by
  blk_ext [idx t]
  all_goals (simp only [tok]; omega)

theorem read_gate (G : S8192x5632.Idx → EReal) (t : Fin cfg0.N) (s : Fin 2048) (q : Fin 256) :
    ((cfg0.win 1).blk t).view.read (Elt Ideal) G (ix2 s (gq q)) = G (ix2 (tok (t.val % 4) (by omega) s) (gl (col t q))) := by
  blk_ext [idx t]
  all_goals (simp only [tok, gl, gq, col]; omega)

theorem read_up (G : S8192x5632.Idx → EReal) (t : Fin cfg0.N) (s : Fin 2048) (q : Fin 256) :
    ((cfg0.win 1).blk t).view.read (Elt Ideal) G (ix2 s (uq q)) = G (ix2 (tok (t.val % 4) (by omega) s) (ul (col t q))) := by
  blk_ext [idx t]
  all_goals (simp only [tok, ul, uq, col]; omega)

/-- Tokens `2048 * j` and on: their share of the product of an inner gradient and the block's input. -/
def share (d : FVec Ideal S8192x2816 .f32) (h : FVec Ideal S8192x1024 .f32) (j : ℕ) (hj : j < 4) (f : Fin 2816) (n : Fin 1024) : EReal :=
  ∑ s : Fin 2048, d (ix2 (tok j hj s) f) * h (ix2 (tok j hj s) n)

theorem blk_h (t : Fin cfg0.N) (s : Fin 2048) (n : Fin 1024) :
    iblk m c 0 t (ix2 s n) = argH m c (ix2 (tok (t.val % 4) (by omega) s) n) := by
  unfold iblk
  refine (read_h (V m c main_v13) t s n).trans ?_
  rw [V_h]
  rfl

theorem pp_gate (t : Fin cfg0.N) (q : Fin 256) (n : Fin 1024) : pp m c t (gq q) n
    = share (das (argH m c) (argG m c) (argU m c) (argD m c) (argC m c)) (argH m c) (t.val % 4) (by omega) (col t q) n := by
  unfold pp share
  refine Finset.sum_congr rfl fun s _ => ?_
  refine congrArg₂ (fun x y : EReal => x * y) ?_ (blk_h m c t s n)
  unfold iblk
  refine (read_gate (V m c main_v20) t s q).trans ?_
  rw [V_both]
  exact rowsBoth_gate _ _ _ _

theorem pp_up (t : Fin cfg0.N) (q : Fin 256) (n : Fin 1024) : pp m c t (uq q) n
    = share (dus (argH m c) (argG m c) (argD m c) (argC m c)) (argH m c) (t.val % 4) (by omega) (col t q) n := by
  unfold pp share
  refine Finset.sum_congr rfl fun s _ => ?_
  refine congrArg₂ (fun x y : EReal => x * y) ?_ (blk_h m c t s n)
  unfold iblk
  refine (read_up (V m c main_v20) t s q).trans ?_
  rw [V_both]
  exact rowsBoth_up _ _ _ _

/-- A weight's gradient, transposed: an inner gradient's columns times the block's input. -/
def dwAll (d : FVec Ideal S8192x2816 .f32) (h : FVec Ideal S8192x1024 .f32) (i : S2816x1024.Idx) : EReal :=
  ∑ s : Fin 8192, d (ix2 s (i 0)) * h (ix2 s (i 1))

theorem four (d : FVec Ideal S8192x2816 .f32) (h : FVec Ideal S8192x1024 .f32) (f : Fin 2816) (n : Fin 1024) :
    share d h 0 (by omega) f n + share d h 1 (by omega) f n + share d h 2 (by omega) f n + share d h 3 (by omega) f n
      = dwAll d h (ix2 f n) := by
  unfold dwAll
  rw [sum_tokens, Fin.sum_univ_four]
  rfl

theorem share_at (d : FVec Ideal S8192x2816 .f32) (h : FVec Ideal S8192x1024 .f32) {j j' : ℕ} (hj : j < 4) (hj' : j' < 4) (e : j = j')
    {f f' : Fin 2816} (ef : f = f') (n : Fin 1024) : share d h j hj f n = share d h j' hj' f' n := by
  subst e ef
  rfl

/-- A chunk's last step leaves the whole sums. -/
theorem gate_last (t : Fin cfg0.N) (h3 : t.val % 4 = 3) (q : Fin 256) (n : Fin 1024) : (outsAt0 m c t.val t.isLt).1 (ix2 q n)
    = dwAll (das (argH m c) (argG m c) (argU m c) (argD m c) (argC m c)) (argH m c) (ix2 (col t q) n) := by
  have hN := lt_of_lt_of_eq t.isLt N_0
  have b2 : t.val - 1 < cfg0.N := Nat.lt_of_le_of_lt (Nat.sub_le _ _) t.isLt
  have b1 : t.val - 1 - 1 < cfg0.N := Nat.lt_of_le_of_lt (Nat.sub_le _ _) b2
  have b0 : t.val - 1 - 1 - 1 < cfg0.N := Nat.lt_of_le_of_lt (Nat.sub_le _ _) b1
  rw [gate_next m c t (by omega), gate_next m c ⟨t.val - 1, b2⟩ (by dsimp only; omega),
    gate_next m c ⟨t.val - 1 - 1, b1⟩ (by dsimp only; omega),
    gate_first m c ⟨t.val - 1 - 1 - 1, b0⟩ (by dsimp only; omega), pp_gate, pp_gate, pp_gate, pp_gate]
  refine Eq.trans ?_ (four _ (argH m c) (col t q) n)
  refine congrArg₂ (fun x y : EReal => x + y) (congrArg₂ (fun x y : EReal => x + y) (congrArg₂ (fun x y : EReal => x + y) ?_ ?_) ?_) ?_
  all_goals
    refine share_at _ _ _ _ ?_ ?_ _
    · first | omega | (dsimp only; omega)
    · exact Fin.ext (by simp only [col]; try omega)

theorem up_last (t : Fin cfg0.N) (h3 : t.val % 4 = 3) (q : Fin 256) (n : Fin 1024) : (outsAt0 m c t.val t.isLt).2 (ix2 q n)
    = dwAll (dus (argH m c) (argG m c) (argD m c) (argC m c)) (argH m c) (ix2 (col t q) n) := by
  have hN := lt_of_lt_of_eq t.isLt N_0
  have b2 : t.val - 1 < cfg0.N := Nat.lt_of_le_of_lt (Nat.sub_le _ _) t.isLt
  have b1 : t.val - 1 - 1 < cfg0.N := Nat.lt_of_le_of_lt (Nat.sub_le _ _) b2
  have b0 : t.val - 1 - 1 - 1 < cfg0.N := Nat.lt_of_le_of_lt (Nat.sub_le _ _) b1
  rw [up_next m c t (by omega), up_next m c ⟨t.val - 1, b2⟩ (by dsimp only; omega),
    up_next m c ⟨t.val - 1 - 1, b1⟩ (by dsimp only; omega),
    up_first m c ⟨t.val - 1 - 1 - 1, b0⟩ (by dsimp only; omega), pp_up, pp_up, pp_up, pp_up]
  refine Eq.trans ?_ (four _ (argH m c) (col t q) n)
  refine congrArg₂ (fun x y : EReal => x + y) (congrArg₂ (fun x y : EReal => x + y) (congrArg₂ (fun x y : EReal => x + y) ?_ ?_) ?_) ?_
  all_goals
    refine share_at _ _ _ _ ?_ ?_ _
    · first | omega | (dsimp only; omega)
    · exact Fin.ext (by simp only [col]; try omega)

theorem emb_gate (t : Fin cfg0.N) (q : Fin 256) (n : Fin 1024) :
    (((cfg0.win 2).blk t).view.emb (ix2 q n) : S2816x1024.Idx) = ix2 (col t q) n := by
  blk_ext [idx t]
  all_goals (simp only [col]; omega)

theorem emb_up (t : Fin cfg0.N) (q : Fin 256) (n : Fin 1024) :
    (((cfg0.win 3).blk t).view.emb (ix2 q n) : S2816x1024.Idx) = ix2 (col t q) n := by
  blk_ext [idx t]
  all_goals (simp only [col]; omega)

theorem point_gate (t : Fin cfg0.N) (h3 : t.val % 4 = 3) (y : S256x1024.Idx) : (dats m 0 c).after 2 t y
    = dwAll (das (argH m c) (argG m c) (argU m c) (argD m c) (argC m c)) (argH m c) (((cfg0.win 2).blk t).view.emb y) := by
  idx_vars y
  rw [after0_2]
  refine (gate_last m c t h3 y0 y1).trans ?_
  exact (congrArg _ (emb_gate t y0 y1)).symm

theorem point_up (t : Fin cfg0.N) (h3 : t.val % 4 = 3) (y : S256x1024.Idx) : (dats m 0 c).after 3 t y
    = dwAll (dus (argH m c) (argG m c) (argD m c) (argC m c)) (argH m c) (((cfg0.win 3).blk t).view.emb y) := by
  idx_vars y
  rw [after0_3]
  refine (up_last m c t h3 y0 y1).trans ?_
  exact (congrArg _ (emb_up t y0 y1)).symm

/-- The arrays after the run. -/
theorem arr_gate : (dats m 0 c).arrAt 2 cfg0.N
    = dwAll (das (argH m c) (argG m c) (argU m c) (argD m c) (argC m c)) (argH m c) := by
  refine (dats m 0 c).arrAt_eq_of_covers 2 _ (by decide +kernel) fun t hf y => ?_
  blk_simp
  exact point_gate m c t ((flush0_2 t).mp hf) y

theorem arr_up : (dats m 0 c).arrAt 3 cfg0.N = dwAll (dus (argH m c) (argG m c) (argD m c) (argC m c)) (argH m c) := by
  refine (dats m 0 c).arrAt_eq_of_covers 3 _ (by decide +kernel) fun t hf y => ?_
  blk_simp
  exact point_up m c t ((flush0_3 t).mp hf) y

/-! ## The reference -/

section

open Cert.Reference4Ideal.Read

variable (h : FVec Ideal S8192x1024 .f32) (wg wu : FVec Ideal S1024x2816 .f32) (wd : FVec Ideal S2816x1024 .f32)
  (ct : FVec Ideal S8192x1024 .f32)

theorem ref_das : val_main_v17 (F := Ideal) h wg wu wd ct = das h wg wu wd ct := rfl

theorem ref_dus : val_main_v13 (F := Ideal) h wg wd ct = dus h wg wd ct := rfl

/-- The reference's results are the kernel's: transposed twice there. -/
theorem ref_gate : val_main_v20 (F := Ideal) h wg wu wd ct = dwAll (das h wg wu wd ct) h := by
  funext i
  idx_vars i
  have e : val_main_v20 (F := Ideal) h wg wu wd ct (ix2 i0 i1)
      = ∑ s : Fin 8192, val_main_v17 (F := Ideal) h wg wu wd ct (ix2 s i0) * h (ix2 s i1) := by
    pointwise [val_main_v20, val_main_v19, val_main_v18]
  rw [e, ref_das]
  rfl

theorem ref_up : val_main_v21 (F := Ideal) h wg wd ct = dwAll (dus h wg wd ct) h := by
  funext i
  idx_vars i
  have e : val_main_v21 (F := Ideal) h wg wd ct (ix2 i0 i1)
      = ∑ s : Fin 8192, val_main_v13 (F := Ideal) h wg wd ct (ix2 s i0) * h (ix2 s i1) := by
    pointwise [val_main_v21, val_main_v16, val_main_v15]
  rw [e, ref_dus]
  rfl

end

end Cert.FfnUp
-- ==== Proof.FfnFwdTile.lean ====
/-
A row block of the SwiGLU block's forward call: what the body writes for the residual sum and for its layer norm, from the
blocks it reads. The body takes the 2816 columns 256 at a time; a chunk is the same operations of its own columns.
-/
module

public import proofs.«01_k».proof.Proof.Gen.Kernel5Ideal.Frame
public import proofs.«01_k».proof.Proof.FfnMath
public import Idealize.ShloMosaic.Lib.Pipeline.ValueKit

@[expose] public section

set_option maxRecDepth 16384

noncomputable section

namespace Cert.FfnFwd

open Cert.Kernel5Ideal Cert.Kernel5Ideal.Gen Cert.Ffn Idealize.ShloMosaic
open scoped BigOperators

/-- A chunk's share of the block's product: its 256 gated columns times their rows of the down weights. -/
def part (v0 : FVec Ideal S512x1024 .bf16) (w : Vec Ideal S1024x512 .bf16) (x : Vec Ideal S256x1024 .bf16) : FVec Ideal S512x1024 .f32 :=
  matmul dot_S512x256_S256x1024_S512x1024_1_0_0_1_n_n none (k0_pay17 v0 w)
    (shapeCast S256x1024 x shapeCasts_S256x1024_S256x1024 : FVec Ideal S256x1024 .bf16) (constant S512x1024 .f32 0x00000000#32)

theorem part_apply (v0 : FVec Ideal S512x1024 .bf16) (w : Vec Ideal S1024x512 .bf16) (x : Vec Ideal S256x1024 .bf16)
    (s : Fin 512) (n : Fin 1024) : part v0 w x (ix2 s n) = ∑ q : Fin 256, k0_pay17 v0 w (ix2 s q) * x (ix2 q n) := by
  pointwise [part]

/-- A gated column, of the gate and the up product. -/
def act (a u : EReal) : EReal := a * sg a * u

theorem act_apply (v0 : FVec Ideal S512x1024 .bf16) (w : Vec Ideal S1024x512 .bf16) (s : Fin 512) (q : Fin 256) :
    k0_pay17 v0 w (ix2 s q) = act (∑ k : Fin 1024, v0 (ix2 s k) * w (ix2 k ⟨q, by omega⟩))
      (∑ k : Fin 1024, v0 (ix2 s k) * w (ix2 k ⟨256 + q, by omega⟩)) := by
  pointwise [k0_pay17, k0_pay15]
  rfl

variable (x0 : Vec Ideal S512x1024 .bf16) (x1 : Vec Ideal S512x1024 .f32) (x2 : Vec Ideal S1024x5632 .bf16) (x3 : Vec Ideal S2816x1024 .bf16)
  (x4 x5 : Vec Ideal S1x1024 .f32)

/-- Column `f`'s share of the block's product at row `s` and feature `n`. -/
def term (s : Fin 512) (n : Fin 1024) (f : Fin 2816) : EReal :=
  act (∑ k : Fin 1024, x0 (ix2 s k) * x2 (ix2 k (gl f))) (∑ k : Fin 1024, x0 (ix2 s k) * x2 (ix2 k (ul f))) * x3 (ix2 f n)

/-- Chunk `j` of the columns. -/
theorem part_term (j : ℕ) (hj : j < 11) (v0 : FVec Ideal S512x1024 .bf16) (w : Vec Ideal S1024x512 .bf16) (x : Vec Ideal S256x1024 .bf16)
    (h0 : ∀ s k, v0 (ix2 s k) = x0 (ix2 s k))
    (hw : ∀ (k : Fin 1024) (q : Fin 512), w (ix2 k q) = x2 (ix2 k ⟨512 * j + q, by omega⟩))
    (hx : ∀ (q : Fin 256) (n : Fin 1024), x (ix2 q n) = x3 (ix2 ⟨256 * j + q, by omega⟩ n)) (s : Fin 512) (n : Fin 1024) :
    part v0 w x (ix2 s n) = ∑ q : Fin 256, term x0 x2 x3 s n ⟨256 * j + q, by omega⟩ := by
  rw [part_apply]
  refine Finset.sum_congr rfl fun q _ => ?_
  have hq := q.isLt
  have eg : gl ⟨256 * j + q, by omega⟩ = ⟨512 * j + q, by omega⟩ := Fin.ext (by simp only [gl]; omega)
  have eu : ul ⟨256 * j + q, by omega⟩ = ⟨512 * j + (256 + q), by omega⟩ := Fin.ext (by simp only [ul]; omega)
  rw [act_apply]
  simp only [h0, hw, hx, term, eg, eu]

theorem part0 (s : Fin 512) (n : Fin 1024) : part (k0_pay4 (View.ld x0 r0_0)) (View.ld x2 r0_1) (View.ld x3 r0_4) (ix2 s n)
      = ∑ q : Fin 256, term x0 x2 x3 s n ⟨256 * 0 + q, by omega⟩ :=
  part_term x0 x2 x3 0 (by omega) _ _ _ (fun s k => by pointwise [k0_pay4]) (fun k q => by pointwise) (fun q n => by pointwise) s n

theorem part1 (s : Fin 512) (n : Fin 1024) : part (k0_pay4 (View.ld x0 r0_0)) (View.ld x2 r0_5) (View.ld x3 r0_8) (ix2 s n)
      = ∑ q : Fin 256, term x0 x2 x3 s n ⟨256 * 1 + q, by omega⟩ :=
  part_term x0 x2 x3 1 (by omega) _ _ _ (fun s k => by pointwise [k0_pay4]) (fun k q => by pointwise) (fun q n => by pointwise) s n

theorem part2 (s : Fin 512) (n : Fin 1024) : part (k0_pay4 (View.ld x0 r0_0)) (View.ld x2 r0_9) (View.ld x3 r0_12) (ix2 s n)
      = ∑ q : Fin 256, term x0 x2 x3 s n ⟨256 * 2 + q, by omega⟩ :=
  part_term x0 x2 x3 2 (by omega) _ _ _ (fun s k => by pointwise [k0_pay4]) (fun k q => by pointwise) (fun q n => by pointwise) s n

theorem part3 (s : Fin 512) (n : Fin 1024) : part (k0_pay4 (View.ld x0 r0_0)) (View.ld x2 r0_13) (View.ld x3 r0_16) (ix2 s n)
      = ∑ q : Fin 256, term x0 x2 x3 s n ⟨256 * 3 + q, by omega⟩ :=
  part_term x0 x2 x3 3 (by omega) _ _ _ (fun s k => by pointwise [k0_pay4]) (fun k q => by pointwise) (fun q n => by pointwise) s n

theorem part4 (s : Fin 512) (n : Fin 1024) : part (k0_pay4 (View.ld x0 r0_0)) (View.ld x2 r0_17) (View.ld x3 r0_20) (ix2 s n)
      = ∑ q : Fin 256, term x0 x2 x3 s n ⟨256 * 4 + q, by omega⟩ :=
  part_term x0 x2 x3 4 (by omega) _ _ _ (fun s k => by pointwise [k0_pay4]) (fun k q => by pointwise) (fun q n => by pointwise) s n

theorem part5 (s : Fin 512) (n : Fin 1024) : part (k0_pay4 (View.ld x0 r0_0)) (View.ld x2 r0_21) (View.ld x3 r0_24) (ix2 s n)
      = ∑ q : Fin 256, term x0 x2 x3 s n ⟨256 * 5 + q, by omega⟩ :=
  part_term x0 x2 x3 5 (by omega) _ _ _ (fun s k => by pointwise [k0_pay4]) (fun k q => by pointwise) (fun q n => by pointwise) s n

theorem part6 (s : Fin 512) (n : Fin 1024) : part (k0_pay4 (View.ld x0 r0_0)) (View.ld x2 r0_25) (View.ld x3 r0_28) (ix2 s n)
      = ∑ q : Fin 256, term x0 x2 x3 s n ⟨256 * 6 + q, by omega⟩ :=
  part_term x0 x2 x3 6 (by omega) _ _ _ (fun s k => by pointwise [k0_pay4]) (fun k q => by pointwise) (fun q n => by pointwise) s n

theorem part7 (s : Fin 512) (n : Fin 1024) : part (k0_pay4 (View.ld x0 r0_0)) (View.ld x2 r0_29) (View.ld x3 r0_32) (ix2 s n)
      = ∑ q : Fin 256, term x0 x2 x3 s n ⟨256 * 7 + q, by omega⟩ :=
  part_term x0 x2 x3 7 (by omega) _ _ _ (fun s k => by pointwise [k0_pay4]) (fun k q => by pointwise) (fun q n => by pointwise) s n

theorem part8 (s : Fin 512) (n : Fin 1024) : part (k0_pay4 (View.ld x0 r0_0)) (View.ld x2 r0_33) (View.ld x3 r0_36) (ix2 s n)
      = ∑ q : Fin 256, term x0 x2 x3 s n ⟨256 * 8 + q, by omega⟩ :=
  part_term x0 x2 x3 8 (by omega) _ _ _ (fun s k => by pointwise [k0_pay4]) (fun k q => by pointwise) (fun q n => by pointwise) s n

theorem part9 (s : Fin 512) (n : Fin 1024) : part (k0_pay4 (View.ld x0 r0_0)) (View.ld x2 r0_37) (View.ld x3 r0_40) (ix2 s n)
      = ∑ q : Fin 256, term x0 x2 x3 s n ⟨256 * 9 + q, by omega⟩ :=
  part_term x0 x2 x3 9 (by omega) _ _ _ (fun s k => by pointwise [k0_pay4]) (fun k q => by pointwise) (fun q n => by pointwise) s n

theorem part10 (s : Fin 512) (n : Fin 1024) : part (k0_pay4 (View.ld x0 r0_0)) (View.ld x2 r0_41) (View.ld x3 r0_44) (ix2 s n)
      = ∑ q : Fin 256, term x0 x2 x3 s n ⟨256 * 10 + q, by omega⟩ :=
  part_term x0 x2 x3 10 (by omega) _ _ _ (fun s k => by pointwise [k0_pay4]) (fun k q => by pointwise) (fun q n => by pointwise) s n

/-- The chunks' shares added up. -/
def acc : FVec Ideal S512x1024 .f32 :=
  (addf (addf (addf (addf (addf (addf (addf (addf (addf (addf (addf (broadcast S512x1024 (Scalar.ofBits .f32 0x00000000#32 : Ideal .f32))
      (part (k0_pay4 (View.ld x0 r0_0)) (View.ld x2 r0_1) (View.ld x3 r0_4)))
      (part (k0_pay4 (View.ld x0 r0_0)) (View.ld x2 r0_5) (View.ld x3 r0_8)))
      (part (k0_pay4 (View.ld x0 r0_0)) (View.ld x2 r0_9) (View.ld x3 r0_12)))
      (part (k0_pay4 (View.ld x0 r0_0)) (View.ld x2 r0_13) (View.ld x3 r0_16)))
      (part (k0_pay4 (View.ld x0 r0_0)) (View.ld x2 r0_17) (View.ld x3 r0_20)))
      (part (k0_pay4 (View.ld x0 r0_0)) (View.ld x2 r0_21) (View.ld x3 r0_24)))
      (part (k0_pay4 (View.ld x0 r0_0)) (View.ld x2 r0_25) (View.ld x3 r0_28)))
      (part (k0_pay4 (View.ld x0 r0_0)) (View.ld x2 r0_29) (View.ld x3 r0_32)))
      (part (k0_pay4 (View.ld x0 r0_0)) (View.ld x2 r0_33) (View.ld x3 r0_36)))
      (part (k0_pay4 (View.ld x0 r0_0)) (View.ld x2 r0_37) (View.ld x3 r0_40)))
      (part (k0_pay4 (View.ld x0 r0_0)) (View.ld x2 r0_41) (View.ld x3 r0_44)))

theorem acc_apply (s : Fin 512) (n : Fin 1024) : acc x0 x2 x3 (ix2 s n) = ∑ f : Fin 2816, term x0 x2 x3 s n f := by
  unfold acc
  simp only [addf_apply]
  rw [part0, part1, part2, part3, part4, part5, part6, part7, part8, part9, part10, sum_chunks]
  exact sum_eleven _ Ideal.ofBits_zero_f32 fun j => ∑ q : Fin 256, term x0 x2 x3 s n ⟨256 * j + q, by omega⟩

/-- The residual sum at row `s` and feature `n`. -/
def res (s : Fin 512) (n : Fin 1024) : EReal :=
  Ideal.ofBits .f32 0x3F9837F0#32 * x1 (ix2 s n) + Ideal.ofBits .f32 0x3F000000#32 * ∑ f : Fin 2816, term x0 x2 x3 s n f

theorem sum_apply (a b : FVec Ideal S512x1024 .f32) (s : Fin 512) (n : Fin 1024) :
    k0_pay1 a b (ix2 s n) = b (ix2 s n) + Ideal.ofBits .f32 0x3F000000#32 * a (ix2 s n) := by
  pointwise [k0_pay1]

theorem scaled_apply (x : Vec Ideal S512x1024 .f32) (s : Fin 512) (n : Fin 1024) :
    k0_pay55 x (ix2 s n) = Ideal.ofBits .f32 0x3F9837F0#32 * x (ix2 s n) := by
  pointwise [k0_pay55]

theorem ld1 (s : Fin 512) (n : Fin 1024) : (View.ld x1 r0_0 : Vec Ideal S512x1024 .f32) (ix2 s n) = x1 (ix2 s n) := by
  pointwise

theorem ld4 (n : Fin 1024) : (View.ld x4 r0_45 : Vec Ideal S1x1024 .f32) (ix2 0 n) = x4 (ix2 0 n) := by
  pointwise

theorem res_apply (s : Fin 512) (n : Fin 1024) :
    k0_pay1 (acc x0 x2 x3) (k0_pay55 (View.ld x1 r0_0)) (ix2 s n) = res x0 x1 x2 x3 s n := by
  rw [sum_apply, scaled_apply, acc_apply, ld1]
  rfl

/-- The body's payload for the residual sum. -/
theorem out9_eq : out0_9 x0 x1 x2 x3 x4 x5 = View.canon [⟨r0_0, k0_pay1 (acc x0 x2 x3) (k0_pay55 (View.ld x1 r0_0))⟩] := by
  unfold_out out0_9
  rfl

/-- The body's payload for the layer norm. -/
theorem out8_eq : out0_8 x0 x1 x2 x3 x4 x5 = View.canon [⟨r0_0, k0_pay2 (acc x0 x2 x3) (k0_pay55 (View.ld x1 r0_0))
    (View.ld x4 r0_45) (View.ld x5 r0_45)⟩] := by
  unfold_out out0_8
  rfl

theorem out9_apply (s : Fin 512) (n : Fin 1024) : out0_9 x0 x1 x2 x3 x4 x5 (ix2 s n) = res x0 x1 x2 x3 s n := by
  rw [out9_eq]
  refine (congrFun (View.canon_unit_zero (Val := Elt Ideal) (S := S512x1024) (by ext a; fin_cases a <;> rfl) _ _) (ix2 s n)).trans ?_
  exact res_apply x0 x1 x2 x3 s n

/-- A row's mean. -/
def mean (z : Fin 1024 → EReal) : EReal := Ideal.div (∑ k, z k) (Ideal.ofBits .f32 0x44800000#32)

/-- A row's layer norm. -/
def ln (z g b : Fin 1024 → EReal) (n : Fin 1024) : EReal :=
  (z n - mean z) * Ideal.rsqrt (mean (fun k => (z k - mean z) * (z k - mean z)) + Ideal.ofBits .f32 0x3727C5AC#32) * g n + b n

theorem ln_apply (a b : FVec Ideal S512x1024 .f32) (g h : Vec Ideal S1x1024 .f32) (s : Fin 512) (n : Fin 1024) :
    k0_pay2 a b g h (ix2 s n) = ln (fun k => k0_pay1 a b (ix2 s k)) (fun k => g (ix2 0 k)) (fun k => h (ix2 0 k)) n := by
  pointwise [k0_pay2]
  rfl

theorem out8_apply (s : Fin 512) (n : Fin 1024) : out0_8 x0 x1 x2 x3 x4 x5 (ix2 s n)
    = ln (res x0 x1 x2 x3 s) (fun k => x4 (ix2 0 k)) (fun k => x5 (ix2 0 k)) n := by
  rw [out8_eq]
  refine (congrFun (View.canon_unit_zero (Val := Elt Ideal) (S := S512x1024) (by ext a; fin_cases a <;> rfl) _ _) (ix2 s n)).trans ?_
  refine (ln_apply _ _ _ _ s n).trans ?_
  have e : (fun k => k0_pay1 (acc x0 x2 x3) (k0_pay55 (View.ld x1 r0_0)) (ix2 s k)) = res x0 x1 x2 x3 s :=
    funext fun k => res_apply x0 x1 x2 x3 s k
  rw [e, funext fun k => ld4 x4 k, funext fun k => ld4 x5 k]

end Cert.FfnFwd
-- ==== Proof.FfnFwd.lean ====
/-
The SwiGLU block's forward call: the residual sum and its layer norm, row block by row block, against the reference.
-/
module

public import proofs.«01_k».proof.Proof.FfnFwdTile
public import proofs.«01_k».proof.Proof.Gen.Reference5Ideal.Read
public import Idealize.ShloMosaic.Lib.Claim

@[expose] public section

set_option maxRecDepth 16384

noncomputable section

namespace Cert.FfnFwd

open Cert.Kernel5Ideal Cert.Kernel5Ideal.Gen Cert.Ffn Idealize.ShloMosaic Idealize.ShloMosaic.TcCoe
open scoped BigOperators

/-- Two weights of 2816 columns interleaved, 256 and 256 in turn. -/
def weightsBoth (a b : FVec Ideal S1024x2816 .bf16) : FVec Ideal S1024x5632 .bf16 :=
  shapeCast S1024x5632 (concatenate S1024x11x2x256 2
    [⟨S1024x11x1x256, broadcastInDim S1024x11x1x256 ![0, 1, 3] bcast_S1024x11x256_S1024x11x1x256_0_1_3
        (shapeCast S1024x11x256 a shapeCasts_S1024x2816_S1024x11x256)⟩,
     ⟨S1024x11x1x256, broadcastInDim S1024x11x1x256 ![0, 1, 3] bcast_S1024x11x256_S1024x11x1x256_0_1_3
        (shapeCast S1024x11x256 b shapeCasts_S1024x2816_S1024x11x256)⟩]
    concatenates_S1024x11x1x256_S1024x11x1x256_S1024x11x2x256_d2) shapeCasts_S1024x11x2x256_S1024x5632

theorem weightsBoth_gate (a b : FVec Ideal S1024x2816 .bf16) (s : Fin 1024) (f : Fin 2816) :
    weightsBoth a b (ix2 s (gl f)) = a (ix2 s f) := by
  pointwise [weightsBoth, gl]
  rw [dif_pos (by omega)]

theorem weightsBoth_up (a b : FVec Ideal S1024x2816 .bf16) (s : Fin 1024) (f : Fin 2816) :
    weightsBoth a b (ix2 s (ul f)) = b (ix2 s f) := by
  pointwise [weightsBoth, ul]
  rw [dif_neg (by omega)]

variable (m : (ℓ : Loc nD τ sig) → Buf (Elt Ideal) ℓ) (c : Dev nD)

abbrev argH : FVec Ideal S8192x1024 .f32 := m ((c : Thread nD τ).loc main_arg0)
abbrev argG : FVec Ideal S1024x2816 .f32 := m ((c : Thread nD τ).loc main_arg1)
abbrev argU : FVec Ideal S1024x2816 .f32 := m ((c : Thread nD τ).loc main_arg2)
abbrev argD : FVec Ideal S2816x1024 .f32 := m ((c : Thread nD τ).loc main_arg3)
abbrev argS : FVec Ideal S1x1024 .f32 := m ((c : Thread nD τ).loc main_arg4)
abbrev argB : FVec Ideal S1x1024 .f32 := m ((c : Thread nD τ).loc main_arg5)

theorem V_h : V m c main_v8 = truncf .bf16 (argH m c) bitsLt_bf16_f32 := by
  unfold V
  after_results

theorem V_wgu : V m c main_v7 = weightsBoth (truncf .bf16 (argG m c) bitsLt_bf16_f32) (truncf .bf16 (argU m c) bitsLt_bf16_f32) := by
  unfold V
  after_results
  rfl

theorem V_wd : V m c main_v9 = truncf .bf16 (argD m c) bitsLt_bf16_f32 := by
  unfold V
  after_results

/-! ## The blocks of a step -/

theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_8.index t = ![t.val, 0]
    ∧ win0_9.index t = ![t.val, 0] :=
  (by decide +kernel : ∀ t : Fin grid0.N, _)

/-- Row `s` of step `t`'s block. -/
def row (t : Fin cfg0.N) (s : Fin 512) : Fin 8192 := ⟨512 * t + s, by have := lt_of_lt_of_eq t.isLt N_0; omega⟩

theorem read_h (G : S8192x1024.Idx → EReal) (t : Fin cfg0.N) (s : Fin 512) (n : Fin 1024) :
    ((cfg0.win 0).blk t).view.read (Elt Ideal) G (ix2 s n) = G (ix2 (row t s) n) := by
  blk_ext [idx t]
  all_goals (simp only [row]; omega)

theorem read_res (G : S8192x1024.Idx → EReal) (t : Fin cfg0.N) (s : Fin 512) (n : Fin 1024) :
    ((cfg0.win 1).blk t).view.read (Elt Ideal) G (ix2 s n) = G (ix2 (row t s) n) := by
  blk_ext [idx t]
  all_goals (simp only [row]; omega)

theorem read_wgu (G : S1024x5632.Idx → EReal) (t : Fin cfg0.N) (s : Fin 1024) (n : Fin 5632) :
    ((cfg0.win 2).blk t).view.read (Elt Ideal) G (ix2 s n) = G (ix2 s n) := by
  blk_ext [idx t]
  all_goals omega

theorem read_wd (G : S2816x1024.Idx → EReal) (t : Fin cfg0.N) (s : Fin 2816) (n : Fin 1024) :
    ((cfg0.win 3).blk t).view.read (Elt Ideal) G (ix2 s n) = G (ix2 s n) := by
  blk_ext [idx t]
  all_goals omega

theorem read_scale (G : S1x1024.Idx → EReal) (t : Fin cfg0.N) (n : Fin 1024) :
    ((cfg0.win 4).blk t).view.read (Elt Ideal) G (ix2 0 n) = G (ix2 0 n) := by
  blk_ext [idx t]
  all_goals omega

theorem read_shift (G : S1x1024.Idx → EReal) (t : Fin cfg0.N) (n : Fin 1024) :
    ((cfg0.win 5).blk t).view.read (Elt Ideal) G (ix2 0 n) = G (ix2 0 n) := by
  blk_ext [idx t]
  all_goals omega

theorem blk_h (t : Fin cfg0.N) (s : Fin 512) (n : Fin 1024) : iblk m c 0 t (ix2 s n) = argH m c (ix2 (row t s) n) := by
  unfold iblk
  refine (read_h (V m c main_v8) t s n).trans ?_
  rw [V_h]
  rfl

theorem blk_res (t : Fin cfg0.N) (s : Fin 512) (n : Fin 1024) : iblk m c 1 t (ix2 s n) = argH m c (ix2 (row t s) n) := by
  unfold iblk
  refine (read_res (V m c main_arg0) t s n).trans ?_
  rw [V_main_arg0]

theorem blk_gate (t : Fin cfg0.N) (k : Fin 1024) (f : Fin 2816) : iblk m c 2 t (ix2 k (gl f)) = argG m c (ix2 k f) := by
  unfold iblk
  refine (read_wgu (V m c main_v7) t k (gl f)).trans ?_
  rw [V_wgu]
  exact weightsBoth_gate _ _ _ _

theorem blk_up (t : Fin cfg0.N) (k : Fin 1024) (f : Fin 2816) : iblk m c 2 t (ix2 k (ul f)) = argU m c (ix2 k f) := by
  unfold iblk
  refine (read_wgu (V m c main_v7) t k (ul f)).trans ?_
  rw [V_wgu]
  exact weightsBoth_up _ _ _ _

theorem blk_wd (t : Fin cfg0.N) (f : Fin 2816) (n : Fin 1024) : iblk m c 3 t (ix2 f n) = argD m c (ix2 f n) := by
  unfold iblk
  refine (read_wd (V m c main_v9) t f n).trans ?_
  rw [V_wd]
  rfl

theorem blk_scale (t : Fin cfg0.N) (n : Fin 1024) : iblk m c 4 t (ix2 0 n) = argS m c (ix2 0 n) := by
  unfold iblk
  refine (read_scale (V m c main_arg4) t n).trans ?_
  rw [V_main_arg4]

theorem blk_shift (t : Fin cfg0.N) (n : Fin 1024) : iblk m c 5 t (ix2 0 n) = argB m c (ix2 0 n) := by
  unfold iblk
  refine (read_shift (V m c main_arg5) t n).trans ?_
  rw [V_main_arg5]

/-! ## The results -/

/-- The residual sum at a token and a feature. -/
def resAt (h : FVec Ideal S8192x1024 .f32) (wg wu : FVec Ideal S1024x2816 .f32) (wd : FVec Ideal S2816x1024 .f32)
    (s : Fin 8192) (n : Fin 1024) : EReal :=
  Ideal.ofBits .f32 0x3F9837F0#32 * h (ix2 s n) + Ideal.ofBits .f32 0x3F000000#32 * ∑ f : Fin 2816,
    act (∑ k : Fin 1024, h (ix2 s k) * wg (ix2 k f)) (∑ k : Fin 1024, h (ix2 s k) * wu (ix2 k f)) * wd (ix2 f n)

/-- The residual sum. -/
def resAll (h : FVec Ideal S8192x1024 .f32) (wg wu : FVec Ideal S1024x2816 .f32) (wd : FVec Ideal S2816x1024 .f32)
    (i : S8192x1024.Idx) : EReal := resAt h wg wu wd (i 0) (i 1)

/-- Its layer norm. -/
def normAll (h : FVec Ideal S8192x1024 .f32) (wg wu : FVec Ideal S1024x2816 .f32) (wd : FVec Ideal S2816x1024 .f32)
    (g b : FVec Ideal S1x1024 .f32) (i : S8192x1024.Idx) : EReal :=
  ln (resAt h wg wu wd (i 0)) (fun k => g (ix2 0 k)) (fun k => b (ix2 0 k)) (i 1)

theorem term_eq (t : Fin cfg0.N) (s : Fin 512) (n : Fin 1024) (f : Fin 2816) :
    term (iblk m c 0 t) (iblk m c 2 t) (iblk m c 3 t) s n f
      = act (∑ k : Fin 1024, argH m c (ix2 (row t s) k) * argG m c (ix2 k f))
          (∑ k : Fin 1024, argH m c (ix2 (row t s) k) * argU m c (ix2 k f)) * argD m c (ix2 f n) := by
  unfold term
  refine congrArg₂ (fun x y : EReal => x * y) (congrArg₂ act ?_ ?_) (blk_wd m c t f n)
  · exact Finset.sum_congr rfl fun k _ => congrArg₂ (fun x y : EReal => x * y) (blk_h m c t s k) (blk_gate m c t k f)
  · exact Finset.sum_congr rfl fun k _ => congrArg₂ (fun x y : EReal => x * y) (blk_h m c t s k) (blk_up m c t k f)

theorem res_eq (t : Fin cfg0.N) (s : Fin 512) (n : Fin 1024) :
    res (iblk m c 0 t) (iblk m c 1 t) (iblk m c 2 t) (iblk m c 3 t) s n
      = resAt (argH m c) (argG m c) (argU m c) (argD m c) (row t s) n := by
  unfold res resAt
  refine congrArg₂ (fun x y : EReal => x + y) (congrArg (fun x : EReal => _ * x) (blk_res m c t s n)) ?_
  exact congrArg (fun x : EReal => _ * x) (Finset.sum_congr rfl fun f _ => term_eq m c t s n f)

theorem emb_norm (t : Fin cfg0.N) (s : Fin 512) (n : Fin 1024) :
    (((cfg0.win 8).blk t).view.emb (ix2 s n) : S8192x1024.Idx) = ix2 (row t s) n := by
  blk_ext [idx t]
  all_goals (simp only [row]; omega)

theorem emb_res (t : Fin cfg0.N) (s : Fin 512) (n : Fin 1024) :
    (((cfg0.win 9).blk t).view.emb (ix2 s n) : S8192x1024.Idx) = ix2 (row t s) n := by
  blk_ext [idx t]
  all_goals (simp only [row]; omega)

theorem point_res (t : Fin cfg0.N) (y : S512x1024.Idx) : (dats m 0 c).after 9 t y
    = resAll (argH m c) (argG m c) (argU m c) (argD m c) (((cfg0.win 9).blk t).view.emb y) := by
  idx_vars y
  rw [after0_9]
  refine (out9_apply _ _ _ _ _ _ y0 y1).trans ((res_eq m c t y0 y1).trans ?_)
  exact (congrArg (resAll (argH m c) (argG m c) (argU m c) (argD m c)) (emb_res t y0 y1)).symm

theorem point_norm (t : Fin cfg0.N) (y : S512x1024.Idx) : (dats m 0 c).after 8 t y
    = normAll (argH m c) (argG m c) (argU m c) (argD m c) (argS m c) (argB m c) (((cfg0.win 8).blk t).view.emb y) := by
  idx_vars y
  rw [after0_8]
  refine (out8_apply _ _ _ _ _ _ y0 y1).trans ?_
  refine Eq.trans ?_ (congrArg (normAll (argH m c) (argG m c) (argU m c) (argD m c) (argS m c) (argB m c)) (emb_norm t y0 y1)).symm
  have e0 : res (iblk m c 0 t) (iblk m c 1 t) (iblk m c 2 t) (iblk m c 3 t) y0
      = resAt (argH m c) (argG m c) (argU m c) (argD m c) (row t y0) := funext fun k => res_eq m c t y0 k
  have e1 : (fun k => iblk m c 4 t (ix2 0 k)) = fun k => argS m c (ix2 0 k) := funext fun k => blk_scale m c t k
  have e2 : (fun k => iblk m c 5 t (ix2 0 k)) = fun k => argB m c (ix2 0 k) := funext fun k => blk_shift m c t k
  exact congr (congr (congr (congrArg ln e0) e1) e2) rfl

/-- The arrays after the run. -/
theorem arr_res : (dats m 0 c).arrAt 9 cfg0.N = resAll (argH m c) (argG m c) (argU m c) (argD m c) := by
  refine (dats m 0 c).arrAt_eq_of_covers 9 _ (by decide +kernel) fun t hf y => ?_
  blk_simp
  exact point_res m c t y

theorem arr_norm : (dats m 0 c).arrAt 8 cfg0.N
    = normAll (argH m c) (argG m c) (argU m c) (argD m c) (argS m c) (argB m c) := by
  refine (dats m 0 c).arrAt_eq_of_covers 8 _ (by decide +kernel) fun t hf y => ?_
  blk_simp
  exact point_norm m c t y

/-! ## The reference -/

section

open Cert.Reference5Ideal.Read

variable (h : FVec Ideal S8192x1024 .f32) (wg wu : FVec Ideal S1024x2816 .f32) (wd : FVec Ideal S2816x1024 .f32)
  (g b : FVec Ideal S1x1024 .f32)

theorem ref_gate (s : Fin 8192) (f : Fin 2816) : val_main_v2 (F := Ideal) h wg (ix2 s f) = ∑ k : Fin 1024, h (ix2 s k) * wg (ix2 k f) := by
  pointwise [val_main_v2]

theorem ref_up (s : Fin 8192) (f : Fin 2816) : val_main_v4 (F := Ideal) h wu (ix2 s f) = ∑ k : Fin 1024, h (ix2 s k) * wu (ix2 k f) := by
  pointwise [val_main_v4]

theorem ref_lg (s : Fin 8192) (f : Fin 2816) :
    val_main_call0_v5 (F := Ideal) h wg (ix2 s f) = sr (val_main_v2 (F := Ideal) h wg (ix2 s f)) := by
  pointwise [val_main_call0_v5, val_main_call0_v4, val_main_call0_cst_0, val_main_call0_v3, val_main_call0_v2, val_main_call0_cst,
    val_main_call0_v1, val_main_call0_v0]
  rw [sr, one_word, EReal.coe_one]

theorem ref_act (s : Fin 8192) (f : Fin 2816) : val_main_v5 (F := Ideal) h wg wu (ix2 s f)
    = act (∑ k : Fin 1024, h (ix2 s k) * wg (ix2 k f)) (∑ k : Fin 1024, h (ix2 s k) * wu (ix2 k f)) := by
  have e : val_main_v5 (F := Ideal) h wg wu (ix2 s f) = val_main_v2 (F := Ideal) h wg (ix2 s f)
      * val_main_call0_v5 (F := Ideal) h wg (ix2 s f) * val_main_v4 (F := Ideal) h wu (ix2 s f) := by
    pointwise [val_main_v5, val_main_v3]
  rw [e, ref_lg, ref_gate, ref_up, ← sg_eq]
  rfl

/-- The reference's residual sum is the kernel's. -/
theorem ref_resAt (s : Fin 8192) (n : Fin 1024) : val_main_v9 (F := Ideal) h wg wu wd (ix2 s n) = resAt h wg wu wd s n := by
  have e : val_main_v9 (F := Ideal) h wg wu wd (ix2 s n) = Ideal.ofBits .f32 0x3F9837F0#32 * h (ix2 s n)
      + Ideal.ofBits .f32 0x3F000000#32 * ∑ f : Fin 2816, val_main_v5 (F := Ideal) h wg wu (ix2 s f) * wd (ix2 f n) := by
    pointwise [val_main_v9, val_main_v8, val_main_v7, val_main_cst_0, val_main_v6, val_main_v1, val_main_v0, val_main_cst]
  rw [e]
  unfold resAt
  simp only [ref_act]

theorem ref_res : val_main_v9 (F := Ideal) h wg wu wd = resAll h wg wu wd := by
  funext i
  idx_vars i
  exact ref_resAt h wg wu wd i0 i1

theorem ref_mean (s : Fin 8192) : val_main_v13 (F := Ideal) h wg wu wd (ix2 s 0)
    = mean (fun k => val_main_v9 (F := Ideal) h wg wu wd (ix2 s k)) := by
  pointwise [val_main_v13, val_main_v12, val_main_v11, val_main_v10, val_main_cst_1, val_main_cst_2]
  rfl

theorem ref_var (s : Fin 8192) : val_main_v20 (F := Ideal) h wg wu wd (ix2 s 0)
    = mean (fun k => (val_main_v9 (F := Ideal) h wg wu wd (ix2 s k) - val_main_v13 (F := Ideal) h wg wu wd (ix2 s 0))
        * (val_main_v9 (F := Ideal) h wg wu wd (ix2 s k) - val_main_v13 (F := Ideal) h wg wu wd (ix2 s 0))) := by
  pointwise [val_main_v20, val_main_v19, val_main_v18, val_main_v17, val_main_cst_3, val_main_cst_4, val_main_v16, val_main_v15, val_main_v14]
  rfl

/-- The reference's layer norm is the kernel's. -/
theorem ref_norm : val_main_v31 (F := Ideal) h wg wu wd g b = normAll h wg wu wd g b := by
  funext i
  idx_vars i
  have e : val_main_v31 (F := Ideal) h wg wu wd g b (ix2 i0 i1)
      = (val_main_v9 (F := Ideal) h wg wu wd (ix2 i0 i1) - val_main_v13 (F := Ideal) h wg wu wd (ix2 i0 0))
        * Ideal.rsqrt (val_main_v20 (F := Ideal) h wg wu wd (ix2 i0 0) + Ideal.ofBits .f32 0x3727C5AC#32)
        * g (ix2 0 i1) + b (ix2 0 i1) := by
    pointwise [val_main_v31, val_main_v30, val_main_v29, val_main_v28, val_main_v27, val_main_v26, val_main_v25, val_main_v24,
      val_main_v23, val_main_cst_5, val_main_v22, val_main_v21]
  have z : (fun k => val_main_v9 (F := Ideal) h wg wu wd (ix2 i0 k)) = resAt h wg wu wd i0 :=
    funext fun k => ref_resAt h wg wu wd i0 k
  rw [e, ref_var, ref_mean, z]
  simp only [ref_resAt]
  rfl

end

end Cert.FfnFwd
-- ==== Proof.FfnFinite.lean ====
/-
The precondition of the SwiGLU block's backward call read: every number of the five argument arrays is a real number.
-/
module

public import proofs.«01_k».proof.Proof.Finite
public import proofs.«01_k».proof.Proof.Gen.Pre_finite2

@[expose] public section

set_option maxRecDepth 16384

noncomputable section

namespace Cert.FfnFinite

open Cert.Pre_finite2 Cert.Finite Idealize.ShloMosaic

attribute [local instance] Cert.Pre_finite2.Gen.facts

variable (h : FVec Ideal S8192x1024 .f32) (wg wu : FVec Ideal S1024x2816 .f32) (wd : FVec Ideal S2816x1024 .f32)
  (ct : FVec Ideal S8192x1024 .f32)

theorem at_h (s : Fin 8192) (n : Fin 1024) :
    fn (F := Ideal) h wg wu wd ct (ix2 (⟨s, by omega⟩ : Fin 24832) n)
      = Ideal.cmp .olt (max (h (ix2 s n)) (-(h (ix2 s n)))) (Ideal.ofBits .f32 0x7F800000#32) := by
  pointwise [fn]
  rfl

theorem at_gate (n : Fin 1024) (f : Fin 2816) :
    fn (F := Ideal) h wg wu wd ct (ix2 (⟨8192 + f, by omega⟩ : Fin 24832) n)
      = Ideal.cmp .olt (max (wg (ix2 n f)) (-(wg (ix2 n f)))) (Ideal.ofBits .f32 0x7F800000#32) := by
  pointwise [fn]
  rfl

theorem at_up (n : Fin 1024) (f : Fin 2816) :
    fn (F := Ideal) h wg wu wd ct (ix2 (⟨11008 + f, by omega⟩ : Fin 24832) n)
      = Ideal.cmp .olt (max (wu (ix2 n f)) (-(wu (ix2 n f)))) (Ideal.ofBits .f32 0x7F800000#32) := by
  pointwise [fn]
  rw [dif_neg (by omega), dif_neg (by omega), dif_pos (by omega)]
  refine lt_at (congrArg wu (congrArg (ix2 n) (Fin.ext ?_)))

  dsimp only
  omega

theorem at_down (f : Fin 2816) (n : Fin 1024) :
    fn (F := Ideal) h wg wu wd ct (ix2 (⟨13824 + f, by omega⟩ : Fin 24832) n)
      = Ideal.cmp .olt (max (wd (ix2 f n)) (-(wd (ix2 f n)))) (Ideal.ofBits .f32 0x7F800000#32) := by
  pointwise [fn]
  rw [dif_neg (by omega), dif_neg (by omega), dif_neg (by omega), dif_pos (by omega)]
  refine lt_at (congrArg wd (congrArg (ix2 · n) (Fin.ext ?_)))
  dsimp only
  omega

theorem at_ct (s : Fin 8192) (n : Fin 1024) :
    fn (F := Ideal) h wg wu wd ct (ix2 (⟨16640 + s, by omega⟩ : Fin 24832) n)
      = Ideal.cmp .olt (max (ct (ix2 s n)) (-(ct (ix2 s n)))) (Ideal.ofBits .f32 0x7F800000#32) := by
  pointwise [fn]
  rw [dif_neg (by omega), dif_neg (by omega), dif_neg (by omega), dif_neg (by omega)]
  refine lt_at (congrArg ct (congrArg (ix2 · n) (Fin.ext ?_)))
  dsimp only
  omega

/-- What the precondition says. -/
theorem real (e : fn (F := Ideal) h wg wu wd ct = fun _ => 1#1) : IsReal h ∧ IsReal wg ∧ IsReal wu ∧ IsReal wd ∧ IsReal ct := by
  refine ⟨fun i => ?_, fun i => ?_, fun i => ?_, fun i => ?_, fun i => ?_⟩
  · idx_vars i
    exact real_of_lt ((at_h h wg wu wd ct _ _).symm.trans (congrFun e _))
  · idx_vars i
    exact real_of_lt ((at_gate h wg wu wd ct _ _).symm.trans (congrFun e _))
  · idx_vars i
    exact real_of_lt ((at_up h wg wu wd ct _ _).symm.trans (congrFun e _))
  · idx_vars i
    exact real_of_lt ((at_down h wg wu wd ct _ _).symm.trans (congrFun e _))
  · idx_vars i
    exact real_of_lt ((at_ct h wg wu wd ct _ _).symm.trans (congrFun e _))

end Cert.FfnFinite
-- ==== Proof.FfnResults.lean ====
/-
The four feed-forward calls against their references, each from the runs of the two programs.
-/
module

public import proofs.«01_k».proof.Defs
public import proofs.«01_k».proof.Proof.Ffn
public import proofs.«01_k».proof.Proof.FfnBwd
public import proofs.«01_k».proof.Proof.FfnDown
public import proofs.«01_k».proof.Proof.FfnUp
public import proofs.«01_k».proof.Proof.FfnFwd
public import proofs.«01_k».proof.Proof.FfnFinite
public import Idealize.ShloMosaic.Adequacy
public import Idealize.ShloMosaic.Init

@[expose] public section

noncomputable section

namespace Cert.FfnResults

open Idealize.ShloMosaic Idealize.SL.Sem Idealize.ShloMosaic.TcCoe

theorem frame_reference2 : quiescent_Reference2Ideal := fun m g _ =>
  θ_run_mono (Cert.Reference2Ideal.Value.run m g) fun r h =>
    ⟨fun c => (h c).2, sem_eq_zero_of_no_sems rfl r.2⟩

theorem frame_reference3 : quiescent_Reference3Ideal := fun m g _ =>
  θ_run_mono (Cert.Reference3Ideal.Value.run m g) fun r h =>
    ⟨fun c => (h c).2, sem_eq_zero_of_no_sems rfl r.2⟩

theorem frame_reference4 : quiescent_Reference4Ideal := fun m g _ =>
  θ_run_mono (Cert.Reference4Ideal.Value.run m g) fun r h =>
    ⟨fun c => (h c).2.2, sem_eq_zero_of_no_sems rfl r.2⟩

theorem frame_reference5 : quiescent_Reference5Ideal := fun m g _ =>
  θ_run_mono (Cert.Reference5Ideal.Value.run m g) fun r h =>
    ⟨fun c => (h c).2.2, sem_eq_zero_of_no_sems rfl r.2⟩

/-- The input's gradient. -/
theorem values2 : algebraic_Kernel2Ideal_Reference2Ideal_pre_finite2 (hPre_finite2 := Cert.Pre_finite2.Gen.facts) := by
  intro m g m' g' hpre hagree
  refine ⟨fun c => Cert.FfnBwd.dhAll (Cert.FfnBwd.argH m c) (Cert.FfnBwd.argG m c) (Cert.FfnBwd.argU m c) (Cert.FfnBwd.argD m c)
      (Cert.FfnBwd.argC m c),
    θ_run_mono (Cert.Kernel2Ideal.Value.run_blocks m g) fun r h c => ?_,
    θ_run_mono (Cert.Reference2Ideal.Value.run m' g') fun r h c => ?_⟩
  · obtain ⟨-, h0, hr⟩ := h c
    exact ⟨h0.trans (Cert.FfnBwd.arr_out m c), hr⟩
  · obtain ⟨h0, hr⟩ := h c
    obtain ⟨e0, e1, e2, e3, e4⟩ := hagree c
    obtain ⟨r0, r1, r2, r3, r4⟩ := Cert.FfnFinite.real _ _ _ _ _ (hpre c)
    refine ⟨(h0.trans (Cert.Reference2Ideal.Read.val_main_v23_eq _ _ _ _ _)).trans ?_, hr⟩
    rw [e0, e1, e2, e3, e4]
    exact Cert.FfnBwd.ref_out _ _ _ _ _ r0 r1 r2 r3 r4

/-- The down projection's weight gradient. -/
theorem values3 : algebraic_Kernel3Ideal_Reference3Ideal := by
  intro m g m' g' _ hagree
  refine ⟨fun c => Cert.FfnDown.dwAll (Cert.FfnDown.argH m c) (Cert.FfnDown.argG m c) (Cert.FfnDown.argU m c) (Cert.FfnDown.argC m c),
    θ_run_mono (Cert.Kernel3Ideal.Value.run_blocks m g) fun r h c => ?_,
    θ_run_mono (Cert.Reference3Ideal.Value.run m' g') fun r h c => ?_⟩
  · obtain ⟨h0, hr⟩ := h c
    exact ⟨h0.trans (Cert.FfnDown.arr_out m c), hr⟩
  · obtain ⟨h0, hr⟩ := h c
    obtain ⟨e0, e1, e2, e3, e4⟩ := hagree c
    refine ⟨(h0.trans (Cert.Reference3Ideal.Read.val_main_v13_eq _ _ _ _)).trans ?_, hr⟩
    rw [e0, e1, e2, e4]
    exact Cert.FfnDown.ref_out _ _ _ _

/-- The gate's and the up projection's weight gradients. -/
theorem values4 : algebraic_Kernel4Ideal_Reference4Ideal := by
  intro m g m' g' _ hagree
  refine ⟨fun c => Cert.FfnUp.dwAll (Cert.FfnUp.das (Cert.FfnUp.argH m c) (Cert.FfnUp.argG m c) (Cert.FfnUp.argU m c)
      (Cert.FfnUp.argD m c) (Cert.FfnUp.argC m c)) (Cert.FfnUp.argH m c),
    fun c => Cert.FfnUp.dwAll (Cert.FfnUp.dus (Cert.FfnUp.argH m c) (Cert.FfnUp.argG m c) (Cert.FfnUp.argD m c)
      (Cert.FfnUp.argC m c)) (Cert.FfnUp.argH m c),
    θ_run_mono (Cert.Kernel4Ideal.Value.run_blocks m g) fun r h c => ?_,
    θ_run_mono (Cert.Reference4Ideal.Value.run m' g') fun r h c => ?_⟩
  · obtain ⟨h0, h1, hr⟩ := h c
    exact ⟨h0.trans (Cert.FfnUp.arr_gate m c), h1.trans (Cert.FfnUp.arr_up m c), hr⟩
  · obtain ⟨h0, h1, hr⟩ := h c
    obtain ⟨e0, e1, e2, e3, e4⟩ := hagree c
    refine ⟨(h0.trans (Cert.Reference4Ideal.Read.val_main_v20_eq _ _ _ _ _)).trans ?_,
      (h1.trans (Cert.Reference4Ideal.Read.val_main_v21_eq _ _ _ _)).trans ?_, hr⟩
    · rw [e0, e1, e2, e3, e4]
      exact Cert.FfnUp.ref_gate _ _ _ _ _
    · rw [e0, e1, e3, e4]
      exact Cert.FfnUp.ref_up _ _ _ _

open Cert.Kernel5Ideal Cert.Kernel5Ideal.Gen in
/-- The forward block's normalised output and its residual sum. -/
theorem values5 : algebraic_Kernel5Ideal_Reference5Ideal := by
  intro m g m' g' _ hagree
  refine ⟨fun c => Cert.FfnFwd.normAll (Cert.FfnFwd.argH m c) (Cert.FfnFwd.argG m c) (Cert.FfnFwd.argU m c) (Cert.FfnFwd.argD m c)
      (Cert.FfnFwd.argS m c) (Cert.FfnFwd.argB m c),
    fun c => Cert.FfnFwd.resAll (Cert.FfnFwd.argH m c) (Cert.FfnFwd.argG m c) (Cert.FfnFwd.argU m c) (Cert.FfnFwd.argD m c),
    θ_run_mono (run_main m g) fun r h c => ?_,
    θ_run_mono (Cert.Reference5Ideal.Value.run m' g') fun r h c => ?_⟩
  · exact ⟨((h c).1 8).trans (Cert.FfnFwd.arr_norm m c), ((h c).1 9).trans (Cert.FfnFwd.arr_res m c),
      ((h c).1 1).trans (((dats m 0 c).arrAt_in 1 rfl _).trans ((A_eq m c 1).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c)))⟩
  · obtain ⟨h0, h1, hr⟩ := h c
    obtain ⟨e0, e1, e2, e3, e4, e5⟩ := hagree c
    refine ⟨(h0.trans (Cert.Reference5Ideal.Read.val_main_v31_eq m' c)).trans ?_,
      (h1.trans (Cert.Reference5Ideal.Read.val_main_v9_eq _ _ _ _)).trans ?_, hr⟩
    · rw [e0, e1, e2, e3, e4, e5]
      exact Cert.FfnFwd.ref_norm _ _ _ _ _ _
    · rw [e0, e1, e2, e3]
      exact Cert.FfnFwd.ref_res _ _ _ _

end Cert.FfnResults
-- ==== Proof.Mixer.lean ====
/-
The generated modules of the mixer's projection calls.
-/
module

public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel6Ideal.Value
public import proofs.«01_k».proof.Proof.Gen.Reference6Ideal.Read
public import proofs.«01_k».proof.Proof.Gen.Kernel7Ideal.Value
public import proofs.«01_k».proof.Proof.Gen.Reference7Ideal.Read
public import proofs.«01_k».proof.Proof.Gen.Kernel8Ideal.Value
public import proofs.«01_k».proof.Proof.Gen.Reference8Ideal.Read
public import proofs.«01_k».proof.Proof.Gen.Kernel9Ideal.Value
public import proofs.«01_k».proof.Proof.Gen.Reference9Ideal.Read
public import proofs.«01_k».proof.Proof.Gen.Kernel10Ideal.Value
public import proofs.«01_k».proof.Proof.Gen.Reference10Ideal.Read
-- ==== Proof.MixOutW.lean ====
/-
The gradient of the mixer's output weights: the columns of the mixed heads times the upstream gradient, summed over the
tokens 2048 at a time in one block.
-/
module

public import proofs.«01_k».proof.Proof.FfnMath
public import proofs.«01_k».proof.Proof.Gen.Kernel6Ideal.Value
public import proofs.«01_k».proof.Proof.Gen.Reference6Ideal.Read
public import Idealize.ShloMosaic.Lib.Pipeline.ValueKit
public import Idealize.ShloMosaic.Lib.Claim

@[expose] public section

set_option maxRecDepth 16384

noncomputable section

namespace Cert.MixOutW

open Cert.Kernel6Ideal Cert.Kernel6Ideal.Gen Cert.Ffn Idealize.ShloMosaic Idealize.ShloMosaic.TcCoe
open scoped BigOperators

/-- A step's product: 2048 tokens. -/
theorem pay_first (x0 : Vec Ideal S2048x768 .bf16) (x1 : Vec Ideal S2048x1024 .bf16) (f : Fin 768) (n : Fin 1024) :
    k0_pay1 x0 x1 (ix2 f n) = ∑ s : Fin 2048, x0 (ix2 s f) * x1 (ix2 s n) := by
  pointwise [k0_pay1]

theorem pay_add (x0 : Vec Ideal S2048x768 .bf16) (x1 : Vec Ideal S2048x1024 .bf16) (z : Vec Ideal S768x1024 .f32) (f : Fin 768) (n : Fin 1024) :
    k0_pay2 x0 x1 z (ix2 f n) = z (ix2 f n) + ∑ s : Fin 2048, x0 (ix2 s f) * x1 (ix2 s n) := by
  pointwise [k0_pay2, k0_pay1]

variable (m : (ℓ : Loc nD τ sig) → Buf (Elt Ideal) ℓ) (c : Dev nD)

/-- The product of step `t` at an element of its block. -/
def pp (t : Fin cfg0.N) (f : Fin 768) (n : Fin 1024) : EReal :=
  ∑ s : Fin 2048, (fun x y : EReal => x * y) (iblk m c 0 t (ix2 s f)) (iblk m c 1 t (ix2 s n))

theorem at_first (t : Fin cfg0.N) (h : t.val % 4 = 0) (f : Fin 768) (n : Fin 1024) :
    outsAt0 m c t.val t.isLt (ix2 f n) = pp m c t f n := by
  rw [outsAt0_A m c t h (by omega)]
  frame_out
  exact pay_first _ _ f n

theorem at_next (t : Fin cfg0.N) (h0 : ¬ t.val % 4 = 0) (f : Fin 768) (n : Fin 1024) :
    outsAt0 m c t.val t.isLt (ix2 f n)
      = outsAt0 m c (t.val - 1) (Nat.lt_of_le_of_lt (Nat.sub_le _ _) t.isLt) (ix2 f n) + pp m c t f n := by
  rw [outsAt0_B m c t h0 (by omega)]
  frame_out
  exact pay_add _ _ _ f n

/-! ## The arrays the call reads -/

abbrev argX : FVec Ideal S8192x1536 .f32 := m ((c : Thread nD τ).loc main_arg0)
abbrev argC : FVec Ideal S8192x1024 .f32 := m ((c : Thread nD τ).loc main_arg3)

theorem V_x : V m c main_v0 = truncf .bf16 (argX m c) bitsLt_bf16_f32 := by
  unfold V
  after_results

theorem V_ct : V m c main_v1 = truncf .bf16 (argC m c) bitsLt_bf16_f32 := by
  unfold V
  after_results

theorem idx : ∀ t : Fin cfg0.N, win0_0.index t = ![t.val % 4, t.val / 4] ∧ win0_1.index t = ![t.val % 4, 0]
    ∧ win0_2.index t = ![t.val / 4, 0] :=
  (by decide +kernel : ∀ t : Fin grid0.N, _)

/-- Token `s` of a step's 2048. -/
def tok (j : ℕ) (hj : j < 4) (s : Fin 2048) : Fin 8192 := ⟨2048 * j + s, by omega⟩

/-- Column `f` of a step's 768. -/
def col (t : Fin cfg0.N) (f : Fin 768) : Fin 1536 := ⟨768 * (t / 4) + f, by have := lt_of_lt_of_eq t.isLt N_0; omega⟩

theorem read_x (G : S8192x1536.Idx → EReal) (t : Fin cfg0.N) (s : Fin 2048) (f : Fin 768) :
    ((cfg0.win 0).blk t).view.read (Elt Ideal) G (ix2 s f) = G (ix2 (tok (t.val % 4) (by omega) s) (col t f)) := by
  blk_ext [idx t]
  all_goals (simp only [tok, col]; omega)

theorem read_ct (G : S8192x1024.Idx → EReal) (t : Fin cfg0.N) (s : Fin 2048) (n : Fin 1024) :
    ((cfg0.win 1).blk t).view.read (Elt Ideal) G (ix2 s n) = G (ix2 (tok (t.val % 4) (by omega) s) n) := by
  blk_ext [idx t]
  all_goals (simp only [tok]; omega)

/-- Tokens `2048 * j` and on: their share of the product of the heads and the upstream gradient. -/
def share (x : FVec Ideal S8192x1536 .f32) (ct : FVec Ideal S8192x1024 .f32) (j : ℕ) (hj : j < 4) (f : Fin 1536) (n : Fin 1024) : EReal :=
  ∑ s : Fin 2048, x (ix2 (tok j hj s) f) * ct (ix2 (tok j hj s) n)

theorem pp_eq (t : Fin cfg0.N) (f : Fin 768) (n : Fin 1024) :
    pp m c t f n = share (argX m c) (argC m c) (t.val % 4) (by omega) (col t f) n := by
  unfold pp share
  refine Finset.sum_congr rfl fun s _ => ?_
  refine congrArg₂ (fun x y : EReal => x * y) ?_ ?_
  · unfold iblk
    refine (read_x (V m c main_v0) t s f).trans ?_
    rw [V_x]
    rfl
  · unfold iblk
    refine (read_ct (V m c main_v1) t s n).trans ?_
    rw [V_ct]
    rfl

/-- The gradient of the output weights, as the kernel sums it. -/
def dwAll (x : FVec Ideal S8192x1536 .f32) (ct : FVec Ideal S8192x1024 .f32) (i : S1536x1024.Idx) : EReal :=
  ∑ s : Fin 8192, x (ix2 s (i 0)) * ct (ix2 s (i 1))

theorem four (x : FVec Ideal S8192x1536 .f32) (ct : FVec Ideal S8192x1024 .f32) (f : Fin 1536) (n : Fin 1024) :
    share x ct 0 (by omega) f n + share x ct 1 (by omega) f n + share x ct 2 (by omega) f n + share x ct 3 (by omega) f n
      = ∑ s : Fin 8192, x (ix2 s f) * ct (ix2 s n) := by
  rw [sum_tokens, Fin.sum_univ_four]
  rfl

theorem share_at (x : FVec Ideal S8192x1536 .f32) (ct : FVec Ideal S8192x1024 .f32) {j j' : ℕ} (hj : j < 4) (hj' : j' < 4) (e : j = j')
    {f f' : Fin 1536} (ef : f = f') (n : Fin 1024) : share x ct j hj f n = share x ct j' hj' f' n := by
  subst e ef
  rfl

/-- A block's last step leaves the whole sum. -/
theorem step_last (t : Fin cfg0.N) (h3 : t.val % 4 = 3) (f : Fin 768) (n : Fin 1024) : outsAt0 m c t.val t.isLt (ix2 f n)
    = dwAll (argX m c) (argC m c) (ix2 (col t f) n) := by
  have hN := lt_of_lt_of_eq t.isLt N_0
  have b2 : t.val - 1 < cfg0.N := Nat.lt_of_le_of_lt (Nat.sub_le _ _) t.isLt
  have b1 : t.val - 1 - 1 < cfg0.N := Nat.lt_of_le_of_lt (Nat.sub_le _ _) b2
  have b0 : t.val - 1 - 1 - 1 < cfg0.N := Nat.lt_of_le_of_lt (Nat.sub_le _ _) b1
  rw [at_next m c t (by omega), at_next m c ⟨t.val - 1, b2⟩ (by dsimp only; omega),
    at_next m c ⟨t.val - 1 - 1, b1⟩ (by dsimp only; omega),
    at_first m c ⟨t.val - 1 - 1 - 1, b0⟩ (by dsimp only; omega), pp_eq, pp_eq, pp_eq, pp_eq]
  refine Eq.trans ?_ (four (argX m c) (argC m c) (col t f) n)
  refine congrArg₂ (fun x y : EReal => x + y) (congrArg₂ (fun x y : EReal => x + y) (congrArg₂ (fun x y : EReal => x + y) ?_ ?_) ?_) ?_
  all_goals
    refine share_at _ _ _ _ ?_ ?_ _
    · first | omega | (dsimp only; omega)
    · exact Fin.ext (by simp only [col]; try omega)

theorem emb_out (t : Fin cfg0.N) (f : Fin 768) (n : Fin 1024) :
    (((cfg0.win 2).blk t).view.emb (ix2 f n) : S1536x1024.Idx) = ix2 (col t f) n := by
  blk_ext [idx t]
  all_goals (simp only [col]; omega)

theorem point_out (t : Fin cfg0.N) (h3 : t.val % 4 = 3) (y : S768x1024.Idx) : (dats m 0 c).after 2 t y
    = dwAll (argX m c) (argC m c) (((cfg0.win 2).blk t).view.emb y) := by
  idx_vars y
  rw [after0_2]
  refine (step_last m c t h3 y0 y1).trans ?_
  exact (congrArg _ (emb_out t y0 y1)).symm

/-- The array after the run. -/
theorem arr_out : (dats m 0 c).arrAt 2 cfg0.N = dwAll (argX m c) (argC m c) := by
  refine (dats m 0 c).arrAt_eq_of_covers 2 _ (by decide +kernel) fun t hf y => ?_
  blk_simp
  exact point_out m c t ((flush0_2 t).mp hf) y

/-! ## The reference -/

section

open Cert.Reference6Ideal.Read

variable (x : FVec Ideal S8192x1536 .f32) (ct : FVec Ideal S8192x1024 .f32)

/-- The reference's result is the kernel's. -/
theorem ref_out : val_main_v5 (F := Ideal) x ct = dwAll x ct := by
  funext i
  idx_vars i
  have e : val_main_v5 (F := Ideal) x ct (ix2 i0 i1) = ∑ s : Fin 8192, ct (ix2 s i1) * x (ix2 s i0) := by
    pointwise [val_main_v5, val_main_v4]
  rw [e]
  unfold dwAll
  refine Finset.sum_congr rfl fun s _ => ?_
  rw [mul_comm]
  rfl

end

end Cert.MixOutW
-- ==== Proof.MixOutX.lean ====
/-
The gradient of the mixed heads: the upstream gradient times the transposed output weights, in tiles of 1024 tokens and 768 columns.
-/
module

public import proofs.«01_k».proof.Proof.Gen.Kernel7Ideal.Value
public import proofs.«01_k».proof.Proof.Gen.Reference7Ideal.Read
public import Idealize.ShloMosaic.Lib.Pipeline.ValueKit
public import Idealize.ShloMosaic.Lib.Claim

@[expose] public section

set_option maxRecDepth 16384

noncomputable section

namespace Cert.MixOutX

open Cert.Kernel7Ideal Cert.Kernel7Ideal.Gen Idealize.ShloMosaic Idealize.ShloMosaic.TcCoe
open scoped BigOperators

theorem out_apply (x0 : Vec Ideal S1024x1024 .bf16) (x1 : Vec Ideal S1024x768 .bf16) (s : Fin 1024) (f : Fin 768) :
    out0_2 x0 x1 (ix2 s f) = ∑ n : Fin 1024, x0 (ix2 s n) * x1 (ix2 n f) := by
  frame_out
  pointwise [k0_pay1]

variable (m : (ℓ : Loc nD τ sig) → Buf (Elt Ideal) ℓ) (c : Dev nD)

/-! ## The arrays the call reads -/

abbrev argW : FVec Ideal S1536x1024 .f32 := m ((c : Thread nD τ).loc main_arg2)
abbrev argC : FVec Ideal S8192x1024 .f32 := m ((c : Thread nD τ).loc main_arg3)

theorem V_ct : V m c main_v0 = truncf .bf16 (argC m c) bitsLt_bf16_f32 := by
  unfold V
  after_results

theorem V_wt : V m c main_v2 = transpose S1024x1536 [1, 0] (truncf .bf16 (argW m c) bitsLt_bf16_f32) transposes_S1536x1024_S1024x1536_1_0 := by
  unfold V
  simp only [List.flatten_cons, List.flatten_nil, List.cons_append, List.nil_append, List.append_nil]
  after_results

theorem idx : ∀ t : Fin cfg0.N, win0_0.index t = ![t.val / 2, 0] ∧ win0_1.index t = ![0, t.val % 2]
    ∧ win0_2.index t = ![t.val / 2, t.val % 2] :=
  (by decide +kernel : ∀ t : Fin grid0.N, _)

/-- Token `s` of a tile's 1024. -/
def tok (t : Fin cfg0.N) (s : Fin 1024) : Fin 8192 := ⟨1024 * (t / 2) + s, by have := lt_of_lt_of_eq t.isLt N_0; omega⟩

/-- Column `f` of a tile's 768. -/
def col (t : Fin cfg0.N) (f : Fin 768) : Fin 1536 := ⟨768 * (t % 2) + f, by omega⟩

theorem read_ct (G : S8192x1024.Idx → EReal) (t : Fin cfg0.N) (s : Fin 1024) (n : Fin 1024) :
    ((cfg0.win 0).blk t).view.read (Elt Ideal) G (ix2 s n) = G (ix2 (tok t s) n) := by
  blk_ext [idx t]
  all_goals (simp only [tok]; omega)

theorem read_wt (G : S1024x1536.Idx → EReal) (t : Fin cfg0.N) (n : Fin 1024) (f : Fin 768) :
    ((cfg0.win 1).blk t).view.read (Elt Ideal) G (ix2 n f) = G (ix2 n (col t f)) := by
  blk_ext [idx t]
  all_goals (simp only [col]; omega)

/-- The gradient of the heads. -/
def dxAll (w : FVec Ideal S1536x1024 .f32) (ct : FVec Ideal S8192x1024 .f32) (i : S8192x1536.Idx) : EReal :=
  ∑ n : Fin 1024, ct (ix2 (i 0) n) * w (ix2 (i 1) n)

theorem wt_at (w : FVec Ideal S1536x1024 .f32) (n : Fin 1024) (f : Fin 1536) :
    transpose S1024x1536 [1, 0] (truncf .bf16 w bitsLt_bf16_f32) transposes_S1536x1024_S1024x1536_1_0 (ix2 n f) = w (ix2 f n) := by
  pointwise []

theorem tile (t : Fin cfg0.N) (s : Fin 1024) (f : Fin 768) :
    out0_2 (iblk m c 0 t) (iblk m c 1 t) (ix2 s f) = dxAll (argW m c) (argC m c) (ix2 (tok t s) (col t f)) := by
  refine (out_apply _ _ s f).trans ?_
  unfold dxAll
  refine Finset.sum_congr rfl fun n _ => ?_
  refine congrArg₂ (fun x y : EReal => x * y) ?_ ?_
  · unfold iblk
    refine (read_ct (V m c main_v0) t s n).trans ?_
    rw [V_ct]
    rfl
  · unfold iblk
    refine (read_wt (V m c main_v2) t n f).trans ?_
    rw [V_wt]
    exact wt_at _ n _

theorem emb_out (t : Fin cfg0.N) (s : Fin 1024) (f : Fin 768) :
    (((cfg0.win 2).blk t).view.emb (ix2 s f) : S8192x1536.Idx) = ix2 (tok t s) (col t f) := by
  blk_ext [idx t]
  all_goals (simp only [tok, col]; omega)

theorem point_out (t : Fin cfg0.N) (y : S1024x768.Idx) : (dats m 0 c).after 2 t y
    = dxAll (argW m c) (argC m c) (((cfg0.win 2).blk t).view.emb y) := by
  idx_vars y
  rw [after0_2]
  refine (tile m c t y0 y1).trans ?_
  exact (congrArg _ (emb_out t y0 y1)).symm

/-- The array after the run. -/
theorem arr_out : (dats m 0 c).arrAt 2 cfg0.N = dxAll (argW m c) (argC m c) := by
  refine (dats m 0 c).arrAt_eq_of_covers 2 _ (by decide +kernel) fun t _ y => ?_
  blk_simp
  exact point_out m c t y

/-! ## The reference -/

section

open Cert.Reference7Ideal.Read

/-- The reference's result is the kernel's. -/
theorem ref_out (w : FVec Ideal S1536x1024 .f32) (ct : FVec Ideal S8192x1024 .f32) : val_main_v4 (F := Ideal) w ct = dxAll w ct := by
  funext i
  idx_vars i
  pointwise [val_main_v4, dxAll]

end

end Cert.MixOutX
-- ==== Proof.MixMath.lean ====
/-
Sums over the 4876 columns of the mixer's projections, in the five sections the kernel takes them in, and over tokens 512 at a time.
-/
module

public import Mathlib.Algebra.BigOperators.Fin
public import Mathlib.Data.Fintype.BigOperators
public import Mathlib.Logic.Equiv.Fin.Basic

@[expose] public section

namespace Cert.Mix

open scoped BigOperators

variable {M : Type*} [AddCommMonoid M]

theorem sum_cut (a b n : ℕ) (h : n = a + b) (F : Fin n → M) :
    ∑ k : Fin n, F k = (∑ k : Fin a, F ⟨k, by omega⟩) + ∑ k : Fin b, F ⟨a + k, by omega⟩ := by
  subst h
  exact Fin.sum_univ_add F

/-- The columns in the five sections. -/
theorem sum_sections (F : Fin 4876 → M) : ∑ k : Fin 4876, F k
    = ((((∑ k : Fin 1536, F ⟨0 + k, by omega⟩) + ∑ k : Fin 768, F ⟨1536 + k, by omega⟩) + ∑ k : Fin 768, F ⟨2304 + k, by omega⟩)
        + ∑ k : Fin 1792, F ⟨3072 + k, by omega⟩) + ∑ k : Fin 12, F ⟨4864 + k, by omega⟩ := by
  rw [sum_cut 4864 12 4876 rfl F, sum_cut 3072 1792 4864 rfl, sum_cut 2304 768 3072 rfl, sum_cut 1536 768 2304 rfl]
  simp only [Nat.zero_add]

/-- A section of 12 columns and 116 of zeros. -/
theorem sum_padded (F : Fin 128 → M) (h : ∀ k : Fin 116, F ⟨12 + k, by omega⟩ = 0) : ∑ k : Fin 128, F k = ∑ k : Fin 12, F ⟨k, by omega⟩ := by
  rw [sum_cut 12 116 128 rfl F, Finset.sum_eq_zero fun k _ => h k, add_zero]

/-- The tokens 512 at a time. -/
theorem sum_blocks (F : Fin 8192 → M) : ∑ s : Fin 8192, F s = ∑ j : Fin 16, ∑ q : Fin 512, F ⟨512 * j + q, by omega⟩ := by
  rw [← Fintype.sum_prod_type' (f := fun (j : Fin 16) (q : Fin 512) => F ⟨512 * j + q, by omega⟩)]
  refine (Fintype.sum_equiv (finProdFinEquiv (m := 16) (n := 512)) _ F fun p => congrArg F (Fin.ext ?_)).symm
  show 512 * (p.1 : ℕ) + p.2 = p.2 + 512 * p.1
  omega

end Cert.Mix
-- ==== Proof.MixInX.lean ====
/-
The gradient of the mixer's input: the upstream gradient of the projections, in five sections of columns, times the transposed
weights of each, plus the gradient that comes back through the residual. The last section is 12 columns and 116 of zeros.
-/
module

public import proofs.«01_k».proof.Proof.Gen.Kernel8Ideal.Value
public import proofs.«01_k».proof.Proof.Gen.Reference8Ideal.Read
public import proofs.«01_k».proof.Proof.MixMath
public import Idealize.ShloMosaic.Lib.Pipeline.ValueKit
public import Idealize.ShloMosaic.Lib.Claim

@[expose] public section

set_option maxRecDepth 16384

noncomputable section

namespace Cert.MixInX

open Cert.Kernel8Ideal Cert.Kernel8Ideal.Gen Cert.Mix Idealize.ShloMosaic Idealize.ShloMosaic.TcCoe
open scoped BigOperators

theorem out_apply (x0 : Vec Ideal S1024x1536 .bf16) (x1 : Vec Ideal S1024x768 .bf16) (x2 : Vec Ideal S1024x768 .bf16) (x3 : Vec Ideal S1024x1792 .bf16) (x4 : Vec Ideal S1024x128 .bf16)
    (x5 : Vec Ideal S1536x512 .bf16) (x6 : Vec Ideal S768x512 .bf16) (x7 : Vec Ideal S768x512 .bf16) (x8 : Vec Ideal S1792x512 .bf16) (x9 : Vec Ideal S128x512 .bf16)
    (x10 : Vec Ideal S1024x512 .f32) (s : Fin 1024) (n : Fin 512) :
    out0_11 x0 x1 x2 x3 x4 x5 x6 x7 x8 x9 x10 (ix2 s n)
      = ((((∑ k : Fin 1536, x0 (ix2 s k) * x5 (ix2 k n)) + ∑ k : Fin 768, x1 (ix2 s k) * x6 (ix2 k n))
          + ∑ k : Fin 768, x2 (ix2 s k) * x7 (ix2 k n)) + ∑ k : Fin 1792, x3 (ix2 s k) * x8 (ix2 k n))
          + (∑ k : Fin 128, x4 (ix2 s k) * x9 (ix2 k n)) + Ideal.ofBits .f32 0x3F9837F0#32 * x10 (ix2 s n) := by
  frame_out
  pointwise [k0_pay1, k0_pay2]

variable (m : (ℓ : Loc nD τ sig) → Buf (Elt Ideal) ℓ) (c : Dev nD)

/-! ## The arrays the call reads -/

abbrev argW : FVec Ideal S1024x4876 .f32 := m ((c : Thread nD τ).loc main_arg1)
abbrev argR : FVec Ideal S8192x1024 .f32 := m ((c : Thread nD τ).loc main_arg2)
abbrev argD : FVec Ideal S8192x4876 .f32 := m ((c : Thread nD τ).loc main_arg3)

/-- The last section of the gradient's columns, with its columns of zeros. -/
def padD (a : FVec Ideal S8192x12 .bf16) : FVec Ideal S8192x128 .bf16 :=
  pad S8192x128 ![0, 0] ![0, 116] ![0, 0] a (sitofp .bf16 (constantI S_ 32 0#32)) pads_S8192x12_S8192x128_000_01160 h_S_

/-- The last section of the weights' columns, with its columns of zeros. -/
def padW (a : FVec Ideal S1024x12 .bf16) : FVec Ideal S1024x128 .bf16 :=
  pad S1024x128 ![0, 0] ![0, 116] ![0, 0] a (sitofp .bf16 (constantI S_ 32 0#32)) pads_S1024x12_S1024x128_000_01160 h_S_

theorem padD_at (a : FVec Ideal S8192x12 .bf16) (s : Fin 8192) (k : Fin 12) : padD a (ix2 s ⟨k, by omega⟩) = a (ix2 s k) := by
  pointwise [padD]

theorem padD_zero (a : FVec Ideal S8192x12 .bf16) (s : Fin 8192) (k : Fin 116) : padD a (ix2 s ⟨12 + k, by omega⟩) = 0 := by
  pointwise [padD]
  show (((0#32 : BitVec 32).toInt : ℝ) : EReal) = 0
  simp

theorem padW_at (a : FVec Ideal S1024x12 .bf16) (n : Fin 1024) (k : Fin 12) : padW a (ix2 n ⟨k, by omega⟩) = a (ix2 n k) := by
  pointwise [padW]

theorem V_d0 : V m c main_v8 = extractStridedSlice S8192x1536 ![0, 0] (truncf .bf16 (argD m c) bitsLt_bf16_f32) slices_S8192x4876_S8192x1536_0_0 := by
  unfold V
  simp only [List.flatten_cons, List.flatten_nil, List.cons_append, List.nil_append, List.append_nil]
  after_results

theorem V_d1 : V m c main_v9 = extractStridedSlice S8192x768 ![0, 1536] (truncf .bf16 (argD m c) bitsLt_bf16_f32) slices_S8192x4876_S8192x768_0_1536 := by
  unfold V
  simp only [List.flatten_cons, List.flatten_nil, List.cons_append, List.nil_append, List.append_nil]
  after_results

theorem V_d2 : V m c main_v10 = extractStridedSlice S8192x768 ![0, 2304] (truncf .bf16 (argD m c) bitsLt_bf16_f32) slices_S8192x4876_S8192x768_0_2304 := by
  unfold V
  simp only [List.flatten_cons, List.flatten_nil, List.cons_append, List.nil_append, List.append_nil]
  after_results

theorem V_d3 : V m c main_v11 = extractStridedSlice S8192x1792 ![0, 3072] (truncf .bf16 (argD m c) bitsLt_bf16_f32) slices_S8192x4876_S8192x1792_0_3072 := by
  unfold V
  simp only [List.flatten_cons, List.flatten_nil, List.cons_append, List.nil_append, List.append_nil]
  after_results

theorem V_d4 : V m c main_v13 = padD (extractStridedSlice S8192x12 ![0, 4864] (truncf .bf16 (argD m c) bitsLt_bf16_f32) slices_S8192x4876_S8192x12_0_4864) := by
  unfold V
  simp only [List.flatten_cons, List.flatten_nil, List.cons_append, List.nil_append, List.append_nil]
  after_results
  simp -implicitDefEqProofs only [StableHlo.TRef.ofBuf_toBuf, StableHlo.TRef.toBuf, StableHlo.TRef.ofBuf, cast_cast, cast_eq]
  rfl

theorem V_w0 : V m c main_v14 = transpose S1536x1024 [1, 0] (extractStridedSlice S1024x1536 ![0, 0] (truncf .bf16 (argW m c) bitsLt_bf16_f32) slices_S1024x4876_S1024x1536_0_0)
    transposes_S1024x1536_S1536x1024_1_0 := by
  unfold V
  simp only [List.flatten_cons, List.flatten_nil, List.cons_append, List.nil_append, List.append_nil]
  after_results

theorem V_w1 : V m c main_v15 = transpose S768x1024 [1, 0] (extractStridedSlice S1024x768 ![0, 1536] (truncf .bf16 (argW m c) bitsLt_bf16_f32) slices_S1024x4876_S1024x768_0_1536)
    transposes_S1024x768_S768x1024_1_0 := by
  unfold V
  simp only [List.flatten_cons, List.flatten_nil, List.cons_append, List.nil_append, List.append_nil]
  after_results

theorem V_w2 : V m c main_v16 = transpose S768x1024 [1, 0] (extractStridedSlice S1024x768 ![0, 2304] (truncf .bf16 (argW m c) bitsLt_bf16_f32) slices_S1024x4876_S1024x768_0_2304)
    transposes_S1024x768_S768x1024_1_0 := by
  unfold V
  simp only [List.flatten_cons, List.flatten_nil, List.cons_append, List.nil_append, List.append_nil]
  after_results

theorem V_w3 : V m c main_v17 = transpose S1792x1024 [1, 0] (extractStridedSlice S1024x1792 ![0, 3072] (truncf .bf16 (argW m c) bitsLt_bf16_f32) slices_S1024x4876_S1024x1792_0_3072)
    transposes_S1024x1792_S1792x1024_1_0 := by
  unfold V
  simp only [List.flatten_cons, List.flatten_nil, List.cons_append, List.nil_append, List.append_nil]
  after_results

theorem V_w4 : V m c main_v18 = transpose S128x1024 [1, 0] (padW (extractStridedSlice S1024x12 ![0, 4864] (truncf .bf16 (argW m c) bitsLt_bf16_f32)
    slices_S1024x4876_S1024x12_0_4864)) transposes_S1024x128_S128x1024_1_0 := by
  unfold V
  simp only [List.flatten_cons, List.flatten_nil, List.cons_append, List.nil_append, List.append_nil]
  after_results
  simp -implicitDefEqProofs only [StableHlo.TRef.ofBuf_toBuf, StableHlo.TRef.toBuf, StableHlo.TRef.ofBuf, cast_cast, cast_eq]
  rfl

theorem idx : ∀ t : Fin cfg0.N, win0_0.index t = ![t.val / 2, 0] ∧ win0_1.index t = ![t.val / 2, 0] ∧ win0_2.index t = ![t.val / 2, 0]
    ∧ win0_3.index t = ![t.val / 2, 0] ∧ win0_4.index t = ![t.val / 2, 0] ∧ win0_5.index t = ![0, t.val % 2] ∧ win0_6.index t = ![0, t.val % 2]
    ∧ win0_7.index t = ![0, t.val % 2] ∧ win0_8.index t = ![0, t.val % 2] ∧ win0_9.index t = ![0, t.val % 2]
    ∧ win0_10.index t = ![t.val / 2, t.val % 2] ∧ win0_11.index t = ![t.val / 2, t.val % 2] :=
  (by decide +kernel : ∀ t : Fin grid0.N, _)

/-- Token `s` of a tile's 1024. -/
def tok (t : Fin cfg0.N) (s : Fin 1024) : Fin 8192 := ⟨1024 * (t / 2) + s, by have := lt_of_lt_of_eq t.isLt N_0; omega⟩

/-- Feature `n` of a tile's 512. -/
def ft (t : Fin cfg0.N) (n : Fin 512) : Fin 1024 := ⟨512 * (t % 2) + n, by omega⟩

theorem read_d0 (G : S8192x1536.Idx → EReal) (t : Fin cfg0.N) (s : Fin 1024) (k : Fin 1536) :
    ((cfg0.win 0).blk t).view.read (Elt Ideal) G (ix2 s k) = G (ix2 (tok t s) k) := by
  blk_ext [idx t]
  all_goals (simp only [tok]; omega)

theorem read_d1 (G : S8192x768.Idx → EReal) (t : Fin cfg0.N) (s : Fin 1024) (k : Fin 768) :
    ((cfg0.win 1).blk t).view.read (Elt Ideal) G (ix2 s k) = G (ix2 (tok t s) k) := by
  blk_ext [idx t]
  all_goals (simp only [tok]; omega)

theorem read_d2 (G : S8192x768.Idx → EReal) (t : Fin cfg0.N) (s : Fin 1024) (k : Fin 768) :
    ((cfg0.win 2).blk t).view.read (Elt Ideal) G (ix2 s k) = G (ix2 (tok t s) k) := by
  blk_ext [idx t]
  all_goals (simp only [tok]; omega)

theorem read_d3 (G : S8192x1792.Idx → EReal) (t : Fin cfg0.N) (s : Fin 1024) (k : Fin 1792) :
    ((cfg0.win 3).blk t).view.read (Elt Ideal) G (ix2 s k) = G (ix2 (tok t s) k) := by
  blk_ext [idx t]
  all_goals (simp only [tok]; omega)

theorem read_d4 (G : S8192x128.Idx → EReal) (t : Fin cfg0.N) (s : Fin 1024) (k : Fin 128) :
    ((cfg0.win 4).blk t).view.read (Elt Ideal) G (ix2 s k) = G (ix2 (tok t s) k) := by
  blk_ext [idx t]
  all_goals (simp only [tok]; omega)

theorem read_w0 (G : S1536x1024.Idx → EReal) (t : Fin cfg0.N) (k : Fin 1536) (n : Fin 512) :
    ((cfg0.win 5).blk t).view.read (Elt Ideal) G (ix2 k n) = G (ix2 k (ft t n)) := by
  blk_ext [idx t]
  all_goals (simp only [ft]; omega)

theorem read_w1 (G : S768x1024.Idx → EReal) (t : Fin cfg0.N) (k : Fin 768) (n : Fin 512) :
    ((cfg0.win 6).blk t).view.read (Elt Ideal) G (ix2 k n) = G (ix2 k (ft t n)) := by
  blk_ext [idx t]
  all_goals (simp only [ft]; omega)

theorem read_w2 (G : S768x1024.Idx → EReal) (t : Fin cfg0.N) (k : Fin 768) (n : Fin 512) :
    ((cfg0.win 7).blk t).view.read (Elt Ideal) G (ix2 k n) = G (ix2 k (ft t n)) := by
  blk_ext [idx t]
  all_goals (simp only [ft]; omega)

theorem read_w3 (G : S1792x1024.Idx → EReal) (t : Fin cfg0.N) (k : Fin 1792) (n : Fin 512) :
    ((cfg0.win 8).blk t).view.read (Elt Ideal) G (ix2 k n) = G (ix2 k (ft t n)) := by
  blk_ext [idx t]
  all_goals (simp only [ft]; omega)

theorem read_w4 (G : S128x1024.Idx → EReal) (t : Fin cfg0.N) (k : Fin 128) (n : Fin 512) :
    ((cfg0.win 9).blk t).view.read (Elt Ideal) G (ix2 k n) = G (ix2 k (ft t n)) := by
  blk_ext [idx t]
  all_goals (simp only [ft]; omega)

theorem read_res (G : S8192x1024.Idx → EReal) (t : Fin cfg0.N) (s : Fin 1024) (n : Fin 512) :
    ((cfg0.win 10).blk t).view.read (Elt Ideal) G (ix2 s n) = G (ix2 (tok t s) (ft t n)) := by
  blk_ext [idx t]
  all_goals (simp only [tok, ft]; omega)

theorem cols_d0 (d : FVec Ideal S8192x4876 .f32) (s : Fin 8192) (k : Fin 1536) :
    extractStridedSlice S8192x1536 ![0, 0] (truncf .bf16 d bitsLt_bf16_f32) slices_S8192x4876_S8192x1536_0_0 (ix2 s k) = d (ix2 s ⟨0 + k, by omega⟩) := by
  pointwise

theorem cols_w0 (w : FVec Ideal S1024x4876 .f32) (k : Fin 1536) (n : Fin 1024) :
    transpose S1536x1024 [1, 0] (extractStridedSlice S1024x1536 ![0, 0] (truncf .bf16 w bitsLt_bf16_f32) slices_S1024x4876_S1024x1536_0_0)
      transposes_S1024x1536_S1536x1024_1_0 (ix2 k n) = w (ix2 n ⟨0 + k, by omega⟩) := by
  pointwise

theorem cols_d1 (d : FVec Ideal S8192x4876 .f32) (s : Fin 8192) (k : Fin 768) :
    extractStridedSlice S8192x768 ![0, 1536] (truncf .bf16 d bitsLt_bf16_f32) slices_S8192x4876_S8192x768_0_1536 (ix2 s k) = d (ix2 s ⟨1536 + k, by omega⟩) := by
  pointwise

theorem cols_w1 (w : FVec Ideal S1024x4876 .f32) (k : Fin 768) (n : Fin 1024) :
    transpose S768x1024 [1, 0] (extractStridedSlice S1024x768 ![0, 1536] (truncf .bf16 w bitsLt_bf16_f32) slices_S1024x4876_S1024x768_0_1536)
      transposes_S1024x768_S768x1024_1_0 (ix2 k n) = w (ix2 n ⟨1536 + k, by omega⟩) := by
  pointwise

theorem cols_d2 (d : FVec Ideal S8192x4876 .f32) (s : Fin 8192) (k : Fin 768) :
    extractStridedSlice S8192x768 ![0, 2304] (truncf .bf16 d bitsLt_bf16_f32) slices_S8192x4876_S8192x768_0_2304 (ix2 s k) = d (ix2 s ⟨2304 + k, by omega⟩) := by
  pointwise

theorem cols_w2 (w : FVec Ideal S1024x4876 .f32) (k : Fin 768) (n : Fin 1024) :
    transpose S768x1024 [1, 0] (extractStridedSlice S1024x768 ![0, 2304] (truncf .bf16 w bitsLt_bf16_f32) slices_S1024x4876_S1024x768_0_2304)
      transposes_S1024x768_S768x1024_1_0 (ix2 k n) = w (ix2 n ⟨2304 + k, by omega⟩) := by
  pointwise

theorem cols_d3 (d : FVec Ideal S8192x4876 .f32) (s : Fin 8192) (k : Fin 1792) :
    extractStridedSlice S8192x1792 ![0, 3072] (truncf .bf16 d bitsLt_bf16_f32) slices_S8192x4876_S8192x1792_0_3072 (ix2 s k) = d (ix2 s ⟨3072 + k, by omega⟩) := by
  pointwise

theorem cols_w3 (w : FVec Ideal S1024x4876 .f32) (k : Fin 1792) (n : Fin 1024) :
    transpose S1792x1024 [1, 0] (extractStridedSlice S1024x1792 ![0, 3072] (truncf .bf16 w bitsLt_bf16_f32) slices_S1024x4876_S1024x1792_0_3072)
      transposes_S1024x1792_S1792x1024_1_0 (ix2 k n) = w (ix2 n ⟨3072 + k, by omega⟩) := by
  pointwise

theorem cols_d4 (d : FVec Ideal S8192x4876 .f32) (s : Fin 8192) (k : Fin 12) :
    padD (extractStridedSlice S8192x12 ![0, 4864] (truncf .bf16 d bitsLt_bf16_f32) slices_S8192x4876_S8192x12_0_4864) (ix2 s ⟨k, by omega⟩)
      = d (ix2 s ⟨4864 + k, by omega⟩) := by
  rw [padD_at]
  pointwise

theorem cols_w4 (w : FVec Ideal S1024x4876 .f32) (k : Fin 12) (n : Fin 1024) :
    transpose S128x1024 [1, 0] (padW (extractStridedSlice S1024x12 ![0, 4864] (truncf .bf16 w bitsLt_bf16_f32) slices_S1024x4876_S1024x12_0_4864))
      transposes_S1024x128_S128x1024_1_0 (ix2 ⟨k, by omega⟩ n) = w (ix2 n ⟨4864 + k, by omega⟩) := by
  have e : ∀ (z : FVec Ideal S1024x128 .bf16) (q : Fin 128), transpose S128x1024 [1, 0] z transposes_S1024x128_S128x1024_1_0 (ix2 q n) = z (ix2 n q) := by
    intro z q
    pointwise
  rw [e, padW_at]
  pointwise

theorem blk_d0 (t : Fin cfg0.N) (s : Fin 1024) (k : Fin 1536) : iblk m c 0 t (ix2 s k) = argD m c (ix2 (tok t s) ⟨0 + k, by omega⟩) := by
  unfold iblk
  refine (read_d0 (V m c main_v8) t s k).trans ?_
  rw [V_d0]
  exact cols_d0 _ _ _

theorem blk_w0 (t : Fin cfg0.N) (k : Fin 1536) (n : Fin 512) : iblk m c 5 t (ix2 k n) = argW m c (ix2 (ft t n) ⟨0 + k, by omega⟩) := by
  unfold iblk
  refine (read_w0 (V m c main_v14) t k n).trans ?_
  rw [V_w0]
  exact cols_w0 _ _ _

theorem blk_d1 (t : Fin cfg0.N) (s : Fin 1024) (k : Fin 768) : iblk m c 1 t (ix2 s k) = argD m c (ix2 (tok t s) ⟨1536 + k, by omega⟩) := by
  unfold iblk
  refine (read_d1 (V m c main_v9) t s k).trans ?_
  rw [V_d1]
  exact cols_d1 _ _ _

theorem blk_w1 (t : Fin cfg0.N) (k : Fin 768) (n : Fin 512) : iblk m c 6 t (ix2 k n) = argW m c (ix2 (ft t n) ⟨1536 + k, by omega⟩) := by
  unfold iblk
  refine (read_w1 (V m c main_v15) t k n).trans ?_
  rw [V_w1]
  exact cols_w1 _ _ _

theorem blk_d2 (t : Fin cfg0.N) (s : Fin 1024) (k : Fin 768) : iblk m c 2 t (ix2 s k) = argD m c (ix2 (tok t s) ⟨2304 + k, by omega⟩) := by
  unfold iblk
  refine (read_d2 (V m c main_v10) t s k).trans ?_
  rw [V_d2]
  exact cols_d2 _ _ _

theorem blk_w2 (t : Fin cfg0.N) (k : Fin 768) (n : Fin 512) : iblk m c 7 t (ix2 k n) = argW m c (ix2 (ft t n) ⟨2304 + k, by omega⟩) := by
  unfold iblk
  refine (read_w2 (V m c main_v16) t k n).trans ?_
  rw [V_w2]
  exact cols_w2 _ _ _

theorem blk_d3 (t : Fin cfg0.N) (s : Fin 1024) (k : Fin 1792) : iblk m c 3 t (ix2 s k) = argD m c (ix2 (tok t s) ⟨3072 + k, by omega⟩) := by
  unfold iblk
  refine (read_d3 (V m c main_v11) t s k).trans ?_
  rw [V_d3]
  exact cols_d3 _ _ _

theorem blk_w3 (t : Fin cfg0.N) (k : Fin 1792) (n : Fin 512) : iblk m c 8 t (ix2 k n) = argW m c (ix2 (ft t n) ⟨3072 + k, by omega⟩) := by
  unfold iblk
  refine (read_w3 (V m c main_v17) t k n).trans ?_
  rw [V_w3]
  exact cols_w3 _ _ _

theorem blk_d4 (t : Fin cfg0.N) (s : Fin 1024) (k : Fin 12) : iblk m c 4 t (ix2 s ⟨k, by omega⟩) = argD m c (ix2 (tok t s) ⟨4864 + k, by omega⟩) := by
  unfold iblk
  refine (read_d4 (V m c main_v13) t s ⟨k, by omega⟩).trans ?_
  rw [V_d4]
  exact cols_d4 _ _ _

theorem blk_d4_zero (t : Fin cfg0.N) (s : Fin 1024) (k : Fin 116) : iblk m c 4 t (ix2 s ⟨12 + k, by omega⟩) = (0 : EReal) := by
  unfold iblk
  refine (read_d4 (V m c main_v13) t s ⟨12 + k, by omega⟩).trans ?_
  rw [V_d4]
  exact padD_zero _ _ _

theorem blk_w4 (t : Fin cfg0.N) (k : Fin 12) (n : Fin 512) : iblk m c 9 t (ix2 ⟨k, by omega⟩ n) = argW m c (ix2 (ft t n) ⟨4864 + k, by omega⟩) := by
  unfold iblk
  refine (read_w4 (V m c main_v18) t ⟨k, by omega⟩ n).trans ?_
  rw [V_w4]
  exact cols_w4 _ _ _

theorem blk_res (t : Fin cfg0.N) (s : Fin 1024) (n : Fin 512) : iblk m c 10 t (ix2 s n) = argR m c (ix2 (tok t s) (ft t n)) := by
  unfold iblk
  refine (read_res (V m c main_arg2) t s n).trans ?_
  rw [V_main_arg2]

/-- The gradient of the mixer's input. -/
def dxAll (w : FVec Ideal S1024x4876 .f32) (r : FVec Ideal S8192x1024 .f32) (d : FVec Ideal S8192x4876 .f32) (i : S8192x1024.Idx) : EReal :=
  (∑ k : Fin 4876, d (ix2 (i 0) k) * w (ix2 (i 1) k)) + Ideal.ofBits .f32 0x3F9837F0#32 * r i

theorem tile (t : Fin cfg0.N) (s : Fin 1024) (n : Fin 512) :
    out0_11 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (ix2 s n) = dxAll (argW m c) (argR m c) (argD m c) (ix2 (tok t s) (ft t n)) := by
  refine (out_apply _ _ _ _ _ _ _ _ _ _ _ s n).trans ?_
  refine congrArg₂ (fun x y : EReal => x + y) ?_ (congrArg (fun x : EReal => _ * x) (blk_res m c t s n))
  refine Eq.trans ?_ (sum_sections fun k : Fin 4876 => (fun x y : EReal => x * y) (argD m c (ix2 (tok t s) k)) (argW m c (ix2 (ft t n) k))).symm
  refine congrArg₂ (fun x y : EReal => x + y) (congrArg₂ (fun x y : EReal => x + y) (congrArg₂ (fun x y : EReal => x + y)
    (congrArg₂ (fun x y : EReal => x + y) ?_ ?_) ?_) ?_) ?_
  · exact Finset.sum_congr rfl fun k _ => congrArg₂ (fun x y : EReal => x * y) (blk_d0 m c t s k) (blk_w0 m c t k n)
  · exact Finset.sum_congr rfl fun k _ => congrArg₂ (fun x y : EReal => x * y) (blk_d1 m c t s k) (blk_w1 m c t k n)
  · exact Finset.sum_congr rfl fun k _ => congrArg₂ (fun x y : EReal => x * y) (blk_d2 m c t s k) (blk_w2 m c t k n)
  · exact Finset.sum_congr rfl fun k _ => congrArg₂ (fun x y : EReal => x * y) (blk_d3 m c t s k) (blk_w3 m c t k n)
  · refine (sum_padded _ fun k => ?_).trans ?_
    · exact (congrArg (fun x : EReal => x * _) (blk_d4_zero m c t s k)).trans (zero_mul _)
    · exact Finset.sum_congr rfl fun k _ => congrArg₂ (fun x y : EReal => x * y) (blk_d4 m c t s k) (blk_w4 m c t k n)

theorem emb_out (t : Fin cfg0.N) (s : Fin 1024) (n : Fin 512) :
    (((cfg0.win 11).blk t).view.emb (ix2 s n) : S8192x1024.Idx) = ix2 (tok t s) (ft t n) := by
  blk_ext [idx t]
  all_goals (simp only [tok, ft]; omega)

theorem point_out (t : Fin cfg0.N) (y : S1024x512.Idx) : (dats m 0 c).after 11 t y
    = dxAll (argW m c) (argR m c) (argD m c) (((cfg0.win 11).blk t).view.emb y) := by
  idx_vars y
  rw [after0_11]
  refine (tile m c t y0 y1).trans ?_
  exact (congrArg _ (emb_out t y0 y1)).symm

/-- The array after the run. -/
theorem arr_out : (dats m 0 c).arrAt 11 cfg0.N = dxAll (argW m c) (argR m c) (argD m c) := by
  refine (dats m 0 c).arrAt_eq_of_covers 11 _ (by decide +kernel) fun t _ y => ?_
  blk_simp
  exact point_out m c t y

/-! ## The reference -/

section

open Cert.Reference8Ideal.Read

/-- The reference's result is the kernel's. -/
theorem ref_out (w : FVec Ideal S1024x4876 .f32) (r : FVec Ideal S8192x1024 .f32) (d : FVec Ideal S8192x4876 .f32) :
    val_main_v6 (F := Ideal) w r d = dxAll w r d := by
  funext i
  idx_vars i
  pointwise [val_main_v6, val_main_v5, val_main_v4, val_main_v3, val_main_cst_0, dxAll]

end

end Cert.MixInX
-- ==== Proof.MixInW.lean ====
/-
The gradient of the mixer's input weights: the columns of the mixer's input times the upstream gradient of the projections, in
five sections of columns, summed over the tokens 512 at a time in one block. The last section is 12 columns and 116 of zeros.
-/
module

public import proofs.«01_k».proof.Proof.Gen.Kernel9Ideal.Value
public import proofs.«01_k».proof.Proof.Gen.Reference9Ideal.Read
public import proofs.«01_k».proof.Proof.MixMath
public import Idealize.ShloMosaic.Lib.Pipeline.ValueKit
public import Idealize.ShloMosaic.Lib.Pipeline.ReadBack
public import Idealize.ShloMosaic.Lib.Claim

@[expose] public section

set_option maxRecDepth 16384

noncomputable section

namespace Cert.MixInW

open Cert.Kernel9Ideal Cert.Kernel9Ideal.Gen Cert.Mix Idealize.ShloMosaic Idealize.ShloMosaic.TcCoe
open scoped BigOperators

/-! ## A section's product of a step -/

theorem pay_first0 (x : Vec Ideal S512x1024 .bf16) (y : Vec Ideal S512x1536 .bf16) (k : Fin 1024) (q : Fin 1536) :
    k0_pay2 x y (ix2 k q) = ∑ s : Fin 512, x (ix2 s k) * y (ix2 s q) := by
  pointwise [k0_pay2, k0_pay1]

theorem pay_add0 (x : Vec Ideal S512x1024 .bf16) (y : Vec Ideal S512x1536 .bf16) (z : Vec Ideal S1024x1536 .f32) (k : Fin 1024) (q : Fin 1536) :
    k0_pay7 x y z (ix2 k q) = z (ix2 k q) + ∑ s : Fin 512, x (ix2 s k) * y (ix2 s q) := by
  pointwise [k0_pay7, k0_pay2, k0_pay1]

theorem ld_sec0 (z : Vec Ideal S1024x4992 .f32) (k : Fin 1024) (q : Fin 1536) :
    (View.ld z (Rect.unit ![0, 0] ![1024, 1536] inb_S1024x4992_S1024x1536_0_0) : Vec Ideal S1024x1536 .f32) (ix2 k q) = z (ix2 k ⟨0 + q, by omega⟩) := by
  pointwise

theorem pay_first1 (x : Vec Ideal S512x1024 .bf16) (y : Vec Ideal S512x768 .bf16) (k : Fin 1024) (q : Fin 768) :
    k0_pay3 x y (ix2 k q) = ∑ s : Fin 512, x (ix2 s k) * y (ix2 s q) := by
  pointwise [k0_pay3, k0_pay1]

theorem pay_add1 (x : Vec Ideal S512x1024 .bf16) (y : Vec Ideal S512x768 .bf16) (z : Vec Ideal S1024x768 .f32) (k : Fin 1024) (q : Fin 768) :
    k0_pay8 x y z (ix2 k q) = z (ix2 k q) + ∑ s : Fin 512, x (ix2 s k) * y (ix2 s q) := by
  pointwise [k0_pay8, k0_pay3, k0_pay1]

theorem ld_sec1 (z : Vec Ideal S1024x4992 .f32) (k : Fin 1024) (q : Fin 768) :
    (View.ld z (Rect.unit ![0, 1536] ![1024, 768] inb_S1024x4992_S1024x768_0_1536) : Vec Ideal S1024x768 .f32) (ix2 k q) = z (ix2 k ⟨1536 + q, by omega⟩) := by
  pointwise

theorem pay_first2 (x : Vec Ideal S512x1024 .bf16) (y : Vec Ideal S512x768 .bf16) (k : Fin 1024) (q : Fin 768) :
    k0_pay4 x y (ix2 k q) = ∑ s : Fin 512, x (ix2 s k) * y (ix2 s q) := by
  pointwise [k0_pay4, k0_pay1]

theorem pay_add2 (x : Vec Ideal S512x1024 .bf16) (y : Vec Ideal S512x768 .bf16) (z : Vec Ideal S1024x768 .f32) (k : Fin 1024) (q : Fin 768) :
    k0_pay9 x y z (ix2 k q) = z (ix2 k q) + ∑ s : Fin 512, x (ix2 s k) * y (ix2 s q) := by
  pointwise [k0_pay9, k0_pay4, k0_pay1]

theorem ld_sec2 (z : Vec Ideal S1024x4992 .f32) (k : Fin 1024) (q : Fin 768) :
    (View.ld z (Rect.unit ![0, 2304] ![1024, 768] inb_S1024x4992_S1024x768_0_2304) : Vec Ideal S1024x768 .f32) (ix2 k q) = z (ix2 k ⟨2304 + q, by omega⟩) := by
  pointwise

theorem pay_first3 (x : Vec Ideal S512x1024 .bf16) (y : Vec Ideal S512x1792 .bf16) (k : Fin 1024) (q : Fin 1792) :
    k0_pay5 x y (ix2 k q) = ∑ s : Fin 512, x (ix2 s k) * y (ix2 s q) := by
  pointwise [k0_pay5, k0_pay1]

theorem pay_add3 (x : Vec Ideal S512x1024 .bf16) (y : Vec Ideal S512x1792 .bf16) (z : Vec Ideal S1024x1792 .f32) (k : Fin 1024) (q : Fin 1792) :
    k0_pay10 x y z (ix2 k q) = z (ix2 k q) + ∑ s : Fin 512, x (ix2 s k) * y (ix2 s q) := by
  pointwise [k0_pay10, k0_pay5, k0_pay1]

theorem ld_sec3 (z : Vec Ideal S1024x4992 .f32) (k : Fin 1024) (q : Fin 1792) :
    (View.ld z (Rect.unit ![0, 3072] ![1024, 1792] inb_S1024x4992_S1024x1792_0_3072) : Vec Ideal S1024x1792 .f32) (ix2 k q) = z (ix2 k ⟨3072 + q, by omega⟩) := by
  pointwise

theorem pay_first4 (x : Vec Ideal S512x1024 .bf16) (y : Vec Ideal S512x128 .bf16) (k : Fin 1024) (q : Fin 128) :
    k0_pay6 x y (ix2 k q) = ∑ s : Fin 512, x (ix2 s k) * y (ix2 s q) := by
  pointwise [k0_pay6, k0_pay1]

theorem pay_add4 (x : Vec Ideal S512x1024 .bf16) (y : Vec Ideal S512x128 .bf16) (z : Vec Ideal S1024x128 .f32) (k : Fin 1024) (q : Fin 128) :
    k0_pay11 x y z (ix2 k q) = z (ix2 k q) + ∑ s : Fin 512, x (ix2 s k) * y (ix2 s q) := by
  pointwise [k0_pay11, k0_pay6, k0_pay1]

theorem ld_sec4 (z : Vec Ideal S1024x4992 .f32) (k : Fin 1024) (q : Fin 128) :
    (View.ld z (Rect.unit ![0, 4864] ![1024, 128] inb_S1024x4992_S1024x128_0_4864) : Vec Ideal S1024x128 .f32) (ix2 k q) = z (ix2 k ⟨4864 + q, by omega⟩) := by
  pointwise

/-- The five sections cover the block. -/
theorem cover (w0 : Vec Ideal S1024x1536 .f32) (w1 : Vec Ideal S1024x768 .f32) (w2 : Vec Ideal S1024x768 .f32) (w3 : Vec Ideal S1024x1792 .f32) (w4 : Vec Ideal S1024x128 .f32) (y : S1024x4992.Idx) :
    ∃ p ∈ ([⟨Rect.unit ![0, 4864] ![1024, 128] inb_S1024x4992_S1024x128_0_4864, w4⟩,
      ⟨Rect.unit ![0, 3072] ![1024, 1792] inb_S1024x4992_S1024x1792_0_3072, w3⟩,
      ⟨Rect.unit ![0, 2304] ![1024, 768] inb_S1024x4992_S1024x768_0_2304, w2⟩,
      ⟨Rect.unit ![0, 1536] ![1024, 768] inb_S1024x4992_S1024x768_0_1536, w1⟩,
      ⟨Rect.unit ![0, 0] ![1024, 1536] inb_S1024x4992_S1024x1536_0_0, w0⟩] : List (View.Piece (Elt Ideal) S1024x4992 .f32)),
      y ∈ p.1.set :=
  View.cover_of_tiledBy _ ![1024, 128] (by sl_kernel_rfl) y

variable (m : (ℓ : Loc nD τ sig) → Buf (Elt Ideal) ℓ) (c : Dev nD)

/-! ## The arrays the call reads -/

abbrev argH : FVec Ideal S8192x1024 .f32 := m ((c : Thread nD τ).loc main_arg0)
abbrev argD : FVec Ideal S8192x4876 .f32 := m ((c : Thread nD τ).loc main_arg3)

/-- The last section of the gradient's columns, with its columns of zeros. -/
def padD (a : FVec Ideal S8192x12 .bf16) : FVec Ideal S8192x128 .bf16 :=
  pad S8192x128 ![0, 0] ![0, 116] ![0, 0] a (sitofp .bf16 (constantI S_ 32 0#32)) pads_S8192x12_S8192x128_000_01160 h_S_

theorem padD_at (a : FVec Ideal S8192x12 .bf16) (s : Fin 8192) (k : Fin 12) : padD a (ix2 s ⟨k, by omega⟩) = a (ix2 s k) := by
  pointwise [padD]

theorem padD_zero (a : FVec Ideal S8192x12 .bf16) (s : Fin 8192) (k : Fin 116) : padD a (ix2 s ⟨12 + k, by omega⟩) = 0 := by
  pointwise [padD]
  show (((0#32 : BitVec 32).toInt : ℝ) : EReal) = 0
  simp

theorem V_h : V m c main_v7 = truncf .bf16 (argH m c) bitsLt_bf16_f32 := by
  unfold V
  simp only [List.flatten_cons, List.flatten_nil, List.cons_append, List.nil_append, List.append_nil]
  after_results

theorem V_d0 : V m c main_v1 = extractStridedSlice S8192x1536 ![0, 0] (truncf .bf16 (argD m c) bitsLt_bf16_f32) slices_S8192x4876_S8192x1536_0_0 := by
  unfold V
  simp only [List.flatten_cons, List.flatten_nil, List.cons_append, List.nil_append, List.append_nil]
  after_results

theorem V_d1 : V m c main_v2 = extractStridedSlice S8192x768 ![0, 1536] (truncf .bf16 (argD m c) bitsLt_bf16_f32) slices_S8192x4876_S8192x768_0_1536 := by
  unfold V
  simp only [List.flatten_cons, List.flatten_nil, List.cons_append, List.nil_append, List.append_nil]
  after_results

theorem V_d2 : V m c main_v3 = extractStridedSlice S8192x768 ![0, 2304] (truncf .bf16 (argD m c) bitsLt_bf16_f32) slices_S8192x4876_S8192x768_0_2304 := by
  unfold V
  simp only [List.flatten_cons, List.flatten_nil, List.cons_append, List.nil_append, List.append_nil]
  after_results

theorem V_d3 : V m c main_v4 = extractStridedSlice S8192x1792 ![0, 3072] (truncf .bf16 (argD m c) bitsLt_bf16_f32) slices_S8192x4876_S8192x1792_0_3072 := by
  unfold V
  simp only [List.flatten_cons, List.flatten_nil, List.cons_append, List.nil_append, List.append_nil]
  after_results

theorem V_d4 : V m c main_v6 = padD (extractStridedSlice S8192x12 ![0, 4864] (truncf .bf16 (argD m c) bitsLt_bf16_f32) slices_S8192x4876_S8192x12_0_4864) := by
  unfold V
  simp only [List.flatten_cons, List.flatten_nil, List.cons_append, List.nil_append, List.append_nil]
  after_results
  simp -implicitDefEqProofs only [StableHlo.TRef.ofBuf_toBuf, StableHlo.TRef.toBuf, StableHlo.TRef.ofBuf, cast_cast, cast_eq]
  rfl

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![0, 0] :=
  (by decide +kernel : ∀ t : Fin grid0.N, _)

/-- Token `s` of a step's 512. -/
def tok (t : Fin cfg0.N) (s : Fin 512) : Fin 8192 := ⟨512 * t + s, by have := lt_of_lt_of_eq t.isLt N_0; omega⟩

theorem read_h (G : S8192x1024.Idx → EReal) (t : Fin cfg0.N) (s : Fin 512) (k : Fin 1024) :
    ((cfg0.win 0).blk t).view.read (Elt Ideal) G (ix2 s k) = G (ix2 (tok t s) k) := by
  blk_ext [idx t]
  all_goals (simp only [tok]; omega)

theorem read_d0 (G : S8192x1536.Idx → EReal) (t : Fin cfg0.N) (s : Fin 512) (q : Fin 1536) :
    ((cfg0.win 1).blk t).view.read (Elt Ideal) G (ix2 s q) = G (ix2 (tok t s) q) := by
  blk_ext [idx t]
  all_goals (simp only [tok]; omega)

theorem read_d1 (G : S8192x768.Idx → EReal) (t : Fin cfg0.N) (s : Fin 512) (q : Fin 768) :
    ((cfg0.win 2).blk t).view.read (Elt Ideal) G (ix2 s q) = G (ix2 (tok t s) q) := by
  blk_ext [idx t]
  all_goals (simp only [tok]; omega)

theorem read_d2 (G : S8192x768.Idx → EReal) (t : Fin cfg0.N) (s : Fin 512) (q : Fin 768) :
    ((cfg0.win 3).blk t).view.read (Elt Ideal) G (ix2 s q) = G (ix2 (tok t s) q) := by
  blk_ext [idx t]
  all_goals (simp only [tok]; omega)

theorem read_d3 (G : S8192x1792.Idx → EReal) (t : Fin cfg0.N) (s : Fin 512) (q : Fin 1792) :
    ((cfg0.win 4).blk t).view.read (Elt Ideal) G (ix2 s q) = G (ix2 (tok t s) q) := by
  blk_ext [idx t]
  all_goals (simp only [tok]; omega)

theorem read_d4 (G : S8192x128.Idx → EReal) (t : Fin cfg0.N) (s : Fin 512) (q : Fin 128) :
    ((cfg0.win 5).blk t).view.read (Elt Ideal) G (ix2 s q) = G (ix2 (tok t s) q) := by
  blk_ext [idx t]
  all_goals (simp only [tok]; omega)

theorem cols_d0 (d : FVec Ideal S8192x4876 .f32) (s : Fin 8192) (q : Fin 1536) :
    extractStridedSlice S8192x1536 ![0, 0] (truncf .bf16 d bitsLt_bf16_f32) slices_S8192x4876_S8192x1536_0_0 (ix2 s q) = d (ix2 s ⟨0 + q, by omega⟩) := by
  pointwise

theorem cols_d1 (d : FVec Ideal S8192x4876 .f32) (s : Fin 8192) (q : Fin 768) :
    extractStridedSlice S8192x768 ![0, 1536] (truncf .bf16 d bitsLt_bf16_f32) slices_S8192x4876_S8192x768_0_1536 (ix2 s q) = d (ix2 s ⟨1536 + q, by omega⟩) := by
  pointwise

theorem cols_d2 (d : FVec Ideal S8192x4876 .f32) (s : Fin 8192) (q : Fin 768) :
    extractStridedSlice S8192x768 ![0, 2304] (truncf .bf16 d bitsLt_bf16_f32) slices_S8192x4876_S8192x768_0_2304 (ix2 s q) = d (ix2 s ⟨2304 + q, by omega⟩) := by
  pointwise

theorem cols_d3 (d : FVec Ideal S8192x4876 .f32) (s : Fin 8192) (q : Fin 1792) :
    extractStridedSlice S8192x1792 ![0, 3072] (truncf .bf16 d bitsLt_bf16_f32) slices_S8192x4876_S8192x1792_0_3072 (ix2 s q) = d (ix2 s ⟨3072 + q, by omega⟩) := by
  pointwise

theorem cols_d4 (d : FVec Ideal S8192x4876 .f32) (s : Fin 8192) (q : Fin 12) :
    padD (extractStridedSlice S8192x12 ![0, 4864] (truncf .bf16 d bitsLt_bf16_f32) slices_S8192x4876_S8192x12_0_4864) (ix2 s ⟨q, by omega⟩)
      = d (ix2 s ⟨4864 + q, by omega⟩) := by
  rw [padD_at]
  pointwise

/-- A column of the gradient, or one of the columns of zeros after them. -/
def dP (d : FVec Ideal S8192x4876 .f32) (s : Fin 8192) (q : Fin 4992) : EReal :=
  if h : q.val < 4876 then d (ix2 s ⟨q, h⟩) else 0

theorem dP_of_lt (d : FVec Ideal S8192x4876 .f32) (s : Fin 8192) (q : ℕ) (h : q < 4876) : d (ix2 s ⟨q, h⟩) = dP d s ⟨q, by omega⟩ := by
  unfold dP
  rw [dif_pos h]

theorem blk_h (t : Fin cfg0.N) (s : Fin 512) (k : Fin 1024) : iblk m c 0 t (ix2 s k) = argH m c (ix2 (tok t s) k) := by
  unfold iblk
  refine (read_h (V m c main_v7) t s k).trans ?_
  rw [V_h]
  rfl

theorem blk_d0 (t : Fin cfg0.N) (s : Fin 512) (q : Fin 1536) : iblk m c 1 t (ix2 s q) = dP (argD m c) (tok t s) ⟨0 + q, by omega⟩ := by
  unfold iblk
  refine (read_d0 (V m c main_v1) t s q).trans ?_
  rw [V_d0]
  exact (cols_d0 _ _ _).trans (dP_of_lt _ _ _ _)

theorem blk_d1 (t : Fin cfg0.N) (s : Fin 512) (q : Fin 768) : iblk m c 2 t (ix2 s q) = dP (argD m c) (tok t s) ⟨1536 + q, by omega⟩ := by
  unfold iblk
  refine (read_d1 (V m c main_v2) t s q).trans ?_
  rw [V_d1]
  exact (cols_d1 _ _ _).trans (dP_of_lt _ _ _ _)

theorem blk_d2 (t : Fin cfg0.N) (s : Fin 512) (q : Fin 768) : iblk m c 3 t (ix2 s q) = dP (argD m c) (tok t s) ⟨2304 + q, by omega⟩ := by
  unfold iblk
  refine (read_d2 (V m c main_v3) t s q).trans ?_
  rw [V_d2]
  exact (cols_d2 _ _ _).trans (dP_of_lt _ _ _ _)

theorem blk_d3 (t : Fin cfg0.N) (s : Fin 512) (q : Fin 1792) : iblk m c 4 t (ix2 s q) = dP (argD m c) (tok t s) ⟨3072 + q, by omega⟩ := by
  unfold iblk
  refine (read_d3 (V m c main_v4) t s q).trans ?_
  rw [V_d3]
  exact (cols_d3 _ _ _).trans (dP_of_lt _ _ _ _)

theorem blk_d4 (t : Fin cfg0.N) (s : Fin 512) (q : Fin 128) : iblk m c 5 t (ix2 s q) = dP (argD m c) (tok t s) ⟨4864 + q, by omega⟩ := by
  unfold iblk
  refine (read_d4 (V m c main_v6) t s q).trans ?_
  rw [V_d4]
  by_cases h : q.val < 12
  · exact (cols_d4 (argD m c) (tok t s) ⟨q, h⟩).trans (dP_of_lt _ _ _ _)
  · rw [show q = ⟨12 + (q - 12), by omega⟩ from Fin.ext (by show q.val = 12 + (q.val - 12); omega)]
    refine (padD_zero _ (tok t s) ⟨q - 12, by omega⟩).trans ?_
    unfold dP
    rw [dif_neg (show ¬4864 + (12 + (q.val - 12)) < 4876 by omega)]

/-! ## The steps -/

/-- The product of step `t` at an element of the block. -/
def pp (h : FVec Ideal S8192x1024 .f32) (d : FVec Ideal S8192x4876 .f32) (t : Fin cfg0.N) (k : Fin 1024) (q : Fin 4992) : EReal :=
  ∑ s : Fin 512, h (ix2 (tok t s) k) * dP d (tok t s) q

theorem pp_sec0 (t : Fin cfg0.N) (k : Fin 1024) (q : Fin 1536) :
    (∑ s : Fin 512, (fun x y : EReal => x * y) (iblk m c 0 t (ix2 s k)) (iblk m c 1 t (ix2 s q))) = pp (argH m c) (argD m c) t k ⟨0 + q, by omega⟩ :=
  Finset.sum_congr rfl fun s _ => congrArg₂ (fun x y : EReal => x * y) (blk_h m c t s k) (blk_d0 m c t s q)

theorem pp_sec1 (t : Fin cfg0.N) (k : Fin 1024) (q : Fin 768) :
    (∑ s : Fin 512, (fun x y : EReal => x * y) (iblk m c 0 t (ix2 s k)) (iblk m c 2 t (ix2 s q))) = pp (argH m c) (argD m c) t k ⟨1536 + q, by omega⟩ :=
  Finset.sum_congr rfl fun s _ => congrArg₂ (fun x y : EReal => x * y) (blk_h m c t s k) (blk_d1 m c t s q)

theorem pp_sec2 (t : Fin cfg0.N) (k : Fin 1024) (q : Fin 768) :
    (∑ s : Fin 512, (fun x y : EReal => x * y) (iblk m c 0 t (ix2 s k)) (iblk m c 3 t (ix2 s q))) = pp (argH m c) (argD m c) t k ⟨2304 + q, by omega⟩ :=
  Finset.sum_congr rfl fun s _ => congrArg₂ (fun x y : EReal => x * y) (blk_h m c t s k) (blk_d2 m c t s q)

theorem pp_sec3 (t : Fin cfg0.N) (k : Fin 1024) (q : Fin 1792) :
    (∑ s : Fin 512, (fun x y : EReal => x * y) (iblk m c 0 t (ix2 s k)) (iblk m c 4 t (ix2 s q))) = pp (argH m c) (argD m c) t k ⟨3072 + q, by omega⟩ :=
  Finset.sum_congr rfl fun s _ => congrArg₂ (fun x y : EReal => x * y) (blk_h m c t s k) (blk_d3 m c t s q)

theorem pp_sec4 (t : Fin cfg0.N) (k : Fin 1024) (q : Fin 128) :
    (∑ s : Fin 512, (fun x y : EReal => x * y) (iblk m c 0 t (ix2 s k)) (iblk m c 5 t (ix2 s q))) = pp (argH m c) (argD m c) t k ⟨4864 + q, by omega⟩ :=
  Finset.sum_congr rfl fun s _ => congrArg₂ (fun x y : EReal => x * y) (blk_h m c t s k) (blk_d4 m c t s q)

theorem at_first (t : Fin cfg0.N) (h : t.val % 16 = 0) (k : Fin 1024) (q : Fin 4992) :
    outsAt0 m c t.val t.isLt (ix2 k q) = pp (argH m c) (argD m c) t k q := by
  have := lt_of_lt_of_eq t.isLt N_0
  rw [outsAt0_A m c t h (by omega)]
  frame_out
  canon_tiles y hy using cover _ _ _ _ _ (ix2 k q)
  all_goals idx_vars y
  · rw [show k = y0 from Fin.ext hy0, show q = ⟨4864 + y1, by omega⟩ from Fin.ext hy1]
    exact (pay_first4 _ _ y0 y1).trans (pp_sec4 m c t y0 y1)
  · rw [show k = y0 from Fin.ext hy0, show q = ⟨3072 + y1, by omega⟩ from Fin.ext hy1]
    exact (pay_first3 _ _ y0 y1).trans (pp_sec3 m c t y0 y1)
  · rw [show k = y0 from Fin.ext hy0, show q = ⟨2304 + y1, by omega⟩ from Fin.ext hy1]
    exact (pay_first2 _ _ y0 y1).trans (pp_sec2 m c t y0 y1)
  · rw [show k = y0 from Fin.ext hy0, show q = ⟨1536 + y1, by omega⟩ from Fin.ext hy1]
    exact (pay_first1 _ _ y0 y1).trans (pp_sec1 m c t y0 y1)
  · rw [show k = y0 from Fin.ext hy0, show q = ⟨0 + y1, by omega⟩ from Fin.ext (by dsimp only; omega)]
    exact (pay_first0 _ _ y0 y1).trans (pp_sec0 m c t y0 y1)

theorem at_next (t : Fin cfg0.N) (h : ¬ t.val % 16 = 0) (k : Fin 1024) (q : Fin 4992) :
    outsAt0 m c t.val t.isLt (ix2 k q)
      = outsAt0 m c (t.val - 1) (Nat.lt_of_le_of_lt (Nat.sub_le _ _) t.isLt) (ix2 k q) + pp (argH m c) (argD m c) t k q := by
  rw [outsAt0_B m c t h (by omega)]
  frame_open
  simp (disch := decide) only [↓ View.readCov_skip, ↓ View.readCov_cons_toLoadRect, ↓ View.readCov_fill]
  frame_out
  canon_tiles y hy using cover _ _ _ _ _ (ix2 k q)
  all_goals idx_vars y
  · rw [show k = y0 from Fin.ext hy0, show q = ⟨4864 + y1, by omega⟩ from Fin.ext hy1]
    exact (pay_add4 _ _ _ y0 y1).trans (congrArg₂ (fun x y : EReal => x + y) (ld_sec4 _ y0 y1) (pp_sec4 m c t y0 y1))
  · rw [show k = y0 from Fin.ext hy0, show q = ⟨3072 + y1, by omega⟩ from Fin.ext hy1]
    exact (pay_add3 _ _ _ y0 y1).trans (congrArg₂ (fun x y : EReal => x + y) (ld_sec3 _ y0 y1) (pp_sec3 m c t y0 y1))
  · rw [show k = y0 from Fin.ext hy0, show q = ⟨2304 + y1, by omega⟩ from Fin.ext hy1]
    exact (pay_add2 _ _ _ y0 y1).trans (congrArg₂ (fun x y : EReal => x + y) (ld_sec2 _ y0 y1) (pp_sec2 m c t y0 y1))
  · rw [show k = y0 from Fin.ext hy0, show q = ⟨1536 + y1, by omega⟩ from Fin.ext hy1]
    exact (pay_add1 _ _ _ y0 y1).trans (congrArg₂ (fun x y : EReal => x + y) (ld_sec1 _ y0 y1) (pp_sec1 m c t y0 y1))
  · rw [show k = y0 from Fin.ext hy0, show q = ⟨0 + y1, by omega⟩ from Fin.ext (by dsimp only; omega)]
    exact (pay_add0 _ _ _ y0 y1).trans (congrArg₂ (fun x y : EReal => x + y) (ld_sec0 _ y0 y1) (pp_sec0 m c t y0 y1))

/-- A step leaves the sum of the products so far. -/
theorem at_step (k : Fin 1024) (q : Fin 4992) : ∀ (n : ℕ) (hn : n < cfg0.N),
    outsAt0 m c n hn (ix2 k q) = ∑ j : Fin (n + 1), pp (argH m c) (argD m c) ⟨j, by omega⟩ k q
  | 0, hn => (at_first m c ⟨0, hn⟩ rfl k q).trans (Fin.sum_univ_one fun j : Fin 1 => pp (argH m c) (argD m c) ⟨j, by omega⟩ k q).symm
  | n + 1, hn => by
    have hN := lt_of_lt_of_eq hn N_0
    refine (at_next m c ⟨n + 1, hn⟩ (by dsimp only; omega) k q).trans ?_
    refine Eq.trans ?_ (Fin.sum_univ_castSucc fun j : Fin (n + 1 + 1) => pp (argH m c) (argD m c) ⟨j, by omega⟩ k q).symm
    exact congrArg (fun x : EReal => x + _) (at_step k q n (by omega))

/-- The gradient of the weights, with its columns of zeros. -/
def dwAll (h : FVec Ideal S8192x1024 .f32) (d : FVec Ideal S8192x4876 .f32) (i : S1024x4992.Idx) : EReal :=
  ∑ s : Fin 8192, h (ix2 s (i 0)) * dP d s (i 1)

/-- The last step leaves the whole sum. -/
theorem step_last (t : Fin cfg0.N) (h : t.val % 16 = 15) (k : Fin 1024) (q : Fin 4992) :
    outsAt0 m c t.val t.isLt (ix2 k q) = dwAll (argH m c) (argD m c) (ix2 k q) := by
  have hN := lt_of_lt_of_eq t.isLt N_0
  obtain ⟨n, hn⟩ := t
  dsimp only at h hN
  obtain rfl : n = 15 := by omega
  refine (at_step m c k q 15 hn).trans ?_
  refine Eq.trans ?_ (sum_blocks fun s : Fin 8192 => (fun x y : EReal => x * y) (argH m c (ix2 s k)) (dP (argD m c) s q)).symm
  rfl

theorem emb_out (t : Fin cfg0.N) (k : Fin 1024) (q : Fin 4992) : (((cfg0.win 6).blk t).view.emb (ix2 k q) : S1024x4992.Idx) = ix2 k q := by
  blk_ext [idx t]
  all_goals omega

theorem point_out (t : Fin cfg0.N) (h : t.val % 16 = 15) (y : S1024x4992.Idx) : (dats m 0 c).after 6 t y
    = dwAll (argH m c) (argD m c) (((cfg0.win 6).blk t).view.emb y) := by
  idx_vars y
  rw [after0_6]
  refine (step_last m c t h y0 y1).trans ?_
  exact (congrArg _ (emb_out t y0 y1)).symm

/-- The array after the run. -/
theorem arr_out : (dats m 0 c).arrAt 6 cfg0.N = dwAll (argH m c) (argD m c) := by
  refine (dats m 0 c).arrAt_eq_of_covers 6 _ (by decide +kernel) fun t hf y => ?_
  blk_simp
  exact point_out m c t ((flush0_6 t).mp hf) y

/-! ## The reference -/

section

open Cert.Reference9Ideal.Read

variable (h : FVec Ideal S8192x1024 .f32) (d : FVec Ideal S8192x4876 .f32)

theorem ref_at (k : Fin 1024) (q : Fin 4876) : val_main_v5 (F := Ideal) h d (ix2 k ⟨q, by omega⟩) = ∑ s : Fin 8192, d (ix2 s q) * h (ix2 s k) := by
  pointwise [val_main_v5, val_main_v4, val_main_v3]

theorem ref_zero (k : Fin 1024) (q : Fin 116) : val_main_v5 (F := Ideal) h d (ix2 k ⟨4876 + q, by omega⟩) = 0 := by
  pointwise [val_main_v5, val_main_call0_v0, val_main_c]
  show (((0#32 : BitVec 32).toInt : ℝ) : EReal) = 0
  simp

/-- The reference's result is the kernel's. -/
theorem ref_out : val_main_v5 (F := Ideal) h d = dwAll h d := by
  funext i
  idx_vars i
  unfold dwAll
  by_cases hq : i1.val < 4876
  · refine (ref_at h d i0 ⟨i1, hq⟩).trans (Finset.sum_congr rfl fun s _ => ?_)
    rw [mul_comm]
    exact congrArg (fun x : EReal => _ * x) (dP_of_lt d s i1 hq)
  · have e : i1 = ⟨4876 + (i1 - 4876), by omega⟩ := Fin.ext (by dsimp only; omega)
    refine Eq.trans ?_ (Finset.sum_eq_zero fun s _ => ?_).symm
    · rw [e]
      exact ref_zero h d i0 ⟨i1 - 4876, by omega⟩
    · exact (congrArg (fun x : EReal => _ * x) (dif_neg hq)).trans (mul_zero _)

end

end Cert.MixInW
-- ==== Proof.MixOutFwd.lean ====
/-
The mixer's output projection with its residual and layer norm: the residual sum and the norm, 512 tokens a step in four
chunks of 128 rows, against the reference.
-/
module

public import proofs.«01_k».proof.Proof.FfnFwdTile
public import proofs.«01_k».proof.Proof.Gen.Kernel10Ideal.Value
public import proofs.«01_k».proof.Proof.Gen.Reference10Ideal.Read
public import Idealize.ShloMosaic.Lib.Pipeline.ValueKit
public import Idealize.ShloMosaic.Lib.Claim

@[expose] public section

set_option maxRecDepth 16384

noncomputable section

namespace Cert.MixOutFwd

open Cert.Kernel10Ideal Cert.Kernel10Ideal.Gen Cert.Ffn Idealize.ShloMosaic Idealize.ShloMosaic.TcCoe
open Cert.FfnFwd (mean ln)
open scoped BigOperators

/-! ## A step's block -/

section

variable (x0 : Vec Ideal S512x1536 .bf16) (x1 : Vec Ideal S1536x1024 .bf16) (x2 : Vec Ideal S512x1024 .f32) (x3 x4 : Vec Ideal S1x1024 .f32)

/-- The residual sum at row `s` and feature `n`. -/
def res (s : Fin 512) (n : Fin 1024) : EReal :=
  Ideal.ofBits .f32 0x3F9837F0#32 * x2 (ix2 s n) + Ideal.ofBits .f32 0x3F800000#32 * ∑ k : Fin 1536, x0 (ix2 s k) * x1 (ix2 k n)

theorem res0 (q : Fin 128) (n : Fin 1024) : k0_pay3 (View.ld x2 r0_0) (View.ld x0 r0_1) (View.ld x1 r0_2) (ix2 q n)
    = res x0 x1 x2 ⟨q, by omega⟩ n := by
  pointwise [k0_pay3, res]

theorem res1 (q : Fin 128) (n : Fin 1024) : k0_pay6 (View.ld x2 r0_4) (View.ld x0 r0_5) (View.ld x1 r0_2) (ix2 q n)
    = res x0 x1 x2 ⟨128 + q, by omega⟩ n := by
  pointwise [k0_pay6, res]

theorem res2 (q : Fin 128) (n : Fin 1024) : k0_pay10 (View.ld x2 r0_6) (View.ld x0 r0_7) (View.ld x1 r0_2) (ix2 q n)
    = res x0 x1 x2 ⟨256 + q, by omega⟩ n := by
  pointwise [k0_pay10, res]

theorem res3 (q : Fin 128) (n : Fin 1024) : k0_pay16 (View.ld x2 r0_8) (View.ld x0 r0_9) (View.ld x1 r0_2) (ix2 q n)
    = res x0 x1 x2 ⟨384 + q, by omega⟩ n := by
  pointwise [k0_pay16, res]

theorem ld_row (x : Vec Ideal S1x1024 .f32) : (fun k : Fin 1024 => (View.ld x r0_3 : Vec Ideal S1x1024 .f32) (ix2 0 k)) = fun k => x (ix2 0 k) := by
  funext k
  pointwise

section

variable (a : Vec Ideal S128x1024 .f32) (b : Vec Ideal S128x1536 .bf16) (d : Vec Ideal S1536x1024 .bf16) (g h : Vec Ideal S1x1024 .f32)
  (q : Fin 128) (n : Fin 1024)

theorem ln0 : k0_pay4 a b d g h (ix2 q n) = ln (fun k => k0_pay3 a b d (ix2 q k)) (fun k => g (ix2 0 k)) (fun k => h (ix2 0 k)) n := by
  pointwise [k0_pay4]
  rfl

theorem ln1 : k0_pay8 g h (k0_pay7 a b d) (ix2 q n) = ln (fun k => k0_pay6 a b d (ix2 q k)) (fun k => g (ix2 0 k)) (fun k => h (ix2 0 k)) n := by
  pointwise [k0_pay8, k0_pay7]
  rfl

theorem ln2 : k0_pay14 g h (k0_pay12 a b d) (k0_pay13 a b d) (ix2 q n)
    = ln (fun k => k0_pay10 a b d (ix2 q k)) (fun k => g (ix2 0 k)) (fun k => h (ix2 0 k)) n := by
  pointwise [k0_pay14, k0_pay13, k0_pay12, k0_pay11]
  rfl

theorem ln3 : k0_pay1 (k0_pay16 a b d) g h (k0_pay17 a b d) (k0_pay18 a b d) (ix2 q n)
    = ln (fun k => k0_pay16 a b d (ix2 q k)) (fun k => g (ix2 0 k)) (fun k => h (ix2 0 k)) n := by
  pointwise [k0_pay1, k0_pay17, k0_pay18]
  rfl

end

/-- The block's residual sums. -/
theorem out6_apply (s : Fin 512) (n : Fin 1024) : out0_6 x0 x1 x2 x3 x4 (ix2 s n) = res x0 x1 x2 s n := by
  unfold_out out0_6
  canon_tiles y hy
  all_goals idx_vars y
  · rw [show s = ⟨384 + y0, by omega⟩ from Fin.ext hy0, show n = y1 from Fin.ext hy1]
    exact res3 x0 x1 x2 y0 _
  · rw [show s = ⟨256 + y0, by omega⟩ from Fin.ext hy0, show n = y1 from Fin.ext hy1]
    exact res2 x0 x1 x2 y0 _
  · rw [show s = ⟨128 + y0, by omega⟩ from Fin.ext hy0, show n = y1 from Fin.ext hy1]
    exact res1 x0 x1 x2 y0 _
  · rw [show s = ⟨y0, by omega⟩ from Fin.ext hy0, show n = y1 from Fin.ext hy1]
    exact res0 x0 x1 x2 y0 _

/-- The block's layer norms. -/
theorem out5_apply (s : Fin 512) (n : Fin 1024) : out0_5 x0 x1 x2 x3 x4 (ix2 s n)
    = ln (res x0 x1 x2 s) (fun k => x3 (ix2 0 k)) (fun k => x4 (ix2 0 k)) n := by
  unfold_out out0_5
  canon_tiles y hy
  all_goals idx_vars y
  · rw [show s = ⟨384 + y0, by omega⟩ from Fin.ext hy0, show n = y1 from Fin.ext hy1]
    refine (ln3 _ _ _ _ _ y0 _).trans ?_
    rw [ld_row, ld_row, funext fun k => res3 x0 x1 x2 y0 k]
  · rw [show s = ⟨256 + y0, by omega⟩ from Fin.ext hy0, show n = y1 from Fin.ext hy1]
    refine (ln2 _ _ _ _ _ y0 _).trans ?_
    rw [ld_row, ld_row, funext fun k => res2 x0 x1 x2 y0 k]
  · rw [show s = ⟨128 + y0, by omega⟩ from Fin.ext hy0, show n = y1 from Fin.ext hy1]
    refine (ln1 _ _ _ _ _ y0 _).trans ?_
    rw [ld_row, ld_row, funext fun k => res1 x0 x1 x2 y0 k]
  · rw [show s = ⟨y0, by omega⟩ from Fin.ext hy0, show n = y1 from Fin.ext hy1]
    refine (ln0 _ _ _ _ _ y0 _).trans ?_
    rw [ld_row, ld_row, funext fun k => res0 x0 x1 x2 y0 k]

end

/-! ## The arrays the call reads -/

variable (m : (ℓ : Loc nD τ sig) → Buf (Elt Ideal) ℓ) (c : Dev nD)

abbrev argX : FVec Ideal S8192x1536 .f32 := m ((c : Thread nD τ).loc main_arg0)
abbrev argH : FVec Ideal S8192x1024 .f32 := m ((c : Thread nD τ).loc main_arg1)
abbrev argW : FVec Ideal S1536x1024 .f32 := m ((c : Thread nD τ).loc main_arg2)
abbrev argS : FVec Ideal S1x1024 .f32 := m ((c : Thread nD τ).loc main_arg3)
abbrev argB : FVec Ideal S1x1024 .f32 := m ((c : Thread nD τ).loc main_arg4)

theorem V_x : V m c main_v0 = truncf .bf16 (argX m c) bitsLt_bf16_f32 := by
  unfold V
  after_results

theorem V_w : V m c main_v1 = truncf .bf16 (argW m c) bitsLt_bf16_f32 := by
  unfold V
  after_results

theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] ∧ win0_6.index t = ![t.val, 0] :=
  (by decide +kernel : ∀ t : Fin grid0.N, _)

/-- Row `s` of step `t`'s block. -/
def row (t : Fin cfg0.N) (s : Fin 512) : Fin 8192 := ⟨512 * t + s, by have := lt_of_lt_of_eq t.isLt N_0; omega⟩

theorem read_x (G : S8192x1536.Idx → EReal) (t : Fin cfg0.N) (s : Fin 512) (k : Fin 1536) :
    ((cfg0.win 0).blk t).view.read (Elt Ideal) G (ix2 s k) = G (ix2 (row t s) k) := by
  blk_ext [idx t]
  all_goals (simp only [row]; omega)

theorem read_w (G : S1536x1024.Idx → EReal) (t : Fin cfg0.N) (k : Fin 1536) (n : Fin 1024) :
    ((cfg0.win 1).blk t).view.read (Elt Ideal) G (ix2 k n) = G (ix2 k n) := by
  blk_ext [idx t]
  all_goals omega

theorem read_h (G : S8192x1024.Idx → EReal) (t : Fin cfg0.N) (s : Fin 512) (n : Fin 1024) :
    ((cfg0.win 2).blk t).view.read (Elt Ideal) G (ix2 s n) = G (ix2 (row t s) n) := by
  blk_ext [idx t]
  all_goals (simp only [row]; omega)

theorem read_scale (G : S1x1024.Idx → EReal) (t : Fin cfg0.N) (n : Fin 1024) :
    ((cfg0.win 3).blk t).view.read (Elt Ideal) G (ix2 0 n) = G (ix2 0 n) := by
  blk_ext [idx t]
  all_goals omega

theorem read_shift (G : S1x1024.Idx → EReal) (t : Fin cfg0.N) (n : Fin 1024) :
    ((cfg0.win 4).blk t).view.read (Elt Ideal) G (ix2 0 n) = G (ix2 0 n) := by
  blk_ext [idx t]
  all_goals omega

theorem blk_x (t : Fin cfg0.N) (s : Fin 512) (k : Fin 1536) : iblk m c 0 t (ix2 s k) = argX m c (ix2 (row t s) k) := by
  unfold iblk
  refine (read_x (V m c main_v0) t s k).trans ?_
  rw [V_x]
  rfl

theorem blk_w (t : Fin cfg0.N) (k : Fin 1536) (n : Fin 1024) : iblk m c 1 t (ix2 k n) = argW m c (ix2 k n) := by
  unfold iblk
  refine (read_w (V m c main_v1) t k n).trans ?_
  rw [V_w]
  rfl

theorem blk_h (t : Fin cfg0.N) (s : Fin 512) (n : Fin 1024) : iblk m c 2 t (ix2 s n) = argH m c (ix2 (row t s) n) := by
  unfold iblk
  refine (read_h (V m c main_arg1) t s n).trans ?_
  rw [V_main_arg1]

theorem blk_scale (t : Fin cfg0.N) (n : Fin 1024) : iblk m c 3 t (ix2 0 n) = argS m c (ix2 0 n) := by
  unfold iblk
  refine (read_scale (V m c main_arg3) t n).trans ?_
  rw [V_main_arg3]

theorem blk_shift (t : Fin cfg0.N) (n : Fin 1024) : iblk m c 4 t (ix2 0 n) = argB m c (ix2 0 n) := by
  unfold iblk
  refine (read_shift (V m c main_arg4) t n).trans ?_
  rw [V_main_arg4]

/-! ## The results -/

/-- The residual sum at a token and a feature. -/
def resAt (x : FVec Ideal S8192x1536 .f32) (h : FVec Ideal S8192x1024 .f32) (w : FVec Ideal S1536x1024 .f32) (s : Fin 8192) (n : Fin 1024) : EReal :=
  Ideal.ofBits .f32 0x3F9837F0#32 * h (ix2 s n) + ∑ k : Fin 1536, x (ix2 s k) * w (ix2 k n)

/-- The residual sum. -/
def resAll (x : FVec Ideal S8192x1536 .f32) (h : FVec Ideal S8192x1024 .f32) (w : FVec Ideal S1536x1024 .f32) (i : S8192x1024.Idx) : EReal :=
  resAt x h w (i 0) (i 1)

/-- Its layer norm. -/
def normAll (x : FVec Ideal S8192x1536 .f32) (h : FVec Ideal S8192x1024 .f32) (w : FVec Ideal S1536x1024 .f32)
    (g b : FVec Ideal S1x1024 .f32) (i : S8192x1024.Idx) : EReal :=
  ln (resAt x h w (i 0)) (fun k => g (ix2 0 k)) (fun k => b (ix2 0 k)) (i 1)

theorem res_eq (t : Fin cfg0.N) (s : Fin 512) (n : Fin 1024) :
    res (iblk m c 0 t) (iblk m c 1 t) (iblk m c 2 t) s n = resAt (argX m c) (argH m c) (argW m c) (row t s) n := by
  unfold res resAt
  rw [one_word, EReal.coe_one, one_mul]
  refine congrArg₂ (fun x y : EReal => x + y) (congrArg (fun x : EReal => _ * x) (blk_h m c t s n)) ?_
  exact Finset.sum_congr rfl fun k _ => congrArg₂ (fun x y : EReal => x * y) (blk_x m c t s k) (blk_w m c t k n)

theorem emb_norm (t : Fin cfg0.N) (s : Fin 512) (n : Fin 1024) :
    (((cfg0.win 5).blk t).view.emb (ix2 s n) : S8192x1024.Idx) = ix2 (row t s) n := by
  blk_ext [idx t]
  all_goals (simp only [row]; omega)

theorem emb_res (t : Fin cfg0.N) (s : Fin 512) (n : Fin 1024) :
    (((cfg0.win 6).blk t).view.emb (ix2 s n) : S8192x1024.Idx) = ix2 (row t s) n := by
  blk_ext [idx t]
  all_goals (simp only [row]; omega)

theorem point_res (t : Fin cfg0.N) (y : S512x1024.Idx) : (dats m 0 c).after 6 t y
    = resAll (argX m c) (argH m c) (argW m c) (((cfg0.win 6).blk t).view.emb y) := by
  idx_vars y
  rw [after0_6]
  refine (out6_apply _ _ _ _ _ y0 y1).trans ((res_eq m c t y0 y1).trans ?_)
  exact (congrArg (resAll (argX m c) (argH m c) (argW m c)) (emb_res t y0 y1)).symm

theorem point_norm (t : Fin cfg0.N) (y : S512x1024.Idx) : (dats m 0 c).after 5 t y
    = normAll (argX m c) (argH m c) (argW m c) (argS m c) (argB m c) (((cfg0.win 5).blk t).view.emb y) := by
  idx_vars y
  rw [after0_5]
  refine (out5_apply _ _ _ _ _ y0 y1).trans ?_
  refine Eq.trans ?_ (congrArg (normAll (argX m c) (argH m c) (argW m c) (argS m c) (argB m c)) (emb_norm t y0 y1)).symm
  have e0 : res (iblk m c 0 t) (iblk m c 1 t) (iblk m c 2 t) y0 = resAt (argX m c) (argH m c) (argW m c) (row t y0) :=
    funext fun k => res_eq m c t y0 k
  have e1 : (fun k => iblk m c 3 t (ix2 0 k)) = fun k => argS m c (ix2 0 k) := funext fun k => blk_scale m c t k
  have e2 : (fun k => iblk m c 4 t (ix2 0 k)) = fun k => argB m c (ix2 0 k) := funext fun k => blk_shift m c t k
  exact congr (congr (congr (congrArg ln e0) e1) e2) rfl

/-- The arrays after the run. -/
theorem arr_res : (dats m 0 c).arrAt 6 cfg0.N = resAll (argX m c) (argH m c) (argW m c) := by
  refine (dats m 0 c).arrAt_eq_of_covers 6 _ (by decide +kernel) fun t _ y => ?_
  blk_simp
  exact point_res m c t y

theorem arr_norm : (dats m 0 c).arrAt 5 cfg0.N = normAll (argX m c) (argH m c) (argW m c) (argS m c) (argB m c) := by
  refine (dats m 0 c).arrAt_eq_of_covers 5 _ (by decide +kernel) fun t _ y => ?_
  blk_simp
  exact point_norm m c t y

/-! ## The reference -/

section

open Cert.Reference10Ideal.Read

variable (x : FVec Ideal S8192x1536 .f32) (h : FVec Ideal S8192x1024 .f32) (w : FVec Ideal S1536x1024 .f32) (g b : FVec Ideal S1x1024 .f32)

/-- The reference's residual sum is the kernel's. -/
theorem ref_resAt (s : Fin 8192) (n : Fin 1024) : val_main_v3 (F := Ideal) x h w (ix2 s n) = resAt x h w s n := by
  pointwise [val_main_v3, val_main_v2, val_main_v1, val_main_v0, val_main_cst, resAt]

theorem ref_res : val_main_v3 (F := Ideal) x h w = resAll x h w := by
  funext i
  idx_vars i
  exact ref_resAt x h w i0 i1

theorem ref_mean (s : Fin 8192) : val_main_v7 (F := Ideal) x h w (ix2 s 0) = mean (fun k => val_main_v3 (F := Ideal) x h w (ix2 s k)) := by
  pointwise [val_main_v7, val_main_v6, val_main_v5, val_main_v4, val_main_cst_0, val_main_cst_1]
  rfl

theorem ref_var (s : Fin 8192) : val_main_v14 (F := Ideal) x h w (ix2 s 0)
    = mean (fun k => (val_main_v3 (F := Ideal) x h w (ix2 s k) - val_main_v7 (F := Ideal) x h w (ix2 s 0))
        * (val_main_v3 (F := Ideal) x h w (ix2 s k) - val_main_v7 (F := Ideal) x h w (ix2 s 0))) := by
  pointwise [val_main_v14, val_main_v13, val_main_v12, val_main_v11, val_main_cst_2, val_main_cst_3, val_main_v10, val_main_v9, val_main_v8]
  rfl

/-- The reference's layer norm is the kernel's. -/
theorem ref_norm : val_main_v25 (F := Ideal) x h w g b = normAll x h w g b := by
  funext i
  idx_vars i
  have e : val_main_v25 (F := Ideal) x h w g b (ix2 i0 i1)
      = (val_main_v3 (F := Ideal) x h w (ix2 i0 i1) - val_main_v7 (F := Ideal) x h w (ix2 i0 0))
        * Ideal.rsqrt (val_main_v14 (F := Ideal) x h w (ix2 i0 0) + Ideal.ofBits .f32 0x3727C5AC#32)
        * g (ix2 0 i1) + b (ix2 0 i1) := by
    pointwise [val_main_v25, val_main_v24, val_main_v23, val_main_v22, val_main_v21, val_main_v20, val_main_v19, val_main_v18,
      val_main_v17, val_main_cst_4, val_main_v16, val_main_v15]
  have z : (fun k => val_main_v3 (F := Ideal) x h w (ix2 i0 k)) = resAt x h w i0 := funext fun k => ref_resAt x h w i0 k
  rw [e, ref_var, ref_mean, z]
  simp only [ref_resAt]
  rfl

end

end Cert.MixOutFwd
-- ==== Proof.MixerResults.lean ====
/-
The mixer's five projection calls against their references, each from the runs of the two programs.
-/
module

public import proofs.«01_k».proof.Defs
public import proofs.«01_k».proof.Proof.Mixer
public import proofs.«01_k».proof.Proof.MixOutW
public import proofs.«01_k».proof.Proof.MixOutX
public import proofs.«01_k».proof.Proof.MixInX
public import proofs.«01_k».proof.Proof.MixInW
public import proofs.«01_k».proof.Proof.MixOutFwd
public import Idealize.ShloMosaic.Adequacy
public import Idealize.ShloMosaic.Init

@[expose] public section

noncomputable section

namespace Cert.MixerResults

open Idealize.ShloMosaic Idealize.SL.Sem Idealize.ShloMosaic.TcCoe

theorem frame_reference6 : quiescent_Reference6Ideal := fun m g _ =>
  θ_run_mono (Cert.Reference6Ideal.Value.run m g) fun r h =>
    ⟨fun c => (h c).2, sem_eq_zero_of_no_sems rfl r.2⟩

theorem frame_reference7 : quiescent_Reference7Ideal := fun m g _ =>
  θ_run_mono (Cert.Reference7Ideal.Value.run m g) fun r h =>
    ⟨fun c => (h c).2, sem_eq_zero_of_no_sems rfl r.2⟩

theorem frame_reference8 : quiescent_Reference8Ideal := fun m g _ =>
  θ_run_mono (Cert.Reference8Ideal.Value.run m g) fun r h =>
    ⟨fun c => (h c).2, sem_eq_zero_of_no_sems rfl r.2⟩

theorem frame_reference9 : quiescent_Reference9Ideal := fun m g _ =>
  θ_run_mono (Cert.Reference9Ideal.Value.run m g) fun r h =>
    ⟨fun c => (h c).2, sem_eq_zero_of_no_sems rfl r.2⟩

theorem frame_reference10 : quiescent_Reference10Ideal := fun m g _ =>
  θ_run_mono (Cert.Reference10Ideal.Value.run m g) fun r h =>
    ⟨fun c => (h c).2.2, sem_eq_zero_of_no_sems rfl r.2⟩

/-- The output weights' gradient. -/
theorem values6 : algebraic_Kernel6Ideal_Reference6Ideal := by
  intro m g m' g' _ hagree
  refine ⟨fun c => Cert.MixOutW.dwAll (Cert.MixOutW.argX m c) (Cert.MixOutW.argC m c),
    θ_run_mono (Cert.Kernel6Ideal.Value.run_blocks m g) fun r h c => ?_,
    θ_run_mono (Cert.Reference6Ideal.Value.run m' g') fun r h c => ?_⟩
  · obtain ⟨h0, hr⟩ := h c
    exact ⟨h0.trans (Cert.MixOutW.arr_out m c), hr⟩
  · obtain ⟨h0, hr⟩ := h c
    obtain ⟨e0, e1, e2, e3⟩ := hagree c
    refine ⟨(h0.trans (Cert.Reference6Ideal.Read.val_main_v5_eq _ _)).trans ?_, hr⟩
    rw [e0, e3]
    exact Cert.MixOutW.ref_out _ _

/-- The mixed heads' gradient. -/
theorem values7 : algebraic_Kernel7Ideal_Reference7Ideal := by
  intro m g m' g' _ hagree
  refine ⟨fun c => Cert.MixOutX.dxAll (Cert.MixOutX.argW m c) (Cert.MixOutX.argC m c),
    θ_run_mono (Cert.Kernel7Ideal.Value.run_blocks m g) fun r h c => ?_,
    θ_run_mono (Cert.Reference7Ideal.Value.run m' g') fun r h c => ?_⟩
  · obtain ⟨h0, hr⟩ := h c
    exact ⟨h0.trans (Cert.MixOutX.arr_out m c), hr⟩
  · obtain ⟨h0, hr⟩ := h c
    obtain ⟨e0, e1, e2, e3⟩ := hagree c
    refine ⟨(h0.trans (Cert.Reference7Ideal.Read.val_main_v4_eq _ _)).trans ?_, hr⟩
    rw [e2, e3]
    exact Cert.MixOutX.ref_out _ _

/-- The mixer's input's gradient. -/
theorem values8 : algebraic_Kernel8Ideal_Reference8Ideal := by
  intro m g m' g' _ hagree
  refine ⟨fun c => Cert.MixInX.dxAll (Cert.MixInX.argW m c) (Cert.MixInX.argR m c) (Cert.MixInX.argD m c),
    θ_run_mono (Cert.Kernel8Ideal.Value.run_blocks m g) fun r h c => ?_,
    θ_run_mono (Cert.Reference8Ideal.Value.run m' g') fun r h c => ?_⟩
  · obtain ⟨h0, hr⟩ := h c
    exact ⟨h0.trans (Cert.MixInX.arr_out m c), hr⟩
  · obtain ⟨h0, hr⟩ := h c
    obtain ⟨e0, e1, e2, e3⟩ := hagree c
    refine ⟨(h0.trans (Cert.Reference8Ideal.Read.val_main_v6_eq _ _ _)).trans ?_, hr⟩
    rw [e1, e2, e3]
    exact Cert.MixInX.ref_out _ _ _

/-- The input weights' gradient. -/
theorem values9 : algebraic_Kernel9Ideal_Reference9Ideal := by
  intro m g m' g' _ hagree
  refine ⟨fun c => Cert.MixInW.dwAll (Cert.MixInW.argH m c) (Cert.MixInW.argD m c),
    θ_run_mono (Cert.Kernel9Ideal.Value.run_blocks m g) fun r h c => ?_,
    θ_run_mono (Cert.Reference9Ideal.Value.run m' g') fun r h c => ?_⟩
  · obtain ⟨h0, hr⟩ := h c
    exact ⟨h0.trans (Cert.MixInW.arr_out m c), hr⟩
  · obtain ⟨h0, hr⟩ := h c
    obtain ⟨e0, e1, e2, e3⟩ := hagree c
    refine ⟨(h0.trans (Cert.Reference9Ideal.Read.val_main_v5_eq _ _)).trans ?_, hr⟩
    rw [e0, e3]
    exact Cert.MixInW.ref_out _ _

/-- The output projection's normalised output and its residual sum. -/
theorem values10 : algebraic_Kernel10Ideal_Reference10Ideal := by
  intro m g m' g' _ hagree
  refine ⟨fun c => Cert.MixOutFwd.normAll (Cert.MixOutFwd.argX m c) (Cert.MixOutFwd.argH m c) (Cert.MixOutFwd.argW m c)
      (Cert.MixOutFwd.argS m c) (Cert.MixOutFwd.argB m c),
    fun c => Cert.MixOutFwd.resAll (Cert.MixOutFwd.argX m c) (Cert.MixOutFwd.argH m c) (Cert.MixOutFwd.argW m c),
    θ_run_mono (Cert.Kernel10Ideal.Value.run_blocks m g) fun r h c => ?_,
    θ_run_mono (Cert.Reference10Ideal.Value.run m' g') fun r h c => ?_⟩
  · obtain ⟨h0, h1, -, hr⟩ := h c
    exact ⟨h0.trans (Cert.MixOutFwd.arr_norm m c), h1.trans (Cert.MixOutFwd.arr_res m c), hr⟩
  · obtain ⟨h0, h1, hr⟩ := h c
    obtain ⟨e0, e1, e2, e3, e4⟩ := hagree c
    refine ⟨(h0.trans (Cert.Reference10Ideal.Read.val_main_v25_eq _ _ _ _ _)).trans ?_,
      (h1.trans (Cert.Reference10Ideal.Read.val_main_v3_eq _ _ _)).trans ?_, hr⟩
    · rw [e0, e1, e2, e3, e4]
      exact Cert.MixOutFwd.ref_norm _ _ _ _ _
    · rw [e0, e1, e2]
      exact Cert.MixOutFwd.ref_res _ _ _

end Cert.MixerResults
-- ==== Proof.Update.lean ====
/-
The programs of the layer norms' gradients, the loss and the optimiser: their frames, values and readings.
-/
module

public import proofs.«01_k».proof.Proof.Gen.Kernel11.Frame
public import proofs.«01_k».proof.Proof.Gen.Kernel11Ideal.Value
public import proofs.«01_k».proof.Proof.Gen.Reference11Ideal.Read
public import proofs.«01_k».proof.Proof.Gen.Kernel12.Frame
public import proofs.«01_k».proof.Proof.Gen.Kernel12Ideal.Value
public import proofs.«01_k».proof.Proof.Gen.Reference12Ideal.Read
public import proofs.«01_k».proof.Proof.Gen.Kernel13.Frame
public import proofs.«01_k».proof.Proof.Gen.Kernel13Ideal.Value
public import proofs.«01_k».proof.Proof.Gen.Reference13Ideal.Read
public import proofs.«01_k».proof.Proof.Gen.Kernel14.Frame
public import proofs.«01_k».proof.Proof.Gen.Kernel14Ideal.Value
public import proofs.«01_k».proof.Proof.Gen.Reference14Ideal.Read
-- ==== Proof.NormMath.lean ====
/-
The gradient of a layer norm, row by row, and the loss of a layer norm's row, over the extended reals.
-/
module

public import proofs.«01_k».proof.Proof.FfnMath
public import Idealize.ShloMosaic.Lib.Pipeline.ValueKit
public import Idealize.ShloMosaic.Lib.Claim

@[expose] public section

noncomputable section

namespace Cert.Norm

open Idealize.ShloMosaic
open scoped BigOperators

variable (x g d : Fin 1024 → EReal)

/-- A row's mean. -/
def mean : EReal := Ideal.div (∑ k, x k) (Ideal.ofBits .f32 0x44800000#32)

/-- A feature less the mean. -/
def cen (n : Fin 1024) : EReal := x n - mean x

/-- The variance and the small constant. -/
def vare : EReal := mean (fun k => cen x k * cen x k) + Ideal.ofBits .f32 0x3727C5AC#32

/-- One over its root. -/
def rs : EReal := Ideal.rsqrt (vare x)

/-- The gradient through the feature itself, of the upstream row `d` and the scale `g`. -/
def dir (n : Fin 1024) : EReal := d n * g n * rs x

/-- The gradient of the variance. -/
def dvar : EReal := (∑ k, cen x k * (d k * g k)) * (Ideal.ofBits .f32 0xBF000000#32 * Ideal.div (rs x) (vare x))

/-- The gradient through the variance. -/
def via (n : Fin 1024) : EReal := Ideal.div (dvar x g d) (Ideal.ofBits .f32 0x44800000#32) * (Ideal.ofBits .f32 0x40000000#32 * cen x n)

/-- The gradient of the row. -/
def dx (n : Fin 1024) : EReal :=
  dir x g d n + via x g d n + Ideal.div ((∑ k, -dir x g d k) + ∑ k, -via x g d k) (Ideal.ofBits .f32 0x44800000#32)

/-- The row's share of the scale's gradient. -/
def dscale (n : Fin 1024) : EReal := cen x n * rs x * d n

section

variable (b t : Fin 1024 → EReal)

/-- The layer norm less the target. -/
def err (n : Fin 1024) : EReal := cen x n * rs x * g n + b n - t n

/-- The loss's gradient of the layer norm. -/
def up (n : Fin 1024) : EReal :=
  Ideal.div (Ideal.ofBits .f32 0x3F000000#32 * Ideal.ofBits .f32 0x3F800000#32) (Ideal.ofBits .f32 0x44800000#32)
    * (Ideal.ofBits .f32 0x40000000#32 * err x g b t n)

/-- The row's mean square error. -/
def sq : EReal := Ideal.div (∑ k, err x g b t k * err x g b t k) (Ideal.ofBits .f32 0x44800000#32)

end

/-- Half a sum is the sum of the halves. -/
theorem half_sum {n : ℕ} (f : Fin n → EReal) :
    Ideal.ofBits .f32 0x3F000000#32 * ∑ k, f k = ∑ k, Ideal.ofBits .f32 0x3F000000#32 * f k := by
  rw [Cert.Ffn.half_word]
  have h0 : (0 : EReal) ≤ ((1 / 2 : ℝ) : EReal) := EReal.coe_nonneg.mpr (by norm_num)
  exact map_sum (⟨⟨fun a => ((1 / 2 : ℝ) : EReal) * a, mul_zero _⟩,
    fun a b => EReal.left_distrib_of_nonneg_of_ne_top h0 (EReal.coe_ne_top _) a b⟩ : EReal →+ EReal) f Finset.univ

/-- Zero less a number. -/
theorem zero_less (a : EReal) : Ideal.ofBits .f32 0x00000000#32 - a = -a := by
  rw [show Ideal.ofBits .f32 0x00000000#32 = 0 from by simp, zero_sub]

end Cert.Norm
-- ==== Proof.NormBwd.lean ====
/-
The gradient of a layer norm, 512 tokens a step: of the rows, and of the scale and the shift, summed over the steps.
-/
module

public import proofs.«01_k».proof.Proof.NormMath
public import proofs.«01_k».proof.Proof.MixMath
public import proofs.«01_k».proof.Proof.Gen.Kernel11Ideal.Value
public import proofs.«01_k».proof.Proof.Gen.Reference11Ideal.Read
public import Idealize.ShloMosaic.Lib.Pipeline.ReadBack

@[expose] public section

set_option maxRecDepth 16384

noncomputable section

namespace Cert.NormBwd

open Cert.Kernel11Ideal Cert.Kernel11Ideal.Gen Cert.Norm Idealize.ShloMosaic Idealize.ShloMosaic.TcCoe
open scoped BigOperators

/-! ## A step's block -/

section

variable (r d : Vec Ideal S512x1024 .f32) (g : Vec Ideal S1x1024 .f32) (s : Fin 512) (n : Fin 1024)

theorem pay_mean : k0_pay5 r (ix2 s 0) = mean (fun k => r (ix2 s k)) := by
  pointwise [k0_pay5, mean]

theorem pay_cen : k0_pay6 r (ix2 s n) = cen (fun k => r (ix2 s k)) n := by
  unfold cen
  rw [← pay_mean]
  pointwise [k0_pay6]

theorem pay_cen' : k0_pay8 r (ix2 s n) = cen (fun k => r (ix2 s k)) n := by
  unfold cen
  rw [← pay_mean]
  pointwise [k0_pay8]

theorem pay_var : k0_pay9 r (ix2 s 0) = vare (fun k => r (ix2 s k)) := by
  unfold vare
  simp only [← pay_cen]
  pointwise [k0_pay9, mean]

theorem pay_rs : k0_pay10 r (ix2 s 0) = rs (fun k => r (ix2 s k)) := by
  unfold rs
  rw [← pay_var]
  pointwise [k0_pay10]

theorem pay_scaled : k0_pay14 d g (ix2 s n) = d (ix2 s n) * g (ix2 0 n) := by
  pointwise [k0_pay14, k0_pay11]

theorem pay_dir : k0_pay15 r d g (ix2 s n) = dir (fun k => r (ix2 s k)) (fun k => g (ix2 0 k)) (fun k => d (ix2 s k)) n := by
  unfold dir
  rw [← pay_rs, ← pay_scaled]
  pointwise [k0_pay15]

theorem pay_dvar : k0_pay16 r d g (ix2 s 0) = dvar (fun k => r (ix2 s k)) (fun k => g (ix2 0 k)) (fun k => d (ix2 s k)) := by
  have e : k0_pay16 r d g (ix2 s 0) = (∑ k : Fin 1024, k0_pay8 r (ix2 s k) * k0_pay14 d g (ix2 s k))
      * (Ideal.ofBits .f32 0xBF000000#32 * Ideal.div (k0_pay10 r (ix2 s 0)) (k0_pay9 r (ix2 s 0))) := by
    pointwise [k0_pay16]
  rw [e]
  simp only [pay_rs, pay_scaled, pay_cen', pay_var]
  rfl

theorem pay_neg : k0_pay17 r d g (ix2 s n) = -dir (fun k => r (ix2 s k)) (fun k => g (ix2 0 k)) (fun k => d (ix2 s k)) n := by
  rw [← pay_dir, ← zero_less]
  pointwise [k0_pay17]

theorem pay_two : k0_pay7 r (ix2 s n) = Ideal.ofBits .f32 0x40000000#32 * cen (fun k => r (ix2 s k)) n := by
  rw [← pay_cen]
  pointwise [k0_pay7]

theorem pay_dx : k0_pay1 (k0_pay7 r) (k0_pay15 r d g) (k0_pay16 r d g) (k0_pay17 r d g) (ix2 s n)
    = dx (fun k => r (ix2 s k)) (fun k => g (ix2 0 k)) (fun k => d (ix2 s k)) n := by
  have e (u w : FVec Ideal S512x1024 .f32) (z : FVec Ideal S512x1 .f32) (q : FVec Ideal S512x1024 .f32) : k0_pay1 u w z q (ix2 s n)
      = w (ix2 s n) + Ideal.div (z (ix2 s 0)) (Ideal.ofBits .f32 0x44800000#32) * u (ix2 s n)
        + Ideal.div ((∑ k : Fin 1024, q (ix2 s k)) + ∑ k : Fin 1024, (0
            - Ideal.div (z (ix2 s 0)) (Ideal.ofBits .f32 0x44800000#32) * u (ix2 s k))) (Ideal.ofBits .f32 0x44800000#32) := by
    pointwise [k0_pay1]
    simp only [Fin.sum_univ_one]
  rw [e]
  simp only [pay_dir, pay_dvar, pay_neg, pay_two, zero_sub]
  rfl

theorem pay_scale : k0_pay13 r d (ix2 0 n) = ∑ s : Fin 512, dscale (fun k => r (ix2 s k)) (fun k => d (ix2 s k)) n := by
  unfold dscale
  simp only [← pay_rs, ← pay_cen']
  pointwise [k0_pay13, k0_pay11]

theorem pay_shift : k0_pay12 d (ix2 0 n) = ∑ s : Fin 512, d (ix2 s n) := by
  pointwise [k0_pay12]

theorem pay_scale_add (z : Vec Ideal S1x1024 .f32) : k0_pay3 (k0_pay13 r d) z (ix2 0 n)
    = z (ix2 0 n) + ∑ s : Fin 512, dscale (fun k => r (ix2 s k)) (fun k => d (ix2 s k)) n := by
  rw [← pay_scale]
  pointwise [k0_pay3]

theorem pay_shift_add (z : Vec Ideal S1x1024 .f32) : k0_pay4 (k0_pay12 d) z (ix2 0 n) = z (ix2 0 n) + ∑ s : Fin 512, d (ix2 s n) := by
  rw [← pay_shift]
  pointwise [k0_pay4]

end

/-! ## The arrays the call reads -/

variable (m : (ℓ : Loc nD τ sig) → Buf (Elt Ideal) ℓ) (c : Dev nD)

abbrev argR : FVec Ideal S8192x1024 .f32 := m ((c : Thread nD τ).loc main_arg0)
abbrev argS : FVec Ideal S1x1024 .f32 := m ((c : Thread nD τ).loc main_arg1)
abbrev argD : FVec Ideal S8192x1024 .f32 := m ((c : Thread nD τ).loc main_arg3)

theorem idx : ∀ t : Fin cfg0.N, win0_0.index t = ![t.val, 0] ∧ win0_1.index t = ![t.val, 0] ∧ win0_2.index t = ![0, 0]
    ∧ win0_4.index t = ![t.val, 0] ∧ win0_6.index t = ![0, 0] ∧ win0_7.index t = ![0, 0] :=
  (by decide +kernel : ∀ t : Fin grid0.N, _)

/-- Row `s` of step `t`'s block. -/
def row (t : Fin cfg0.N) (s : Fin 512) : Fin 8192 := ⟨512 * t + s, by have := lt_of_lt_of_eq t.isLt N_0; omega⟩

theorem blk_r (t : Fin cfg0.N) (s : Fin 512) (n : Fin 1024) : iblk m c 0 t (ix2 s n) = argR m c (ix2 (row t s) n) := by
  unfold iblk
  rw [V_main_arg0]
  blk_ext [idx t]
  all_goals (simp only [row]; omega)

theorem blk_d (t : Fin cfg0.N) (s : Fin 512) (n : Fin 1024) : iblk m c 1 t (ix2 s n) = argD m c (ix2 (row t s) n) := by
  unfold iblk
  rw [V_main_arg3]
  blk_ext [idx t]
  all_goals (simp only [row]; omega)

theorem blk_g (t : Fin cfg0.N) (n : Fin 1024) : iblk m c 2 t (ix2 0 n) = argS m c (ix2 0 n) := by
  unfold iblk
  rw [V_main_arg1]
  blk_ext [idx t]
  all_goals omega

theorem rows_r (t : Fin cfg0.N) (s : Fin 512) : (fun k => iblk m c 0 t (ix2 s k)) = fun k => argR m c (ix2 (row t s) k) :=
  funext fun k => blk_r m c t s k

theorem rows_d (t : Fin cfg0.N) (s : Fin 512) : (fun k => iblk m c 1 t (ix2 s k)) = fun k => argD m c (ix2 (row t s) k) :=
  funext fun k => blk_d m c t s k

theorem rows_g (t : Fin cfg0.N) : (fun k => iblk m c 2 t (ix2 0 k)) = fun k => argS m c (ix2 0 k) :=
  funext fun k => blk_g m c t k

/-! ## The rows' gradient -/

/-- The gradient of the rows. -/
def dxAll (r : FVec Ideal S8192x1024 .f32) (g : FVec Ideal S1x1024 .f32) (d : FVec Ideal S8192x1024 .f32) (i : S8192x1024.Idx) : EReal :=
  dx (fun k => r (ix2 (i 0) k)) (fun k => g (ix2 0 k)) (fun k => d (ix2 (i 0) k)) (i 1)

theorem step_dx (t : Fin cfg0.N) (s : Fin 512) (n : Fin 1024) : (outsAt0 m c t.val t.isLt).1 (ix2 s n)
    = dxAll (argR m c) (argS m c) (argD m c) (ix2 (row t s) n) := by
  have hN := lt_of_lt_of_eq t.isLt N_0
  have e : (outsAt0 m c t.val t.isLt).1 (ix2 s n) = dx (fun k => iblk m c 0 t (ix2 s k)) (fun k => iblk m c 2 t (ix2 0 k)) (fun k => iblk m c 1 t (ix2 s k)) n := by
    by_cases h : t.val % 16 = 0
    · rw [outsAt0_A m c t h (by omega)]
      frame_out
      exact pay_dx _ _ _ s n
    · rw [outsAt0_B m c t h (by omega)]
      frame_out
      exact pay_dx _ _ _ s n
  rw [e, rows_r, rows_d, rows_g]
  rfl

theorem emb_dx (t : Fin cfg0.N) (s : Fin 512) (n : Fin 1024) :
    (((cfg0.win 4).blk t).view.emb (ix2 s n) : S8192x1024.Idx) = ix2 (row t s) n := by
  blk_ext [idx t]
  all_goals (simp only [row]; omega)

theorem point_dx (t : Fin cfg0.N) (y : S512x1024.Idx) : (dats m 0 c).after 4 t y
    = dxAll (argR m c) (argS m c) (argD m c) (((cfg0.win 4).blk t).view.emb y) := by
  idx_vars y
  rw [after0_4]
  refine (step_dx m c t y0 y1).trans ?_
  exact (congrArg (dxAll (argR m c) (argS m c) (argD m c)) (emb_dx t y0 y1)).symm

/-- The array after the run. -/
theorem arr_dx : (dats m 0 c).arrAt 4 cfg0.N = dxAll (argR m c) (argS m c) (argD m c) := by
  refine (dats m 0 c).arrAt_eq_of_covers 4 _ (by decide +kernel) fun t _ y => ?_
  blk_simp
  exact point_dx m c t y

/-! ## The scale's and the shift's gradients -/

/-- A token's share of the scale's gradient. -/
def scaleAt (r d : FVec Ideal S8192x1024 .f32) (n : Fin 1024) (s : Fin 8192) : EReal :=
  dscale (fun k => r (ix2 s k)) (fun k => d (ix2 s k)) n

/-- The gradient of the scale. -/
def scaleAll (r d : FVec Ideal S8192x1024 .f32) (i : S1x1024.Idx) : EReal := ∑ s : Fin 8192, scaleAt r d (i 1) s

/-- A token's share of the shift's gradient. -/
def shiftAt (d : FVec Ideal S8192x1024 .f32) (n : Fin 1024) (s : Fin 8192) : EReal := d (ix2 s n)

/-- The gradient of the shift. -/
def shiftAll (d : FVec Ideal S8192x1024 .f32) (i : S1x1024.Idx) : EReal := ∑ s : Fin 8192, shiftAt d (i 1) s

theorem blk_scale (t : Fin cfg0.N) (n : Fin 1024) : (∑ s : Fin 512, dscale (fun k => iblk m c 0 t (ix2 s k)) (fun k => iblk m c 1 t (ix2 s k)) n)
    = ∑ s : Fin 512, scaleAt (argR m c) (argD m c) n (row t s) := by
  refine Finset.sum_congr rfl fun s _ => ?_
  rw [rows_r, rows_d]
  rfl

theorem blk_shift (t : Fin cfg0.N) (n : Fin 1024) : (∑ s : Fin 512, iblk m c 1 t (ix2 s n) : EReal)
    = ∑ s : Fin 512, shiftAt (argD m c) n (row t s) :=
  Finset.sum_congr rfl fun s _ => blk_d m c t s n

theorem first_scale (t : Fin cfg0.N) (h : t.val % 16 = 0) (n : Fin 1024) : (outsAt0 m c t.val t.isLt).2.2.1 (ix2 0 n)
    = ∑ s : Fin 512, scaleAt (argR m c) (argD m c) n (row t s) := by
  have hN := lt_of_lt_of_eq t.isLt N_0
  rw [← blk_scale, outsAt0_A m c t h (by omega)]
  frame_out
  exact pay_scale _ _ n

theorem first_shift (t : Fin cfg0.N) (h : t.val % 16 = 0) (n : Fin 1024) : (outsAt0 m c t.val t.isLt).2.2.2 (ix2 0 n)
    = ∑ s : Fin 512, shiftAt (argD m c) n (row t s) := by
  have hN := lt_of_lt_of_eq t.isLt N_0
  rw [← blk_shift, outsAt0_A m c t h (by omega)]
  frame_out
  exact pay_shift _ n

theorem next_scale (t : Fin cfg0.N) (h : ¬ t.val % 16 = 0) (n : Fin 1024) : (outsAt0 m c t.val t.isLt).2.2.1 (ix2 0 n)
    = (outsAt0 m c (t.val - 1) (Nat.lt_of_le_of_lt (Nat.sub_le _ _) t.isLt)).2.2.1 (ix2 0 n)
      + ∑ s : Fin 512, scaleAt (argR m c) (argD m c) n (row t s) := by
  have hN := lt_of_lt_of_eq t.isLt N_0
  rw [← blk_scale, outsAt0_B m c t h (by omega)]
  frame_out
  exact pay_scale_add _ _ n _

theorem next_shift (t : Fin cfg0.N) (h : ¬ t.val % 16 = 0) (n : Fin 1024) : (outsAt0 m c t.val t.isLt).2.2.2 (ix2 0 n)
    = (outsAt0 m c (t.val - 1) (Nat.lt_of_le_of_lt (Nat.sub_le _ _) t.isLt)).2.2.2 (ix2 0 n)
      + ∑ s : Fin 512, shiftAt (argD m c) n (row t s) := by
  have hN := lt_of_lt_of_eq t.isLt N_0
  rw [← blk_shift, outsAt0_B m c t h (by omega)]
  frame_out
  exact pay_shift_add _ n _

/-- The sixteen steps' tokens are all the tokens. -/
theorem all_steps (f : Fin 8192 → EReal) (n : ℕ) (hn : n < cfg0.N) (h : n = 15) :
    (∑ j : Fin (n + 1), ∑ s : Fin 512, f (row ⟨j, by omega⟩ s)) = ∑ s : Fin 8192, f s := by
  subst h
  rw [Cert.Mix.sum_blocks]
  exact Finset.sum_congr rfl fun j _ => Finset.sum_congr rfl fun s _ => rfl

/-- A step leaves the sum of the steps so far. -/
theorem upto_scale (k : Fin 1024) : ∀ (n : ℕ) (hn : n < cfg0.N),
    (outsAt0 m c n hn).2.2.1 (ix2 0 k) = ∑ j : Fin (n + 1), ∑ s : Fin 512, scaleAt (argR m c) (argD m c) k (row ⟨j, by omega⟩ s)
  | 0, hn => (first_scale m c ⟨0, hn⟩ rfl k).trans
      (Fin.sum_univ_one fun j : Fin 1 => ∑ s : Fin 512, scaleAt (argR m c) (argD m c) k (row ⟨j, by omega⟩ s)).symm
  | n + 1, hn => by
    have hN := lt_of_lt_of_eq hn N_0
    refine (next_scale m c ⟨n + 1, hn⟩ (by dsimp only; omega) k).trans ?_
    refine Eq.trans ?_ (Fin.sum_univ_castSucc fun j : Fin (n + 1 + 1) => ∑ s : Fin 512, scaleAt (argR m c) (argD m c) k (row ⟨j, by omega⟩ s)).symm
    exact congrArg (fun x : EReal => x + _) (upto_scale k n (by omega))

/-- The last step leaves the whole sum. -/
theorem last_scale (t : Fin cfg0.N) (h : t.val % 16 = 15) (k : Fin 1024) :
    (outsAt0 m c t.val t.isLt).2.2.1 (ix2 0 k) = scaleAll (argR m c) (argD m c) (ix2 0 k) := by
  have hN := lt_of_lt_of_eq t.isLt N_0
  exact (upto_scale m c k t.val t.isLt).trans (all_steps (scaleAt (argR m c) (argD m c) k) t.val t.isLt (by omega))

theorem emb_scale (t : Fin cfg0.N) (k : Fin 1024) : (((cfg0.win 6).blk t).view.emb (ix2 0 k) : S1x1024.Idx) = ix2 0 k := by
  blk_ext [idx t]
  all_goals omega

theorem point_scale (t : Fin cfg0.N) (h : t.val % 16 = 15) (y : S1x1024.Idx) : (dats m 0 c).after 6 t y
    = scaleAll (argR m c) (argD m c) (((cfg0.win 6).blk t).view.emb y) := by
  idx_vars y
  rw [after0_6, Subsingleton.elim y0 0]
  refine (last_scale m c t h y1).trans ?_
  exact (congrArg (scaleAll (argR m c) (argD m c)) (emb_scale t y1)).symm

/-- The array after the run. -/
theorem arr_scale : (dats m 0 c).arrAt 6 cfg0.N = scaleAll (argR m c) (argD m c) := by
  refine (dats m 0 c).arrAt_eq_of_covers 6 _ (by decide +kernel) fun t hf y => ?_
  blk_simp
  exact point_scale m c t ((flush0_6 t).mp hf) y

/-- A step leaves the sum of the steps so far. -/
theorem upto_shift (k : Fin 1024) : ∀ (n : ℕ) (hn : n < cfg0.N),
    (outsAt0 m c n hn).2.2.2 (ix2 0 k) = ∑ j : Fin (n + 1), ∑ s : Fin 512, shiftAt (argD m c) k (row ⟨j, by omega⟩ s)
  | 0, hn => (first_shift m c ⟨0, hn⟩ rfl k).trans
      (Fin.sum_univ_one fun j : Fin 1 => ∑ s : Fin 512, shiftAt (argD m c) k (row ⟨j, by omega⟩ s)).symm
  | n + 1, hn => by
    have hN := lt_of_lt_of_eq hn N_0
    refine (next_shift m c ⟨n + 1, hn⟩ (by dsimp only; omega) k).trans ?_
    refine Eq.trans ?_ (Fin.sum_univ_castSucc fun j : Fin (n + 1 + 1) => ∑ s : Fin 512, shiftAt (argD m c) k (row ⟨j, by omega⟩ s)).symm
    exact congrArg (fun x : EReal => x + _) (upto_shift k n (by omega))

/-- The last step leaves the whole sum. -/
theorem last_shift (t : Fin cfg0.N) (h : t.val % 16 = 15) (k : Fin 1024) :
    (outsAt0 m c t.val t.isLt).2.2.2 (ix2 0 k) = shiftAll (argD m c) (ix2 0 k) := by
  have hN := lt_of_lt_of_eq t.isLt N_0
  exact (upto_shift m c k t.val t.isLt).trans (all_steps (shiftAt (argD m c) k) t.val t.isLt (by omega))

theorem emb_shift (t : Fin cfg0.N) (k : Fin 1024) : (((cfg0.win 7).blk t).view.emb (ix2 0 k) : S1x1024.Idx) = ix2 0 k := by
  blk_ext [idx t]
  all_goals omega

theorem point_shift (t : Fin cfg0.N) (h : t.val % 16 = 15) (y : S1x1024.Idx) : (dats m 0 c).after 7 t y
    = shiftAll (argD m c) (((cfg0.win 7).blk t).view.emb y) := by
  idx_vars y
  rw [after0_7, Subsingleton.elim y0 0]
  refine (last_shift m c t h y1).trans ?_
  exact (congrArg (shiftAll (argD m c)) (emb_shift t y1)).symm

/-- The array after the run. -/
theorem arr_shift : (dats m 0 c).arrAt 7 cfg0.N = shiftAll (argD m c) := by
  refine (dats m 0 c).arrAt_eq_of_covers 7 _ (by decide +kernel) fun t hf y => ?_
  blk_simp
  exact point_shift m c t ((flush0_7 t).mp hf) y

/-! ## The reference -/

section

open Cert.Reference11Ideal.Read

variable (r d : FVec Ideal S8192x1024 .f32) (g : FVec Ideal S1x1024 .f32) (s : Fin 8192) (n : Fin 1024)

theorem ref_mean : val_main_v3 (F := Ideal) r (ix2 s 0) = mean (fun k => r (ix2 s k)) := by
  pointwise [val_main_v3, val_main_v2, val_main_v1, val_main_v0, val_main_cst, val_main_cst_0, mean]

theorem ref_cen : val_main_v5 (F := Ideal) r (ix2 s n) = cen (fun k => r (ix2 s k)) n := by
  unfold cen
  rw [← ref_mean]
  pointwise [val_main_v5, val_main_v4]

theorem ref_cen' : val_main_v14 (F := Ideal) r (ix2 s n) = cen (fun k => r (ix2 s k)) n := by
  unfold cen
  rw [← ref_mean]
  pointwise [val_main_v14, val_main_v13]

theorem ref_var : val_main_v16 (F := Ideal) r (ix2 s 0) = vare (fun k => r (ix2 s k)) := by
  unfold vare
  simp only [← ref_cen]
  pointwise [val_main_v16, val_main_v15, val_main_v12, val_main_v11, val_main_v10, val_main_v9, val_main_v6, val_main_cst_2,
    val_main_cst_3, val_main_cst_4, mean]

theorem ref_rs : val_main_v17 (F := Ideal) r (ix2 s 0) = rs (fun k => r (ix2 s k)) := by
  unfold rs
  rw [← ref_var]
  pointwise [val_main_v17]

theorem ref_scaled : val_main_v34 (F := Ideal) g d (ix2 s n) = d (ix2 s n) * g (ix2 0 n) := by
  pointwise [val_main_v34, val_main_v33, val_main_v27]

theorem ref_dir : val_main_v39 (F := Ideal) r g d (ix2 s n) = dir (fun k => r (ix2 s k)) (fun k => g (ix2 0 k)) (fun k => d (ix2 s k)) n := by
  unfold dir
  rw [← ref_rs, ← ref_scaled]
  pointwise [val_main_v39, val_main_v38]

theorem ref_dvar : val_main_v40 (F := Ideal) r g d (ix2 s 0) = dvar (fun k => r (ix2 s k)) (fun k => g (ix2 0 k)) (fun k => d (ix2 s k)) := by
  have e : val_main_v40 (F := Ideal) r g d (ix2 s 0)
      = (∑ k : Fin 1024, val_main_v14 (F := Ideal) r (ix2 s k) * val_main_v34 (F := Ideal) g d (ix2 s k))
        * (Ideal.ofBits .f32 0xBF000000#32 * Ideal.div (val_main_v17 (F := Ideal) r (ix2 s 0)) (val_main_v16 (F := Ideal) r (ix2 s 0))) := by
    pointwise [val_main_v40, val_main_v37, val_main_v36, val_main_v35, val_main_v20, val_main_v19, val_main_v18, val_main_cst_5, val_main_cst_8]
  rw [e]
  simp only [ref_rs, ref_scaled, ref_cen', ref_var]
  rfl

theorem ref_via : val_main_v48 (F := Ideal) r g d (ix2 s n) = via (fun k => r (ix2 s k)) (fun k => g (ix2 0 k)) (fun k => d (ix2 s k)) n := by
  unfold via
  rw [← ref_dvar, ← ref_cen]
  pointwise [val_main_v48, val_main_v47, val_main_v46, val_main_v45, val_main_v44, val_main_v8, val_main_v7, val_main_cst_1,
    val_main_cst_10, val_main_cst_11]
  simp only [Fin.sum_univ_one]

/-- The reference's gradients are the kernel's. -/
theorem ref_dx : val_main_v58 (F := Ideal) r g d = dxAll r g d := by
  funext i
  idx_vars i
  have e : val_main_v58 (F := Ideal) r g d (ix2 i0 i1)
      = val_main_v39 (F := Ideal) r g d (ix2 i0 i1) + val_main_v48 (F := Ideal) r g d (ix2 i0 i1)
        + Ideal.div ((∑ k : Fin 1024, -val_main_v39 (F := Ideal) r g d (ix2 i0 k)) + ∑ k : Fin 1024, -val_main_v48 (F := Ideal) r g d (ix2 i0 k))
          (Ideal.ofBits .f32 0x44800000#32) := by
    pointwise [val_main_v58, val_main_v57, val_main_v56, val_main_v55, val_main_v54, val_main_v53, val_main_v52, val_main_v51, val_main_v50,
      val_main_v49, val_main_v43, val_main_v42, val_main_v41, val_main_cst_9, val_main_cst_12, val_main_cst_13, val_main_cst_14]
    simp only [Fin.sum_univ_one]
  rw [e]
  simp only [ref_dir, ref_via]
  rfl

theorem ref_scale : val_main_v32 (F := Ideal) r d = scaleAll r d := by
  funext i
  idx_vars i
  have e : val_main_v32 (F := Ideal) r d (ix2 i0 i1)
      = ∑ s : Fin 8192, val_main_v14 (F := Ideal) r (ix2 s i1) * val_main_v17 (F := Ideal) r (ix2 s 0) * d (ix2 s i1) := by
    pointwise [val_main_v32, val_main_v31, val_main_v30, val_main_v27, val_main_v22, val_main_v21, val_main_cst_7]
  rw [e]
  simp only [ref_cen', ref_rs]
  rfl

theorem ref_shift : val_main_v29 (F := Ideal) d = shiftAll d := by
  funext i
  idx_vars i
  have e : val_main_v29 (F := Ideal) d (ix2 i0 i1) = ∑ s : Fin 8192, d (ix2 s i1) := by
    pointwise [val_main_v29, val_main_v28, val_main_v27, val_main_cst_6]
  exact e

end

end Cert.NormBwd
-- ==== Proof.AdamMath.lean ====
/-
One AdamW step of one number, over the extended reals.
-/
module

public import Idealize.ShloMosaic.Lib.Pipeline.ValueKit
public import Idealize.ShloMosaic.Lib.Claim

@[expose] public section

noncomputable section

namespace Cert.Adam

open Idealize.ShloMosaic

/-- The first moment after the step. -/
def newM (g m : EReal) : EReal := Ideal.ofBits .f32 0x3F666666#32 * m + Ideal.ofBits .f32 0x3DCCCCCD#32 * g

/-- The second moment after the step. -/
def newV (g v : EReal) : EReal := Ideal.ofBits .f32 0x3F7FBE77#32 * v + Ideal.ofBits .f32 0x3A83126F#32 * (g * g)

/-- The weight's change. -/
def delta (g w m v : EReal) : EReal :=
  Ideal.ofBits .f32 0xBA83126F#32 * (Ideal.div (Ideal.div (newM g m) (Ideal.ofBits .f32 0x3F26BD02#32))
    (Ideal.sqrt (Ideal.div (newV g v) (Ideal.ofBits .f32 0x3C231ACC#32)) + Ideal.ofBits .f32 0x322BCC77#32)
      + Ideal.ofBits .f32 0x3C23D70A#32 * w)

end Cert.Adam
-- ==== Proof.AdamVec.lean ====
/-
The optimiser's step on the packed vectors, 16 rows of 128 a step, against the reference.
-/
module

public import proofs.«01_k».proof.Proof.AdamMath
public import proofs.«01_k».proof.Proof.Gen.Kernel12Ideal.Value
public import proofs.«01_k».proof.Proof.Gen.Reference12Ideal.Read

@[expose] public section

set_option maxRecDepth 16384

noncomputable section

namespace Cert.AdamVec

open Cert.Kernel12Ideal Cert.Kernel12Ideal.Gen Cert.Adam Idealize.ShloMosaic Idealize.ShloMosaic.TcCoe

/-! ## A step's block -/

section

variable (x0 x1 x2 x3 : Vec Ideal S16x128 .f32) (s : Fin 16) (n : Fin 128)

theorem out5_apply : out0_5 x0 x1 x2 x3 (ix2 s n) = delta (x0 (ix2 s n)) (x1 (ix2 s n)) (x2 (ix2 s n)) (x3 (ix2 s n)) := by
  frame_out
  pointwise [k0_pay3, k0_pay2, k0_pay1, delta, newM, newV]

theorem out6_apply : out0_6 x0 x1 x2 x3 (ix2 s n) = newM (x0 (ix2 s n)) (x2 (ix2 s n)) := by
  frame_out
  pointwise [k0_pay1, newM]

theorem out7_apply : out0_7 x0 x1 x2 x3 (ix2 s n) = newV (x0 (ix2 s n)) (x3 (ix2 s n)) := by
  frame_out
  pointwise [k0_pay2, newV]

end

/-! ## The arrays the call reads -/

variable (m : (ℓ : Loc nD τ sig) → Buf (Elt Ideal) ℓ) (c : Dev nD)

abbrev argG : FVec Ideal S80x128 .f32 := m ((c : Thread nD τ).loc main_arg0)
abbrev argW : FVec Ideal S80x128 .f32 := m ((c : Thread nD τ).loc main_arg1)
abbrev argM : FVec Ideal S80x128 .f32 := m ((c : Thread nD τ).loc main_arg2)
abbrev argV : FVec Ideal S80x128 .f32 := m ((c : Thread nD τ).loc main_arg3)

theorem idx : ∀ t : Fin cfg0.N, win0_0.index t = ![t.val, 0] ∧ win0_1.index t = ![t.val, 0] ∧ win0_2.index t = ![t.val, 0] ∧ win0_3.index t = ![t.val, 0] ∧ win0_5.index t = ![t.val, 0] ∧ win0_6.index t = ![t.val, 0] ∧ win0_7.index t = ![t.val, 0] :=
  (by decide +kernel : ∀ t : Fin grid0.N, _)

/-- Row `s` of step `t`'s block. -/
def row (t : Fin cfg0.N) (s : Fin 16) : Fin 80 := ⟨16 * t + s, by have := lt_of_lt_of_eq t.isLt N_0; omega⟩

theorem blk_g (t : Fin cfg0.N) (s : Fin 16) (n : Fin 128) : iblk m c 0 t (ix2 s n) = argG m c (ix2 (row t s) n) := by
  unfold iblk
  rw [V_main_arg0]
  blk_ext [idx t]
  all_goals (simp only [row]; omega)

theorem blk_w (t : Fin cfg0.N) (s : Fin 16) (n : Fin 128) : iblk m c 1 t (ix2 s n) = argW m c (ix2 (row t s) n) := by
  unfold iblk
  rw [V_main_arg1]
  blk_ext [idx t]
  all_goals (simp only [row]; omega)

theorem blk_m (t : Fin cfg0.N) (s : Fin 16) (n : Fin 128) : iblk m c 2 t (ix2 s n) = argM m c (ix2 (row t s) n) := by
  unfold iblk
  rw [V_main_arg2]
  blk_ext [idx t]
  all_goals (simp only [row]; omega)

theorem blk_v (t : Fin cfg0.N) (s : Fin 16) (n : Fin 128) : iblk m c 3 t (ix2 s n) = argV m c (ix2 (row t s) n) := by
  unfold iblk
  rw [V_main_arg3]
  blk_ext [idx t]
  all_goals (simp only [row]; omega)

/-- `delta` at every place. -/
def allDelta (g w m v : FVec Ideal S80x128 .f32) (i : S80x128.Idx) : EReal := delta (g i) (w i) (m i) (v i)

theorem emb_5 (t : Fin cfg0.N) (s : Fin 16) (n : Fin 128) :
    (((cfg0.win 5).blk t).view.emb (ix2 s n) : S80x128.Idx) = ix2 (row t s) n := by
  blk_ext [idx t]
  all_goals (simp only [row]; omega)

theorem point_5 (t : Fin cfg0.N) (y : S16x128.Idx) : (dats m 0 c).after 5 t y
    = allDelta (argG m c) (argW m c) (argM m c) (argV m c) (((cfg0.win 5).blk t).view.emb y) := by
  idx_vars y
  rw [after0_5]
  refine (out5_apply _ _ _ _ y0 y1).trans ?_
  rw [blk_g m c t, blk_w m c t, blk_m m c t, blk_v m c t]
  exact (congrArg (allDelta (argG m c) (argW m c) (argM m c) (argV m c)) (emb_5 t y0 y1)).symm

/-- The array after the run. -/
theorem arr_5 : (dats m 0 c).arrAt 5 cfg0.N = allDelta (argG m c) (argW m c) (argM m c) (argV m c) := by
  refine (dats m 0 c).arrAt_eq_of_covers 5 _ (by decide +kernel) fun t _ y => ?_
  blk_simp
  exact point_5 m c t y

/-- `newM` at every place. -/
def allNewM (g m : FVec Ideal S80x128 .f32) (i : S80x128.Idx) : EReal := newM (g i) (m i)

theorem emb_6 (t : Fin cfg0.N) (s : Fin 16) (n : Fin 128) :
    (((cfg0.win 6).blk t).view.emb (ix2 s n) : S80x128.Idx) = ix2 (row t s) n := by
  blk_ext [idx t]
  all_goals (simp only [row]; omega)

theorem point_6 (t : Fin cfg0.N) (y : S16x128.Idx) : (dats m 0 c).after 6 t y
    = allNewM (argG m c) (argM m c) (((cfg0.win 6).blk t).view.emb y) := by
  idx_vars y
  rw [after0_6]
  refine (out6_apply _ _ _ _ y0 y1).trans ?_
  rw [blk_g m c t, blk_m m c t]
  exact (congrArg (allNewM (argG m c) (argM m c)) (emb_6 t y0 y1)).symm

/-- The array after the run. -/
theorem arr_6 : (dats m 0 c).arrAt 6 cfg0.N = allNewM (argG m c) (argM m c) := by
  refine (dats m 0 c).arrAt_eq_of_covers 6 _ (by decide +kernel) fun t _ y => ?_
  blk_simp
  exact point_6 m c t y

/-- `newV` at every place. -/
def allNewV (g v : FVec Ideal S80x128 .f32) (i : S80x128.Idx) : EReal := newV (g i) (v i)

theorem emb_7 (t : Fin cfg0.N) (s : Fin 16) (n : Fin 128) :
    (((cfg0.win 7).blk t).view.emb (ix2 s n) : S80x128.Idx) = ix2 (row t s) n := by
  blk_ext [idx t]
  all_goals (simp only [row]; omega)

theorem point_7 (t : Fin cfg0.N) (y : S16x128.Idx) : (dats m 0 c).after 7 t y
    = allNewV (argG m c) (argV m c) (((cfg0.win 7).blk t).view.emb y) := by
  idx_vars y
  rw [after0_7]
  refine (out7_apply _ _ _ _ y0 y1).trans ?_
  rw [blk_g m c t, blk_v m c t]
  exact (congrArg (allNewV (argG m c) (argV m c)) (emb_7 t y0 y1)).symm

/-- The array after the run. -/
theorem arr_7 : (dats m 0 c).arrAt 7 cfg0.N = allNewV (argG m c) (argV m c) := by
  refine (dats m 0 c).arrAt_eq_of_covers 7 _ (by decide +kernel) fun t _ y => ?_
  blk_simp
  exact point_7 m c t y

/-! ## The reference -/

section

open Cert.Reference12Ideal.Read

variable (g w m v : FVec Ideal S80x128 .f32)

theorem ref_5 : val_main_v23 (F := Ideal) g w m v = allDelta g w m v := by
  funext i
  idx_vars i
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7, allDelta, delta, newM, newV]

theorem ref_6 : val_main_v4 (F := Ideal) g m = allNewM g m := by
  funext i
  idx_vars i
  pointwise [val_main_v0, val_main_v1, val_main_v2, val_main_v3, val_main_v4, val_main_cst, val_main_cst_0, allNewM, newM]

theorem ref_7 : val_main_v10 (F := Ideal) g v = allNewV g v := by
  funext i
  idx_vars i
  pointwise [val_main_v5, val_main_v6, val_main_v7, val_main_v8, val_main_v9, val_main_v10, val_main_cst_1, val_main_cst_2, allNewV, newV]

end

end Cert.AdamVec
-- ==== Proof.AdamConv.lean ====
/-
The optimiser's step on the convolution's weights, against the reference.
-/
module

public import proofs.«01_k».proof.Proof.AdamMath
public import proofs.«01_k».proof.Proof.Gen.Kernel13Ideal.Value
public import proofs.«01_k».proof.Proof.Gen.Reference13Ideal.Read

@[expose] public section

set_option maxRecDepth 16384

noncomputable section

namespace Cert.AdamConv

open Cert.Kernel13Ideal Cert.Kernel13Ideal.Gen Cert.Adam Idealize.ShloMosaic Idealize.ShloMosaic.TcCoe

/-! ## A step's block -/

section

variable (x0 x1 x2 x3 : Vec Ideal S4x448 .f32) (s : Fin 4) (n : Fin 448)

theorem out5_apply : out0_5 x0 x1 x2 x3 (ix2 s n) = delta (x0 (ix2 s n)) (x1 (ix2 s n)) (x2 (ix2 s n)) (x3 (ix2 s n)) := by
  frame_out
  pointwise [k0_pay3, k0_pay2, k0_pay1, delta, newM, newV]

theorem out6_apply : out0_6 x0 x1 x2 x3 (ix2 s n) = newM (x0 (ix2 s n)) (x2 (ix2 s n)) := by
  frame_out
  pointwise [k0_pay1, newM]

theorem out7_apply : out0_7 x0 x1 x2 x3 (ix2 s n) = newV (x0 (ix2 s n)) (x3 (ix2 s n)) := by
  frame_out
  pointwise [k0_pay2, newV]

end

/-! ## The arrays the call reads -/

variable (m : (ℓ : Loc nD τ sig) → Buf (Elt Ideal) ℓ) (c : Dev nD)

abbrev argG : FVec Ideal S4x448 .f32 := m ((c : Thread nD τ).loc main_arg0)
abbrev argW : FVec Ideal S4x448 .f32 := m ((c : Thread nD τ).loc main_arg1)
abbrev argM : FVec Ideal S4x448 .f32 := m ((c : Thread nD τ).loc main_arg2)
abbrev argV : FVec Ideal S4x448 .f32 := m ((c : Thread nD τ).loc main_arg3)

theorem idx : ∀ t : Fin cfg0.N, win0_0.index t = ![t.val, 0] ∧ win0_1.index t = ![t.val, 0] ∧ win0_2.index t = ![t.val, 0] ∧ win0_3.index t = ![t.val, 0] ∧ win0_5.index t = ![t.val, 0] ∧ win0_6.index t = ![t.val, 0] ∧ win0_7.index t = ![t.val, 0] :=
  (by decide +kernel : ∀ t : Fin grid0.N, _)

/-- Row `s` of step `t`'s block. -/
def row (t : Fin cfg0.N) (s : Fin 4) : Fin 4 := ⟨4 * t + s, by have := lt_of_lt_of_eq t.isLt N_0; omega⟩

theorem blk_g (t : Fin cfg0.N) (s : Fin 4) (n : Fin 448) : iblk m c 0 t (ix2 s n) = argG m c (ix2 (row t s) n) := by
  unfold iblk
  rw [V_main_arg0]
  blk_ext [idx t]
  all_goals (simp only [row]; omega)

theorem blk_w (t : Fin cfg0.N) (s : Fin 4) (n : Fin 448) : iblk m c 1 t (ix2 s n) = argW m c (ix2 (row t s) n) := by
  unfold iblk
  rw [V_main_arg1]
  blk_ext [idx t]
  all_goals (simp only [row]; omega)

theorem blk_m (t : Fin cfg0.N) (s : Fin 4) (n : Fin 448) : iblk m c 2 t (ix2 s n) = argM m c (ix2 (row t s) n) := by
  unfold iblk
  rw [V_main_arg2]
  blk_ext [idx t]
  all_goals (simp only [row]; omega)

theorem blk_v (t : Fin cfg0.N) (s : Fin 4) (n : Fin 448) : iblk m c 3 t (ix2 s n) = argV m c (ix2 (row t s) n) := by
  unfold iblk
  rw [V_main_arg3]
  blk_ext [idx t]
  all_goals (simp only [row]; omega)

/-- `delta` at every place. -/
def allDelta (g w m v : FVec Ideal S4x448 .f32) (i : S4x448.Idx) : EReal := delta (g i) (w i) (m i) (v i)

theorem emb_5 (t : Fin cfg0.N) (s : Fin 4) (n : Fin 448) :
    (((cfg0.win 5).blk t).view.emb (ix2 s n) : S4x448.Idx) = ix2 (row t s) n := by
  blk_ext [idx t]
  all_goals (simp only [row]; omega)

theorem point_5 (t : Fin cfg0.N) (y : S4x448.Idx) : (dats m 0 c).after 5 t y
    = allDelta (argG m c) (argW m c) (argM m c) (argV m c) (((cfg0.win 5).blk t).view.emb y) := by
  idx_vars y
  rw [after0_5]
  refine (out5_apply _ _ _ _ y0 y1).trans ?_
  rw [blk_g m c t, blk_w m c t, blk_m m c t, blk_v m c t]
  exact (congrArg (allDelta (argG m c) (argW m c) (argM m c) (argV m c)) (emb_5 t y0 y1)).symm

/-- The array after the run. -/
theorem arr_5 : (dats m 0 c).arrAt 5 cfg0.N = allDelta (argG m c) (argW m c) (argM m c) (argV m c) := by
  refine (dats m 0 c).arrAt_eq_of_covers 5 _ (by decide +kernel) fun t _ y => ?_
  blk_simp
  exact point_5 m c t y

/-- `newM` at every place. -/
def allNewM (g m : FVec Ideal S4x448 .f32) (i : S4x448.Idx) : EReal := newM (g i) (m i)

theorem emb_6 (t : Fin cfg0.N) (s : Fin 4) (n : Fin 448) :
    (((cfg0.win 6).blk t).view.emb (ix2 s n) : S4x448.Idx) = ix2 (row t s) n := by
  blk_ext [idx t]
  all_goals (simp only [row]; omega)

theorem point_6 (t : Fin cfg0.N) (y : S4x448.Idx) : (dats m 0 c).after 6 t y
    = allNewM (argG m c) (argM m c) (((cfg0.win 6).blk t).view.emb y) := by
  idx_vars y
  rw [after0_6]
  refine (out6_apply _ _ _ _ y0 y1).trans ?_
  rw [blk_g m c t, blk_m m c t]
  exact (congrArg (allNewM (argG m c) (argM m c)) (emb_6 t y0 y1)).symm

/-- The array after the run. -/
theorem arr_6 : (dats m 0 c).arrAt 6 cfg0.N = allNewM (argG m c) (argM m c) := by
  refine (dats m 0 c).arrAt_eq_of_covers 6 _ (by decide +kernel) fun t _ y => ?_
  blk_simp
  exact point_6 m c t y

/-- `newV` at every place. -/
def allNewV (g v : FVec Ideal S4x448 .f32) (i : S4x448.Idx) : EReal := newV (g i) (v i)

theorem emb_7 (t : Fin cfg0.N) (s : Fin 4) (n : Fin 448) :
    (((cfg0.win 7).blk t).view.emb (ix2 s n) : S4x448.Idx) = ix2 (row t s) n := by
  blk_ext [idx t]
  all_goals (simp only [row]; omega)

theorem point_7 (t : Fin cfg0.N) (y : S4x448.Idx) : (dats m 0 c).after 7 t y
    = allNewV (argG m c) (argV m c) (((cfg0.win 7).blk t).view.emb y) := by
  idx_vars y
  rw [after0_7]
  refine (out7_apply _ _ _ _ y0 y1).trans ?_
  rw [blk_g m c t, blk_v m c t]
  exact (congrArg (allNewV (argG m c) (argV m c)) (emb_7 t y0 y1)).symm

/-- The array after the run. -/
theorem arr_7 : (dats m 0 c).arrAt 7 cfg0.N = allNewV (argG m c) (argV m c) := by
  refine (dats m 0 c).arrAt_eq_of_covers 7 _ (by decide +kernel) fun t _ y => ?_
  blk_simp
  exact point_7 m c t y

/-! ## The reference -/

section

open Cert.Reference13Ideal.Read

variable (g w m v : FVec Ideal S4x448 .f32)

theorem ref_5 : val_main_v23 (F := Ideal) g w m v = allDelta g w m v := by
  funext i
  idx_vars i
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7, allDelta, delta, newM, newV]

theorem ref_6 : val_main_v4 (F := Ideal) g m = allNewM g m := by
  funext i
  idx_vars i
  pointwise [val_main_v0, val_main_v1, val_main_v2, val_main_v3, val_main_v4, val_main_cst, val_main_cst_0, allNewM, newM]

theorem ref_7 : val_main_v10 (F := Ideal) g v = allNewV g v := by
  funext i
  idx_vars i
  pointwise [val_main_v5, val_main_v6, val_main_v7, val_main_v8, val_main_v9, val_main_v10, val_main_cst_1, val_main_cst_2, allNewV, newV]

end

end Cert.AdamConv
-- ==== Proof.LossBwd.lean ====
/-
The last layer norm and the loss, 512 tokens a step: the gradient of the rows, and of the scale and the shift, and the loss,
summed over the steps.
-/
module

public import proofs.«01_k».proof.Proof.NormMath
public import proofs.«01_k».proof.Proof.MixMath
public import proofs.«01_k».proof.Proof.Gen.Kernel14Ideal.Value
public import proofs.«01_k».proof.Proof.Gen.Reference14Ideal.Read
public import Idealize.ShloMosaic.Lib.Pipeline.ReadBack

@[expose] public section

set_option maxRecDepth 16384

noncomputable section

namespace Cert.LossBwd

open Cert.Kernel14Ideal Cert.Kernel14Ideal.Gen Cert.Norm Idealize.ShloMosaic Idealize.ShloMosaic.TcCoe
open scoped BigOperators

/-! ## A step's block -/

section

variable (r t : Vec Ideal S512x1024 .f32) (g b : Vec Ideal S1x1024 .f32) (s : Fin 512) (n : Fin 1024)

theorem pay_mean : k0_pay7 r (ix2 s 0) = mean (fun k => r (ix2 s k)) := by
  pointwise [k0_pay7, mean]

theorem pay_cen : k0_pay8 r (ix2 s n) = cen (fun k => r (ix2 s k)) n := by
  unfold cen
  rw [← pay_mean]
  pointwise [k0_pay8]

theorem pay_cen' : k0_pay10 r (ix2 s n) = cen (fun k => r (ix2 s k)) n := by
  unfold cen
  rw [← pay_mean]
  pointwise [k0_pay10]

theorem pay_var : k0_pay11 r (ix2 s 0) = vare (fun k => r (ix2 s k)) := by
  unfold vare
  simp only [← pay_cen]
  pointwise [k0_pay11, mean]

theorem pay_rs : k0_pay12 r (ix2 s 0) = rs (fun k => r (ix2 s k)) := by
  unfold rs
  rw [← pay_var]
  pointwise [k0_pay12]

theorem pay_coef : k0_pay13 r (ix2 s 0) = Ideal.ofBits .f32 0xBF000000#32 * Ideal.div (rs (fun k => r (ix2 s k))) (vare (fun k => r (ix2 s k))) := by
  rw [← pay_rs, ← pay_var]
  pointwise [k0_pay13]

theorem pay_hat : k0_pay14 r (ix2 s n) = cen (fun k => r (ix2 s k)) n * rs (fun k => r (ix2 s k)) := by
  rw [← pay_cen', ← pay_rs]
  pointwise [k0_pay14]

theorem pay_two : k0_pay9 r (ix2 s n) = Ideal.ofBits .f32 0x40000000#32 * cen (fun k => r (ix2 s k)) n := by
  rw [← pay_cen]
  pointwise [k0_pay9]

theorem pay_err : k0_pay15 r t g b (ix2 s n) = err (fun k => r (ix2 s k)) (fun k => g (ix2 0 k)) (fun k => b (ix2 0 k)) (fun k => t (ix2 s k)) n := by
  unfold err
  rw [← pay_hat]
  pointwise [k0_pay15]

theorem pay_share (v : FVec Ideal S512x1024 .f32) : k0_pay19 v (ix2 s n)
    = Ideal.div (Ideal.ofBits .f32 0x3F000000#32 * Ideal.ofBits .f32 0x3F800000#32) (Ideal.ofBits .f32 0x44800000#32) * v (ix2 s n) := by
  pointwise [k0_pay19]
  simp only [Fin.sum_univ_one]

theorem pay_up : k0_pay19 (k0_pay16 r t g b) (ix2 s n) = up (fun k => r (ix2 s k)) (fun k => g (ix2 0 k)) (fun k => b (ix2 0 k)) (fun k => t (ix2 s k)) n := by
  unfold up
  rw [pay_share, ← pay_err]
  pointwise [k0_pay16]

theorem pay_scaled (v : FVec Ideal S512x1024 .f32) : k0_pay22 g v (ix2 s n) = k0_pay19 v (ix2 s n) * g (ix2 0 n) := by
  pointwise [k0_pay22]

theorem pay_dir : k0_pay23 g (k0_pay12 r) (k0_pay16 r t g b) (ix2 s n) = dir (fun k => r (ix2 s k)) (fun k => g (ix2 0 k)) (up (fun k => r (ix2 s k)) (fun k => g (ix2 0 k)) (fun k => b (ix2 0 k)) (fun k => t (ix2 s k))) n := by
  have e (u : FVec Ideal S512x1 .f32) (v : FVec Ideal S512x1024 .f32) : k0_pay23 g u v (ix2 s n) = k0_pay22 g v (ix2 s n) * u (ix2 s 0) := by
    pointwise [k0_pay23]
  rw [e, pay_scaled, pay_up, pay_rs]
  rfl

theorem pay_neg : k0_pay24 g (k0_pay12 r) (k0_pay16 r t g b) (ix2 s 0) = ∑ k, -dir (fun k => r (ix2 s k)) (fun k => g (ix2 0 k)) (up (fun k => r (ix2 s k)) (fun k => g (ix2 0 k)) (fun k => b (ix2 0 k)) (fun k => t (ix2 s k))) k := by
  have e (u : FVec Ideal S512x1 .f32) (v : FVec Ideal S512x1024 .f32) : k0_pay24 g u v (ix2 s 0) = ∑ k : Fin 1024, (0 - k0_pay23 g u v (ix2 s k)) := by
    pointwise [k0_pay24]
  rw [e]
  simp only [pay_dir, zero_sub]

theorem pay_via : k0_pay25 g (k0_pay9 r) (k0_pay10 r) (k0_pay13 r) (k0_pay16 r t g b) (ix2 s n) = via (fun k => r (ix2 s k)) (fun k => g (ix2 0 k)) (up (fun k => r (ix2 s k)) (fun k => g (ix2 0 k)) (fun k => b (ix2 0 k)) (fun k => t (ix2 s k))) n := by
  have e (p q : FVec Ideal S512x1024 .f32) (u : FVec Ideal S512x1 .f32) (v : FVec Ideal S512x1024 .f32) : k0_pay25 g p q u v (ix2 s n)
      = Ideal.div ((∑ k : Fin 1024, q (ix2 s k) * k0_pay22 g v (ix2 s k)) * u (ix2 s 0)) (Ideal.ofBits .f32 0x44800000#32) * p (ix2 s n) := by
    pointwise [k0_pay25]
    simp only [Fin.sum_univ_one]
  rw [e]
  simp only [pay_scaled, pay_up, pay_cen', pay_two, pay_coef]
  rfl

theorem pay_neg_via : k0_pay26 g (k0_pay9 r) (k0_pay10 r) (k0_pay13 r) (k0_pay16 r t g b) (ix1 s) = ∑ k, -via (fun k => r (ix2 s k)) (fun k => g (ix2 0 k)) (up (fun k => r (ix2 s k)) (fun k => g (ix2 0 k)) (fun k => b (ix2 0 k)) (fun k => t (ix2 s k))) k := by
  have e (p q : FVec Ideal S512x1024 .f32) (u : FVec Ideal S512x1 .f32) (v : FVec Ideal S512x1024 .f32) : k0_pay26 g p q u v (ix1 s)
      = ∑ k : Fin 1024, (0 - k0_pay25 g p q u v (ix2 s k)) := by
    pointwise [k0_pay26]
  rw [e]
  simp only [pay_via, zero_sub]

theorem pay_dx : k0_pay1 (k0_pay23 g (k0_pay12 r) (k0_pay16 r t g b)) (k0_pay24 g (k0_pay12 r) (k0_pay16 r t g b))
    (k0_pay25 g (k0_pay9 r) (k0_pay10 r) (k0_pay13 r) (k0_pay16 r t g b)) (k0_pay26 g (k0_pay9 r) (k0_pay10 r) (k0_pay13 r) (k0_pay16 r t g b)) (ix2 s n)
    = dx (fun k => r (ix2 s k)) (fun k => g (ix2 0 k)) (up (fun k => r (ix2 s k)) (fun k => g (ix2 0 k)) (fun k => b (ix2 0 k)) (fun k => t (ix2 s k))) n := by
  have e (u : FVec Ideal S512x1024 .f32) (p : FVec Ideal S512x1 .f32) (w : FVec Ideal S512x1024 .f32) (q : FVec Ideal S512 .f32) :
      k0_pay1 u p w q (ix2 s n)
      = u (ix2 s n) + w (ix2 s n) + Ideal.div (p (ix2 s 0) + q (ix1 s)) (Ideal.ofBits .f32 0x44800000#32) := by
    pointwise [k0_pay1]
    simp only [Fin.sum_univ_one]
  rw [e, pay_dir, pay_via, pay_neg, pay_neg_via]
  rfl

theorem pay_scale : k0_pay21 (k0_pay14 r) (k0_pay16 r t g b) (ix2 0 n) = ∑ s : Fin 512, dscale (fun k => r (ix2 s k)) (up (fun k => r (ix2 s k)) (fun k => g (ix2 0 k)) (fun k => b (ix2 0 k)) (fun k => t (ix2 s k))) n := by
  have e (u v : FVec Ideal S512x1024 .f32) : k0_pay21 u v (ix2 0 n) = ∑ s : Fin 512, u (ix2 s n) * k0_pay19 v (ix2 s n) := by
    pointwise [k0_pay21]
  rw [e]
  simp only [pay_hat, pay_up]
  rfl

theorem pay_shift : k0_pay20 (k0_pay16 r t g b) (ix2 0 n) = ∑ s : Fin 512, up (fun k => r (ix2 s k)) (fun k => g (ix2 0 k)) (fun k => b (ix2 0 k)) (fun k => t (ix2 s k)) n := by
  have e (v : FVec Ideal S512x1024 .f32) : k0_pay20 v (ix2 0 n) = ∑ s : Fin 512, k0_pay19 v (ix2 s n) := by
    pointwise [k0_pay20]
  rw [e]
  simp only [pay_up]

theorem pay_loss (l : Fin 128) : k0_pay2 (k0_pay18 (k0_pay17 r t g b)) (ix2 0 l)
    = Ideal.ofBits .f32 0x3F000000#32 * ∑ s : Fin 512, sq (fun k => r (ix2 s k)) (fun k => g (ix2 0 k)) (fun k => b (ix2 0 k)) (fun k => t (ix2 s k)) := by
  have e : k0_pay2 (k0_pay18 (k0_pay17 r t g b)) (ix2 0 l)
      = Ideal.ofBits .f32 0x3F000000#32 * ∑ s : Fin 512, Ideal.div (∑ k : Fin 1024, k0_pay15 r t g b (ix2 s k) * k0_pay15 r t g b (ix2 s k)) (Ideal.ofBits .f32 0x44800000#32) := by
    pointwise [k0_pay2, k0_pay18, k0_pay17]
  rw [e]
  simp only [pay_err]
  rfl

theorem pay_scale_add (z : Vec Ideal S1x1024 .f32) : k0_pay4 (k0_pay21 (k0_pay14 r) (k0_pay16 r t g b)) z (ix2 0 n)
    = z (ix2 0 n) + ∑ s : Fin 512, dscale (fun k => r (ix2 s k)) (up (fun k => r (ix2 s k)) (fun k => g (ix2 0 k)) (fun k => b (ix2 0 k)) (fun k => t (ix2 s k))) n := by
  rw [← pay_scale]
  pointwise [k0_pay4]

theorem pay_shift_add (z : Vec Ideal S1x1024 .f32) : k0_pay5 (k0_pay20 (k0_pay16 r t g b)) z (ix2 0 n)
    = z (ix2 0 n) + ∑ s : Fin 512, up (fun k => r (ix2 s k)) (fun k => g (ix2 0 k)) (fun k => b (ix2 0 k)) (fun k => t (ix2 s k)) n := by
  rw [← pay_shift]
  pointwise [k0_pay5]

theorem pay_loss_add (z : Vec Ideal S1x128 .f32) (l : Fin 128) : k0_pay6 (k0_pay18 (k0_pay17 r t g b)) z (ix2 0 l)
    = z (ix2 0 l) + Ideal.ofBits .f32 0x3F000000#32 * ∑ s : Fin 512, sq (fun k => r (ix2 s k)) (fun k => g (ix2 0 k)) (fun k => b (ix2 0 k)) (fun k => t (ix2 s k)) := by
  rw [← pay_loss _ _ _ _ l]
  pointwise [k0_pay6]

end

/-! ## The arrays the call reads -/

variable (m : (ℓ : Loc nD τ sig) → Buf (Elt Ideal) ℓ) (c : Dev nD)

abbrev argR : FVec Ideal S8192x1024 .f32 := m ((c : Thread nD τ).loc main_arg0)
abbrev argG : FVec Ideal S1x1024 .f32 := m ((c : Thread nD τ).loc main_arg1)
abbrev argB : FVec Ideal S1x1024 .f32 := m ((c : Thread nD τ).loc main_arg2)
abbrev argT : FVec Ideal S8192x1024 .f32 := m ((c : Thread nD τ).loc main_arg3)

theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_6.index t = ![0, 0] ∧ win0_7.index t = ![0, 0]
    ∧ win0_8.index t = ![0, 0] :=
  (by decide +kernel : ∀ t : Fin grid0.N, _)

/-- Row `s` of step `t`'s block. -/
def row (t : Fin cfg0.N) (s : Fin 512) : Fin 8192 := ⟨512 * t + s, by have := lt_of_lt_of_eq t.isLt N_0; omega⟩

theorem rows_r (t : Fin cfg0.N) (s : Fin 512) : (fun k => iblk m c 0 t (ix2 s k)) = fun k => argR m c (ix2 (row t s) k) := by
  funext k
  unfold iblk
  rw [V_main_arg0]
  blk_ext [idx t]
  all_goals (simp only [row]; omega)

theorem rows_t (t : Fin cfg0.N) (s : Fin 512) : (fun k => iblk m c 1 t (ix2 s k)) = fun k => argT m c (ix2 (row t s) k) := by
  funext k
  unfold iblk
  rw [V_main_arg3]
  blk_ext [idx t]
  all_goals (simp only [row]; omega)

theorem rows_g (t : Fin cfg0.N) : (fun k => iblk m c 2 t (ix2 0 k)) = fun k => argG m c (ix2 0 k) := by
  funext k
  unfold iblk
  rw [V_main_arg1]
  blk_ext [idx t]
  all_goals omega

theorem rows_b (t : Fin cfg0.N) : (fun k => iblk m c 3 t (ix2 0 k)) = fun k => argB m c (ix2 0 k) := by
  funext k
  unfold iblk
  rw [V_main_arg2]
  blk_ext [idx t]
  all_goals omega

section

variable (r : FVec Ideal S8192x1024 .f32) (g b : FVec Ideal S1x1024 .f32) (t : FVec Ideal S8192x1024 .f32)

/-- The loss's gradient of a token's layer norm. -/
def upAt (s : Fin 8192) : Fin 1024 → EReal := up (fun k => r (ix2 s k)) (fun k => g (ix2 0 k)) (fun k => b (ix2 0 k)) (fun k => t (ix2 s k))

/-- The gradient of the rows. -/
def dxAll (i : S8192x1024.Idx) : EReal := dx (fun k => r (ix2 (i 0) k)) (fun k => g (ix2 0 k)) (upAt r g b t (i 0)) (i 1)

/-- A token's share of the scale's gradient. -/
def scaleAt (n : Fin 1024) (s : Fin 8192) : EReal := dscale (fun k => r (ix2 s k)) (upAt r g b t s) n

/-- The gradient of the scale. -/
def scaleAll (i : S1x1024.Idx) : EReal := ∑ s : Fin 8192, scaleAt r g b t (i 1) s

/-- A token's share of the shift's gradient. -/
def shiftAt (n : Fin 1024) (s : Fin 8192) : EReal := upAt r g b t s n

/-- The gradient of the shift. -/
def shiftAll (i : S1x1024.Idx) : EReal := ∑ s : Fin 8192, shiftAt r g b t (i 1) s

/-- A token's mean square error. -/
def sqAt (s : Fin 8192) : EReal := sq (fun k => r (ix2 s k)) (fun k => g (ix2 0 k)) (fun k => b (ix2 0 k)) (fun k => t (ix2 s k))

/-- The loss, in every lane. -/
def lossAll (_ : S1x128.Idx) : EReal := Ideal.ofBits .f32 0x3F000000#32 * ∑ s : Fin 8192, sqAt r g b t s

end

/-! ## The rows' gradient -/

theorem step_dx (t : Fin cfg0.N) (s : Fin 512) (n : Fin 1024) : (outsAt0 m c t.val t.isLt).1 (ix2 s n)
    = dxAll (argR m c) (argG m c) (argB m c) (argT m c) (ix2 (row t s) n) := by
  have hN := lt_of_lt_of_eq t.isLt N_0
  have e : (outsAt0 m c t.val t.isLt).1 (ix2 s n) = dx (fun k => iblk m c 0 t (ix2 s k)) (fun k => iblk m c 2 t (ix2 0 k)) (up (fun k => iblk m c 0 t (ix2 s k)) (fun k => iblk m c 2 t (ix2 0 k)) (fun k => iblk m c 3 t (ix2 0 k)) (fun k => iblk m c 1 t (ix2 s k))) n := by
    by_cases h : t.val % 16 = 0
    · rw [outsAt0_A m c t h (by omega)]
      frame_out
      exact pay_dx _ _ _ _ s n
    · rw [outsAt0_B m c t h (by omega)]
      frame_out
      exact pay_dx _ _ _ _ s n
  rw [e, rows_r, rows_t, rows_g, rows_b]
  rfl

theorem emb_dx (t : Fin cfg0.N) (s : Fin 512) (n : Fin 1024) :
    (((cfg0.win 4).blk t).view.emb (ix2 s n) : S8192x1024.Idx) = ix2 (row t s) n := by
  blk_ext [idx t]
  all_goals (simp only [row]; omega)

theorem point_dx (t : Fin cfg0.N) (y : S512x1024.Idx) : (dats m 0 c).after 4 t y
    = dxAll (argR m c) (argG m c) (argB m c) (argT m c) (((cfg0.win 4).blk t).view.emb y) := by
  idx_vars y
  rw [after0_4]
  refine (step_dx m c t y0 y1).trans ?_
  exact (congrArg (dxAll (argR m c) (argG m c) (argB m c) (argT m c)) (emb_dx t y0 y1)).symm

/-- The array after the run. -/
theorem arr_dx : (dats m 0 c).arrAt 4 cfg0.N = dxAll (argR m c) (argG m c) (argB m c) (argT m c) := by
  refine (dats m 0 c).arrAt_eq_of_covers 4 _ (by decide +kernel) fun t _ y => ?_
  blk_simp
  exact point_dx m c t y

/-! ## The sums over the steps -/

/-- The sixteen steps' tokens are all the tokens. -/
theorem all_steps (f : Fin 8192 → EReal) (n : ℕ) (hn : n < cfg0.N) (h : n = 15) :
    (∑ j : Fin (n + 1), ∑ s : Fin 512, f (row ⟨j, by omega⟩ s)) = ∑ s : Fin 8192, f s := by
  subst h
  rw [Cert.Mix.sum_blocks]
  exact Finset.sum_congr rfl fun j _ => Finset.sum_congr rfl fun s _ => rfl

theorem blk_scale (t : Fin cfg0.N) (k : Fin 1024) : (∑ s : Fin 512, dscale (fun k => iblk m c 0 t (ix2 s k)) (up (fun k => iblk m c 0 t (ix2 s k)) (fun k => iblk m c 2 t (ix2 0 k)) (fun k => iblk m c 3 t (ix2 0 k)) (fun k => iblk m c 1 t (ix2 s k))) k)
    = ∑ s : Fin 512, scaleAt (argR m c) (argG m c) (argB m c) (argT m c) k (row t s) := by
  refine Finset.sum_congr rfl fun s _ => ?_
  rw [rows_r, rows_t, rows_g, rows_b]
  rfl

theorem first_scale (t : Fin cfg0.N) (h : t.val % 16 = 0) (k : Fin 1024) : (outsAt0 m c t.val t.isLt).2.2.1 (ix2 0 k)
    = ∑ s : Fin 512, scaleAt (argR m c) (argG m c) (argB m c) (argT m c) k (row t s) := by
  have hN := lt_of_lt_of_eq t.isLt N_0
  rw [← blk_scale, outsAt0_A m c t h (by omega)]
  frame_out
  exact pay_scale _ _ _ _ k

theorem next_scale (t : Fin cfg0.N) (h : ¬ t.val % 16 = 0) (k : Fin 1024) : (outsAt0 m c t.val t.isLt).2.2.1 (ix2 0 k)
    = (outsAt0 m c (t.val - 1) (Nat.lt_of_le_of_lt (Nat.sub_le _ _) t.isLt)).2.2.1 (ix2 0 k)
      + ∑ s : Fin 512, scaleAt (argR m c) (argG m c) (argB m c) (argT m c) k (row t s) := by
  have hN := lt_of_lt_of_eq t.isLt N_0
  rw [← blk_scale, outsAt0_B m c t h (by omega)]
  frame_out
  exact pay_scale_add _ _ _ _ k _

/-- A step leaves the sum of the steps so far. -/
theorem upto_scale (k : Fin 1024) : ∀ (n : ℕ) (hn : n < cfg0.N),
    (outsAt0 m c n hn).2.2.1 (ix2 0 k) = ∑ j : Fin (n + 1), ∑ s : Fin 512, scaleAt (argR m c) (argG m c) (argB m c) (argT m c) k (row ⟨j, by omega⟩ s)
  | 0, hn => (first_scale m c ⟨0, hn⟩ rfl k).trans
      (Fin.sum_univ_one fun j : Fin 1 => ∑ s : Fin 512, scaleAt (argR m c) (argG m c) (argB m c) (argT m c) k (row ⟨j, by omega⟩ s)).symm
  | n + 1, hn => by
    have hN := lt_of_lt_of_eq hn N_0
    refine (next_scale m c ⟨n + 1, hn⟩ (by dsimp only; omega) k).trans ?_
    refine Eq.trans ?_ (Fin.sum_univ_castSucc fun j : Fin (n + 1 + 1) => ∑ s : Fin 512, scaleAt (argR m c) (argG m c) (argB m c) (argT m c) k (row ⟨j, by omega⟩ s)).symm
    exact congrArg (fun x : EReal => x + _) (upto_scale k n (by omega))

/-- The last step leaves the whole sum. -/
theorem last_scale (t : Fin cfg0.N) (h : t.val % 16 = 15) (k : Fin 1024) :
    (outsAt0 m c t.val t.isLt).2.2.1 (ix2 0 k) = scaleAll (argR m c) (argG m c) (argB m c) (argT m c) (ix2 0 k) := by
  have hN := lt_of_lt_of_eq t.isLt N_0
  exact (upto_scale m c k t.val t.isLt).trans (all_steps (scaleAt (argR m c) (argG m c) (argB m c) (argT m c) k) t.val t.isLt (by omega))

theorem emb_scale (t : Fin cfg0.N) (k : Fin 1024) : (((cfg0.win 6).blk t).view.emb (ix2 0 k) : S1x1024.Idx) = ix2 0 k := by
  blk_ext [idx t]
  all_goals omega

theorem point_scale (t : Fin cfg0.N) (h : t.val % 16 = 15) (y : S1x1024.Idx) : (dats m 0 c).after 6 t y
    = scaleAll (argR m c) (argG m c) (argB m c) (argT m c) (((cfg0.win 6).blk t).view.emb y) := by
  idx_vars y
  rw [after0_6, Subsingleton.elim y0 0]
  refine (last_scale m c t h y1).trans ?_
  exact (congrArg (scaleAll (argR m c) (argG m c) (argB m c) (argT m c)) (emb_scale t y1)).symm

/-- The array after the run. -/
theorem arr_scale : (dats m 0 c).arrAt 6 cfg0.N = scaleAll (argR m c) (argG m c) (argB m c) (argT m c) := by
  refine (dats m 0 c).arrAt_eq_of_covers 6 _ (by decide +kernel) fun t hf y => ?_
  blk_simp
  exact point_scale m c t ((flush0_6 t).mp hf) y

theorem blk_shift (t : Fin cfg0.N) (k : Fin 1024) : (∑ s : Fin 512, up (fun k => iblk m c 0 t (ix2 s k)) (fun k => iblk m c 2 t (ix2 0 k)) (fun k => iblk m c 3 t (ix2 0 k)) (fun k => iblk m c 1 t (ix2 s k)) k)
    = ∑ s : Fin 512, shiftAt (argR m c) (argG m c) (argB m c) (argT m c) k (row t s) := by
  refine Finset.sum_congr rfl fun s _ => ?_
  rw [rows_r, rows_t, rows_g, rows_b]
  rfl

theorem first_shift (t : Fin cfg0.N) (h : t.val % 16 = 0) (k : Fin 1024) : (outsAt0 m c t.val t.isLt).2.2.2.1 (ix2 0 k)
    = ∑ s : Fin 512, shiftAt (argR m c) (argG m c) (argB m c) (argT m c) k (row t s) := by
  have hN := lt_of_lt_of_eq t.isLt N_0
  rw [← blk_shift, outsAt0_A m c t h (by omega)]
  frame_out
  exact pay_shift _ _ _ _ k

theorem next_shift (t : Fin cfg0.N) (h : ¬ t.val % 16 = 0) (k : Fin 1024) : (outsAt0 m c t.val t.isLt).2.2.2.1 (ix2 0 k)
    = (outsAt0 m c (t.val - 1) (Nat.lt_of_le_of_lt (Nat.sub_le _ _) t.isLt)).2.2.2.1 (ix2 0 k)
      + ∑ s : Fin 512, shiftAt (argR m c) (argG m c) (argB m c) (argT m c) k (row t s) := by
  have hN := lt_of_lt_of_eq t.isLt N_0
  rw [← blk_shift, outsAt0_B m c t h (by omega)]
  frame_out
  exact pay_shift_add _ _ _ _ k _

/-- A step leaves the sum of the steps so far. -/
theorem upto_shift (k : Fin 1024) : ∀ (n : ℕ) (hn : n < cfg0.N),
    (outsAt0 m c n hn).2.2.2.1 (ix2 0 k) = ∑ j : Fin (n + 1), ∑ s : Fin 512, shiftAt (argR m c) (argG m c) (argB m c) (argT m c) k (row ⟨j, by omega⟩ s)
  | 0, hn => (first_shift m c ⟨0, hn⟩ rfl k).trans
      (Fin.sum_univ_one fun j : Fin 1 => ∑ s : Fin 512, shiftAt (argR m c) (argG m c) (argB m c) (argT m c) k (row ⟨j, by omega⟩ s)).symm
  | n + 1, hn => by
    have hN := lt_of_lt_of_eq hn N_0
    refine (next_shift m c ⟨n + 1, hn⟩ (by dsimp only; omega) k).trans ?_
    refine Eq.trans ?_ (Fin.sum_univ_castSucc fun j : Fin (n + 1 + 1) => ∑ s : Fin 512, shiftAt (argR m c) (argG m c) (argB m c) (argT m c) k (row ⟨j, by omega⟩ s)).symm
    exact congrArg (fun x : EReal => x + _) (upto_shift k n (by omega))

/-- The last step leaves the whole sum. -/
theorem last_shift (t : Fin cfg0.N) (h : t.val % 16 = 15) (k : Fin 1024) :
    (outsAt0 m c t.val t.isLt).2.2.2.1 (ix2 0 k) = shiftAll (argR m c) (argG m c) (argB m c) (argT m c) (ix2 0 k) := by
  have hN := lt_of_lt_of_eq t.isLt N_0
  exact (upto_shift m c k t.val t.isLt).trans (all_steps (shiftAt (argR m c) (argG m c) (argB m c) (argT m c) k) t.val t.isLt (by omega))

theorem emb_shift (t : Fin cfg0.N) (k : Fin 1024) : (((cfg0.win 7).blk t).view.emb (ix2 0 k) : S1x1024.Idx) = ix2 0 k := by
  blk_ext [idx t]
  all_goals omega

theorem point_shift (t : Fin cfg0.N) (h : t.val % 16 = 15) (y : S1x1024.Idx) : (dats m 0 c).after 7 t y
    = shiftAll (argR m c) (argG m c) (argB m c) (argT m c) (((cfg0.win 7).blk t).view.emb y) := by
  idx_vars y
  rw [after0_7, Subsingleton.elim y0 0]
  refine (last_shift m c t h y1).trans ?_
  exact (congrArg (shiftAll (argR m c) (argG m c) (argB m c) (argT m c)) (emb_shift t y1)).symm

/-- The array after the run. -/
theorem arr_shift : (dats m 0 c).arrAt 7 cfg0.N = shiftAll (argR m c) (argG m c) (argB m c) (argT m c) := by
  refine (dats m 0 c).arrAt_eq_of_covers 7 _ (by decide +kernel) fun t hf y => ?_
  blk_simp
  exact point_shift m c t ((flush0_7 t).mp hf) y

theorem blk_loss (t : Fin cfg0.N) : (∑ s : Fin 512, sq (fun k => iblk m c 0 t (ix2 s k)) (fun k => iblk m c 2 t (ix2 0 k)) (fun k => iblk m c 3 t (ix2 0 k)) (fun k => iblk m c 1 t (ix2 s k)))
    = ∑ s : Fin 512, sqAt (argR m c) (argG m c) (argB m c) (argT m c) (row t s) := by
  refine Finset.sum_congr rfl fun s _ => ?_
  rw [rows_r, rows_t, rows_g, rows_b]
  rfl

theorem first_loss (t : Fin cfg0.N) (h : t.val % 16 = 0) (k : Fin 128) : (outsAt0 m c t.val t.isLt).2.2.2.2 (ix2 0 k)
    = Ideal.ofBits .f32 0x3F000000#32 * ∑ s : Fin 512, sqAt (argR m c) (argG m c) (argB m c) (argT m c) (row t s) := by
  have hN := lt_of_lt_of_eq t.isLt N_0
  rw [← blk_loss, outsAt0_A m c t h (by omega)]
  frame_out
  exact pay_loss _ _ _ _ k

theorem next_loss (t : Fin cfg0.N) (h : ¬ t.val % 16 = 0) (k : Fin 128) : (outsAt0 m c t.val t.isLt).2.2.2.2 (ix2 0 k)
    = (outsAt0 m c (t.val - 1) (Nat.lt_of_le_of_lt (Nat.sub_le _ _) t.isLt)).2.2.2.2 (ix2 0 k)
      + Ideal.ofBits .f32 0x3F000000#32 * ∑ s : Fin 512, sqAt (argR m c) (argG m c) (argB m c) (argT m c) (row t s) := by
  have hN := lt_of_lt_of_eq t.isLt N_0
  rw [← blk_loss, outsAt0_B m c t h (by omega)]
  frame_out
  exact pay_loss_add _ _ _ _ _ k

/-- A step leaves the sum of the steps so far. -/
theorem upto_loss (k : Fin 128) : ∀ (n : ℕ) (hn : n < cfg0.N),
    (outsAt0 m c n hn).2.2.2.2 (ix2 0 k) = ∑ j : Fin (n + 1), Ideal.ofBits .f32 0x3F000000#32 * ∑ s : Fin 512, sqAt (argR m c) (argG m c) (argB m c) (argT m c) (row ⟨j, by omega⟩ s)
  | 0, hn => (first_loss m c ⟨0, hn⟩ rfl k).trans
      (Fin.sum_univ_one fun j : Fin 1 => Ideal.ofBits .f32 0x3F000000#32 * ∑ s : Fin 512, sqAt (argR m c) (argG m c) (argB m c) (argT m c) (row ⟨j, by omega⟩ s)).symm
  | n + 1, hn => by
    have hN := lt_of_lt_of_eq hn N_0
    refine (next_loss m c ⟨n + 1, hn⟩ (by dsimp only; omega) k).trans ?_
    refine Eq.trans ?_ (Fin.sum_univ_castSucc fun j : Fin (n + 1 + 1) => Ideal.ofBits .f32 0x3F000000#32 * ∑ s : Fin 512, sqAt (argR m c) (argG m c) (argB m c) (argT m c) (row ⟨j, by omega⟩ s)).symm
    exact congrArg (fun x : EReal => x + _) (upto_loss k n (by omega))

/-- The last step leaves the whole sum. -/
theorem last_loss (t : Fin cfg0.N) (h : t.val % 16 = 15) (k : Fin 128) :
    (outsAt0 m c t.val t.isLt).2.2.2.2 (ix2 0 k) = lossAll (argR m c) (argG m c) (argB m c) (argT m c) (ix2 0 k) := by
  have hN := lt_of_lt_of_eq t.isLt N_0
  refine (upto_loss m c k t.val t.isLt).trans ?_
  rw [← half_sum]
  exact congrArg (fun x : EReal => Ideal.ofBits .f32 0x3F000000#32 * x) (all_steps (sqAt (argR m c) (argG m c) (argB m c) (argT m c)) t.val t.isLt (by omega))

theorem emb_loss (t : Fin cfg0.N) (k : Fin 128) : (((cfg0.win 8).blk t).view.emb (ix2 0 k) : S1x128.Idx) = ix2 0 k := by
  blk_ext [idx t]
  all_goals omega

theorem point_loss (t : Fin cfg0.N) (h : t.val % 16 = 15) (y : S1x128.Idx) : (dats m 0 c).after 8 t y
    = lossAll (argR m c) (argG m c) (argB m c) (argT m c) (((cfg0.win 8).blk t).view.emb y) := by
  idx_vars y
  rw [after0_8, Subsingleton.elim y0 0]
  refine (last_loss m c t h y1).trans ?_
  exact (congrArg (lossAll (argR m c) (argG m c) (argB m c) (argT m c)) (emb_loss t y1)).symm

/-- The array after the run. -/
theorem arr_loss : (dats m 0 c).arrAt 8 cfg0.N = lossAll (argR m c) (argG m c) (argB m c) (argT m c) := by
  refine (dats m 0 c).arrAt_eq_of_covers 8 _ (by decide +kernel) fun t hf y => ?_
  blk_simp
  exact point_loss m c t ((flush0_8 t).mp hf) y

/-! ## The reference -/

section

open Cert.Reference14Ideal.Read

variable (r : FVec Ideal S8192x1024 .f32) (g b : FVec Ideal S1x1024 .f32) (t : FVec Ideal S8192x1024 .f32) (s : Fin 8192) (n : Fin 1024)

theorem ref_mean : val_main_v3 (F := Ideal) r (ix2 s 0) = mean (fun k => r (ix2 s k)) := by
  pointwise [val_main_v3, val_main_v2, val_main_v1, val_main_v0, val_main_cst, val_main_cst_0, mean]

theorem ref_cen : val_main_v5 (F := Ideal) r (ix2 s n) = cen (fun k => r (ix2 s k)) n := by
  unfold cen
  rw [← ref_mean]
  pointwise [val_main_v5, val_main_v4]

theorem ref_cen' : val_main_v14 (F := Ideal) r (ix2 s n) = cen (fun k => r (ix2 s k)) n := by
  unfold cen
  rw [← ref_mean]
  pointwise [val_main_v14, val_main_v13]

theorem ref_var : val_main_v16 (F := Ideal) r (ix2 s 0) = vare (fun k => r (ix2 s k)) := by
  unfold vare
  simp only [← ref_cen]
  pointwise [val_main_v16, val_main_v15, val_main_v12, val_main_v11, val_main_v10, val_main_v9, val_main_v6, val_main_cst_2,
    val_main_cst_3, val_main_cst_4, mean]

theorem ref_rs : val_main_v17 (F := Ideal) r (ix2 s 0) = rs (fun k => r (ix2 s k)) := by
  unfold rs
  rw [← ref_var]
  pointwise [val_main_v17]

theorem ref_hat : val_main_v22 (F := Ideal) r (ix2 s n) = cen (fun k => r (ix2 s k)) n * rs (fun k => r (ix2 s k)) := by
  rw [← ref_cen', ← ref_rs]
  pointwise [val_main_v22, val_main_v21]

theorem ref_err : val_main_v27 (F := Ideal) r g b t (ix2 s n) = err (fun k => r (ix2 s k)) (fun k => g (ix2 0 k)) (fun k => b (ix2 0 k)) (fun k => t (ix2 s k)) n := by
  unfold err
  rw [← ref_hat]
  pointwise [val_main_v27, val_main_v26, val_main_v25, val_main_v24, val_main_v23]

theorem ref_up : val_main_v41 (F := Ideal) r g b t (ix2 s n) = upAt r g b t s n := by
  unfold upAt up
  rw [← ref_err]
  pointwise [val_main_v41, val_main_v40, val_main_v39, val_main_v38, val_main_v37, val_main_v36, val_main_v30, val_main_v29,
    val_main_cst_6, val_main_cst_11, val_main_cst_12, val_main_cst_13]

theorem ref_scaled : val_main_v48 (F := Ideal) r g b t (ix2 s n) = upAt r g b t s n * g (ix2 0 n) := by
  rw [← ref_up]
  pointwise [val_main_v48, val_main_v47]

theorem ref_dir : val_main_v53 (F := Ideal) r g b t (ix2 s n) = dir (fun k => r (ix2 s k)) (fun k => g (ix2 0 k)) (upAt r g b t s) n := by
  unfold dir
  rw [← ref_rs, ← ref_scaled]
  pointwise [val_main_v53, val_main_v52]

theorem ref_dvar : val_main_v54 (F := Ideal) r g b t (ix2 s 0) = dvar (fun k => r (ix2 s k)) (fun k => g (ix2 0 k)) (upAt r g b t s) := by
  have e : val_main_v54 (F := Ideal) r g b t (ix2 s 0)
      = (∑ k : Fin 1024, val_main_v14 (F := Ideal) r (ix2 s k) * val_main_v48 (F := Ideal) r g b t (ix2 s k))
        * (Ideal.ofBits .f32 0xBF000000#32 * Ideal.div (val_main_v17 (F := Ideal) r (ix2 s 0)) (val_main_v16 (F := Ideal) r (ix2 s 0))) := by
    pointwise [val_main_v54, val_main_v51, val_main_v50, val_main_v49, val_main_v20, val_main_v19, val_main_v18, val_main_cst_5, val_main_cst_16]
  rw [e]
  simp only [ref_rs, ref_scaled, ref_cen', ref_var]
  rfl

theorem ref_via : val_main_v62 (F := Ideal) r g b t (ix2 s n) = via (fun k => r (ix2 s k)) (fun k => g (ix2 0 k)) (upAt r g b t s) n := by
  unfold via
  rw [← ref_dvar, ← ref_cen]
  pointwise [val_main_v62, val_main_v61, val_main_v60, val_main_v59, val_main_v58, val_main_v8, val_main_v7, val_main_cst_1,
    val_main_cst_18, val_main_cst_19]
  simp only [Fin.sum_univ_one]

/-- The reference's gradients are the kernel's. -/
theorem ref_dx : val_main_v72 (F := Ideal) r g b t = dxAll r g b t := by
  funext i
  idx_vars i
  have e : val_main_v72 (F := Ideal) r g b t (ix2 i0 i1)
      = val_main_v53 (F := Ideal) r g b t (ix2 i0 i1) + val_main_v62 (F := Ideal) r g b t (ix2 i0 i1)
        + Ideal.div ((∑ k : Fin 1024, -val_main_v53 (F := Ideal) r g b t (ix2 i0 k)) + ∑ k : Fin 1024, -val_main_v62 (F := Ideal) r g b t (ix2 i0 k))
          (Ideal.ofBits .f32 0x44800000#32) := by
    pointwise [val_main_v72, val_main_v71, val_main_v70, val_main_v69, val_main_v68, val_main_v67, val_main_v66, val_main_v65, val_main_v64,
      val_main_v63, val_main_v57, val_main_v56, val_main_v55, val_main_cst_17, val_main_cst_20, val_main_cst_21, val_main_cst_22]
    simp only [Fin.sum_univ_one]
  rw [e]
  simp only [ref_dir, ref_via]
  rfl

theorem ref_scale : val_main_v46 (F := Ideal) r g b t = scaleAll r g b t := by
  funext i
  idx_vars i
  have e : val_main_v46 (F := Ideal) r g b t (ix2 i0 i1) = ∑ s : Fin 8192, val_main_v22 (F := Ideal) r (ix2 s i1) * val_main_v41 (F := Ideal) r g b t (ix2 s i1) := by
    pointwise [val_main_v46, val_main_v45, val_main_v44, val_main_cst_15]
  rw [e]
  simp only [ref_hat, ref_up]
  rfl

theorem ref_shift : val_main_v43 (F := Ideal) r g b t = shiftAll r g b t := by
  funext i
  idx_vars i
  have e : val_main_v43 (F := Ideal) r g b t (ix2 i0 i1) = ∑ s : Fin 8192, val_main_v41 (F := Ideal) r g b t (ix2 s i1) := by
    pointwise [val_main_v43, val_main_v42, val_main_cst_14]
  rw [e]
  simp only [ref_up]
  rfl

theorem ref_loss : val_main_v73 (F := Ideal) r g b t = lossAll r g b t := by
  funext i
  idx_vars i
  have e : val_main_v73 (F := Ideal) r g b t (ix2 i0 i1)
      = Ideal.ofBits .f32 0x3F000000#32 * ∑ s : Fin 8192, Ideal.div (∑ k : Fin 1024, val_main_v27 (F := Ideal) r g b t (ix2 s k) * val_main_v27 (F := Ideal) r g b t (ix2 s k))
          (Ideal.ofBits .f32 0x44800000#32) := by
    pointwise [val_main_v73, val_main_v35, val_main_v34, val_main_v33, val_main_v32, val_main_v31, val_main_v28, val_main_cst_7,
      val_main_cst_8, val_main_cst_9, val_main_cst_10]
  rw [e]
  simp only [ref_err]
  rfl

end

end Cert.LossBwd
-- ==== Proof.UpdateResults.lean ====
/-
The layer norm's gradient, the optimiser's two small calls and the loss head against their references, each from the runs of
the two programs.
-/
module

public import proofs.«01_k».proof.Defs
public import proofs.«01_k».proof.Proof.Update
public import proofs.«01_k».proof.Proof.NormBwd
public import proofs.«01_k».proof.Proof.AdamVec
public import proofs.«01_k».proof.Proof.AdamConv
public import proofs.«01_k».proof.Proof.LossBwd
public import Idealize.ShloMosaic.Adequacy
public import Idealize.ShloMosaic.Init

@[expose] public section

noncomputable section

namespace Cert.UpdateResults

open Idealize.ShloMosaic Idealize.SL.Sem Idealize.ShloMosaic.TcCoe

theorem frame_reference11 : quiescent_Reference11Ideal := fun m g _ =>
  θ_run_mono (Cert.Reference11Ideal.Value.run m g) fun r h =>
    ⟨fun c => (h c).2.2.2, sem_eq_zero_of_no_sems rfl r.2⟩

theorem frame_reference12 : quiescent_Reference12Ideal := fun m g _ =>
  θ_run_mono (Cert.Reference12Ideal.Value.run m g) fun r h =>
    ⟨fun c => (h c).2.2.2, sem_eq_zero_of_no_sems rfl r.2⟩

theorem frame_reference13 : quiescent_Reference13Ideal := fun m g _ =>
  θ_run_mono (Cert.Reference13Ideal.Value.run m g) fun r h =>
    ⟨fun c => (h c).2.2.2, sem_eq_zero_of_no_sems rfl r.2⟩

theorem frame_reference14 : quiescent_Reference14Ideal := fun m g _ =>
  θ_run_mono (Cert.Reference14Ideal.Value.run m g) fun r h =>
    ⟨fun c => (h c).2.2.2.2, sem_eq_zero_of_no_sems rfl r.2⟩

/-- The layer norm's gradient. -/
theorem values11 : algebraic_Kernel11Ideal_Reference11Ideal := by
  intro m g m' g' _ hagree
  refine ⟨fun c => Cert.NormBwd.dxAll (Cert.NormBwd.argR m c) (Cert.NormBwd.argS m c) (Cert.NormBwd.argD m c),
    fun c => Cert.NormBwd.scaleAll (Cert.NormBwd.argR m c) (Cert.NormBwd.argD m c),
    fun c => Cert.NormBwd.shiftAll (Cert.NormBwd.argD m c),
    θ_run_mono (Cert.Kernel11Ideal.Value.run_blocks m g) fun r h c => ?_,
    θ_run_mono (Cert.Reference11Ideal.Value.run m' g') fun r h c => ?_⟩
  · obtain ⟨h0, -, h1, h2, hr⟩ := h c
    exact ⟨h0.trans (Cert.NormBwd.arr_dx m c), h1.trans (Cert.NormBwd.arr_scale m c), h2.trans (Cert.NormBwd.arr_shift m c), hr⟩
  · obtain ⟨h0, h1, h2, hr⟩ := h c
    obtain ⟨e0, e1, e2, e3⟩ := hagree c
    refine ⟨(h0.trans (Cert.Reference11Ideal.Read.val_main_v58_eq m' c)).trans ?_,
      (h1.trans (Cert.Reference11Ideal.Read.val_main_v32_eq _ _)).trans ?_,
      (h2.trans (Cert.Reference11Ideal.Read.val_main_v29_eq _)).trans ?_, hr⟩
    · rw [e0, e1, e3]
      exact Cert.NormBwd.ref_dx _ _ _
    · rw [e0, e3]
      exact Cert.NormBwd.ref_scale _ _
    · rw [e3]
      exact Cert.NormBwd.ref_shift _

/-- The optimiser's step on the vectors. -/
theorem values12 : algebraic_Kernel12Ideal_Reference12Ideal := by
  intro m g m' g' _ hagree
  refine ⟨fun c => Cert.AdamVec.allDelta (Cert.AdamVec.argG m c) (Cert.AdamVec.argW m c) (Cert.AdamVec.argM m c) (Cert.AdamVec.argV m c),
    fun c => Cert.AdamVec.allNewM (Cert.AdamVec.argG m c) (Cert.AdamVec.argM m c),
    fun c => Cert.AdamVec.allNewV (Cert.AdamVec.argG m c) (Cert.AdamVec.argV m c),
    θ_run_mono (Cert.Kernel12Ideal.Value.run_blocks m g) fun r h c => ?_,
    θ_run_mono (Cert.Reference12Ideal.Value.run m' g') fun r h c => ?_⟩
  · obtain ⟨-, h0, h1, h2, hr⟩ := h c
    exact ⟨h0.trans (Cert.AdamVec.arr_5 m c), h1.trans (Cert.AdamVec.arr_6 m c), h2.trans (Cert.AdamVec.arr_7 m c), hr⟩
  · obtain ⟨h0, h1, h2, hr⟩ := h c
    obtain ⟨e0, e1, e2, e3⟩ := hagree c
    refine ⟨(h0.trans (Cert.Reference12Ideal.Read.val_main_v23_eq _ _ _ _)).trans ?_,
      (h1.trans (Cert.Reference12Ideal.Read.val_main_v4_eq _ _)).trans ?_,
      (h2.trans (Cert.Reference12Ideal.Read.val_main_v10_eq _ _)).trans ?_, hr⟩
    · rw [e0, e1, e2, e3]
      exact Cert.AdamVec.ref_5 _ _ _ _
    · rw [e0, e2]
      exact Cert.AdamVec.ref_6 _ _
    · rw [e0, e3]
      exact Cert.AdamVec.ref_7 _ _

/-- The optimiser's step on the convolution's weights. -/
theorem values13 : algebraic_Kernel13Ideal_Reference13Ideal := by
  intro m g m' g' _ hagree
  refine ⟨fun c => Cert.AdamConv.allDelta (Cert.AdamConv.argG m c) (Cert.AdamConv.argW m c) (Cert.AdamConv.argM m c) (Cert.AdamConv.argV m c),
    fun c => Cert.AdamConv.allNewM (Cert.AdamConv.argG m c) (Cert.AdamConv.argM m c),
    fun c => Cert.AdamConv.allNewV (Cert.AdamConv.argG m c) (Cert.AdamConv.argV m c),
    θ_run_mono (Cert.Kernel13Ideal.Value.run_blocks m g) fun r h c => ?_,
    θ_run_mono (Cert.Reference13Ideal.Value.run m' g') fun r h c => ?_⟩
  · obtain ⟨-, h0, h1, h2, hr⟩ := h c
    exact ⟨h0.trans (Cert.AdamConv.arr_5 m c), h1.trans (Cert.AdamConv.arr_6 m c), h2.trans (Cert.AdamConv.arr_7 m c), hr⟩
  · obtain ⟨h0, h1, h2, hr⟩ := h c
    obtain ⟨e0, e1, e2, e3⟩ := hagree c
    refine ⟨(h0.trans (Cert.Reference13Ideal.Read.val_main_v23_eq _ _ _ _)).trans ?_,
      (h1.trans (Cert.Reference13Ideal.Read.val_main_v4_eq _ _)).trans ?_,
      (h2.trans (Cert.Reference13Ideal.Read.val_main_v10_eq _ _)).trans ?_, hr⟩
    · rw [e0, e1, e2, e3]
      exact Cert.AdamConv.ref_5 _ _ _ _
    · rw [e0, e2]
      exact Cert.AdamConv.ref_6 _ _
    · rw [e0, e3]
      exact Cert.AdamConv.ref_7 _ _

/-- The last layer norm's gradient and the loss. -/
theorem values14 : algebraic_Kernel14Ideal_Reference14Ideal := by
  intro m g m' g' _ hagree
  refine ⟨fun c => Cert.LossBwd.dxAll (Cert.LossBwd.argR m c) (Cert.LossBwd.argG m c) (Cert.LossBwd.argB m c) (Cert.LossBwd.argT m c),
    fun c => Cert.LossBwd.scaleAll (Cert.LossBwd.argR m c) (Cert.LossBwd.argG m c) (Cert.LossBwd.argB m c) (Cert.LossBwd.argT m c),
    fun c => Cert.LossBwd.shiftAll (Cert.LossBwd.argR m c) (Cert.LossBwd.argG m c) (Cert.LossBwd.argB m c) (Cert.LossBwd.argT m c),
    fun c => Cert.LossBwd.lossAll (Cert.LossBwd.argR m c) (Cert.LossBwd.argG m c) (Cert.LossBwd.argB m c) (Cert.LossBwd.argT m c),
    θ_run_mono (Cert.Kernel14Ideal.Value.run_blocks m g) fun r h c => ?_,
    θ_run_mono (Cert.Reference14Ideal.Value.run m' g') fun r h c => ?_⟩
  · obtain ⟨h0, -, h1, h2, h3, hr⟩ := h c
    exact ⟨h0.trans (Cert.LossBwd.arr_dx m c), h1.trans (Cert.LossBwd.arr_scale m c), h2.trans (Cert.LossBwd.arr_shift m c), h3.trans (Cert.LossBwd.arr_loss m c), hr⟩
  · obtain ⟨h0, h1, h2, h3, hr⟩ := h c
    obtain ⟨e0, e1, e2, e3⟩ := hagree c
    refine ⟨(h0.trans (Cert.Reference14Ideal.Read.val_main_v72_eq m' c)).trans ?_,
      (h1.trans (Cert.Reference14Ideal.Read.val_main_v46_eq _ _ _ _)).trans ?_,
      (h2.trans (Cert.Reference14Ideal.Read.val_main_v43_eq _ _ _ _)).trans ?_,
      (h3.trans (Cert.Reference14Ideal.Read.val_main_v73_eq _ _ _ _)).trans ?_, hr⟩
    · rw [e0, e1, e2, e3]
      exact Cert.LossBwd.ref_dx _ _ _ _
    · rw [e0, e1, e2, e3]
      exact Cert.LossBwd.ref_scale _ _ _ _
    · rw [e0, e1, e2, e3]
      exact Cert.LossBwd.ref_shift _ _ _ _
    · rw [e0, e1, e2, e3]
      exact Cert.LossBwd.ref_loss _ _ _ _

end Cert.UpdateResults
-- ==== Proof.lean ====
/-
The claim assembled: the frames, the kernel's named mask, the mixer's three gradients against the reference's,
and the results of the feed-forward and projection calls, the layer norms' gradients, the loss and the optimiser against theirs.
-/
module

public import proofs.«01_k».proof.Defs
public import proofs.«01_k».proof.Proof.Gen.Kernel
public import proofs.«01_k».proof.Proof.Gen.Kernel.Frame
public import proofs.«01_k».proof.Proof.Results
public import proofs.«01_k».proof.Proof.Ffn
public import proofs.«01_k».proof.Proof.FfnResults
public import proofs.«01_k».proof.Proof.Mixer
public import proofs.«01_k».proof.Proof.MixerResults
public import proofs.«01_k».proof.Proof.UpdateResults
public import proofs.«01_k».proof.Proof.Gen.Pre_finite
public import Idealize.ShloMosaic.Adequacy
public import Idealize.ShloMosaic.Init

@[expose] public section

noncomputable section

namespace Cert.Proof

open Idealize.ShloMosaic Idealize.SL.Sem Idealize.ShloMosaic.TcCoe Cert.Chunk Cert.FfnResults Cert.MixerResults Cert.UpdateResults

theorem frame_reference : quiescent_ReferenceIdeal := fun m g _ =>
  θ_run_mono (Cert.ReferenceIdeal.Value.run m g) fun r h =>
    ⟨fun c => (h c).2.2.2, sem_eq_zero_of_no_sems rfl r.2⟩

theorem values : algebraic_KernelIdeal_ReferenceIdeal_pre_finite (hPre_finite := Cert.Pre_finite.Gen.facts) := by
  intro m g m' g' hpre hagree
  refine ⟨fun c => dxAll m c, fun c => dbAll m c, fun c => dcAll m c,
    θ_run_mono (Cert.KernelIdeal.Value.run_blocks m g) fun r h c => ?_,
    θ_run_mono (Cert.ReferenceIdeal.Value.run m' g') fun r h c => ?_⟩
  · obtain ⟨h0, h1, h2, -, -, hr⟩ := h c
    exact ⟨h0.trans (arr_x (reals m hpre c)), h1.trans (arr_b (reals m hpre c)), h2.trans (arr_c (reals m hpre c)), hr⟩
  · obtain ⟨h0, h1, h2, hr⟩ := h c
    obtain ⟨e0, e1, e2, e3, e4⟩ := hagree c
    have R := reals m hpre c
    refine ⟨h0.trans ?_, h1.trans ?_, h2.trans ?_, hr⟩
    · exact (Cert.ReferenceIdeal.Read.val_main_v33_eq _ _ _ _).trans (same_x m c R _ _ _ _ e1 e2 e3 e4)
    · exact (Cert.ReferenceIdeal.Read.val_main_v34_eq _ _ _ _).trans (same_b m c R _ _ _ _ e0 e1 e3 e4)
    · exact (Cert.ReferenceIdeal.Read.val_main_v35_eq _ _ _ _).trans (same_c m c R _ _ _ _ e0 e1 e2 e4)

theorem claim : Cert.Claim :=
  ⟨_, _, _, _, _, _, _, _, _, _, _, _, _, _, _, _, _, _, _, _, _, _, _, _, _, _, _, _, _, _,
    _, _, _, _, _, _, _, _, _, _, _, _,
    Cert.Pre_finite.Gen.facts, Cert.Pre_finite2.Gen.facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial,
    fun m ρ _ => Cert.Kernel2.Gen.frame m ρ, fun m ρ _ => Cert.Kernel2Ideal.Gen.frame m ρ,
    fun m ρ _ => Cert.Kernel2Ideal.Gen.frame m ρ, frame_reference2, fun m ρ _ => frame_reference2 m ρ trivial,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, frame_reference4,
    fun m ρ _ => Cert.Kernel5.Gen.frame m ρ, fun m ρ _ => Cert.Kernel5Ideal.Gen.frame m ρ, frame_reference5,
    fun m ρ _ => Cert.Kernel6.Gen.frame m ρ, fun m ρ _ => Cert.Kernel6Ideal.Gen.frame m ρ, frame_reference6,
    fun m ρ _ => Cert.Kernel7.Gen.frame m ρ, fun m ρ _ => Cert.Kernel7Ideal.Gen.frame m ρ, frame_reference7,
    fun m ρ _ => Cert.Kernel8.Gen.frame m ρ, fun m ρ _ => Cert.Kernel8Ideal.Gen.frame m ρ, frame_reference8,
    fun m ρ _ => Cert.Kernel9.Gen.frame m ρ, fun m ρ _ => Cert.Kernel9Ideal.Gen.frame m ρ, frame_reference9,
    fun m ρ _ => Cert.Kernel10.Gen.frame m ρ, fun m ρ _ => Cert.Kernel10Ideal.Gen.frame m ρ, frame_reference10,
    fun m ρ _ => Cert.Kernel11.Gen.frame m ρ, fun m ρ _ => Cert.Kernel11Ideal.Gen.frame m ρ, frame_reference11,
    fun m ρ _ => Cert.Kernel12.Gen.frame m ρ, fun m ρ _ => Cert.Kernel12Ideal.Gen.frame m ρ, frame_reference12,
    fun m ρ _ => Cert.Kernel13.Gen.frame m ρ, fun m ρ _ => Cert.Kernel13Ideal.Gen.frame m ρ, frame_reference13,
    fun m ρ _ => Cert.Kernel14.Gen.frame m ρ, fun m ρ _ => Cert.Kernel14Ideal.Gen.frame m ρ, frame_reference14,
    IdealRules.named_const.statement Cert.KernelIdeal.κ "mask" .f32 0xF149F2CA#32 ⊥ rfl, values,
    trivial, values2, trivial, values3, trivial, values4, trivial, values5,
    trivial, values6, trivial, values7, trivial, values8, trivial, values9, trivial, values10,
    trivial, values11, trivial, values12, trivial, values13, trivial, values14⟩

end Cert.Proof

end
